-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v206_0)) (v1 : (c : Dev Cert.KernelIdeal.nD) → Buf (Elt Ideal) ((c.tc : Thread Cert.KernelIdeal.nD Cert.KernelIdeal.τ).loc Cert.KernelIdeal.main_v206_1)) (v2 : (c : Dev Cert.KernelIdeal.nD) → Buf (Elt Ideal) ((c.tc : Thread Cert.KernelIdeal.nD Cert.KernelIdeal.τ).loc Cert.KernelIdeal.main_v206_2)) (v3 : (c : Dev Cert.KernelIdeal.nD) → Buf (Elt Ideal) ((c.tc : Thread Cert.KernelIdeal.nD Cert.KernelIdeal.τ).loc Cert.KernelIdeal.main_v206_3)) (v4 : (c : Dev Cert.KernelIdeal.nD) → Buf (Elt Ideal) ((c.tc : Thread Cert.KernelIdeal.nD Cert.KernelIdeal.τ).loc Cert.KernelIdeal.main_v206_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206_0) = v0 c
          ∧ r.2.mem ((c.tc : Thread Cert.KernelIdeal.nD Cert.KernelIdeal.τ).loc Cert.KernelIdeal.main_v206_1) = v1 c
          ∧ r.2.mem ((c.tc : Thread Cert.KernelIdeal.nD Cert.KernelIdeal.τ).loc Cert.KernelIdeal.main_v206_2) = v2 c
          ∧ r.2.mem ((c.tc : Thread Cert.KernelIdeal.nD Cert.KernelIdeal.τ).loc Cert.KernelIdeal.main_v206_3) = v3 c
          ∧ r.2.mem ((c.tc : Thread Cert.KernelIdeal.nD Cert.KernelIdeal.τ).loc Cert.KernelIdeal.main_v206_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_v292) = v2 c
          ∧ r.2.mem ((c.tc : Thread Cert.ReferenceIdeal.nD Cert.ReferenceIdeal.τ).loc Cert.ReferenceIdeal.main_v293) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)) (v4 : (c : Dev Cert.Kernel9Ideal.nD) → Buf (Elt Ideal) ((c.tc : Thread Cert.Kernel9Ideal.nD Cert.Kernel9Ideal.τ).loc Cert.Kernel9Ideal.main_v3_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_v3_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_v21) = v3 c
          ∧ r.2.mem ((c.tc : Thread Cert.Reference9Ideal.nD Cert.Reference9Ideal.τ).loc Cert.Reference9Ideal.main_v23) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference9Ideal [hKernel10Ideal : Cert.Kernel10Ideal.Facts] [hReference9Ideal : Cert.Reference9Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel10Ideal m →
    (∀ c : Dev Cert.Kernel10Ideal.nD,
      m' ((c.tc : Thread Cert.Reference9Ideal.nD Cert.Reference9Ideal.τ).loc Cert.Reference9Ideal.main_arg0) = m ((c.tc : Thread Cert.Kernel10Ideal.nD Cert.Kernel10Ideal.τ).loc Cert.Kernel10Ideal.main_arg0)
      ∧ m' ((c.tc : Thread Cert.Reference9Ideal.nD Cert.Reference9Ideal.τ).loc Cert.Reference9Ideal.main_arg1) = m ((c.tc : Thread Cert.Kernel10Ideal.nD Cert.Kernel10Ideal.τ).loc Cert.Kernel10Ideal.main_arg1)
      ∧ m' ((c.tc : Thread Cert.Reference9Ideal.nD Cert.Reference9Ideal.τ).loc Cert.Reference9Ideal.main_arg2) = m ((c.tc : Thread Cert.Kernel10Ideal.nD Cert.Kernel10Ideal.τ).loc Cert.Kernel10Ideal.main_arg2)
      ∧ m' ((c.tc : Thread Cert.Reference9Ideal.nD Cert.Reference9Ideal.τ).loc Cert.Reference9Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)) (v4 : (c : Dev Cert.Kernel10Ideal.nD) → Buf (Elt Ideal) ((c.tc : Thread Cert.Kernel10Ideal.nD Cert.Kernel10Ideal.τ).loc Cert.Kernel10Ideal.main_v3_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_v3_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_v21) = v3 c
          ∧ r.2.mem ((c.tc : Thread Cert.Reference9Ideal.nD Cert.Reference9Ideal.τ).loc Cert.Reference9Ideal.main_v23) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hPre_finite : Cert.Pre_finite.Facts) (hPre_finite2 : Cert.Pre_finite2.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference9Ideal (hKernel10Ideal := hKernel10Ideal) (hReference9Ideal := hReference9Ideal)
-- ==== Pre_finite.lean ====
abbrev S4x2048x2048 : Shape := ⟨3, ![4, 2048, 2048]⟩
abbrev S4x2048x4x128 : Shape := ⟨4, ![4, 2048, 4, 128]⟩
abbrev S512 : Shape := ⟨1, ![512]⟩
abbrev S4x128x128 : Shape := ⟨3, ![4, 128, 128]⟩
abbrev S1024x1024 : Shape := ⟨2, ![1024, 1024]⟩
abbrev S4x2048x1024 : Shape := ⟨3, ![4, 2048, 1024]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x4x128 : S_.BroadcastsInDim S4x2048x4x128 (![] : Fin 0 → Fin S4x2048x4x128.rank)
  reducesTo_S4x2048x4x128_S_d0_1_2_3 : S4x2048x4x128.ReducesTo [0, 1, 2, 3] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part2 {F : FTy → Type} [FloatOps F] (main_arg7 : FVec F S4x2048x1024 .f32) (main_v33 : IVec S_ 1) : IVec S_ 1 :=
  let main_v34 : FVec F S4x2048x1024 .f32 := Host.absf main_arg7
  let main_cst_12 : FVec F S_ .f32 := constant S_ .f32 0x7F800000#32
  let main_v35 : FVec F S4x2048x1024 .f32 := broadcastInDim S4x2048x1024 ![] bcast_S_S4x2048x1024 main_cst_12
  let main_v36 : IVec S4x2048x1024 1 := cmpf .olt main_v34 main_v35
  let main_c_13 : IVec S_ 1 := constantI S_ 1 1#1
  let main_v37 : IVec S_ 1 := (fun x v => Host.reduce IntOp.andi x v reducesTo_S4x2048x1024_S_d0_1_2 h_S_) main_v36 main_c_13
  let main_v38 : IVec S_ 1 := andi main_v33 main_v37
  main_v38

def fn_part1 {F : FTy → Type} [FloatOps F] (main_arg4 : FVec F S4x128x128 .f32) (main_arg5 : FVec F S512 .f32) (main_arg6 : FVec F S1024x1024 .f32) (main_arg7 : FVec F S4x2048x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x2048x2048 .f32) (main_arg1 : FVec F S4x2048x4x128 .f32) (main_arg2 : FVec F S4x2048x4x128 .f32) (main_arg3 : FVec F S512 .f32) (main_arg4 : FVec F S4x128x128 .f32) (main_arg5 : FVec F S512 .f32) (main_arg6 : FVec F S1024x1024 .f32) (main_arg7 : FVec F S4x2048x1024 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x4x128 .f32 := Host.absf main_arg1
  let main_cst_0 : FVec F S_ .f32 := constant S_ .f32 0x7F800000#32
  let main_v5 : FVec F S4x2048x4x128 .f32 := broadcastInDim S4x2048x4x128 ![] bcast_S_S4x2048x4x128 main_cst_0
  let main_v6 : IVec S4x2048x4x128 1 := cmpf .olt main_v4 main_v5
  let main_c_1 : IVec S_ 1 := constantI S_ 1 1#1
  let main_v7 : IVec S_ 1 := (fun x v => Host.reduce IntOp.andi x v reducesTo_S4x2048x4x128_S_d0_1_2_3 h_S_) main_v6 main_c_1
  let main_v8 : IVec S_ 1 := andi main_v3 main_v7
  let main_v9 : FVec F S4x2048x4x128 .f32 := Host.absf main_arg2
  let main_cst_2 : FVec F S_ .f32 := constant S_ .f32 0x7F800000#32
  let main_v10 : FVec F S4x2048x4x128 .f32 := broadcastInDim S4x2048x4x128 ![] bcast_S_S4x2048x4x128 main_cst_2
  let main_v11 : IVec S4x2048x4x128 1 := cmpf .olt main_v9 main_v10
  let main_c_3 : IVec S_ 1 := constantI S_ 1 1#1
  let main_v12 : IVec S_ 1 := (fun x v => Host.reduce IntOp.andi x v reducesTo_S4x2048x4x128_S_d0_1_2_3 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Pre_finite2.lean ====
abbrev S8192x3072 : Shape := ⟨2, ![8192, 3072]⟩
abbrev S3072x1024 : Shape := ⟨2, ![3072, 1024]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x3072 .f32) (main_arg1 : FVec F S8192x3072 .f32) (main_arg2 : FVec F S3072x1024 .f32) (main_arg3 : FVec F S8192x1024 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x3072 .f32 := Host.absf main_arg1
  let main_cst_0 : FVec F S_ .f32 := constant S_ .f32 0x7F800000#32
  let main_v5 : FVec F S8192x3072 .f32 := broadcastInDim S8192x3072 ![] bcast_S_S8192x3072 main_cst_0
  let main_v6 : IVec S8192x3072 1 := cmpf .olt main_v4 main_v5
  let main_c_1 : IVec S_ 1 := constantI S_ 1 1#1
  let main_v7 : IVec S_ 1 := (fun x v => Host.reduce IntOp.andi x v reducesTo_S8192x3072_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite4.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part1 {F : FTy → Type} [FloatOps F] (main_arg4 : FVec F S8192x1024 .f32) (main_arg5 : FVec F S8192x3072 .f32) (main_arg6 : FVec F S8192x3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x3072 .f32 := Host.absf main_arg5
  let main_cst_8 : FVec F S_ .f32 := constant S_ .f32 0x7F800000#32
  let main_v25 : FVec F S8192x3072 .f32 := broadcastInDim S8192x3072 ![] bcast_S_S8192x3072 main_cst_8
  let main_v26 : IVec S8192x3072 1 := cmpf .olt main_v24 main_v25
  let main_c_9 : IVec S_ 1 := constantI S_ 1 1#1
  let main_v27 : IVec S_ 1 := (fun x v => Host.reduce IntOp.andi x v reducesTo_S8192x3072_S_d0_1 h_S_) main_v26 main_c_9
  let main_v28 : IVec S_ 1 := andi main_v23 main_v27
  let main_v29 : FVec F S8192x3072 .f32 := Host.absf main_arg6
  let main_cst_10 : FVec F S_ .f32 := constant S_ .f32 0x7F800000#32
  let main_v30 : FVec F S8192x3072 .f32 := broadcastInDim S8192x3072 ![] bcast_S_S8192x3072 main_cst_10
  let main_v31 : IVec S8192x3072 1 := cmpf .olt main_v29 main_v30
  let main_c_11 : IVec S_ 1 := constantI S_ 1 1#1
  let main_v32 : IVec S_ 1 := (fun x v => Host.reduce IntOp.andi x v reducesTo_S8192x3072_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024x3072 .f32) (main_arg3 : FVec F S1024x3072 .f32) (main_arg4 : FVec F S8192x1024 .f32) (main_arg5 : FVec F S8192x3072 .f32) (main_arg6 : FVec F S8192x3072 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_v13 main_v16
-- ==== Pre_finite5.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x2048 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024x2048 .f32) (main_arg3 : FVec F S8192x1024 .f32) (main_arg4 : FVec F S8192x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Kernel.lean ====
abbrev S4x2048x2048 : Shape := ⟨3, ![4, 2048, 2048]⟩
abbrev S4x2048x4x128 : Shape := ⟨4, ![4, 2048, 4, 128]⟩
abbrev S512 : Shape := ⟨1, ![512]⟩
abbrev S4x128x128 : Shape := ⟨3, ![4, 128, 128]⟩
abbrev S1024x1024 : Shape := ⟨2, ![1024, 1024]⟩
abbrev S4x2048x1024 : Shape := ⟨3, ![4, 2048, 1024]⟩
abbrev S4x2048x512 : Shape := ⟨3, ![4, 2048, 512]⟩
abbrev S4x2048x8x64 : Shape := ⟨4, ![4, 2048, 8, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x8x32 : Shape := ⟨4, ![4, 2048, 8, 32]⟩
abbrev S4x2048x4x64 : Shape := ⟨4, ![4, 2048, 4, 64]⟩
abbrev S4x2048x256 : Shape := ⟨3, ![4, 2048, 256]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S8192x1024 : Shape := ⟨2, ![8192, 1024]⟩
abbrev S8192x256 : Shape := ⟨2, ![8192, 256]⟩
abbrev S8192x512 : Shape := ⟨2, ![8192, 512]⟩
abbrev S8 : Shape := ⟨1, ![8]⟩
abbrev S8x1 : Shape := ⟨2, ![8, 1]⟩
abbrev S1x2048 : Shape := ⟨2, ![1, 2048]⟩
abbrev S4 : Shape := ⟨1, ![4]⟩
abbrev S1x1x4 : Shape := ⟨3, ![1, 1, 4]⟩
abbrev S8x2048 : Shape := ⟨2, ![8, 2048]⟩
abbrev S8x2048x1 : Shape := ⟨3, ![8, 2048, 1]⟩
abbrev S8x2048x4 : Shape := ⟨3, ![8, 2048, 4]⟩
abbrev S4x1x2048x4x64 : Shape := ⟨5, ![4, 1, 2048, 4, 64]⟩
abbrev S1x8x2048x4x1 : Shape := ⟨5, ![1, 8, 2048, 4, 1]⟩
abbrev S4x8x2048x4x64 : Shape := ⟨5, ![4, 8, 2048, 4, 64]⟩
abbrev S4x4x128x8x64 : Shape := ⟨5, ![4, 4, 128, 8, 64]⟩
abbrev S4x8x4x64x128 : Shape := ⟨5, ![4, 8, 4, 64, 128]⟩
abbrev S4x1 : Shape := ⟨2, ![4, 1]⟩
abbrev S1x4 : Shape := ⟨2, ![1, 4]⟩
abbrev S4x4 : Shape := ⟨2, ![4, 4]⟩
abbrev S4x1x4x1 : Shape := ⟨4, ![4, 1, 4, 1]⟩
abbrev S1x1x4x1x4x1 : Shape := ⟨6, ![1, 1, 4, 1, 4, 1]⟩
abbrev S4x8x4x64x1x128 : Shape := ⟨6, ![4, 8, 4, 64, 1, 128]⟩
abbrev S4x8x4x64x4x128 : Shape := ⟨6, ![4, 8, 4, 64, 4, 128]⟩
abbrev S32x256x512 : Shape := ⟨3, ![32, 256, 512]⟩
abbrev S256 : Shape := ⟨1, ![256]⟩
abbrev S4x64 : Shape := ⟨2, ![4, 64]⟩
abbrev S1x256 : Shape := ⟨2, ![1, 256]⟩
abbrev S256x1 : Shape := ⟨2, ![256, 1]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S256x4 : Shape := ⟨2, ![256, 4]⟩
abbrev S256x4x1 : Shape := ⟨3, ![256, 4, 1]⟩
abbrev S256x4x128 : Shape := ⟨3, ![256, 4, 128]⟩
abbrev S256x512 : Shape := ⟨2, ![256, 512]⟩
abbrev S256x4x64 : Shape := ⟨3, ![256, 4, 64]⟩
abbrev S4x1x1x1 : Shape := ⟨4, ![4, 1, 1, 1]⟩
abbrev S4x64x4x128 : Shape := ⟨4, ![4, 64, 4, 128]⟩
abbrev S1x512 : Shape := ⟨2, ![1, 512]⟩
abbrev S8192x2048 : Shape := ⟨2, ![8192, 2048]⟩
abbrev S256x1024 : Shape := ⟨2, ![256, 1024]⟩
abbrev S1x256x512 : Shape := ⟨3, ![1, 256, 512]⟩
abbrev S256x2048 : Shape := ⟨2, ![256, 2048]⟩
abbrev S16x512 : Shape := ⟨2, ![16, 512]⟩
abbrev S256x128 : Shape := ⟨2, ![256, 128]⟩
abbrev S1x128x128 : Shape := ⟨3, ![1, 128, 128]⟩
abbrev S128x128 : Shape := ⟨2, ![128, 128]⟩
abbrev S272x512 : Shape := ⟨2, ![272, 512]⟩
abbrev S272x384 : Shape := ⟨2, ![272, 384]⟩
abbrev S272x256 : Shape := ⟨2, ![272, 256]⟩
abbrev S272x128 : Shape := ⟨2, ![272, 128]⟩

abbrev nBuf : Space → Nat
  | .hbm => 259
  | .vmem => 38
  | .smem => 0
  | _ => 0

abbrev hbmTy0_0 (i : Nat) : BufTy := match i % 128 with
  | 0 => ⟨S4x2048x2048, .f32⟩
  | 1 => ⟨S4x2048x4x128, .f32⟩
  | 2 => ⟨S4x2048x4x128, .f32⟩
  | 3 => ⟨S512, .f32⟩
  | 4 => ⟨S4x128x128, .f32⟩
  | 5 => ⟨S512, .f32⟩
  | 6 => ⟨S1024x1024, .f32⟩
  | 7 => ⟨S4x2048x1024, .f32⟩
  | 8 => ⟨S4x2048x512, .f32⟩
  | 9 => ⟨S4x2048x8x64, .f32⟩
  | 10 => ⟨S2048, .i32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S1x2048x1x32, .f32⟩
  | 30 => ⟨S2048x32, .f32⟩
  | 31 => ⟨S1x2048x1x32, .f32⟩
  | 32 => ⟨S4x2048x8x32, .f32⟩
  | 33 => ⟨S4x2048x8x32, .f32⟩
  | 34 => ⟨S4x2048x8x32, .f32⟩
  | 35 => ⟨S4x2048x8x32, .f32⟩
  | 36 => ⟨S4x2048x8x32, .f32⟩
  | 37 => ⟨S4x2048x8x32, .f32⟩
  | 38 => ⟨S4x2048x8x32, .f32⟩
  | 39 => ⟨S4x2048x8x32, .f32⟩
  | 40 => ⟨S4x2048x8x32, .f32⟩
  | 41 => ⟨S4x2048x8x32, .f32⟩
  | 42 => ⟨S4x2048x8x32, .f32⟩
  | 43 => ⟨S4x2048x8x32, .f32⟩
  | 44 => ⟨S4x2048x8x64, .f32⟩
  | 45 => ⟨S4x2048x4x64, .f32⟩
  | 46 => ⟨S4x2048x4x64, .f32⟩
  | 47 => ⟨S4x2048x256, .f32⟩
  | 48 => ⟨S4x2048x4x64, .f32⟩
  | 49 => ⟨S4x2048x256, .f32⟩
  | 50 => ⟨S4x2048x4x64, .f32⟩
  | 51 => ⟨S4x2048x512, .f32⟩
  | 52 => ⟨S4x2048x4x128, .f32⟩
  | 53 => ⟨S4x2048x512, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S2048, .f32⟩
  | 66 => ⟨S2048x1, .f32⟩
  | 67 => ⟨S1x32, .f32⟩
  | 68 => ⟨S2048x32, .f32⟩
  | 69 => ⟨S2048x32, .f32⟩
  | 70 => ⟨S2048x32, .f32⟩
  | 71 => ⟨S2048x32, .f32⟩
  | 72 => ⟨S2048x32, .f32⟩
  | 73 => ⟨S2048x64, .f32⟩
  | 74 => ⟨S1x2048x1x64, .f32⟩
  | 75 => ⟨S1x2048x4x64, .f32⟩
  | 76 => ⟨S2048x256, .f32⟩
  | 77 => ⟨S2048x32, .f32⟩
  | 78 => ⟨S2048x64, .f32⟩
  | 79 => ⟨S1x2048x1x64, .f32⟩
  | 80 => ⟨S1x2048x4x64, .f32⟩
  | 81 => ⟨S2048x256, .f32⟩
  | 82 => ⟨S8192x1024, .f32⟩
  | 83 => ⟨S_, .f32⟩
  | 84 => ⟨S4x2048x4x64, .f32⟩
  | 85 => ⟨S4x2048x4x64, .f32⟩
  | 86 => ⟨S8192x256, .f32⟩
  | 87 => ⟨S8192x256, .bf16⟩
  | 88 => ⟨S8192x256, .f32⟩
  | 89 => ⟨S8192x256, .bf16⟩
  | 90 => ⟨S8192x512, .f32⟩
  | 91 => ⟨S8192x512, .bf16⟩
  | 92 => ⟨S8192x512, .f32⟩
  | 93 => ⟨S8192x512, .f32⟩
  | 94 => ⟨S8192x512, .f32⟩
  | 95 => ⟨S8192x512, .bf16⟩
  | 96 => ⟨S8, .f32⟩
  | 97 => ⟨S_, .f32⟩
  | 98 => ⟨S8, .f32⟩
  | 99 => ⟨S8, .f32⟩
  | 100 => ⟨S8x1, .f32⟩
  | 101 => ⟨S2048, .f32⟩
  | 102 => ⟨S1x2048, .f32⟩
  | 103 => ⟨S4, .f32⟩
  | 104 => ⟨S_, .f32⟩
  | 105 => ⟨S4, .f32⟩
  | 106 => ⟨S4, .f32⟩
  | 107 => ⟨S_, .f32⟩
  | 108 => ⟨S4, .f32⟩
  | 109 => ⟨S4, .f32⟩
  | 110 => ⟨S_, .f32⟩
  | 111 => ⟨S4, .f32⟩
  | 112 => ⟨S4, .f32⟩
  | 113 => ⟨S4, .f32⟩
  | 114 => ⟨S1x1x4, .f32⟩
  | 115 => ⟨S_, .f32⟩
  | 116 => ⟨S8x1, .f32⟩
  | 117 => ⟨S8x1, .f32⟩
  | 118 => ⟨S8x2048, .f32⟩
  | 119 => ⟨S8x2048, .f32⟩
  | 120 => ⟨S8x2048, .f32⟩
  | 121 => ⟨S8x2048x1, .f32⟩
  | 122 => ⟨S8x2048x4, .f32⟩
  | 123 => ⟨S8x2048x4, .f32⟩
  | 124 => ⟨S8x2048x4, .f32⟩
  | 125 => ⟨S8x2048x4, .f32⟩
  | 126 => ⟨S8x2048, .f32⟩
  | 127 => ⟨S8x2048, .f32⟩
  | _ => ⟨S4x2048x2048, .f32⟩

abbrev hbmTy0_1 (i : Nat) : BufTy := match i % 128 with
  | 0 => ⟨S8x2048, .i1⟩
  | 1 => ⟨S8x2048x1, .i1⟩
  | 2 => ⟨S_, .f32⟩
  | 3 => ⟨S_, .f32⟩
  | 4 => ⟨S8x2048x4, .i1⟩
  | 5 => ⟨S8x2048x4, .f32⟩
  | 6 => ⟨S8x2048x4, .f32⟩
  | 7 => ⟨S4x1x2048x4x64, .f32⟩
  | 8 => ⟨S1x8x2048x4x1, .f32⟩
  | 9 => ⟨S4x8x2048x4x64, .f32⟩
  | 10 => ⟨S4x8x2048x4x64, .f32⟩
  | 11 => ⟨S4x8x2048x4x64, .f32⟩
  | 12 => ⟨S4x4x128x8x64, .f32⟩
  | 13 => ⟨S4x8x4x64x128, .f32⟩
  | 14 => ⟨S4, .i32⟩
  | 15 => ⟨S4x1, .i32⟩
  | 16 => ⟨S4, .i32⟩
  | 17 => ⟨S1x4, .i32⟩
  | 18 => ⟨S4x4, .i32⟩
  | 19 => ⟨S4x4, .i32⟩
  | 20 => ⟨S4x4, .i1⟩
  | 21 => ⟨S4x1x4x1, .i1⟩
  | 22 => ⟨S1x1x4x1x4x1, .i1⟩
  | 23 => ⟨S4x8x4x64x1x128, .f32⟩
  | 24 => ⟨S_, .f32⟩
  | 25 => ⟨S_, .f32⟩
  | 26 => ⟨S4x8x4x64x4x128, .i1⟩
  | 27 => ⟨S4x8x4x64x4x128, .f32⟩
  | 28 => ⟨S4x8x4x64x4x128, .f32⟩
  | 29 => ⟨S4x8x4x64x4x128, .f32⟩
  | 30 => ⟨S32x256x512, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S4, .f32⟩
  | 42 => ⟨S256, .f32⟩
  | 43 => ⟨S4x64, .i32⟩
  | 44 => ⟨S256, .i32⟩
  | 45 => ⟨S1x256, .i32⟩
  | 46 => ⟨S256x1, .i32⟩
  | 47 => ⟨S256x256, .i32⟩
  | 48 => ⟨S256x256, .i32⟩
  | 49 => ⟨S256x256, .i1⟩
  | 50 => ⟨S1x256x256, .i1⟩
  | 51 => ⟨S4x1x1, .f32⟩
  | 52 => ⟨S256x1, .f32⟩
  | 53 => ⟨S1x256, .f32⟩
  | 54 => ⟨S256x256, .f32⟩
  | 55 => ⟨S256x256, .f32⟩
  | 56 => ⟨S256x256, .f32⟩
  | 57 => ⟨S256x256, .f32⟩
  | 58 => ⟨S1x256x256, .f32⟩
  | 59 => ⟨S4x256x256, .f32⟩
  | 60 => ⟨S4x256x256, .f32⟩
  | 61 => ⟨S4x256x256, .f32⟩
  | 62 => ⟨S4x256x256, .f32⟩
  | 63 => ⟨S_, .f32⟩
  | 64 => ⟨S_, .f32⟩
  | 65 => ⟨S4x256x256, .i1⟩
  | 66 => ⟨S4x256x256, .f32⟩
  | 67 => ⟨S4x256x256, .f32⟩
  | 68 => ⟨S1x4, .f32⟩
  | 69 => ⟨S_, .f32⟩
  | 70 => ⟨S256, .f32⟩
  | 71 => ⟨S256, .f32⟩
  | 72 => ⟨S256x1, .f32⟩
  | 73 => ⟨S256x4, .f32⟩
  | 74 => ⟨S256x4, .f32⟩
  | 75 => ⟨S256x4, .f32⟩
  | 76 => ⟨S256x4, .f32⟩
  | 77 => ⟨S256x4x1, .f32⟩
  | 78 => ⟨S256x4x128, .f32⟩
  | 79 => ⟨S256x512, .f32⟩
  | 80 => ⟨S1x4, .f32⟩
  | 81 => ⟨S_, .f32⟩
  | 82 => ⟨S256, .f32⟩
  | 83 => ⟨S256, .f32⟩
  | 84 => ⟨S256x1, .f32⟩
  | 85 => ⟨S256x4, .f32⟩
  | 86 => ⟨S256x4, .f32⟩
  | 87 => ⟨S256x4, .f32⟩
  | 88 => ⟨S256x4, .f32⟩
  | 89 => ⟨S256x4x1, .f32⟩
  | 90 => ⟨S256x4x64, .f32⟩
  | 91 => ⟨S256x256, .f32⟩
  | 92 => ⟨S4, .i32⟩
  | 93 => ⟨S4x1, .i32⟩
  | 94 => ⟨S4, .i32⟩
  | 95 => ⟨S1x4, .i32⟩
  | 96 => ⟨S4x4, .i32⟩
  | 97 => ⟨S4x4, .i32⟩
  | 98 => ⟨S4x4, .i1⟩
  | 99 => ⟨S4x1x4x1, .i1⟩
  | 100 => ⟨S_, .f32⟩
  | 101 => ⟨S4, .f32⟩
  | 102 => ⟨S4, .f32⟩
  | 103 => ⟨S4, .f32⟩
  | 104 => ⟨S4x1x1x1, .f32⟩
  | 105 => ⟨S_, .f32⟩
  | 106 => ⟨S_, .f32⟩
  | 107 => ⟨S4x1x4x1, .f32⟩
  | 108 => ⟨S4x1x4x1, .f32⟩
  | 109 => ⟨S4x1x4x1, .f32⟩
  | 110 => ⟨S4x64x4x128, .f32⟩
  | 111 => ⟨S256x512, .f32⟩
  | 112 => ⟨S_, .f32⟩
  | 113 => ⟨S4x1x1x1, .f32⟩
  | 114 => ⟨S_, .f32⟩
  | 115 => ⟨S_, .f32⟩
  | 116 => ⟨S4x1x4x1, .f32⟩
  | 117 => ⟨S4x1x4x1, .f32⟩
  | 118 => ⟨S4x1x4x1, .f32⟩
  | 119 => ⟨S4x64x4x128, .f32⟩
  | 120 => ⟨S256x512, .f32⟩
  | 121 => ⟨S1x512, .f32⟩
  | 122 => ⟨S4x128x128, .bf16⟩
  | 123 => ⟨S1x512, .f32⟩
  | 124 => ⟨S1024x1024, .f32⟩
  | 125 => ⟨S1024x1024, .bf16⟩
  | 126 => ⟨S8192x2048, .bf16⟩
  | 127 => ⟨S8192x1024, .bf16⟩
  | _ => ⟨S4x2048x2048, .f32⟩

abbrev hbmTy0_2 (i : Nat) : BufTy := match i % 128 with
  | 0 => ⟨S1x512, .f32⟩
  | 1 => ⟨S1x512, .f32⟩
  | 2 => ⟨S4x128x128, .f32⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S1x256x512, .f32⟩
  | .local _ .vmem, ⟨15, _⟩ => ⟨S1x256x512, .f32⟩
  | .local _ .vmem, ⟨16, _⟩ => ⟨S4x256x256, .f32⟩
  | .local _ .vmem, ⟨17, _⟩ => ⟨S256x512, .f32⟩
  | .local _ .vmem, ⟨18, _⟩ => ⟨S256x256, .f32⟩
  | .local _ .vmem, ⟨19, _⟩ => ⟨S256x512, .f32⟩
  | .local _ .vmem, ⟨20, _⟩ => ⟨S256x512, .f32⟩
  | .local _ .vmem, ⟨21, _⟩ => ⟨S1x512, .f32⟩
  | .local _ .vmem, ⟨22, _⟩ => ⟨S4x128x128, .bf16⟩
  | .local _ .vmem, ⟨23, _⟩ => ⟨S1x512, .f32⟩
  | .local _ .vmem, ⟨24, _⟩ => ⟨S1024x1024, .bf16⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x2048, .bf16⟩
  | .local _ .vmem, ⟨30, _⟩ => ⟨S256x2048, .bf16⟩
  | .local _ .vmem, ⟨31, _⟩ => ⟨S256x1024, .bf16⟩
  | .local _ .vmem, ⟨32, _⟩ => ⟨S256x1024, .bf16⟩
  | .local _ .vmem, ⟨33, _⟩ => ⟨S1x512, .f32⟩
  | .local _ .vmem, ⟨34, _⟩ => ⟨S1x512, .f32⟩
  | .local _ .vmem, ⟨35, _⟩ => ⟨S4x128x128, .f32⟩
  | .local _ .vmem, ⟨36, _⟩ => ⟨S256x512, .f32⟩
  | .local _ .vmem, ⟨37, _⟩ => ⟨S16x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_6 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_7 : Ref sig .tc := ⟨.hbm, 104, rfl⟩
abbrev main_v88 : Ref sig .tc := ⟨.hbm, 105, rfl⟩
abbrev main_v89 : Ref sig .tc := ⟨.hbm, 106, rfl⟩
abbrev main_cst_8 : Ref sig .tc := ⟨.hbm, 107, rfl⟩
abbrev main_v90 : Ref sig .tc := ⟨.hbm, 108, rfl⟩
abbrev main_v91 : Ref sig .tc := ⟨.hbm, 109, rfl⟩
abbrev main_cst_9 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_10 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_11 : Ref sig .tc := ⟨.hbm, 130, rfl⟩
abbrev main_call0_v0 : Ref sig .tc := ⟨.hbm, 131, rfl⟩
abbrev main_call0_v1 : Ref sig .tc := ⟨.hbm, 132, rfl⟩
abbrev main_call0_v2 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_12 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_call1_v3 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_13 : Ref sig .tc := ⟨.hbm, 160, rfl⟩
abbrev main_v131 : Ref sig .tc := ⟨.hbm, 161, rfl⟩
abbrev main_v132 : Ref sig .tc := ⟨.hbm, 162, rfl⟩
abbrev main_cst_14 : Ref sig .tc := ⟨.hbm, 163, rfl⟩
abbrev main_v133 : Ref sig .tc := ⟨.hbm, 164, rfl⟩
abbrev main_v134 : Ref sig .tc := ⟨.hbm, 165, rfl⟩
abbrev main_cst_15 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_16 : Ref sig .tc := ⟨.hbm, 191, rfl⟩
abbrev main_call2_v0 : Ref sig .tc := ⟨.hbm, 192, rfl⟩
abbrev main_call2_v1 : Ref sig .tc := ⟨.hbm, 193, rfl⟩
abbrev main_call2_v2 : Ref sig .tc := ⟨.hbm, 194, rfl⟩
abbrev main_v159 : Ref sig .tc := ⟨.hbm, 195, rfl⟩
abbrev main_v160 : Ref sig .tc := ⟨.hbm, 196, rfl⟩
abbrev main_cst_17 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_cst_18 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_19 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_cst_20 : Ref sig .tc := ⟨.hbm, 233, rfl⟩
abbrev main_call3_v0 : Ref sig .tc := ⟨.hbm, 234, rfl⟩
abbrev main_call3_v1 : Ref sig .tc := ⟨.hbm, 235, rfl⟩
abbrev main_call3_v2 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_21 : Ref sig .tc := ⟨.hbm, 240, rfl⟩
abbrev main_v197 : Ref sig .tc := ⟨.hbm, 241, rfl⟩
abbrev main_cst_22 : Ref sig .tc := ⟨.hbm, 242, rfl⟩
abbrev main_call4_v0 : Ref sig .tc := ⟨.hbm, 243, rfl⟩
abbrev main_call4_v1 : Ref sig .tc := ⟨.hbm, 244, rfl⟩
abbrev main_call4_v2 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206_0 : Ref sig .tc := ⟨.hbm, 254, rfl⟩
abbrev main_v206_1 : Ref sig .tc := ⟨.hbm, 255, rfl⟩
abbrev main_v206_2 : Ref sig .tc := ⟨.hbm, 256, rfl⟩
abbrev main_v206_3 : Ref sig .tc := ⟨.hbm, 257, rfl⟩
abbrev main_v206_4 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem22_0 : DmaSem sig := 34
abbrev cc0_sem23_0 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]
-- ==== ReferenceIdeal.lean ====
abbrev S4x2048x2048 : Shape := ⟨3, ![4, 2048, 2048]⟩
abbrev S4x2048x4x128 : Shape := ⟨4, ![4, 2048, 4, 128]⟩
abbrev S512 : Shape := ⟨1, ![512]⟩
abbrev S4x128x128 : Shape := ⟨3, ![4, 128, 128]⟩
abbrev S1024x1024 : Shape := ⟨2, ![1024, 1024]⟩
abbrev S4x2048x1024 : Shape := ⟨3, ![4, 2048, 1024]⟩
abbrev S4 : Shape := ⟨1, ![4]⟩
abbrev S4x2048x256 : Shape := ⟨3, ![4, 2048, 256]⟩
abbrev S4x2048x4x64 : Shape := ⟨4, ![4, 2048, 4, 64]⟩
abbrev S4x2048x512 : Shape := ⟨3, ![4, 2048, 512]⟩
abbrev S_ : Shape := ⟨0, ![]⟩
abbrev S4x128x4x2048 : Shape := ⟨4, ![4, 128, 4, 2048]⟩
abbrev S1x1x512 : Shape := ⟨3, ![1, 1, 512]⟩
abbrev S4x4x2048x128 : Shape := ⟨4, ![4, 4, 2048, 128]⟩
abbrev S4x2048x4 : Shape := ⟨3, ![4, 2048, 4]⟩
abbrev S4x2048x4x1 : Shape := ⟨4, ![4, 2048, 4, 1]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x4x32 : Shape := ⟨4, ![4, 2048, 4, 32]⟩
abbrev S32x64 : Shape := ⟨2, ![32, 64]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x4x2048x2048 : Shape := ⟨4, ![4, 4, 2048, 2048]⟩
abbrev S1x4x2048x2048 : Shape := ⟨4, ![1, 4, 2048, 2048]⟩
abbrev S4x4x128x2048 : Shape := ⟨4, ![4, 4, 128, 2048]⟩
abbrev S4x4x2048x64 : Shape := ⟨4, ![4, 4, 2048, 64]⟩
abbrev S1x4 : Shape := ⟨2, ![1, 4]⟩
abbrev S2048x4 : Shape := ⟨2, ![2048, 4]⟩
abbrev S1x1x2048 : Shape := ⟨3, ![1, 1, 2048]⟩
abbrev S1x2048x1 : Shape := ⟨3, ![1, 2048, 1]⟩
abbrev S4x2048 : Shape := ⟨2, ![4, 2048]⟩
abbrev S4x2048x1 : Shape := ⟨3, ![4, 2048, 1]⟩
abbrev S1x2048x4x1 : Shape := ⟨4, ![1, 2048, 4, 1]⟩
abbrev S8192x256 : Shape := ⟨2, ![8192, 256]⟩
abbrev S8192x512 : Shape := ⟨2, ![8192, 512]⟩
abbrev S8192x2048 : Shape := ⟨2, ![8192, 2048]⟩
abbrev S8192x1024 : Shape := ⟨2, ![8192, 1024]⟩
abbrev S1x512 : Shape := ⟨2, ![1, 512]⟩

abbrev nBuf : Space → Nat
  | .hbm => 363
  | .vmem => 0
  | .smem => 0
  | _ => 0

abbrev hbmTy0_0 (i : Nat) : BufTy := match i % 128 with
  | 0 => ⟨S4x2048x2048, .f32⟩
  | 1 => ⟨S4x2048x4x128, .f32⟩
  | 2 => ⟨S4x2048x4x128, .f32⟩
  | 3 => ⟨S512, .f32⟩
  | 4 => ⟨S4x128x128, .f32⟩
  | 5 => ⟨S512, .f32⟩
  | 6 => ⟨S1024x1024, .f32⟩
  | 7 => ⟨S4x2048x1024, .f32⟩
  | 8 => ⟨S4, .i32⟩
  | 9 => ⟨S4x2048x256, .f32⟩
  | 10 => ⟨S4x2048x4x64, .f32⟩
  | 11 => ⟨S4x2048x256, .f32⟩
  | 12 => ⟨S4x2048x4x64, .f32⟩
  | 13 => ⟨S4x2048x512, .f32⟩
  | 14 => ⟨S4x2048x4x128, .f32⟩
  | 15 => ⟨S4x2048x512, .f32⟩
  | 16 => ⟨S_, .f32⟩
  | 17 => ⟨S4x2048x512, .f32⟩
  | 18 => ⟨S1024x1024, .f32⟩
  | 19 => ⟨S4x2048x1024, .f32⟩
  | 20 => ⟨S4x2048x512, .f32⟩
  | 21 => ⟨S4x2048x512, .f32⟩
  | 22 => ⟨S4x128x4x2048, .f32⟩
  | 23 => ⟨S4x2048x4x128, .f32⟩
  | 24 => ⟨S4x2048x512, .f32⟩
  | 25 => ⟨S1x1x512, .f32⟩
  | 26 => ⟨S4x2048x512, .f32⟩
  | 27 => ⟨S4x2048x512, .f32⟩
  | 28 => ⟨S4x2048x512, .f32⟩
  | 29 => ⟨S_, .f32⟩
  | 30 => ⟨S512, .f32⟩
  | 31 => ⟨S1x1x512, .f32⟩
  | 32 => ⟨S4x2048x512, .f32⟩
  | 33 => ⟨S4x2048x512, .f32⟩
  | 34 => ⟨S_, .f32⟩
  | 35 => ⟨S512, .f32⟩
  | 36 => ⟨S4x2048x4x128, .f32⟩
  | 37 => ⟨S4x128x4x2048, .f32⟩
  | 38 => ⟨S4x4x2048x128, .f32⟩
  | 39 => ⟨S4x2048x4x128, .f32⟩
  | 40 => ⟨S4x128x128, .f32⟩
  | 41 => ⟨S4x128x128, .f32⟩
  | 42 => ⟨S4x2048x512, .f32⟩
  | 43 => ⟨S4x2048x512, .f32⟩
  | 44 => ⟨S_, .f32⟩
  | 45 => ⟨S4x2048x512, .f32⟩
  | 46 => ⟨S4x2048x512, .f32⟩
  | 47 => ⟨S_, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S4x2048x512, .f32⟩
  | 54 => ⟨S4x2048x512, .f32⟩
  | 55 => ⟨S_, .f32⟩
  | 56 => ⟨S4x2048x4, .f32⟩
  | 57 => ⟨S4x2048x4x1, .f32⟩
  | 58 => ⟨S_, .f32⟩
  | 59 => ⟨S4x2048x4x1, .f32⟩
  | 60 => ⟨S4x2048x4x1, .f32⟩
  | 61 => ⟨S4x2048x4x128, .f32⟩
  | 62 => ⟨S4x2048x4x128, .f32⟩
  | 63 => ⟨S4x2048x4x128, .f32⟩
  | 64 => ⟨S_, .f32⟩
  | 65 => ⟨S4x2048x4x128, .f32⟩
  | 66 => ⟨S4x2048x4x128, .f32⟩
  | 67 => ⟨S_, .f32⟩
  | 68 => ⟨S4x2048x4, .f32⟩
  | 69 => ⟨S4x2048x4x1, .f32⟩
  | 70 => ⟨S_, .f32⟩
  | 71 => ⟨S4x2048x4x1, .f32⟩
  | 72 => ⟨S4x2048x4x1, .f32⟩
  | 73 => ⟨S4x2048x4x128, .f32⟩
  | 74 => ⟨S4x2048x4x128, .f32⟩
  | 75 => ⟨S_, .f32⟩
  | 76 => ⟨S4x2048x4x1, .f32⟩
  | 77 => ⟨S4x2048x4x1, .f32⟩
  | 78 => ⟨S4x2048x4x1, .f32⟩
  | 79 => ⟨S4x2048x4x1, .f32⟩
  | 80 => ⟨S_, .f32⟩
  | 81 => ⟨S4x2048x4x1, .f32⟩
  | 82 => ⟨S4x2048x4x1, .f32⟩
  | 83 => ⟨S4x2048x4x128, .f32⟩
  | 84 => ⟨S4x2048x4x128, .f32⟩
  | 85 => ⟨S4x2048x512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S4x2048x512, .f32⟩
  | 92 => ⟨S4x2048x512, .f32⟩
  | 93 => ⟨S_, .f32⟩
  | 94 => ⟨S512, .f32⟩
  | 95 => ⟨S1x1x512, .f32⟩
  | 96 => ⟨S4x2048x512, .f32⟩
  | 97 => ⟨S4x2048x512, .f32⟩
  | 98 => ⟨S_, .f32⟩
  | 99 => ⟨S512, .f32⟩
  | 100 => ⟨S4x2048x4x128, .f32⟩
  | 101 => ⟨S4x2048x4x128, .f32⟩
  | 102 => ⟨S_, .f32⟩
  | 103 => ⟨S4x2048x4, .f32⟩
  | 104 => ⟨S4x2048x4x1, .f32⟩
  | 105 => ⟨S4x2048x4x128, .f32⟩
  | 106 => ⟨S4x2048x4x128, .f32⟩
  | 107 => ⟨S4x2048x4x1, .f32⟩
  | 108 => ⟨S4x2048x4x128, .f32⟩
  | 109 => ⟨S_, .f32⟩
  | 110 => ⟨S4x2048x4, .f32⟩
  | 111 => ⟨S4x2048x4x1, .f32⟩
  | 112 => ⟨S_, .f32⟩
  | 113 => ⟨S4x2048x4x1, .f32⟩
  | 114 => ⟨S4x2048x4x1, .f32⟩
  | 115 => ⟨S_, .f32⟩
  | 116 => ⟨S4x2048x4, .f32⟩
  | 117 => ⟨S4x2048x4x128, .f32⟩
  | 118 => ⟨S4x2048x4x128, .f32⟩
  | 119 => ⟨S4x2048x4x128, .f32⟩
  | 120 => ⟨S_, .f32⟩
  | 121 => ⟨S4x2048x4, .f32⟩
  | 122 => ⟨S4x2048x4x1, .f32⟩
  | 123 => ⟨S4x2048x4x128, .f32⟩
  | 124 => ⟨S4x2048x4x1, .f32⟩
  | 125 => ⟨S_, .f32⟩
  | 126 => ⟨S4x2048x4x1, .f32⟩
  | 127 => ⟨S4x2048x4x1, .f32⟩
  | _ => ⟨S4x2048x2048, .f32⟩

abbrev hbmTy0_1 (i : Nat) : BufTy := match i % 128 with
  | 0 => ⟨S_, .f32⟩
  | 1 => ⟨S4x2048x4, .f32⟩
  | 2 => ⟨S4x2048x4x128, .f32⟩
  | 3 => ⟨S4x2048x4x128, .f32⟩
  | 4 => ⟨S4x2048x512, .f32⟩
  | 5 => ⟨S4x2048x512, .f32⟩
  | 6 => ⟨S4x2048x512, .f32⟩
  | 7 => ⟨S4x2048x512, .f32⟩
  | 8 => ⟨S2048, .i32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S1x2048x1x32, .f32⟩
  | 28 => ⟨S2048x32, .f32⟩
  | 29 => ⟨S1x2048x1x32, .f32⟩
  | 30 => ⟨S4x2048x4x32, .f32⟩
  | 31 => ⟨S4x2048x4x32, .f32⟩
  | 32 => ⟨S4x2048x4x32, .f32⟩
  | 33 => ⟨S4x2048x4x32, .f32⟩
  | 34 => ⟨S4x2048x4x32, .f32⟩
  | 35 => ⟨S4x2048x4x32, .f32⟩
  | 36 => ⟨S4x2048x4x32, .f32⟩
  | 37 => ⟨S4x2048x4x32, .f32⟩
  | 38 => ⟨S4x2048x4x32, .f32⟩
  | 39 => ⟨S4x2048x4x32, .f32⟩
  | 40 => ⟨S4x2048x4x32, .f32⟩
  | 41 => ⟨S4x2048x4x32, .f32⟩
  | 42 => ⟨S4x2048x4x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S2048, .f32⟩
  | 55 => ⟨S2048x1, .f32⟩
  | 56 => ⟨S1x32, .f32⟩
  | 57 => ⟨S2048x32, .f32⟩
  | 58 => ⟨S2048x32, .f32⟩
  | 59 => ⟨S2048x32, .f32⟩
  | 60 => ⟨S2048x32, .f32⟩
  | 61 => ⟨S1x2048x1x32, .f32⟩
  | 62 => ⟨S2048x32, .f32⟩
  | 63 => ⟨S1x2048x1x32, .f32⟩
  | 64 => ⟨S4x2048x4x32, .f32⟩
  | 65 => ⟨S4x2048x4x32, .f32⟩
  | 66 => ⟨S4x2048x4x32, .f32⟩
  | 67 => ⟨S4x2048x4x32, .f32⟩
  | 68 => ⟨S4x2048x4x32, .f32⟩
  | 69 => ⟨S4x2048x4x32, .f32⟩
  | 70 => ⟨S4x2048x4x32, .f32⟩
  | 71 => ⟨S4x2048x4x32, .f32⟩
  | 72 => ⟨S4x2048x4x32, .f32⟩
  | 73 => ⟨S4x2048x4x32, .f32⟩
  | 74 => ⟨S4x2048x4x32, .f32⟩
  | 75 => ⟨S4x2048x4x32, .f32⟩
  | 76 => ⟨S4x2048x4x64, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S_, .f32⟩
  | 85 => ⟨S4, .f32⟩
  | 86 => ⟨S4, .f32⟩
  | 87 => ⟨S4, .f32⟩
  | 88 => ⟨S2048, .f32⟩
  | 89 => ⟨S32x64, .i32⟩
  | 90 => ⟨S2048, .i32⟩
  | 91 => ⟨S1x2048, .i32⟩
  | 92 => ⟨S2048x1, .i32⟩
  | 93 => ⟨S2048x2048, .i32⟩
  | 94 => ⟨S2048x2048, .i32⟩
  | 95 => ⟨S2048x2048, .i1⟩
  | 96 => ⟨S4x1x1, .f32⟩
  | 97 => ⟨S2048x1, .f32⟩
  | 98 => ⟨S1x2048, .f32⟩
  | 99 => ⟨S2048x2048, .f32⟩
  | 100 => ⟨S2048x2048, .f32⟩
  | 101 => ⟨S2048x2048, .f32⟩
  | 102 => ⟨S2048x2048, .f32⟩
  | 103 => ⟨S1x2048x2048, .f32⟩
  | 104 => ⟨S4x2048x2048, .f32⟩
  | 105 => ⟨S4x2048x2048, .f32⟩
  | 106 => ⟨S4x2048x2048, .f32⟩
  | 107 => ⟨S4x2048x2048, .f32⟩
  | 108 => ⟨S1x2048x2048, .i1⟩
  | 109 => ⟨S_, .f32⟩
  | 110 => ⟨S_, .f32⟩
  | 111 => ⟨S4x2048x2048, .i1⟩
  | 112 => ⟨S4x2048x2048, .f32⟩
  | 113 => ⟨S4x2048x2048, .f32⟩
  | 114 => ⟨S_, .f32⟩
  | 115 => ⟨S4x2048x4x64, .f32⟩
  | 116 => ⟨S4x2048x4x64, .f32⟩
  | 117 => ⟨S4x4x2048x2048, .f32⟩
  | 118 => ⟨S1x4x2048x2048, .f32⟩
  | 119 => ⟨S4x4x2048x2048, .f32⟩
  | 120 => ⟨S4x4x2048x2048, .f32⟩
  | 121 => ⟨S4x4x128x2048, .f32⟩
  | 122 => ⟨S4x2048x4x128, .f32⟩
  | 123 => ⟨S4x4x128x2048, .f32⟩
  | 124 => ⟨S4x4x2048x2048, .f32⟩
  | 125 => ⟨S4x4x128x2048, .f32⟩
  | 126 => ⟨S4x2048x4x128, .f32⟩
  | 127 => ⟨S4x4x2048x2048, .f32⟩
  | _ => ⟨S4x2048x2048, .f32⟩

abbrev hbmTy0_2 (i : Nat) : BufTy := match i % 128 with
  | 0 => ⟨S4x4x2048x2048, .f32⟩
  | 1 => ⟨S4x4x2048x64, .f32⟩
  | 2 => ⟨S4x2048x4x64, .f32⟩
  | 3 => ⟨S4x4x2048x64, .f32⟩
  | 4 => ⟨S4x2048x4x64, .f32⟩
  | 5 => ⟨S_, .f32⟩
  | 6 => ⟨S4x2048x4x64, .f32⟩
  | 7 => ⟨S4x2048x4x64, .f32⟩
  | 8 => ⟨S4x2048x4x32, .f32⟩
  | 9 => ⟨S4x2048x4x32, .f32⟩
  | 10 => ⟨S4x2048x4x32, .f32⟩
  | 11 => ⟨S4x2048x4x32, .f32⟩
  | 12 => ⟨S4x2048x4x32, .f32⟩
  | 13 => ⟨S4x2048x4x32, .f32⟩
  | 14 => ⟨S4x2048x4x32, .f32⟩
  | 15 => ⟨S4x2048x4x32, .f32⟩
  | 16 => ⟨S4x2048x4x32, .f32⟩
  | 17 => ⟨S4x2048x4x32, .f32⟩
  | 18 => ⟨S4x2048x4x32, .f32⟩
  | 19 => ⟨S4x2048x4x32, .f32⟩
  | 20 => ⟨S4x2048x4x32, .f32⟩
  | 21 => ⟨S_, .f32⟩
  | 22 => ⟨S4x2048x4x64, .f32⟩
  | 23 => ⟨S_, .f32⟩
  | 24 => ⟨S4x2048x4x64, .f32⟩
  | 25 => ⟨S4x2048x4x64, .f32⟩
  | 26 => ⟨S4x2048x4x32, .f32⟩
  | 27 => ⟨S4x2048x4x32, .f32⟩
  | 28 => ⟨S4x2048x4x32, .f32⟩
  | 29 => ⟨S4x2048x4x32, .f32⟩
  | 30 => ⟨S4x2048x4x32, .f32⟩
  | 31 => ⟨S4x2048x4x32, .f32⟩
  | 32 => ⟨S4x2048x4x32, .f32⟩
  | 33 => ⟨S4x2048x4x32, .f32⟩
  | 34 => ⟨S4x2048x4x32, .f32⟩
  | 35 => ⟨S4x2048x4x32, .f32⟩
  | 36 => ⟨S4x2048x4x32, .f32⟩
  | 37 => ⟨S4x2048x4x32, .f32⟩
  | 38 => ⟨S4x2048x4x32, .f32⟩
  | 39 => ⟨S_, .f32⟩
  | 40 => ⟨S4x2048x4x64, .f32⟩
  | 41 => ⟨S_, .f32⟩
  | 42 => ⟨S4x2048x4x64, .f32⟩
  | 43 => ⟨S4x2048x4x64, .f32⟩
  | 44 => ⟨S4x2048x4x128, .f32⟩
  | 45 => ⟨S2048, .i32⟩
  | 46 => ⟨S2048x1, .i32⟩
  | 47 => ⟨S_, .i32⟩
  | 48 => ⟨S2048x1, .i32⟩
  | 49 => ⟨S2048x1, .i32⟩
  | 50 => ⟨S1x4, .i32⟩
  | 51 => ⟨S2048x4, .i32⟩
  | 52 => ⟨S2048x4, .i32⟩
  | 53 => ⟨S2048x4, .i32⟩
  | 54 => ⟨S_, .i32⟩
  | 55 => ⟨S2048x4, .i32⟩
  | 56 => ⟨S2048x4, .i32⟩
  | 57 => ⟨S2048x1, .i32⟩
  | 58 => ⟨S_, .i32⟩
  | 59 => ⟨S2048x1, .i32⟩
  | 60 => ⟨S2048x1, .i32⟩
  | 61 => ⟨S2048x4, .i32⟩
  | 62 => ⟨S2048x4, .i32⟩
  | 63 => ⟨S2048x4, .f32⟩
  | 64 => ⟨S1x1x2048, .i32⟩
  | 65 => ⟨S1x2048x1, .i32⟩
  | 66 => ⟨S1x2048x2048, .i32⟩
  | 67 => ⟨S1x2048x2048, .i32⟩
  | 68 => ⟨S1x2048x2048, .i1⟩
  | 69 => ⟨S4x2048, .i32⟩
  | 70 => ⟨S4x2048x1, .i32⟩
  | 71 => ⟨S1x1x2048, .i32⟩
  | 72 => ⟨S4x2048x2048, .i32⟩
  | 73 => ⟨S4x2048x2048, .i32⟩
  | 74 => ⟨S4x2048x2048, .i1⟩
  | 75 => ⟨S4x2048x2048, .i1⟩
  | 76 => ⟨S4x2048x2048, .i1⟩
  | 77 => ⟨S_, .f32⟩
  | 78 => ⟨S_, .f32⟩
  | 79 => ⟨S4x2048x2048, .f32⟩
  | 80 => ⟨S4x2048x2048, .f32⟩
  | 81 => ⟨S4x2048x2048, .f32⟩
  | 82 => ⟨S4x4x128x2048, .f32⟩
  | 83 => ⟨S4x2048x4x128, .f32⟩
  | 84 => ⟨S1x2048x4x1, .f32⟩
  | 85 => ⟨S4x2048x4x128, .f32⟩
  | 86 => ⟨S4x2048x4x128, .f32⟩
  | 87 => ⟨S4x2048x4x128, .f32⟩
  | 88 => ⟨S4x2048x4x128, .f32⟩
  | 89 => ⟨S4x2048x4x128, .f32⟩
  | 90 => ⟨S4x2048x4x128, .f32⟩
  | 91 => ⟨S4x4x128x2048, .f32⟩
  | 92 => ⟨S4x4x128x2048, .f32⟩
  | 93 => ⟨S4x2048x4x128, .f32⟩
  | 94 => ⟨S4x2048x4x128, .f32⟩
  | 95 => ⟨S4x2048x512, .f32⟩
  | 96 => ⟨S8192x256, .f32⟩
  | 97 => ⟨S8192x256, .f32⟩
  | 98 => ⟨S8192x512, .f32⟩
  | 99 => ⟨S8192x512, .f32⟩
  | 100 => ⟨S8192x512, .f32⟩
  | 101 => ⟨S8192x2048, .f32⟩
  | 102 => ⟨S8192x2048, .bf16⟩
  | 103 => ⟨S8192x1024, .f32⟩
  | 104 => ⟨S8192x1024, .bf16⟩
  | 105 => ⟨S1x512, .f32⟩
  | 106 => ⟨S1x512, .f32⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v30_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v30_1 : Ref sig .tc := ⟨.hbm, 53, rfl⟩
abbrev main_v30_0 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_16 : Ref sig .tc := ⟨.hbm, 125, rfl⟩
abbrev main_v87 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_18 : Ref sig .tc := ⟨.hbm, 139, rfl⟩
abbrev main_v96 : Ref sig .tc := ⟨.hbm, 140, rfl⟩
abbrev main_v97 : Ref sig .tc := ⟨.hbm, 141, rfl⟩
abbrev main_cst_19 : Ref sig .tc := ⟨.hbm, 142, rfl⟩
abbrev main_v98 : Ref sig .tc := ⟨.hbm, 143, rfl⟩
abbrev main_v99 : Ref sig .tc := ⟨.hbm, 144, rfl⟩
abbrev main_cst_20 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_21 : Ref sig .tc := ⟨.hbm, 173, rfl⟩
abbrev main_v127 : Ref sig .tc := ⟨.hbm, 174, rfl⟩
abbrev main_v128 : Ref sig .tc := ⟨.hbm, 175, rfl⟩
abbrev main_cst_22 : Ref sig .tc := ⟨.hbm, 176, rfl⟩
abbrev main_v129 : Ref sig .tc := ⟨.hbm, 177, rfl⟩
abbrev main_v130 : Ref sig .tc := ⟨.hbm, 178, rfl⟩
abbrev main_cst_23 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_24 : Ref sig .tc := ⟨.hbm, 206, rfl⟩
abbrev main_v157 : Ref sig .tc := ⟨.hbm, 207, rfl⟩
abbrev main_v158 : Ref sig .tc := ⟨.hbm, 208, rfl⟩
abbrev main_cst_25 : Ref sig .tc := ⟨.hbm, 209, rfl⟩
abbrev main_v159 : Ref sig .tc := ⟨.hbm, 210, rfl⟩
abbrev main_v160 : Ref sig .tc := ⟨.hbm, 211, rfl⟩
abbrev main_cst_26 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_27 : Ref sig .tc := ⟨.hbm, 237, rfl⟩
abbrev main_call2_v0 : Ref sig .tc := ⟨.hbm, 238, rfl⟩
abbrev main_call2_v1 : Ref sig .tc := ⟨.hbm, 239, rfl⟩
abbrev main_call2_v2 : Ref sig .tc := ⟨.hbm, 240, rfl⟩
abbrev main_v185 : Ref sig .tc := ⟨.hbm, 241, rfl⟩
abbrev main_cst_28 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_29 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_cst_30 : Ref sig .tc := ⟨.hbm, 277, rfl⟩
abbrev main_v219 : Ref sig .tc := ⟨.hbm, 278, rfl⟩
abbrev main_cst_31 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_cst_32 : Ref sig .tc := ⟨.hbm, 295, rfl⟩
abbrev main_v235 : Ref sig .tc := ⟨.hbm, 296, rfl⟩
abbrev main_cst_33 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_c_34 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_c_35 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_c_36 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_cst_37 : Ref sig .tc := ⟨.hbm, 333, rfl⟩
abbrev main_cst_38 : Ref sig .tc := ⟨.hbm, 334, rfl⟩
abbrev main_call3_v0 : Ref sig .tc := ⟨.hbm, 335, rfl⟩
abbrev main_call3_v1 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩

abbrev nD : Nat := 1
abbrev τ : Topo := Topo.v7x

variable {F : FTy → Type} [FloatOps F]
-- ==== Kernel2.lean ====
abbrev S8192x3072 : Shape := ⟨2, ![8192, 3072]⟩
abbrev S3072x1024 : Shape := ⟨2, ![3072, 1024]⟩
abbrev S8192x1024 : Shape := ⟨2, ![8192, 1024]⟩
abbrev S_ : Shape := ⟨0, ![]⟩
abbrev S1024x3072 : Shape := ⟨2, ![1024, 3072]⟩
abbrev S1024x1024 : Shape := ⟨2, ![1024, 1024]⟩
abbrev S1024x768 : Shape := ⟨2, ![1024, 768]⟩
abbrev S768x1024 : Shape := ⟨2, ![768, 1024]⟩

abbrev nBuf : Space → Nat
  | .hbm => 29
  | .vmem => 17
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S3072x1024, .f32⟩
  | .hbm, ⟨3, _⟩ => ⟨S8192x1024, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x1024, .bf16⟩
  | .hbm, ⟨21, _⟩ => ⟨S8192x3072, .bf16⟩
  | .hbm, ⟨22, _⟩ => ⟨S8192x3072, .bf16⟩
  | .hbm, ⟨23, _⟩ => ⟨S8192x3072, .bf16⟩
  | .hbm, ⟨24, _⟩ => ⟨S1024x3072, .f32⟩
  | .hbm, ⟨25, _⟩ => ⟨S1024x3072, .bf16⟩
  | .hbm, ⟨26, _⟩ => ⟨S8192x3072, .bf16⟩
  | .hbm, ⟨27, _⟩ => ⟨S8192x3072, .bf16⟩
  | .hbm, ⟨28, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S768x1024, .bf16⟩
  | .local _ .vmem, ⟨15, _⟩ => ⟨S768x1024, .bf16⟩
  | .local _ .vmem, ⟨16, _⟩ => ⟨S768x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x3072 : Shape := ⟨2, ![8192, 3072]⟩
abbrev S3072x1024 : Shape := ⟨2, ![3072, 1024]⟩
abbrev S8192x1024 : Shape := ⟨2, ![8192, 1024]⟩
abbrev S_ : Shape := ⟨0, ![]⟩
abbrev S1024x3072 : Shape := ⟨2, ![1024, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S3072x1024, .f32⟩
  | .hbm, ⟨3, _⟩ => ⟨S8192x1024, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x1024, .f32⟩
  | .hbm, ⟨19, _⟩ => ⟨S1024x3072, .f32⟩
  | .hbm, ⟨20, _⟩ => ⟨S3072x1024, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .bf16⟩
  | .hbm, ⟨29, _⟩ => ⟨S8192x3072, .bf16⟩
  | .hbm, ⟨30, _⟩ => ⟨S3072x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S8192x1024 : Shape := ⟨2, ![8192, 1024]⟩
abbrev S8192x3072 : Shape := ⟨2, ![8192, 3072]⟩
abbrev S3072x1024 : Shape := ⟨2, ![3072, 1024]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x3072, .bf16⟩
  | .hbm, ⟨3, _⟩ => ⟨S8192x1024, .bf16⟩
  | .hbm, ⟨4, _⟩ => ⟨S3072x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x3072 : Shape := ⟨2, ![8192, 3072]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S3072x1024, .f32⟩
  | .hbm, ⟨4, _⟩ => ⟨S1024x3072, .f32⟩
  | .hbm, ⟨5, _⟩ => ⟨S8192x3072, .f32⟩
  | .hbm, ⟨6, _⟩ => ⟨S3072x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S3072x1024 : Shape := ⟨2, ![3072, 1024]⟩
abbrev S3072x2048 : Shape := ⟨2, ![3072, 2048]⟩
abbrev S1x1024 : Shape := ⟨2, ![1, 1024]⟩
abbrev S1024x768 : Shape := ⟨2, ![1024, 768]⟩
abbrev S1024x1024 : Shape := ⟨2, ![1024, 1024]⟩
abbrev S768x1024 : Shape := ⟨2, ![768, 1024]⟩
abbrev S1024x1 : Shape := ⟨2, ![1024, 1]⟩

abbrev nBuf : Space → Nat
  | .hbm => 16
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S3072x1024, .f32⟩
  | .hbm, ⟨9, _⟩ => ⟨S3072x2048, .f32⟩
  | .hbm, ⟨10, _⟩ => ⟨S3072x2048, .bf16⟩
  | .hbm, ⟨11, _⟩ => ⟨S8192x3072, .bf16⟩
  | .hbm, ⟨12, _⟩ => ⟨S8192x3072, .bf16⟩
  | .hbm, ⟨13, _⟩ => ⟨S1x1024, .f32⟩
  | .hbm, ⟨14, _⟩ => ⟨S8192x1024, .f32⟩
  | .hbm, ⟨15, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_16 : BitVec 32 := 0#32
  let v26 : BitVec 1 := Scalar.cmpi .ne v25 c0_i32_16
  v26

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference4Ideal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x3072, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S1x1024 : Shape := ⟨2, ![1, 1024]⟩
abbrev S2048x1024 : Shape := ⟨2, ![2048, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S8192x2048, .bf16⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S8192x1024, .f32⟩
  | .hbm, ⟨10, _⟩ => ⟨S1x1024, .f32⟩
  | .hbm, ⟨11, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel6.lean ====
abbrev S8192x3072 : Shape := ⟨2, ![8192, 3072]⟩
abbrev S8192x1024 : Shape := ⟨2, ![8192, 1024]⟩
abbrev S3072x1024 : Shape := ⟨2, ![3072, 1024]⟩
abbrev S1024x3072 : Shape := ⟨2, ![1024, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3072x1024, .f32⟩
  | .hbm, ⟨3, _⟩ => ⟨S8192x3072, .bf16⟩
  | .hbm, ⟨4, _⟩ => ⟨S3072x1024, .bf16⟩
  | .hbm, ⟨5, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .f32⟩
  | .local _ .vmem, ⟨3, _⟩ => ⟨S1024x1024, .f32⟩
  | .local _ .vmem, ⟨4, _⟩ => ⟨S3072x1024, .bf16⟩
  | .local _ .vmem, ⟨5, _⟩ => ⟨S1024x1024, .f32⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x3072 : Shape := ⟨2, ![8192, 3072]⟩
abbrev S8192x1024 : Shape := ⟨2, ![8192, 1024]⟩
abbrev S3072x1024 : Shape := ⟨2, ![3072, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3072x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S8192x3072 : Shape := ⟨2, ![8192, 3072]⟩
abbrev S1024x1024 : Shape := ⟨2, ![1024, 1024]⟩
abbrev S1024x768 : Shape := ⟨2, ![1024, 768]⟩
abbrev S1024x1 : Shape := ⟨2, ![1024, 1]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .f32⟩
  | .hbm, ⟨4, _⟩ => ⟨S1x1024, .f32⟩
  | .hbm, ⟨5, _⟩ => ⟨S1024x3072, .bf16⟩
  | .hbm, ⟨6, _⟩ => ⟨S1024x3072, .bf16⟩
  | .hbm, ⟨7, _⟩ => ⟨S8192x1024, .bf16⟩
  | .hbm, ⟨8, _⟩ => ⟨S8192x3072, .bf16⟩
  | .hbm, ⟨9, _⟩ => ⟨S8192x3072, .bf16⟩
  | .hbm, ⟨10, _⟩ => ⟨S8192x3072, .bf16⟩
  | .hbm, ⟨11, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x1024, .bf16⟩
  | .local _ .vmem, ⟨8, _⟩ => ⟨S1024x1024, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S_, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x1024, .bf16⟩
  | .hbm, ⟨42, _⟩ => ⟨S8192x3072, .bf16⟩
  | .hbm, ⟨43, _⟩ => ⟨S8192x3072, .bf16⟩
  | .hbm, ⟨44, _⟩ => ⟨S8192x3072, .bf16⟩
  | .hbm, ⟨45, _⟩ => ⟨S8192x3072, .f32⟩
  | .hbm, ⟨46, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_cst_2 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x3072 : Shape := ⟨2, ![1024, 3072]⟩
abbrev S2048x3072 : Shape := ⟨2, ![2048, 3072]⟩
abbrev S1x1024 : Shape := ⟨2, ![1, 1024]⟩
abbrev S8192x3072 : Shape := ⟨2, ![8192, 3072]⟩
abbrev S1024x1024 : Shape := ⟨2, ![1024, 1024]⟩
abbrev S1024x768 : Shape := ⟨2, ![1024, 768]⟩
abbrev S1024x1 : Shape := ⟨2, ![1024, 1]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .f32⟩
  | .hbm, ⟨4, _⟩ => ⟨S2048x3072, .f32⟩
  | .hbm, ⟨5, _⟩ => ⟨S2048x3072, .bf16⟩
  | .hbm, ⟨6, _⟩ => ⟨S1x1024, .f32⟩
  | .hbm, ⟨7, _⟩ => ⟨S8192x1024, .bf16⟩
  | .hbm, ⟨8, _⟩ => ⟨S8192x3072, .bf16⟩
  | .hbm, ⟨9, _⟩ => ⟨S8192x3072, .bf16⟩
  | .hbm, ⟨10, _⟩ => ⟨S8192x3072, .bf16⟩
  | .hbm, ⟨11, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x1024, .bf16⟩
  | .local _ .vmem, ⟨8, _⟩ => ⟨S1024x1024, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.Run.CaseB.lean ====
/- The body's run at the points of case B (no reset of a block), with the budget that this run needs. The text is that of
   Gen/KernelIdeal/Frame/RunB.lean. -/
module

public import proofs.«01_k».proof.Proof.Gen.KernelIdeal.Frame.RunA

@[expose] public section

set_option maxHeartbeats 2000000
-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
/-- What the body's stores leave in each output's staging memref, as pieces (last first) IN CASE B (`scf.if` 0 not taken, `scf.if` 1 not taken: points 1, 2, … 31: 28 of 32), WITH the
    proof that on whole staging memrefs — the inputs' at their contents, the outputs it reads before covering (21, 22, 23) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x1024 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S1x256x512 .f32) (harg9 : arg9.IsWhole) (arg10 : Memref sig .tc .vmem S4x256x256 .f32) (harg10 : arg10.IsWhole) (arg11 : Memref sig .tc .vmem S256x512 .f32) (harg11 : arg11.IsWhole) (arg12 : Memref sig .tc .vmem S256x256 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S4x128x128 .bf16) (harg16 : arg16.IsWhole) (arg17 : Memref sig .tc .vmem S1x512 .f32) (harg17 : arg17.IsWhole) (arg18 : Memref sig .tc .vmem S1024x1024 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x2048 .bf16) (harg21 : arg21.IsWhole) (arg22 : Memref sig .tc .vmem S256x1024 .bf16) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .f32) (harg25 : arg25.IsWhole) (arg26 : Memref sig .tc .vmem S256x512 .f32) (harg26 : arg26.IsWhole) (arg27 : Memref sig .tc .vmem S16x512 .f32) (harg27 : arg27.IsWhole) (hc0 : ¬cond0_0 i) (hc1 : ¬cond0_1 i)
    (x0 : Vec F S256x1024 .f32) (x1 : Vec F S256x256 .bf16) (x2 : Vec F S256x256 .bf16) (x3 : Vec F S256x512 .bf16) (x4 : Vec F S256x512 .f32) (x5 : Vec F S256x512 .f32) (x6 : Vec F S256x512 .bf16) (x7 : Vec F S1x256x512 .f32) (x8 : Vec F S4x256x256 .f32) (x9 : Vec F S256x512 .f32) (x10 : Vec F S256x256 .f32) (x11 : Vec F S256x512 .f32) (x12 : Vec F S256x512 .f32) (x13 : Vec F S1x512 .f32) (x14 : Vec F S4x128x128 .bf16) (x15 : Vec F S1x512 .f32) (x16 : Vec F S1024x1024 .bf16) (x17 : Vec F S256x256 .f32) (x18 : Vec F S256x256 .f32) (xo21 : Vec F S1x512 .f32) (xo22 : Vec F S1x512 .f32) (xo23 : Vec F S4x128x128 .f32) (xs0 : Vec F S256x512 .f32) (xs1 : Vec F S16x512 .f32) :
    Σ' (L19 : List (View.Piece (Elt F) S256x2048 .bf16)), Σ' (L20 : List (View.Piece (Elt F) S256x1024 .bf16)), Σ' (L21 : List (View.Piece (Elt F) S1x512 .f32)), Σ' (L22 : List (View.Piece (Elt F) S1x512 .f32)), Σ' (L23 : List (View.Piece (Elt F) S4x128x128 .f32)), Σ' (LS0 : List (View.Piece (Elt F) S256x512 .f32)), { LS1 : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ owns (c : Thread nD τ) arg23 fullShare xo21 ∗ owns (c : Thread nD τ) arg24 fullShare xo22 ∗ owns (c : Thread nD τ) arg25 fullShare xo23 ∗ owns (c : Thread nD τ) arg26 fullShare xs0 ∗ owns (c : Thread nD τ) arg27 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1)) -∗ K ⟨⟩))
          ⊢ wp frame (wpE (defs₀ (F := F)) Variants.none c none) E (cc0_mix_core_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, fun E K => ?run⟩
  case run =>
    simp only [cc0_mix_core_bwd_eq_skeleton]; unfold cc0_mix_core_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%f22, %hf22, H22⟩, ⟨%f23, %hf23, H23⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg23.eq_unread hf21; obtain rfl := harg24.eq_unread hf22; obtain rfl := harg25.eq_unread hf23; obtain rfl := harg26.eq_unread hfs0; obtain rfl := harg27.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexists _; iexact HS0
    iexists _; iexact HS1

end Cert.KernelIdeal.Gen

end
-- ==== Proof.Run.Outs.lean ====
/- What the outputs and the carried scratch hold after a point of each case (as in Gen/KernelIdeal/Frame.lean, over this
   folder's run of case B). -/
module

public import proofs.«01_k».proof.Proof.Run.CaseC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S256x1024 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S1x256x512 .f32) (harg9 : arg9.IsWhole) (arg10 : Memref sig .tc .vmem S4x256x256 .f32) (harg10 : arg10.IsWhole) (arg11 : Memref sig .tc .vmem S256x512 .f32) (harg11 : arg11.IsWhole) (arg12 : Memref sig .tc .vmem S256x256 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S4x128x128 .bf16) (harg16 : arg16.IsWhole) (arg17 : Memref sig .tc .vmem S1x512 .f32) (harg17 : arg17.IsWhole) (arg18 : Memref sig .tc .vmem S1024x1024 .bf16) (harg18 : arg18.IsWhole) (arg19 : Memref sig .tc .vmem S256x256 .f32) (harg19 : arg19.IsWhole) (arg20 : Memref sig .tc .vmem S256x256 .f32) (harg20 : arg20.IsWhole) (arg21 : Memref sig .tc .vmem S256x2048 .bf16) (harg21 : arg21.IsWhole) (arg22 : Memref sig .tc .vmem S256x1024 .bf16) (harg22 : arg22.IsWhole) (arg23 : Memref sig .tc .vmem S1x512 .f32) (harg23 : arg23.IsWhole) (arg24 : Memref sig .tc .vmem S1x512 .f32) (harg24 : arg24.IsWhole) (arg25 : Memref sig .tc .vmem S4x128x128 .f32) (harg25 : arg25.IsWhole) (arg26 : Memref sig .tc .vmem S256x512 .f32) (harg26 : arg26.IsWhole) (arg27 : Memref sig .tc .vmem S16x512 .f32) (harg27 : arg27.IsWhole)

section A
variable (hc0 : cond0_0 i) (hc1 : cond0_1 i)
  (x0 : Vec F S256x1024 .f32) (x1 : Vec F S256x256 .bf16) (x2 : Vec F S256x256 .bf16) (x3 : Vec F S256x512 .bf16) (x4 : Vec F S256x512 .f32) (x5 : Vec F S256x512 .f32) (x6 : Vec F S256x512 .bf16) (x7 : Vec F S1x256x512 .f32) (x8 : Vec F S4x256x256 .f32) (x9 : Vec F S256x512 .f32) (x10 : Vec F S256x256 .f32) (x11 : Vec F S256x512 .f32) (x12 : Vec F S256x512 .f32) (x13 : Vec F S1x512 .f32) (x14 : Vec F S4x128x128 .bf16) (x15 : Vec F S1x512 .f32) (x16 : Vec F S1024x1024 .bf16) (x17 : Vec F S256x256 .f32) (x18 : Vec F S256x256 .f32)

/-- Case A's pieces for output 19 cover its block. -/
theorem cover0_A_19 (y : S256x2048.Idx) :
    ∃ pc ∈ (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).1, y ∈ pc.1.set :=
  View.cover_of_tiledBy _ ![256, 256] (by sl_kernel_rfl) y

/-- What case A leaves in output 19's staging buffer: its pieces read back over junk. -/
def out0_A_19 : Vec F S256x2048 .bf16 :=
  VO0_19.read (Elt F) (VO0_19.writes (Elt F) VO0_19.junk (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).1)

/-- Case A's pieces for output 20 cover its block. -/
theorem cover0_A_20 (y : S256x1024.Idx) :
    ∃ pc ∈ (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.1, y ∈ pc.1.set :=
  View.cover_of_tiledL _ S256x1024.size (by sl_kernel_rfl) y

/-- What case A leaves in output 20's staging buffer: its pieces read back over junk. -/
def out0_A_20 : Vec F S256x1024 .bf16 :=
  VO0_20.read (Elt F) (VO0_20.writes (Elt F) VO0_20.junk (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.1)

/-- Case A's pieces for output 21 cover its block. -/
theorem cover0_A_21 (y : S1x512.Idx) :
    ∃ pc ∈ (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.1, y ∈ pc.1.set :=
  View.cover_of_tiledL _ S1x512.size (by sl_kernel_rfl) y

/-- What case A leaves in output 21's staging buffer: its pieces read back over junk. -/
def out0_A_21 : Vec F S1x512 .f32 :=
  VO0_21.read (Elt F) (VO0_21.writes (Elt F) VO0_21.junk (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.1)

/-- Case A's pieces for output 22 cover its block. -/
theorem cover0_A_22 (y : S1x512.Idx) :
    ∃ pc ∈ (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.1, y ∈ pc.1.set :=
  View.cover_of_tiledL _ S1x512.size (by sl_kernel_rfl) y

/-- What case A leaves in output 22's staging buffer: its pieces read back over junk. -/
def out0_A_22 : Vec F S1x512 .f32 :=
  VO0_22.read (Elt F) (VO0_22.writes (Elt F) VO0_22.junk (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.1)

/-- Case A's pieces for output 23 cover its block. -/
theorem cover0_A_23 (y : S4x128x128.Idx) :
    ∃ pc ∈ (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.2.1, y ∈ pc.1.set :=
  View.cover_of_tiledBy _ ![1, 128, 128] (by sl_kernel_rfl) y

/-- What case A leaves in output 23's staging buffer: its pieces read back over junk. -/
def out0_A_23 : Vec F S4x128x128 .f32 :=
  VO0_23.read (Elt F) (VO0_23.writes (Elt F) VO0_23.junk (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.2.1)

/-- Case A's pieces for scratch `arg26`, which the kernel carries between points, cover it: 2 pieces of `S256x512` tiling it (Lib/Ring.lean `Piece.tiledL`). -/
theorem scover0_A_0 (y : S256x512.Idx) :
    ∃ pc ∈ (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.2.2.1, y ∈ pc.1.set :=
  View.cover_of_tiledL _ S256x512.size (by sl_kernel_rfl) y

/-- What case A leaves in scratch `arg26`: its pieces read back over junk. -/
def sout0_A_0 : Vec F S256x512 .f32 :=
  VS0_0.read (Elt F) (VS0_0.writes (Elt F) VS0_0.junk (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.2.2.1)

/-- Case A's pieces for scratch `arg27`, which the kernel carries between points, cover it: 2 pieces of `S16x512` tiling it (Lib/Ring.lean `Piece.tiledL`). -/
theorem scover0_A_1 (y : S16x512.Idx) :
    ∃ pc ∈ (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.2.2.2.1, y ∈ pc.1.set :=
  View.cover_of_tiledL _ S16x512.size (by sl_kernel_rfl) y

/-- What case A leaves in scratch `arg27`: its pieces read back over junk. -/
def sout0_A_1 : Vec F S16x512 .f32 :=
  VS0_1.read (Elt F) (VS0_1.writes (Elt F) VS0_1.junk (kernelRun0_A c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18).2.2.2.2.2.2.1)
end A

section B
variable (hc0 : ¬cond0_0 i) (hc1 : ¬cond0_1 i)
  (x0 : Vec F S256x1024 .f32) (x1 : Vec F S256x256 .bf16) (x2 : Vec F S256x256 .bf16) (x3 : Vec F S256x512 .bf16) (x4 : Vec F S256x512 .f32) (x5 : Vec F S256x512 .f32) (x6 : Vec F S256x512 .bf16) (x7 : Vec F S1x256x512 .f32) (x8 : Vec F S4x256x256 .f32) (x9 : Vec F S256x512 .f32) (x10 : Vec F S256x256 .f32) (x11 : Vec F S256x512 .f32) (x12 : Vec F S256x512 .f32) (x13 : Vec F S1x512 .f32) (x14 : Vec F S4x128x128 .bf16) (x15 : Vec F S1x512 .f32) (x16 : Vec F S1024x1024 .bf16) (x17 : Vec F S256x256 .f32) (x18 : Vec F S256x256 .f32) (xo21 : Vec F S1x512 .f32) (xo22 : Vec F S1x512 .f32) (xo23 : Vec F S4x128x128 .f32) (xs0 : Vec F S256x512 .f32) (xs1 : Vec F S16x512 .f32)

/-- Case B's pieces for output 19 cover its block. -/
theorem cover0_B_19 (y : S256x2048.Idx) :
    ∃ pc ∈ (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).1, y ∈ pc.1.set :=
  View.cover_of_tiledBy _ ![256, 256] (by sl_kernel_rfl) y

/-- What case B leaves in output 19's staging buffer: its pieces read back over junk. -/
def out0_B_19 : Vec F S256x2048 .bf16 :=
  VO0_19.read (Elt F) (VO0_19.writes (Elt F) VO0_19.junk (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).1)

/-- Case B's pieces for output 20 cover its block. -/
theorem cover0_B_20 (y : S256x1024.Idx) :
    ∃ pc ∈ (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.1, y ∈ pc.1.set :=
  View.cover_of_tiledL _ S256x1024.size (by sl_kernel_rfl) y

/-- What case B leaves in output 20's staging buffer: its pieces read back over junk. -/
def out0_B_20 : Vec F S256x1024 .bf16 :=
  VO0_20.read (Elt F) (VO0_20.writes (Elt F) VO0_20.junk (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.1)

/-- Case B's pieces for output 21 cover its block. -/
theorem cover0_B_21 (y : S1x512.Idx) :
    ∃ pc ∈ (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.1, y ∈ pc.1.set :=
  View.cover_of_tiledL _ S1x512.size (by sl_kernel_rfl) y

/-- What case B leaves in output 21's staging buffer: its pieces read back over junk. -/
def out0_B_21 : Vec F S1x512 .f32 :=
  VO0_21.read (Elt F) (VO0_21.writes (Elt F) VO0_21.junk (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.1)

/-- Case B's pieces for output 22 cover its block. -/
theorem cover0_B_22 (y : S1x512.Idx) :
    ∃ pc ∈ (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.1, y ∈ pc.1.set :=
  View.cover_of_tiledL _ S1x512.size (by sl_kernel_rfl) y

/-- What case B leaves in output 22's staging buffer: its pieces read back over junk. -/
def out0_B_22 : Vec F S1x512 .f32 :=
  VO0_22.read (Elt F) (VO0_22.writes (Elt F) VO0_22.junk (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.1)

/-- Case B's pieces for output 23 cover its block. -/
theorem cover0_B_23 (y : S4x128x128.Idx) :
    ∃ pc ∈ (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.2.1, y ∈ pc.1.set :=
  View.cover_of_tiledL (s := S4x128x128) _ S1x128x128.size (by sl_kernel_rfl) y

/-- What case B leaves in output 23's staging buffer: its pieces read back over junk. -/
def out0_B_23 : Vec F S4x128x128 .f32 :=
  VO0_23.read (Elt F) (VO0_23.writes (Elt F) VO0_23.junk (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.2.1)

/-- Case B's pieces for scratch `arg26`, which the kernel carries between points, cover it: 1 piece of `S256x512` tiling it (Lib/Ring.lean `Piece.tiledL`). -/
theorem scover0_B_0 (y : S256x512.Idx) :
    ∃ pc ∈ (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.2.2.1, y ∈ pc.1.set :=
  View.cover_of_tiledL _ S256x512.size (by sl_kernel_rfl) y

/-- What case B leaves in scratch `arg26`: its pieces read back over junk. -/
def sout0_B_0 : Vec F S256x512 .f32 :=
  VS0_0.read (Elt F) (VS0_0.writes (Elt F) VS0_0.junk (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.2.2.1)

/-- Case B's pieces for scratch `arg27`, which the kernel carries between points, cover it: 1 piece of `S16x512` tiling it (Lib/Ring.lean `Piece.tiledL`). -/
theorem scover0_B_1 (y : S16x512.Idx) :
    ∃ pc ∈ (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.2.2.2.1, y ∈ pc.1.set :=
  View.cover_of_tiledL _ S16x512.size (by sl_kernel_rfl) y

/-- What case B leaves in scratch `arg27`: its pieces read back over junk. -/
def sout0_B_1 : Vec F S16x512 .f32 :=
  VS0_1.read (Elt F) (VS0_1.writes (Elt F) VS0_1.junk (kernelRun0_B c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23 xs0 xs1).2.2.2.2.2.2.1)
end B

section C
variable (hc0 : ¬cond0_0 i) (hc1 : cond0_1 i)
  (x0 : Vec F S256x1024 .f32) (x1 : Vec F S256x256 .bf16) (x2 : Vec F S256x256 .bf16) (x3 : Vec F S256x512 .bf16) (x4 : Vec F S256x512 .f32) (x5 : Vec F S256x512 .f32) (x6 : Vec F S256x512 .bf16) (x7 : Vec F S1x256x512 .f32) (x8 : Vec F S4x256x256 .f32) (x9 : Vec F S256x512 .f32) (x10 : Vec F S256x256 .f32) (x11 : Vec F S256x512 .f32) (x12 : Vec F S256x512 .f32) (x13 : Vec F S1x512 .f32) (x14 : Vec F S4x128x128 .bf16) (x15 : Vec F S1x512 .f32) (x16 : Vec F S1024x1024 .bf16) (x17 : Vec F S256x256 .f32) (x18 : Vec F S256x256 .f32) (xo21 : Vec F S1x512 .f32) (xo22 : Vec F S1x512 .f32) (xo23 : Vec F S4x128x128 .f32)

/-- Case C's pieces for output 19 cover its block. -/
theorem cover0_C_19 (y : S256x2048.Idx) :
    ∃ pc ∈ (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).1, y ∈ pc.1.set :=
  View.cover_of_tiledBy _ ![256, 256] (by sl_kernel_rfl) y

/-- What case C leaves in output 19's staging buffer: its pieces read back over junk. -/
def out0_C_19 : Vec F S256x2048 .bf16 :=
  VO0_19.read (Elt F) (VO0_19.writes (Elt F) VO0_19.junk (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).1)

/-- Case C's pieces for output 20 cover its block. -/
theorem cover0_C_20 (y : S256x1024.Idx) :
    ∃ pc ∈ (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.1, y ∈ pc.1.set :=
  View.cover_of_tiledL _ S256x1024.size (by sl_kernel_rfl) y

/-- What case C leaves in output 20's staging buffer: its pieces read back over junk. -/
def out0_C_20 : Vec F S256x1024 .bf16 :=
  VO0_20.read (Elt F) (VO0_20.writes (Elt F) VO0_20.junk (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.1)

/-- Case C's pieces for output 21 cover its block. -/
theorem cover0_C_21 (y : S1x512.Idx) :
    ∃ pc ∈ (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.1, y ∈ pc.1.set :=
  View.cover_of_tiledL _ S1x512.size (by sl_kernel_rfl) y

/-- What case C leaves in output 21's staging buffer: its pieces read back over junk. -/
def out0_C_21 : Vec F S1x512 .f32 :=
  VO0_21.read (Elt F) (VO0_21.writes (Elt F) VO0_21.junk (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.1)

/-- Case C's pieces for output 22 cover its block. -/
theorem cover0_C_22 (y : S1x512.Idx) :
    ∃ pc ∈ (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.1, y ∈ pc.1.set :=
  View.cover_of_tiledL _ S1x512.size (by sl_kernel_rfl) y

/-- What case C leaves in output 22's staging buffer: its pieces read back over junk. -/
def out0_C_22 : Vec F S1x512 .f32 :=
  VO0_22.read (Elt F) (VO0_22.writes (Elt F) VO0_22.junk (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.1)

/-- Case C's pieces for output 23 cover its block. -/
theorem cover0_C_23 (y : S4x128x128.Idx) :
    ∃ pc ∈ (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.2.1, y ∈ pc.1.set :=
  View.cover_of_tiledL (s := S4x128x128) _ S1x128x128.size (by sl_kernel_rfl) y

/-- What case C leaves in output 23's staging buffer: its pieces read back over junk. -/
def out0_C_23 : Vec F S4x128x128 .f32 :=
  VO0_23.read (Elt F) (VO0_23.writes (Elt F) VO0_23.junk (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.2.1)

/-- Case C's pieces for scratch `arg26`, which the kernel carries between points, cover it: 2 pieces of `S256x512` tiling it (Lib/Ring.lean `Piece.tiledL`). -/
theorem scover0_C_0 (y : S256x512.Idx) :
    ∃ pc ∈ (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.2.2.1, y ∈ pc.1.set :=
  View.cover_of_tiledL _ S256x512.size (by sl_kernel_rfl) y

/-- What case C leaves in scratch `arg26`: its pieces read back over junk. -/
def sout0_C_0 : Vec F S256x512 .f32 :=
  VS0_0.read (Elt F) (VS0_0.writes (Elt F) VS0_0.junk (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.2.2.1)

/-- Case C's pieces for scratch `arg27`, which the kernel carries between points, cover it: 2 pieces of `S16x512` tiling it (Lib/Ring.lean `Piece.tiledL`). -/
theorem scover0_C_1 (y : S16x512.Idx) :
    ∃ pc ∈ (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.2.2.2.1, y ∈ pc.1.set :=
  View.cover_of_tiledL _ S16x512.size (by sl_kernel_rfl) y

/-- What case C leaves in scratch `arg27`: its pieces read back over junk. -/
def sout0_C_1 : Vec F S16x512 .f32 :=
  VS0_1.read (Elt F) (VS0_1.writes (Elt F) VS0_1.junk (kernelRun0_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0 hc1 x0 x1 x2 x3 x4 x5 x6 x7 x8 x9 x10 x11 x12 x13 x14 x15 x16 x17 x18 xo21 xo22 xo23).2.2.2.2.2.2.1)
end C

end Cert.KernelIdeal.Gen

end
-- ==== Proof.Run.Points.lean ====
/- What the outputs hold point by point, the proof data, the body obligation and the whole run (as in
   Gen/KernelIdeal/Frame.lean, over this folder's run of case B). -/
module

public import proofs.«01_k».proof.Proof.Run.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .bf16 × Vec F S256x1024 .bf16 × Vec F S1x512 .f32 × Vec F S1x512 .f32 × Vec F S4x128x128 .f32 × Vec F S256x512 .f32 × Vec F S16x512 .f32
  | 0, hn => (out0_A_19 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) _ (hs0_22 ⟨0, hn⟩) _ (hs0_23 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_20 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) _ (hs0_22 ⟨0, hn⟩) _ (hs0_23 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_21 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) _ (hs0_22 ⟨0, hn⟩) _ (hs0_23 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_22 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) _ (hs0_22 ⟨0, hn⟩) _ (hs0_23 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_23 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) _ (hs0_22 ⟨0, hn⟩) _ (hs0_23 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_0 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) _ (hs0_22 ⟨0, hn⟩) _ (hs0_23 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_1 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) _ (hs0_22 ⟨0, hn⟩) _ (hs0_23 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩))
  | n + 1, hn =>
    if h0 : (n + 1) % 32 = 0 then
      if h1 : (n + 1) % 8 = 0 then
        (out0_A_19 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_20 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_21 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_22 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_23 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩))
      else
        False.elim (by have hN : n + 1 < 32 := lt_of_lt_of_eq hn (show cfg0.N = 32 from N_0); omega)
    else
      if h1 : (n + 1) % 8 = 0 then
        (out0_C_19 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1, out0_C_20 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1, out0_C_21 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1, out0_C_22 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1, out0_C_23 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1, sout0_C_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1, sout0_C_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1)
      else
        (out0_B_19 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_20 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_21 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_22 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_23 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) _ (hs0_22 ⟨n + 1, hn⟩) _ (hs0_23 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 32 = 0) (h1 : t.val % 8 = 0) :
    outsAt0 m c t.val t.isLt = (out0_A_19 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : ¬t.val % 8 = 0) :
    outsAt0 m c t.val t.isLt = (out0_B_19 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_20 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_21 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_22 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_23 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 8 = 0) :
    outsAt0 m c t.val t.isLt = (out0_C_19 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_C_20 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_C_21 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_C_22 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, out0_C_23 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, sout0_C_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1, sout0_C_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨22, _⟩ => (outsAt0 m c t.val t.isLt).2.2.2.1
    | ⟨23, _⟩ => (outsAt0 m c t.val t.isLt).2.2.2.2.1
    | ⟨_ + 24, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]
theorem after0_20 (c : Dev nD) (t : Fin cfg0.N) : (dats m 0 c).after 20 t = (outsAt0 m c t.val t.isLt).2.1 := by dsimp only [dats]
theorem after0_21 (c : Dev nD) (t : Fin cfg0.N) : (dats m 0 c).after 21 t = (outsAt0 m c t.val t.isLt).2.2.1 := by dsimp only [dats]
theorem after0_22 (c : Dev nD) (t : Fin cfg0.N) : (dats m 0 c).after 22 t = (outsAt0 m c t.val t.isLt).2.2.2.1 := by dsimp only [dats]
theorem after0_23 (c : Dev nD) (t : Fin cfg0.N) : (dats m 0 c).after 23 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 32 = 0) (h1 : ¬t.val % 8 = 0) (d) :
    (dats m 0 c).before 21 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]
/-- At a point of case B output 22's current staging buffer holds what the body left at the point before: the point is
    not the first, the buffer was not written back between (`flush0_22`), the window is live and uncut (Lib/Pipeline/Frame.lean
    `Dat.before_out_kept`). -/
theorem before0_22_B (c : Dev nD) (t : Fin cfg0.N) (h0 : ¬t.val % 32 = 0) (h1 : ¬t.val % 8 = 0) (d) :
    (dats m 0 c).before 22 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]
/-- At a point of case B output 23's current staging buffer holds what the body left at the point before: the point is
    not the first, the buffer was not written back between (`flush0_23`), the window is live and uncut (Lib/Pipeline/Frame.lean
    `Dat.before_out_kept`). -/
theorem before0_23_B (c : Dev nD) (t : Fin cfg0.N) (h0 : ¬t.val % 32 = 0) (h1 : ¬t.val % 8 = 0) (d) :
    (dats m 0 c).before 23 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
/-- At a point of case C output 21's current staging buffer holds what the body left at the point before: the point is
    not the first, the buffer was not written back between (`flush0_21`), the window is live and uncut (Lib/Pipeline/Frame.lean
    `Dat.before_out_kept`). -/
theorem before0_21_C (c : Dev nD) (t : Fin cfg0.N) (h0 : ¬t.val % 32 = 0) (h1 : t.val % 8 = 0) (d) :
    (dats m 0 c).before 21 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]
/-- At a point of case C output 22's current staging buffer holds what the body left at the point before: the point is
    not the first, the buffer was not written back between (`flush0_22`), the window is live and uncut (Lib/Pipeline/Frame.lean
    `Dat.before_out_kept`). -/
theorem before0_22_C (c : Dev nD) (t : Fin cfg0.N) (h0 : ¬t.val % 32 = 0) (h1 : t.val % 8 = 0) (d) :
    (dats m 0 c).before 22 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]
/-- At a point of case C output 23's current staging buffer holds what the body left at the point before: the point is
    not the first, the buffer was not written back between (`flush0_23`), the window is live and uncut (Lib/Pipeline/Frame.lean
    `Dat.before_out_kept`). -/
theorem before0_23_C (c : Dev nD) (t : Fin cfg0.N) (h0 : ¬t.val % 32 = 0) (h1 : t.val % 8 = 0) (d) :
    (dats m 0 c).before 23 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 8 = 0
    · by_cases hz : t.val = 0
      · rw [PhiS_castSucc m c t, PhiS_zero m c _ _ hz, PhiA0_eq]
        rw [outsAt0_A m c t h0 h1]
        unfold out0_A_19 out0_A_20 out0_A_21 out0_A_22 out0_A_23 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [H21]; · iexists _; iexact H21
        isplitl [H22]; · iexists _; iexact H22
        isplitl [H23]; · iexists _; iexact H23
        isplitl [HS0]; · iexact HS0
        isplitl [HS1]; · iexact HS1
        iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 8 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_21_C m c t h0 h1, before0_22_C m c t h0 h1, before0_23_C m c t h0 h1]
        unfold out0_C_19 out0_C_20 out0_C_21 out0_C_22 out0_C_23 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [H21]; · iexact H21
        isplitl [H22]; · iexact H22
        isplitl [H23]; · iexact H23
        isplitl [HS0]; · iexists _; iexact HS0
        isplitl [HS1]; · iexists _; iexact HS1
        iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H23
        ipureintro; exact View.read_writes_of_cover _ _ _ _ _ (cover0_C_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_21_B m c t h0 h1, before0_22_B m c t h0 h1, before0_23_B m c t h0 h1]
        unfold out0_B_19 out0_B_20 out0_B_21 out0_B_22 out0_B_23 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [H21]; · iexact H21
        isplitl [H22]; · iexact H22
        isplitl [H23]; · iexact H23
        isplitl [HS0]; · iexact HS0
        isplitl [HS1]; · iexact HS1
        iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Run.Value.lean ====
/- The result arrays block by block, from what each point writes back (as in Gen/KernelIdeal/Value.lean, over this folder's
   run). -/
module

public import proofs.«01_k».proof.Proof.Run.Points
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 19's array: the run's contents for that window after the body (`Gen.outsAt0`: its component 0), read through the window's block. -/
theorem flushed19 (c : Dev nD) (t : Fin cfg0.N) :
    (dats m 0 c).flushed 19 t = (cfg0.win 19).cut (grid0.coords t) ((outsAt0 m c t.val t.isLt).1) := by
  show (cfg0.win 19).cut (grid0.coords t) ((dats m 0 c).after 19 t) = _
  rw [after0_19]

/-- The index map sends distinct grid points to distinct block indices (decided over the 32 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- WHAT POINT `t` WRITES BACK to output window 20's array: the run's contents for that window after the body (`Gen.outsAt0`: its component 1), read through the window's block. -/
theorem flushed20 (c : Dev nD) (t : Fin cfg0.N) :
    (dats m 0 c).flushed 20 t = (cfg0.win 20).cut (grid0.coords t) ((outsAt0 m c t.val t.isLt).2.1) := by
  show (cfg0.win 20).cut (grid0.coords t) ((dats m 0 c).after 20 t) = _
  rw [after0_20]

/-- The index map sends distinct grid points to distinct block indices (decided over the 32 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- WHAT POINT `t` WRITES BACK to output window 21's array: the run's contents for that window after the body (`Gen.outsAt0`: its component 2), read through the window's block. -/
theorem flushed21 (c : Dev nD) (t : Fin cfg0.N) :
    (dats m 0 c).flushed 21 t = (cfg0.win 21).cut (grid0.coords t) ((outsAt0 m c t.val t.isLt).2.2.1) := by
  show (cfg0.win 21).cut (grid0.coords t) ((dats m 0 c).after 21 t) = _
  rw [after0_21]

-- no `blocks21`: window 21's index map revisits a block index, or its points could not be enumerated here;
-- the final array is still the frame's `arrAt`, to read with Lib/Pipeline/Value.lean's lemmas by hand

/-- WHAT POINT `t` WRITES BACK to output window 22's array: the run's contents for that window after the body (`Gen.outsAt0`: its component 3), read through the window's block. -/
theorem flushed22 (c : Dev nD) (t : Fin cfg0.N) :
    (dats m 0 c).flushed 22 t = (cfg0.win 22).cut (grid0.coords t) ((outsAt0 m c t.val t.isLt).2.2.2.1) := by
  show (cfg0.win 22).cut (grid0.coords t) ((dats m 0 c).after 22 t) = _
  rw [after0_22]

-- no `blocks22`: window 22's index map revisits a block index, or its points could not be enumerated here;
-- the final array is still the frame's `arrAt`, to read with Lib/Pipeline/Value.lean's lemmas by hand

/-- WHAT POINT `t` WRITES BACK to output window 23's array: the run's contents for that window after the body (`Gen.outsAt0`: its component 4), read through the window's block. -/
theorem flushed23 (c : Dev nD) (t : Fin cfg0.N) :
    (dats m 0 c).flushed 23 t = (cfg0.win 23).cut (grid0.coords t) ((outsAt0 m c t.val t.isLt).2.2.2.2.1) := by
  show (cfg0.win 23).cut (grid0.coords t) ((dats m 0 c).after 23 t) = _
  rw [after0_23]

-- no `blocks23`: window 23's index map revisits a block index, or its points could not be enumerated here;
-- the final array is still the frame's `arrAt`, to read with Lib/Pipeline/Value.lean's lemmas by hand

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v206_0) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v206_1) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v206_2) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v206_3) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v206_4) = (dats m 0 c).arrAt 23 cfg0.N :=
  (h c).1 23

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v206_0) = (dats m 0 c).arrAt 19 cfg0.N
      ∧ r.2.mem ((c : Thread nD τ).loc main_v206_1) = (dats m 0 c).arrAt 20 cfg0.N
      ∧ r.2.mem ((c : Thread nD τ).loc main_v206_2) = (dats m 0 c).arrAt 21 cfg0.N
      ∧ r.2.mem ((c : Thread nD τ).loc main_v206_3) = (dats m 0 c).arrAt 22 cfg0.N
      ∧ r.2.mem ((c : Thread nD τ).loc main_v206_4) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_0 (c : Dev nD) (n : ℕ) (hb : n < cfg0.N) (acc : Vec F S256x512 .f32) : Vec F S256x512 .f32 :=
  if h0 : n % 32 = 0 then
    if h1 : n % 8 = 0 then
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N))
    else
      acc
  else
    if h1 : n % 8 = 0 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_1 (c : Dev nD) (n : ℕ) (hb : n < cfg0.N) (acc : Vec F S16x512 .f32) : Vec F S16x512 .f32 :=
  if h0 : n % 32 = 0 then
    if h1 : n % 8 = 0 then
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N))
    else
      acc
  else
    if h1 : n % 8 = 0 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) (ms0_23 (⟨n, hb⟩ : Fin cfg0.N)) (hs0_23 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc

end Cert.KernelIdeal.Value

end
-- ==== Proof.Spec.lean ====
/- The mathematics of the backward pass of the mixing block, over the real numbers: what one training
   step's gradients are, as functions of the arrays. Both programs are shown equal to these functions. -/
module

public import Idealize.ShloMosaic.Lib.Pointwise
public import Idealize.ShloMosaic.PureOps.Ideal.Laws
public import Mathlib.Analysis.SpecialFunctions.Pow.Real

@[expose] public section

noncomputable section

namespace Cert.Mix

open Idealize.ShloMosaic

/-- The arrays of the call as real functions of their indices. -/
structure Args where
  /-- queries before the rotation -/
  q : Fin 4 → Fin 2048 → Fin 4 → Fin 64 → ℝ
  /-- keys before the rotation -/
  k : Fin 4 → Fin 2048 → Fin 4 → Fin 64 → ℝ
  /-- values -/
  v : Fin 4 → Fin 2048 → Fin 4 → Fin 128 → ℝ
  /-- gate -/
  g : Fin 4 → Fin 2048 → Fin 512 → ℝ
  /-- output of the retention -/
  o : Fin 4 → Fin 2048 → Fin 4 → Fin 128 → ℝ
  /-- pooled channels -/
  p : Fin 4 → Fin 2048 → Fin 4 → Fin 128 → ℝ
  /-- gain of the head norm -/
  gain : Fin 512 → ℝ
  /-- weights of the pooling groups -/
  pw : Fin 4 → Fin 128 → Fin 128 → ℝ
  /-- scale of the pooling branch -/
  scale : Fin 512 → ℝ
  /-- output projection -/
  w : Fin 1024 → Fin 1024 → ℝ
  /-- cotangent -/
  ct : Fin 4 → Fin 2048 → Fin 1024 → ℝ

/-- column `h * 128 + e` of 512 -/
abbrev col (h : Fin 4) (e : Fin 128) : Fin 512 := ⟨h.val * 128 + e.val, by omega⟩

/-! ### Extended reals that are real -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul, mul_one_div]

theorem lit_128 : Ideal.ofBits .f32 0x43000000#32 = ((128 : ℝ) : EReal) := by
  simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num
theorem lit_0 : Ideal.ofBits .f32 0x00000000#32 = ((0 : ℝ) : EReal) := by
  simp [Ideal.ofBits, Ideal.ieee, -EReal.coe_mul]
theorem lit_2 : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num

/-- the small constant added to the variance: the binary32 number nearest to `1e-5` -/
def eps : ℝ := 10995116 / 1099511627776

theorem eps_pos : 0 < eps := by unfold eps; norm_num

theorem lit_eps : Ideal.ofBits .f32 0x3727C5AC#32 = ((eps : ℝ) : EReal) := by
  unfold eps; simp [Ideal.ofBits, Ideal.ieee, -EReal.coe_mul]; norm_num

theorem tanh_real (a : ℝ) : Ideal.tanh (a : EReal) = ((Real.tanh a : ℝ) : EReal) := rfl
theorem exp_real (a : ℝ) : Ideal.exp (a : EReal) = ((Real.exp a : ℝ) : EReal) := rfl
theorem cos_real (a : ℝ) : Ideal.cos (a : EReal) = ((Real.cos a : ℝ) : EReal) := rfl
theorem sin_real (a : ℝ) : Ideal.sin (a : EReal) = ((Real.sin a : ℝ) : EReal) := rfl

theorem rsqrt_real (a : ℝ) (ha : 0 < a) : Ideal.rsqrt (a : EReal) = ((1 / Real.sqrt a : ℝ) : EReal) := by
  show (if a < 0 then (⊥ : EReal) else if a = 0 then ⊤ else (((Real.sqrt a)⁻¹ : ℝ) : EReal)) = _
  rw [if_neg (not_lt.mpr ha.le), if_neg ha.ne', one_div]

theorem rsqrt_var {n : ℕ} (f : Fin n → ℝ) : Ideal.rsqrt (((∑ e, f e * f e) / 128 + eps : ℝ) : EReal)
    = ((1 / Real.sqrt ((∑ e, f e * f e) / 128 + eps) : ℝ) : EReal) :=
  rsqrt_real _ (add_pos_of_nonneg_of_pos (div_nonneg (Finset.sum_nonneg fun _ _ => mul_self_nonneg _) (by norm_num)) eps_pos)

theorem div_128 (a : ℝ) : Ideal.div (a : EReal) ((128 : ℝ) : EReal) = ((a / 128 : ℝ) : EReal) := div_real a 128 (by norm_num)

/-! ### The forward pass that the backward pass goes through -/

/-- the logistic function -/
def sigm (x : ℝ) : ℝ := 1 / (1 + Real.exp (-x))

theorem sigm_tanh (x : ℝ) : 1 / 2 * Real.tanh (1 / 2 * x) + 1 / 2 = sigm x := by
  unfold sigm
  have h1 : Real.exp (1 / 2 * x) * Real.exp (1 / 2 * x) = Real.exp x := by rw [← Real.exp_add]; congr 1; ring
  have h2 : Real.exp x * Real.exp (-x) = 1 := by rw [← Real.exp_add]; simp
  have h3 : Real.exp (1 / 2 * x) * Real.exp (-(1 / 2 * x)) = 1 := by rw [← Real.exp_add]; simp
  rw [Real.tanh_eq_sinh_div_cosh, Real.sinh_eq, Real.cosh_eq]
  have p1 := Real.exp_pos (1 / 2 * x)
  have p2 := Real.exp_pos (-(1 / 2 * x))
  have p3 := Real.exp_pos (-x)
  generalize Real.exp (1 / 2 * x) = a at *
  generalize Real.exp (-(1 / 2 * x)) = b at *
  generalize Real.exp (-x) = c at *
  have hc : c = b * b := by
    rw [← h1] at h2
    have : a ≠ 0 := p1.ne'
    have hb : b = 1 / a := by field_simp; linarith
    rw [hb]; field_simp; nlinarith
  rw [hc]
  have hab : a = 1 / b := by field_simp; linarith
  rw [hab]
  have : b ≠ 0 := p2.ne'
  field_simp
  ring

namespace Args
variable (A : Args)

/-- the cotangent of the mixed width: the cotangent times the transposed projection -/
def dmix (b : Fin 4) (s : Fin 2048) (c : Fin 1024) : ℝ := ∑ d : Fin 1024, A.ct b s d * A.w c d

/-- the half of `dmix` that belongs to the retention -/
def dret (b : Fin 4) (s : Fin 2048) (c : Fin 512) : ℝ := A.dmix b s ⟨c.val, by omega⟩

/-- the half of `dmix` that belongs to the pooling -/
def dpool (b : Fin 4) (s : Fin 2048) (c : Fin 512) : ℝ := A.dmix b s ⟨512 + c.val, by omega⟩

/-- mean of a head -/
def mean (b : Fin 4) (s : Fin 2048) (h : Fin 4) : ℝ := (∑ e : Fin 128, A.o b s h e) / 128

/-- variance of a head -/
def var (b : Fin 4) (s : Fin 2048) (h : Fin 4) : ℝ :=
  (∑ e : Fin 128, (A.o b s h e - A.mean b s h) * (A.o b s h e - A.mean b s h)) / 128

/-- reciprocal standard deviation of a head -/
def rstd (b : Fin 4) (s : Fin 2048) (h : Fin 4) : ℝ := 1 / Real.sqrt (A.var b s h + eps)

/-- the normed output -/
def nrm (b : Fin 4) (s : Fin 2048) (h : Fin 4) (e : Fin 128) : ℝ := (A.o b s h e - A.mean b s h) * A.rstd b s h

theorem var_nonneg (b : Fin 4) (s : Fin 2048) (h : Fin 4) : 0 ≤ A.var b s h :=
  div_nonneg (Finset.sum_nonneg fun _ _ => mul_self_nonneg _) (by norm_num)

theorem var_pos (b : Fin 4) (s : Fin 2048) (h : Fin 4) : 0 < A.var b s h + eps :=
  add_pos_of_nonneg_of_pos (A.var_nonneg b s h) eps_pos

/-- the cotangent of the normed output -/
def dnrm (b : Fin 4) (s : Fin 2048) (h : Fin 4) (e : Fin 128) : ℝ :=
  A.dret b s (col h e) * (A.g b s (col h e) * sigm (A.g b s (col h e))) * A.gain (col h e)

/-- the cotangent of the retention's output: the gradient through the head norm -/
def dO (b : Fin 4) (s : Fin 2048) (h : Fin 4) (e : Fin 128) : ℝ :=
  A.rstd b s h * (A.dnrm b s h e - (∑ e', A.dnrm b s h e') / 128
    - A.nrm b s h e * ((∑ e', A.dnrm b s h e' * A.nrm b s h e') / 128))

/-- the normed output by column -/
def nrmc (b : Fin 4) (s : Fin 2048) (c : Fin 512) : ℝ := A.nrm b s ⟨c.val / 128, by omega⟩ ⟨c.val % 128, by omega⟩

/-- gradient of the gate -/
def dg (b : Fin 4) (s : Fin 2048) (c : Fin 512) : ℝ :=
  A.dret b s c * (A.nrmc b s c * A.gain c) * (sigm (A.g b s c) * (1 + A.g b s c * (1 - sigm (A.g b s c))))

/-- one row's part of the gradient of the gain -/
def dgainRow (b : Fin 4) (s : Fin 2048) (c : Fin 512) : ℝ :=
  A.dret b s c * (A.g b s c * sigm (A.g b s c)) * A.nrmc b s c

/-- gradient of the gain -/
def dgain (c : Fin 512) : ℝ := ∑ b, ∑ s, A.dgainRow b s c

/-- cotangent of the pooled product -/
def dz (b : Fin 4) (s : Fin 2048) (c : Fin 512) : ℝ := A.dpool b s c * A.scale c

/-- one row's part of the gradient of the pooling scale -/
def dscaleRow (b : Fin 4) (s : Fin 2048) (c : Fin 512) : ℝ :=
  A.dpool b s c * ∑ d : Fin 128, A.p b s ⟨c.val / 128, by omega⟩ d * A.pw ⟨c.val / 128, by omega⟩ d ⟨c.val % 128, by omega⟩

/-- gradient of the pooling scale -/
def dscale (c : Fin 512) : ℝ := ∑ b, ∑ s, A.dscaleRow b s c

/-- gradient of the pooling weights -/
def dpw (h : Fin 4) (d e : Fin 128) : ℝ := ∑ b, ∑ s, A.p b s h d * A.dz b s (col h e)

/-- cotangent of the pooled channels -/
def dp (b : Fin 4) (s : Fin 2048) (h : Fin 4) (d : Fin 128) : ℝ := ∑ e : Fin 128, A.dz b s (col h e) * A.pw h d e

/-- `dp` over the number of tokens a window of width `w` holds at `s` -/
def dpn (w : ℕ) (b : Fin 4) (s : Fin 2048) (h : Fin 4) (d : Fin 128) : ℝ := A.dp b s h d / ((min (s.val + 1) w : ℕ) : ℝ)

/-- the width of a group's window -/
def win (h : Fin 4) : ℕ := 2 ^ (h.val + 1)

/-- gradient of the pooling branch's input: each token gathers from the windows that hold it -/
def du (b : Fin 4) (s : Fin 2048) (h : Fin 4) (d : Fin 128) : ℝ :=
  (∑ t : Fin 2048, if s.val ≤ t.val ∧ t.val < s.val + win h then A.dpn (win h) b t h d else 0) - A.dp b s h d

end Args

/-! ### Rotations and decays -/

/-- the frequency of pair `i` -/
def freq (i : ℕ) : ℝ := Real.rpow 10000 (-(i : ℝ) * 2 / 64)

/-- the rotation of one head's channels at position `s` -/
def rot (s : ℕ) (x : Fin 64 → ℝ) (d : Fin 64) : ℝ :=
  if h : d.val < 32 then x d * Real.cos (s * freq d.val) - x ⟨d.val + 32, by omega⟩ * Real.sin (s * freq d.val)
  else x ⟨d.val - 32, by omega⟩ * Real.sin (s * freq (d.val - 32)) + x d * Real.cos (s * freq (d.val - 32))

/-- the transposed rotation -/
def unrot (s : ℕ) (y : Fin 64 → ℝ) (d : Fin 64) : ℝ :=
  if h : d.val < 32 then y d * Real.cos (s * freq d.val) + y ⟨d.val + 32, by omega⟩ * Real.sin (s * freq d.val)
  else y d * Real.cos (s * freq (d.val - 32)) - y ⟨d.val - 32, by omega⟩ * Real.sin (s * freq (d.val - 32))

/-- the decay of a head per token -/
def gam (h : Fin 4) : ℝ := 1 - Real.rpow 2 (-5 - (h.val : ℝ))

/-- its logarithm -/
def lgam (h : Fin 4) : ℝ := Real.log (gam h)

/-- the decay from token `j` to token `i`: nothing from later chunks of 64 -/
def dec (h : Fin 4) (i j : ℕ) : ℝ := if j / 64 ≤ i / 64 then Real.exp (lgam h * |(i : ℝ) - (j : ℝ)|) else 0

namespace Args
variable (A : Args)

/-- rotated and scaled queries -/
def qr (b : Fin 4) (s : Fin 2048) (h : Fin 4) (d : Fin 64) : ℝ := rot s.val (A.q b s h) d * (1 / 8)

/-- rotated keys -/
def kr (b : Fin 4) (s : Fin 2048) (h : Fin 4) (d : Fin 64) : ℝ := rot s.val (A.k b s h) d

/-- the decayed scores -/
def sc (b : Fin 4) (h : Fin 4) (i j : Fin 2048) : ℝ := (∑ d, A.qr b i h d * A.kr b j h d) * dec h i.val j.val

/-- their cotangent -/
def dsc (b : Fin 4) (h : Fin 4) (i j : Fin 2048) : ℝ := (∑ e, A.dO b i h e * A.v b j h e) * dec h i.val j.val

/-- gradient of the values -/
def dv (b : Fin 4) (j : Fin 2048) (h : Fin 4) (e : Fin 128) : ℝ := ∑ i, A.sc b h i j * A.dO b i h e

/-- gradient of the rotated queries -/
def dqr (b : Fin 4) (i : Fin 2048) (h : Fin 4) (d : Fin 64) : ℝ := (∑ j, A.dsc b h i j * A.kr b j h d) * (1 / 8)

/-- gradient of the rotated keys -/
def dkr (b : Fin 4) (j : Fin 2048) (h : Fin 4) (d : Fin 64) : ℝ := ∑ i, A.dsc b h i j * A.qr b i h d

/-- gradient of the queries -/
def dq (b : Fin 4) (i : Fin 2048) (h : Fin 4) (d : Fin 64) : ℝ := unrot i.val (A.dqr b i h) d

/-- gradient of the keys -/
def dk (b : Fin 4) (j : Fin 2048) (h : Fin 4) (d : Fin 64) : ℝ := unrot j.val (A.dkr b j h) d

end Args

theorem gam_pos (h : Fin 4) : 0 < gam h := by
  unfold gam
  have : Real.rpow 2 (-5 - (h.val : ℝ)) < 1 := by
    apply Real.rpow_lt_one_of_one_lt_of_neg (by norm_num)
    have : (0 : ℝ) ≤ h.val := Nat.cast_nonneg _
    linarith
  linarith

end Cert.Mix
-- ==== Proof.KGate.lean ====
/- The gate, the head norm and their gradients in the kernel's body, read at an index over the real numbers. -/
module

public import proofs.«01_k».proof.Proof.Gen.KernelIdeal.Skeleton
public import proofs.«01_k».proof.Proof.Spec

@[expose] public section

set_option maxRecDepth 16384

noncomputable section

namespace Cert.KMix

open Idealize.ShloMosaic Cert.Mix
open Cert.KernelIdeal Cert.KernelIdeal.Gen

/-- An array of two axes holds the real numbers `f`. -/
def Is2 {n k : ℕ} {φ : FTy} (x : FVec Ideal ⟨2, ![n, k]⟩ φ) (f : Fin n → Fin k → ℝ) : Prop := ∀ r c, x (ix2 r c) = (f r c : EReal)

/-- An array of one axis holds the real numbers `f`. -/
def Is1 {n : ℕ} {φ : FTy} (x : FVec Ideal ⟨1, ![n]⟩ φ) (f : Fin n → ℝ) : Prop := ∀ r, x (ix1 r) = (f r : EReal)

/-- the row of the sequence that row `r` of block `n` is -/
abbrev row (n : Fin 8) (r : Fin 256) : Fin 2048 := ⟨n.val * 256 + r.val, by omega⟩

/-- An array of 512 columns holds the real numbers `f` by head and channel. -/
structure IsH {n : ℕ} {φ : FTy} (x : FVec Ideal ⟨2, ![n, 512]⟩ φ) (f : Fin n → Fin 4 → Fin 128 → ℝ) : Prop where
  a0 : ∀ r (e : ℕ) (he : e < 128) (p), x (ix2 r (⟨e, p⟩ : Fin 512)) = (f r 0 ⟨e, he⟩ : EReal)
  a1 : ∀ r (e : ℕ) (he : e < 128) (p), x (ix2 r (⟨128 + e, p⟩ : Fin 512)) = (f r 1 ⟨e, he⟩ : EReal)
  a2 : ∀ r (e : ℕ) (he : e < 128) (p), x (ix2 r (⟨256 + e, p⟩ : Fin 512)) = (f r 2 ⟨e, he⟩ : EReal)
  a3 : ∀ r (e : ℕ) (he : e < 128) (p), x (ix2 r (⟨384 + e, p⟩ : Fin 512)) = (f r 3 ⟨e, he⟩ : EReal)

theorem IsH.of_Is2 {n : ℕ} {φ : FTy} {x : FVec Ideal ⟨2, ![n, 512]⟩ φ} {f : Fin n → Fin 512 → ℝ} (h : Is2 x f) :
    IsH x fun r h e => f r (col h e) :=
  ⟨fun r e he p => (h r _).trans (by congr 2; ext; simp [col]), fun r e he p => (h r _).trans (by congr 2),
    fun r e he p => (h r _).trans (by congr 2), fun r e he p => (h r _).trans (by congr 2)⟩

theorem IsH.is2 {n : ℕ} {φ : FTy} {x : FVec Ideal ⟨2, ![n, 512]⟩ φ} {f : Fin n → Fin 4 → Fin 128 → ℝ} (h : IsH x f) :
    Is2 x fun r c => f r ⟨c.val / 128, by omega⟩ ⟨c.val % 128, by omega⟩ := by
  intro r c
  obtain ⟨c, hc⟩ := c
  have hm : c % 128 < 128 := Nat.mod_lt _ (by norm_num)
  have at_ : ∀ (a : ℕ) (ha : a < 512) (z : ℝ), c = a → x (ix2 r (⟨a, ha⟩ : Fin 512)) = (z : EReal) →
      x (ix2 r (⟨c, hc⟩ : Fin 512)) = (z : EReal) := by
    intro a ha z e; subst e; exact id
  have h4 : c / 128 = 0 ∨ c / 128 = 1 ∨ c / 128 = 2 ∨ c / 128 = 3 := by omega
  rcases h4 with e | e | e | e <;> simp only [e]
  · exact at_ (c % 128) (by omega) _ (by omega) (h.a0 r (c % 128) hm _)
  · exact at_ (128 + c % 128) (by omega) _ (by omega) (h.a1 r (c % 128) hm _)
  · exact at_ (256 + c % 128) (by omega) _ (by omega) (h.a2 r (c % 128) hm _)
  · exact at_ (384 + c % 128) (by omega) _ (by omega) (h.a3 r (c % 128) hm _)

variable {A : Args} {b : Fin 4} {n : Fin 8}

theorem pay18_is {x : FVec Ideal S256x512 .f32} {g : Fin 256 → Fin 512 → ℝ} (h : Is2 x g) :
    Is2 (k0_pay18 x : FVec Ideal S256x512 .f32) fun r c => sigm (g r c) := by
  intro r c
  pointwise [k0_pay18, k0_pay15]
  simp only [h r c, lit_half, ← EReal.coe_mul, tanh_real, ← EReal.coe_add, sigm_tanh]

theorem pay19_is {x : FVec Ideal S256x512 .f32} {g : Fin 256 → Fin 512 → ℝ} (h : Is2 x g) :
    Is2 (k0_pay19 x : FVec Ideal S256x512 .f32) fun r c => g r c * sigm (g r c) := by
  intro r c
  pointwise [k0_pay19, k0_pay15]
  rw [pay18_is h r c, h r c, ← EReal.coe_mul]

theorem pay12_is {x : FVec Ideal S256x1024 .f32} {w : FVec Ideal S1024x1024 .bf16} {f g : _} (h : Is2 x f) (hw : Is2 w g) :
    Is2 (k0_pay12 x w : FVec Ideal S256x1024 .f32) fun r c => ∑ d, f r d * g d c := by
  intro r c
  pointwise [k0_pay12, k0_pay11]
  simp only [h _ _, hw _ _, ← EReal.coe_mul, coe_sum]

/-- The output block's rows of the retention, in the kernel's block. -/
abbrev IsO (A : Args) (b : Fin 4) (n : Fin 8) (x : FVec Ideal S256x512 .f32) : Prop := IsH x fun r h e => A.o b (row n r) h e

section Norm
variable {x : FVec Ideal S256x512 .f32} (h : IsO A b n x)
include h

theorem rstd0 : Is2 (k0_pay23 (k0_pay20 x) (k0_pay21 x) : FVec Ideal S256x1 .f32) fun r _ => A.rstd b (row n r) 0 := by
  intro r c
  pointwise [k0_pay23, k0_pay22, k0_pay20, k0_pay21, k0_pay16]
  simp (disch := simp) only [h.a0, coe_sum, lit_128, div_128, ← EReal.coe_sub, ← EReal.coe_mul, lit_eps, ← EReal.coe_add, rsqrt_var]
  rfl

theorem nrm0 : Is2 (k0_pay24 (k0_pay20 x) (k0_pay21 x) : FVec Ideal S256x128 .f32) fun r e => A.nrm b (row n r) 0 e := by
  intro r c
  pointwise [k0_pay24, k0_pay23, k0_pay22, k0_pay20, k0_pay21, k0_pay16]
  simp (disch := simp) only [h.a0, coe_sum, lit_128, div_128, ← EReal.coe_sub, ← EReal.coe_mul, lit_eps, ← EReal.coe_add, rsqrt_var]
  rfl

theorem rstd1 : Is2 (k0_pay26 x : FVec Ideal S256x1 .f32) fun r _ => A.rstd b (row n r) 1 := by
  intro r c
  pointwise [k0_pay26, k0_pay25]
  simp (disch := simp) only [h.a1, coe_sum, lit_128, div_128, ← EReal.coe_sub, ← EReal.coe_mul, lit_eps, ← EReal.coe_add, rsqrt_var]
  rfl

theorem nrm1 : Is2 (k0_pay27 x : FVec Ideal S256x128 .f32) fun r e => A.nrm b (row n r) 1 e := by
  intro r c
  have hr := rstd1 h
  pointwise [k0_pay27, k0_pay25]
  rw [hr r 0]
  simp (disch := simp) only [h.a1, coe_sum, lit_128, div_128, ← EReal.coe_sub, ← EReal.coe_mul]
  rfl

theorem rstd2 : Is2 (k0_pay30 (k0_pay29 x) : FVec Ideal S256x1 .f32) fun r _ => A.rstd b (row n r) 2 := by
  intro r c
  pointwise [k0_pay30, k0_pay29, k0_pay28]
  simp (disch := simp) only [h.a2, coe_sum, lit_128, div_128, ← EReal.coe_sub, ← EReal.coe_mul, lit_eps, ← EReal.coe_add, rsqrt_var]
  rfl

theorem rstd3 : Is2 (k0_pay32 x : FVec Ideal S256x1 .f32) fun r _ => A.rstd b (row n r) 3 := by
  intro r c
  pointwise [k0_pay32, k0_pay31]
  simp (disch := simp) only [h.a3, coe_sum, lit_128, div_128, ← EReal.coe_sub, ← EReal.coe_mul, lit_eps, ← EReal.coe_add, rsqrt_var]
  rfl

theorem pay16_eq (y : FVec Ideal S256x512 .f32) : (k0_pay16 y : FVec Ideal S256x512 .f32) = y := by
  funext j
  idx_vars j
  pointwise [k0_pay16]

/-- The normed block. -/
theorem nrm_is : IsH (k0_pay33 x (k0_pay24 (k0_pay20 x) (k0_pay21 x)) (k0_pay27 x) (k0_pay28 x) (k0_pay29 x) : FVec Ideal S256x512 .f32)
    fun r h e => A.nrm b (row n r) h e := by
  have n0 := nrm0 h
  have n1 := nrm1 h
  have r2 := rstd2 h
  have r3 := rstd3 h
  constructor <;> intro r e he p
  · pointwise [k0_pay33]
    simp only [he, dite_true]
    exact n0 r _
  · pointwise [k0_pay33]
    simp (disch := omega) only [dif_pos, dif_neg, Nat.add_sub_cancel_left]
    exact n1 r _
  · pointwise [k0_pay33, k0_pay28]
    have h1 : 256 + e - 128 - 128 = e := by omega
    simp (disch := omega) only [dif_pos, dif_neg, h1]
    rw [r2 r 0]
    simp (disch := first | omega | simp) only [h.a2, coe_sum, lit_128, div_128, ← EReal.coe_sub, ← EReal.coe_mul]
    rfl
  · pointwise [k0_pay33, k0_pay31]
    have h1 : 384 + e - 128 - 128 - 128 = e := by omega
    simp (disch := omega) only [dif_pos, dif_neg, h1]
    rw [r3 r 0]
    simp (disch := first | omega | simp) only [h.a3, coe_sum, lit_128, div_128, ← EReal.coe_sub, ← EReal.coe_mul]
    rfl

end Norm

section Grad
variable {x20 x30 x99 x119 : FVec Ideal S256x512 .f32}

theorem pay44_is {v96 : FVec Ideal S256x1 .f32} {v137 v155 v173 : FVec Ideal S256x128 .f32} {f99 f119 : Fin 256 → Fin 4 → Fin 128 → ℝ}
    {rs : Fin 256 → Fin 4 → ℝ} {v45 v62 v79 : FVec Ideal S256x1 .f32}
    (h45 : Is2 v45 fun r _ => rs r 0) (h62 : Is2 v62 fun r _ => rs r 1) (h79 : Is2 v79 fun r _ => rs r 2) (h96 : Is2 v96 fun r _ => rs r 3)
    {v120 v121 : FVec Ideal S256x128 .f32} {v123 : FVec Ideal S256x1 .f32}
    (h99 : IsH x99 f99) (h119 : IsH x119 f119) (h120 : Is2 v120 fun r e => f119 r 0 e) (h121 : Is2 v121 fun r e => f99 r 0 e)
    (h123 : Is2 v123 fun r _ => ∑ e, f119 r 0 e) :
    IsH (k0_pay44 v96 x99 x119 (k0_pay41 v45 v120 v121 v123 (Scalar.ofBits .f32 0x43000000#32)) (k0_pay42 v62 x99 x119) (k0_pay43 v79 x99 x119)
        : FVec Ideal S256x512 .f32)
      fun r h e => rs r h * (f119 r h e - (∑ e', f119 r h e') / 128 - f99 r h e * ((∑ e', f119 r h e' * f99 r h e') / 128)) := by
  constructor <;> intro r e he p
  · pointwise [k0_pay44, k0_pay41]
    simp only [he, dite_true, h45 _ _, h120 _ _, h121 _ _, h123 _ _, lit_128, div_128, ← EReal.coe_sub, ← EReal.coe_mul, coe_sum]
  · pointwise [k0_pay44, k0_pay42]
    simp (disch := first | omega | simp) only [dif_pos, dif_neg, Nat.add_sub_cancel_left, h62 _ _, h99.a1, h119.a1, lit_128, div_128, ← EReal.coe_sub, ← EReal.coe_mul, coe_sum]
  · have h1 : 256 + e - 128 - 128 = e := by omega
    pointwise [k0_pay44, k0_pay43]
    simp (disch := first | omega | simp) only [dif_pos, dif_neg, h1, h79 _ _, h99.a2, h119.a2, lit_128, div_128, ← EReal.coe_sub, ← EReal.coe_mul, coe_sum]
  · have h1 : 384 + e - 128 - 128 - 128 = e := by omega
    pointwise [k0_pay44]
    simp (disch := first | omega | simp) only [dif_pos, dif_neg, h1, h96 _ _, h99.a3, h119.a3, lit_128, div_128, ← EReal.coe_sub, ← EReal.coe_mul, coe_sum]

/-- The gate's gradient. -/
theorem pay34_is {v15 v18 v20 v29 : FVec Ideal S256x512 .f32} {v22 : FVec Ideal S1x512 .f32} {v47 v64 v71 : FVec Ideal S256x128 .f32}
    {v78 : FVec Ideal S256x1 .f32} {d g s N : Fin 256 → Fin 512 → ℝ} {gn : Fin 1 → Fin 512 → ℝ}
    (h15 : Is2 v15 d) (h18 : Is2 v18 g) (h29 : Is2 v29 s) (h22 : Is2 v22 gn)
    (h33 : Is2 (k0_pay33 v20 v47 v64 v71 v78 : FVec Ideal S256x512 .f32) N) :
    Is2 (k0_pay34 v15 v18 v20 v22 v29 v47 v64 v71 v78 : FVec Ideal S256x512 .f32)
      fun r c => d r c * (N r c * gn 0 c) * (s r c * (1 + g r c * (1 - s r c))) := by
  intro r c
  pointwise [k0_pay34]
  simp only [h15 _ _, h18 _ _, h29 _ _, h22 _ _, h33 _ _, ← EReal.coe_one, ← EReal.coe_sub, ← EReal.coe_mul, ← EReal.coe_add]

theorem pay36_is {v15 v20 v30 : FVec Ideal S256x512 .f32} {v47 v64 v71 : FVec Ideal S256x128 .f32}
    {v78 : FVec Ideal S256x1 .f32} {v111 : FVec Ideal S1x512 .f32} {d s N : Fin 256 → Fin 512 → ℝ} {acc : Fin 1 → Fin 512 → ℝ}
    (h15 : Is2 v15 d) (h30 : Is2 v30 s) (h111 : Is2 v111 acc)
    (h33 : Is2 (k0_pay33 v20 v47 v64 v71 v78 : FVec Ideal S256x512 .f32) N) :
    Is2 (k0_pay36 v15 v20 v30 v47 v64 v71 v78 v111 : FVec Ideal S1x512 .f32)
      fun z c => acc z c + ∑ r, d r c * s r c * N r c := by
  intro z c
  pointwise [k0_pay36, k0_pay35]
  simp only [h15 _ _, h30 _ _, h111 _ _, h33 _ _, ← EReal.coe_mul, coe_sum, ← EReal.coe_add]

theorem pay37_is {v15 v30 : FVec Ideal S256x512 .f32} {v22 : FVec Ideal S1x512 .f32} {d s : Fin 256 → Fin 512 → ℝ} {gn : Fin 1 → Fin 512 → ℝ}
    (h15 : Is2 v15 d) (h30 : Is2 v30 s) (h22 : Is2 v22 gn) :
    Is2 (k0_pay37 v15 v22 v30 : FVec Ideal S256x512 .f32) fun r c => d r c * s r c * gn 0 c := by
  intro r c
  pointwise [k0_pay37, k0_pay35]
  simp only [h15 _ _, h30 _ _, h22 _ _, ← EReal.coe_mul]

end Grad

end Cert.KMix
-- ==== Proof.KPool.lean ====
/- The pooling branch of the kernel's body and its gradients, read at an index over the real numbers. -/
module

public import proofs.«01_k».proof.Proof.KGate

@[expose] public section

set_option maxRecDepth 16384

noncomputable section

namespace Cert.KMix

open Idealize.ShloMosaic Cert.Mix
open Cert.KernelIdeal Cert.KernelIdeal.Gen

/-- An array of three axes holds the real numbers `f`. -/
def Is3 {n k l : ℕ} {φ : FTy} (x : FVec Ideal ⟨3, ![n, k, l]⟩ φ) (f : Fin n → Fin k → Fin l → ℝ) : Prop :=
  ∀ r c d, x (ix3 r c d) = (f r c d : EReal)

section Weights
variable {v16 v399 : _} {v400 v405 : FVec Ideal S256x512 .bf16}

theorem pay94_is {v399 : FVec Ideal S256x512 .bf16} {P : Fin 256 → Fin 4 → Fin 128 → ℝ} (h : IsH v399 P) :
    IsH (k0_pay94 v399 : FVec Ideal S256x512 .bf16) P := by
  have e : (k0_pay94 v399 : FVec Ideal S256x512 .bf16) = v399 := by
    funext j
    idx_vars j
    pointwise [k0_pay94]
  rw [e]
  exact h

theorem pay95_is {v16 : FVec Ideal S256x512 .f32} {v401 : FVec Ideal S1x512 .f32} {d : Fin 256 → Fin 512 → ℝ} {s : Fin 1 → Fin 512 → ℝ}
    (h16 : Is2 v16 d) (h401 : Is2 v401 s) : Is2 (k0_pay95 v16 v401 : FVec Ideal S256x512 .bf16) fun r c => d r c * s 0 c := by
  intro r c
  pointwise [k0_pay95]
  simp only [h16 _ _, h401 _ _, ← EReal.coe_mul]

theorem pay98_is {v399 : FVec Ideal S256x512 .bf16} {v408 : FVec Ideal S1x128x128 .bf16} {P : Fin 256 → Fin 4 → Fin 128 → ℝ}
    {W : Fin 1 → Fin 128 → Fin 128 → ℝ} (h : IsH v399 P) (hw : Is3 v408 W) :
    Is2 (k0_pay98 v399 v408 : FVec Ideal S256x128 .f32) fun r e => ∑ d, P r 0 d * W 0 d e := by
  intro r e
  have h := pay94_is h
  pointwise [k0_pay98, k0_pay96]
  simp (disch := first | omega | simp) only [h.a0, hw _ _ _, ← EReal.coe_mul, coe_sum]

theorem pay104_is {P : Fin 256 → Fin 4 → Fin 128 → ℝ} (h : IsH v400 P) {v423 : FVec Ideal S1x128x128 .bf16}
    {W : Fin 1 → Fin 128 → Fin 128 → ℝ} (hw : Is3 v423 W) :
    Is2 (k0_pay104 v400 v423 : FVec Ideal S256x128 .f32) fun r e => ∑ d, P r 1 d * W 0 d e := by
  intro r e
  pointwise [k0_pay104, k0_pay102]
  simp (disch := first | omega | simp) only [h.a1, hw _ _ _, ← EReal.coe_mul, coe_sum]

theorem pay109_is {P : Fin 256 → Fin 4 → Fin 128 → ℝ} (h : IsH v400 P) {v438 : FVec Ideal S1x128x128 .bf16}
    {W : Fin 1 → Fin 128 → Fin 128 → ℝ} (hw : Is3 v438 W) :
    Is2 (k0_pay109 v400 v438 : FVec Ideal S256x128 .f32) fun r e => ∑ d, P r 2 d * W 0 d e := by
  intro r e
  pointwise [k0_pay109, k0_pay107]
  simp (disch := first | omega | simp) only [h.a2, hw _ _ _, ← EReal.coe_mul, coe_sum]

theorem pay99_is {v16 : FVec Ideal S256x512 .f32} {v401 : FVec Ideal S1x512 .f32} {v399 : FVec Ideal S256x512 .bf16}
    {v411 : FVec Ideal S1x128x128 .f32} {P Z : Fin 256 → Fin 4 → Fin 128 → ℝ} {acc : Fin 1 → Fin 128 → Fin 128 → ℝ}
    (h : IsH v399 P) (hz : IsH (k0_pay95 v16 v401 : FVec Ideal S256x512 .bf16) Z) (ha : Is3 v411 acc) :
    Is3 (k0_pay99 v16 v399 v401 v411 : FVec Ideal S1x128x128 .f32) fun z d e => acc z d e + ∑ r, P r 0 d * Z r 0 e := by
  intro z d e
  rw [Subsingleton.elim z 0]
  have h := pay94_is h
  pointwise [k0_pay99, k0_pay96, k0_pay97]
  simp (disch := first | omega | simp) only [h.a0, hz.a0, ha _ _ _, ← EReal.coe_mul, coe_sum, ← EReal.coe_add]

theorem pay105_is {v426 : FVec Ideal S1x128x128 .f32} {P Z : Fin 256 → Fin 4 → Fin 128 → ℝ} {acc : Fin 1 → Fin 128 → Fin 128 → ℝ}
    (h : IsH v400 P) (hz : IsH v405 Z) (ha : Is3 v426 acc) :
    Is3 (k0_pay105 v400 v405 v426 : FVec Ideal S1x128x128 .f32) fun z d e => acc z d e + ∑ r, P r 1 d * Z r 1 e := by
  intro z d e
  rw [Subsingleton.elim z 0]
  pointwise [k0_pay105, k0_pay102, k0_pay103]
  simp (disch := first | omega | simp) only [h.a1, hz.a1, ha _ _ _, ← EReal.coe_mul, coe_sum, ← EReal.coe_add]

theorem pay110_is {v441 : FVec Ideal S1x128x128 .f32} {P Z : Fin 256 → Fin 4 → Fin 128 → ℝ} {acc : Fin 1 → Fin 128 → Fin 128 → ℝ}
    (h : IsH v400 P) (hz : IsH v405 Z) (ha : Is3 v441 acc) :
    Is3 (k0_pay110 v400 v405 v441 : FVec Ideal S1x128x128 .f32) fun z d e => acc z d e + ∑ r, P r 2 d * Z r 2 e := by
  intro z d e
  rw [Subsingleton.elim z 0]
  pointwise [k0_pay110, k0_pay107, k0_pay108]
  simp (disch := first | omega | simp) only [h.a2, hz.a2, ha _ _ _, ← EReal.coe_mul, coe_sum, ← EReal.coe_add]

theorem pay113_is {v456 : FVec Ideal S1x128x128 .f32} {P Z : Fin 256 → Fin 4 → Fin 128 → ℝ} {acc : Fin 1 → Fin 128 → Fin 128 → ℝ}
    (h : IsH v400 P) (hz : IsH v405 Z) (ha : Is3 v456 acc) :
    Is3 (k0_pay113 v400 v405 v456 : FVec Ideal S1x128x128 .f32) fun z d e => acc z d e + ∑ r, P r 3 d * Z r 3 e := by
  intro z d e
  rw [Subsingleton.elim z 0]
  pointwise [k0_pay113, k0_pay111, k0_pay112]
  simp (disch := first | omega | simp) only [h.a3, hz.a3, ha _ _ _, ← EReal.coe_mul, coe_sum, ← EReal.coe_add]

/-- The pooling scale's gradient: a block adds its rows' part, over the four groups' products. -/
theorem pay114_is {v16 : FVec Ideal S256x512 .f32} {v410 v425 v440 : FVec Ideal S256x128 .f32} {v453 : FVec Ideal S1x128x128 .bf16}
    {v466 : FVec Ideal S1x512 .f32} {D P y : Fin 256 → Fin 4 → Fin 128 → ℝ} {W : Fin 1 → Fin 128 → Fin 128 → ℝ}
    {acc : Fin 1 → Fin 4 → Fin 128 → ℝ} (h16 : IsH v16 D) (h : IsH v400 P) (h0 : Is2 v410 fun r e => y r 0 e)
    (h1 : Is2 v425 fun r e => y r 1 e) (h2 : Is2 v440 fun r e => y r 2 e) (hw : Is3 v453 W)
    (hy : ∀ r e, y r 3 e = ∑ d, P r 3 d * W 0 d e) (ha : IsH v466 acc) :
    IsH (k0_pay114 v16 v400 v410 v425 v440 v453 v466 : FVec Ideal S1x512 .f32)
      fun z h e => acc z h e + ∑ r, D r h e * y r h e := by
  constructor <;> intro r e he p
  · pointwise [k0_pay114, k0_pay111]
    simp (disch := first | omega | simp) only [dif_pos he, h16.a0, h0 _ _, ha.a0, ← EReal.coe_mul, coe_sum, ← EReal.coe_add]
  · pointwise [k0_pay114, k0_pay111]
    simp (disch := first | omega | simp) only [dif_pos, dif_neg, Nat.add_sub_cancel_left, h16.a1, h1 _ _, ha.a1, ← EReal.coe_mul, coe_sum, ← EReal.coe_add]
  · have e1 : 256 + e - 128 - 128 = e := by omega
    pointwise [k0_pay114, k0_pay111]
    simp (disch := first | omega | simp) only [dif_pos, dif_neg, e1, h16.a2, h2 _ _, ha.a2, ← EReal.coe_mul, coe_sum, ← EReal.coe_add]
  · have e1 : 384 + e - 128 - 128 - 128 = e := by omega
    pointwise [k0_pay114, k0_pay111]
    simp (disch := first | omega | simp) only [dif_pos, dif_neg, e1, h16.a3, h.a3, hw _ _ _, hy, ha.a3, ← EReal.coe_mul, coe_sum, ← EReal.coe_add]

theorem pay101_is {v407 : FVec Ideal S256x128 .bf16} {v418 : FVec Ideal S1x128x128 .bf16} {z : Fin 256 → Fin 128 → ℝ}
    {W : Fin 1 → Fin 128 → Fin 128 → ℝ} (h : Is2 v407 z) (hw : Is3 v418 W) :
    Is2 (k0_pay101 v407 (k0_pay100 v418) : FVec Ideal S256x128 .f32) fun r d => ∑ e, z r e * W 0 d e := by
  intro r d
  pointwise [k0_pay101, k0_pay100]
  simp only [h _ _, hw _ _ _, ← EReal.coe_mul, coe_sum]

theorem pay97_is {v16 : FVec Ideal S256x512 .f32} {v401 : FVec Ideal S1x512 .f32} {Z : Fin 256 → Fin 4 → Fin 128 → ℝ}
    (hz : IsH (k0_pay95 v16 v401 : FVec Ideal S256x512 .bf16) Z) :
    Is2 (k0_pay97 v16 v401 : FVec Ideal S256x128 .bf16) fun r e => Z r 0 e := by
  intro r e
  pointwise [k0_pay97]
  exact hz.a0 r e.val e.isLt _

theorem pay106_is {Z : Fin 256 → Fin 4 → Fin 128 → ℝ} (hz : IsH v405 Z) {v433 : FVec Ideal S1x128x128 .bf16}
    {W : Fin 1 → Fin 128 → Fin 128 → ℝ} (hw : Is3 v433 W) :
    Is2 (k0_pay106 v405 v433 : FVec Ideal S256x128 .f32) fun r d => ∑ e, Z r 1 e * W 0 d e := by
  intro r d
  pointwise [k0_pay106, k0_pay103]
  simp (disch := first | omega | simp) only [hz.a1, hw _ _ _, ← EReal.coe_mul, coe_sum]

/-- The cotangent of the pooled channels. -/
theorem pay115_is {v420 v435 : FVec Ideal S256x128 .f32} {v448 v463 : FVec Ideal S1x128x128 .bf16} {Z y : Fin 256 → Fin 4 → Fin 128 → ℝ}
    {W2 W3 : Fin 1 → Fin 128 → Fin 128 → ℝ} (hz : IsH v405 Z) (h0 : Is2 v420 fun r d => y r 0 d) (h1 : Is2 v435 fun r d => y r 1 d)
    (hw2 : Is3 v448 W2) (hw3 : Is3 v463 W3) (hy2 : ∀ r d, y r 2 d = ∑ e, Z r 2 e * W2 0 d e) (hy3 : ∀ r d, y r 3 d = ∑ e, Z r 3 e * W3 0 d e) :
    IsH (k0_pay115 v405 v420 v435 (k0_pay108 v405) v448 v463 : FVec Ideal S256x512 .f32) y := by
  constructor <;> intro r e he p
  · pointwise [k0_pay115]
    simp (disch := first | omega | simp) only [dif_pos he, h0 _ _]
  · pointwise [k0_pay115]
    simp (disch := first | omega | simp) only [dif_pos, dif_neg, Nat.add_sub_cancel_left, h1 _ _]
  · have e1 : 256 + e - 128 - 128 = e := by omega
    pointwise [k0_pay115, k0_pay108]
    simp (disch := first | omega | simp) only [dif_pos, dif_neg, e1, hz.a2, hw2 _ _ _, hy2, ← EReal.coe_mul, coe_sum]
  · have e1 : 384 + e - 128 - 128 - 128 = e := by omega
    pointwise [k0_pay115, k0_pay112]
    simp (disch := first | omega | simp) only [dif_pos, dif_neg, e1, hz.a3, hw3 _ _ _, hy3, ← EReal.coe_mul, coe_sum]

end Weights

section Window
variable {v474 : FVec Ideal S256x512 .f32}

theorem cnt_real (n w : ℕ) (hn : n < 2048) (hw : w < 64) :
    (FloatOps.sitofp FTy.f32 (IntOp.minsi (IntOp.addi (BitVec.ofNat 32 n) 1#32) (BitVec.ofNat 32 w)) : Ideal .f32)
      = (((min (n + 1) w : ℕ) : ℝ) : EReal) := by
  have key : (IntOp.minsi (IntOp.addi (BitVec.ofNat 32 n) 1#32) (BitVec.ofNat 32 w)).toInt = ((min (n + 1) w : ℕ) : ℤ) := by
    have e1 : IntOp.addi (BitVec.ofNat 32 n) 1#32 = BitVec.ofNat 32 (n + 1) := by
      apply BitVec.eq_of_toNat_eq
      simp [IntOp.addi]
    have t : ∀ k : ℕ, k < 4096 → (BitVec.ofNat 32 k).toInt = (k : ℤ) := by
      intro k hk
      rw [BitVec.toInt_eq_toNat_of_lt (by simp; omega), BitVec.toNat_ofNat, Nat.mod_eq_of_lt (by omega)]
    rw [e1]
    have hs : (IntOp.minsi (BitVec.ofNat 32 (n + 1)) (BitVec.ofNat 32 w)).toInt
        = min (BitVec.ofNat 32 (n + 1)).toInt (BitVec.ofNat 32 w).toInt := by
      unfold IntOp.minsi
      split_ifs with hlt
      · rw [min_eq_left (le_of_lt (BitVec.slt_iff_toInt_lt.mp hlt))]
      · rw [min_eq_right (not_lt.mp fun hh => hlt (BitVec.slt_iff_toInt_lt.mpr hh))]
    rw [hs, t _ (by omega), t _ (by omega)]
    norm_num
  show (((_ : ℤ) : ℝ) : EReal) = _
  rw [key]
  norm_num

theorem pay119_is {v480 : FVec Ideal S256x128 .f32} {v479 : IVec S256x1 32} {y : Fin 256 → Fin 4 → Fin 128 → ℝ} {n : ℕ} (hn : n < 8)
    (h479 : ∀ r z, v479 (ix2 r z) = BitVec.ofNat 32 (n * 256 + r.val)) (h474 : IsH v474 y) (h480 : Is2 v480 fun r e => y r 0 e) :
    IsH (k0_pay119 v474 v479 v480 k0_pay118 : FVec Ideal S256x512 .f32)
      fun r h e => y r h e / ((min (n * 256 + r.val + 1) (2 ^ (h.val + 1)) : ℕ) : ℝ) := by
  have c : ∀ (r : Fin 256) (w : ℕ), w < 64 → (FloatOps.sitofp FTy.f32 (IntOp.minsi (IntOp.addi (BitVec.ofNat 32 (n * 256 + r.val)) 1#32)
      (BitVec.ofNat 32 w)) : Ideal .f32) = (((min (n * 256 + r.val + 1) w : ℕ) : ℝ) : EReal) := fun r w hw => cnt_real _ _ (by omega) hw
  have hne : ∀ (r : Fin 256) (w : ℕ), 0 < w → ((min (n * 256 + r.val + 1) w : ℕ) : ℝ) ≠ 0 := fun r w hw => by
    have : 0 < min (n * 256 + r.val + 1) w := by omega
    exact_mod_cast this.ne'
  constructor <;> intro r e he p
  · pointwise [k0_pay119, k0_pay118]
    simp only [dif_pos he, h479, h480 _ _]
    rw [c r 2 (by norm_num), div_real _ _ (hne r 2 (by norm_num))]
    rfl
  · pointwise [k0_pay119, k0_pay118]
    simp (disch := omega) only [dif_pos, dif_neg, Nat.add_sub_cancel_left, h479, h474.a1]
    rw [c r 4 (by norm_num), div_real _ _ (hne r 4 (by norm_num))]
    rfl
  · have e1 : 256 + e - 128 - 128 = e := by omega
    pointwise [k0_pay119, k0_pay118]
    simp (disch := omega) only [dif_pos, dif_neg, e1, h479, h474.a2]
    rw [c r 8 (by norm_num), div_real _ _ (hne r 8 (by norm_num))]
    rfl
  · have e1 : 384 + e - 128 - 128 - 128 = e := by omega
    pointwise [k0_pay119, k0_pay118]
    simp (disch := omega) only [dif_pos, dif_neg, e1, h479, h474.a3]
    rw [c r 16 (by norm_num), div_real _ _ (hne r 16 (by norm_num))]
    rfl

variable {v479 v481 : IVec S256x1 32} {v480 : FVec Ideal S256x128 .f32} {v513 : FVec Ideal S16x512 .f32} {E : ℕ → Fin 4 → Fin 128 → ℝ}

theorem pay120_is (h : IsH (k0_pay119 v474 v479 v480 v481 : FVec Ideal S256x512 .f32) fun r h e => E r.val h e) :
    IsH (k0_pay120 v474 v479 v480 v481 : FVec Ideal S16x512 .f32) fun r h e => E r.val h e := by
  constructor <;> intro r e he p
  · pointwise [k0_pay120]
    exact h.a0 _ e he _
  · pointwise [k0_pay120]
    exact h.a1 _ e he _
  · pointwise [k0_pay120]
    exact h.a2 _ e he _
  · pointwise [k0_pay120]
    exact h.a3 _ e he _

theorem IsH.at {n : ℕ} {φ : FTy} {x : FVec Ideal ⟨2, ![n, 512]⟩ φ} {f : Fin n → Fin 4 → Fin 128 → ℝ} (H : IsH x f) (r : Fin n) (c : ℕ) (p : c < 512)
    (h : Fin 4) (e : Fin 128) (hc : c = h.val * 128 + e.val) : x (ix2 r (⟨c, p⟩ : Fin 512)) = (f r h e : EReal) := by
  subst hc
  have g := H.is2 r ⟨h.val * 128 + e.val, p⟩
  have e1 : (h.val * 128 + e.val) / 128 = h.val := by omega
  have e2 : (h.val * 128 + e.val) % 128 = e.val := by omega
  simpa only [e1, e2] using g

/-- Rows `ρ` with `ρ + k < 272` of an array whose columns start at column `off` of the 512 hold `f`. -/
def IsW (k off : ℕ) {M : ℕ} {φ : FTy} (x : FVec Ideal ⟨2, ![272, M]⟩ φ) (f : ℕ → Fin 4 → Fin 128 → ℝ) : Prop :=
  ∀ (ρ c : ℕ) (p : ρ < 272) (q : c < M) (h : Fin 4) (e : Fin 128), ρ + k < 272 → c + off = h.val * 128 + e.val →
    x (ix2 (⟨ρ, p⟩ : Fin 272) (⟨c, q⟩ : Fin M)) = (f ρ h e : EReal)

/-- A row of the block, or of what the block after it handed over. -/
theorem rows_at (H : IsH (k0_pay119 v474 v479 v480 v481 : FVec Ideal S256x512 .f32) fun r h e => E r.val h e)
    (h513 : IsH v513 fun r h e => E (256 + r.val) h e) (ρ c : ℕ) (hρ : ρ < 272) (p : c < 512) (h : Fin 4) (e : Fin 128) (hc : c = h.val * 128 + e.val) :
    (if h : ρ < 256 then (k0_pay119 v474 v479 v480 v481 : FVec Ideal S256x512 .f32) (ix2 (⟨ρ, h⟩ : Fin 256) (⟨c, p⟩ : Fin 512))
      else v513 (ix2 (⟨ρ - 256, by omega⟩ : Fin 16) (⟨c, p⟩ : Fin 512))) = (E ρ h e : EReal) := by
  split_ifs with hr
  · exact H.at _ _ _ h e hc
  · rw [h513.at _ _ _ h e hc]
    congr 2
    simp only
    omega

theorem pay121_is (H : IsH (k0_pay119 v474 v479 v480 v481 : FVec Ideal S256x512 .f32) fun r h e => E r.val h e)
    (h513 : IsH v513 fun r h e => E (256 + r.val) h e) :
    IsW 1 0 (k0_pay121 v474 v479 v480 v481 v513 : FVec Ideal S272x512 .f32) fun ρ h e => E ρ h e + E (ρ + 1) h e := by
  intro ρ c p q h e hk hc
  pointwise [k0_pay121]
  have m1 : (ρ + 272 - 271) % 272 = ρ + 1 := by omega
  simp only [m1]
  have g0 := rows_at H h513 ρ c p q h e (by omega)
  have g1 := rows_at H h513 (ρ + 1) c (by omega) q h e (by omega)
  rw [g0, g1, ← EReal.coe_add]

theorem pay122_is (H : IsW 1 0 (k0_pay121 v474 v479 v480 v481 v513 : FVec Ideal S272x512 .f32) E) :
    Is2 (k0_pay122 v474 v479 v480 v481 v513 : FVec Ideal S256x128 .f32) fun r e => E r.val 0 e := by
  intro r e
  pointwise [k0_pay122]
  exact H _ _ _ _ 0 e (by omega) (by simp)

theorem pay123_is (H : IsW 1 0 (k0_pay121 v474 v479 v480 v481 v513 : FVec Ideal S272x512 .f32) E) :
    IsW 3 128 (k0_pay123 v474 v479 v480 v481 v513 : FVec Ideal S272x384 .f32) fun ρ h e => E ρ h e + E (ρ + 2) h e := by
  intro ρ c p q h e hk hc
  pointwise [k0_pay123]
  have m1 : (ρ + 272 - 270) % 272 = ρ + 2 := by omega
  simp only [m1]
  rw [H ρ (128 + c) _ _ h e (by omega) (by omega), H (ρ + 2) (128 + c) _ _ h e (by omega) (by omega), ← EReal.coe_add]

theorem pay124_is (H : IsW 3 128 (k0_pay123 v474 v479 v480 v481 v513 : FVec Ideal S272x384 .f32) E) :
    Is2 (k0_pay124 v474 v479 v480 v481 v513 : FVec Ideal S256x128 .f32) fun r e => E r.val 1 e := by
  intro r e
  pointwise [k0_pay124]
  exact H _ _ _ _ 1 e (by omega) (by simp; omega)

theorem pay125_is (H : IsW 3 128 (k0_pay123 v474 v479 v480 v481 v513 : FVec Ideal S272x384 .f32) E) :
    IsW 3 256 (k0_pay125 v474 v479 v480 v481 v513 : FVec Ideal S272x256 .f32) E := by
  intro ρ c p q h e hk hc
  pointwise [k0_pay125]
  exact H ρ (128 + c) _ _ h e (by omega) (by omega)

/-- The gradient of the pooling branch's input over a block. -/
theorem pay5_is {v521 v525 : FVec Ideal S256x128 .f32} {v526 : FVec Ideal S272x256 .f32} {y : Fin 256 → Fin 4 → Fin 128 → ℝ} {f0 f1 : Fin 256 → Fin 128 → ℝ}
    (h474 : IsH v474 y) (h521 : Is2 v521 f0) (h525 : Is2 v525 f1) (H : IsW 3 256 v526 E) :
    IsH (k0_pay5 v474 v521 v525 v526 268#32 : FVec Ideal S256x512 .bf16) fun r h e =>
      (if h = 0 then f0 r e else if h = 1 then f1 r e else if h = 2 then E r.val 2 e + E (r.val + 4) 2 e
        else (E r.val 3 e + E (r.val + 4) 3 e) + (E (r.val + 8) 3 e + E (r.val + 12) 3 e)) - y r h e := by
  constructor <;> intro r e he p
  · pointwise [k0_pay5]
    simp (disch := first | omega | simp) only [dif_pos he, h521 _ _, h474.a0, ← EReal.coe_sub]
  · pointwise [k0_pay5]
    simp (disch := first | omega | simp) only [dif_pos, dif_neg, Nat.add_sub_cancel_left, h525 _ _, h474.a1, ← EReal.coe_sub]
  · have e1 : 256 + e - 128 - 128 = e := by omega
    pointwise [k0_pay5]
    have m1 : (r.val + 272 - 268) % 272 = r.val + 4 := by omega
    simp (disch := first | omega | simp) only [dif_pos, dif_neg, e1, m1, h474.a2]
    rw [H _ _ _ _ 2 ⟨e, he⟩ (by omega) (by simp; omega), H _ _ _ _ 2 ⟨e, he⟩ (by omega) (by simp; omega), ← EReal.coe_add, ← EReal.coe_sub]
  · have e1 : 384 + e - 128 - 128 - 128 = e := by omega
    pointwise [k0_pay5]
    have m1 : (r.val + 272 - 268) % 272 = r.val + 4 := by omega
    have m2 : (r.val + 272 - 264) % 272 = r.val + 8 := by omega
    have m3 : (r.val + 8 + 272 - 268) % 272 = r.val + 12 := by omega
    have g : ∀ ρ : ℕ, (hρ : ρ + 3 < 272) → v526 (ix2 (⟨ρ, by omega⟩ : Fin 272) (⟨128 + e, by omega⟩ : Fin 256)) = (E ρ 3 ⟨e, he⟩ : EReal) :=
      fun ρ hρ => H ρ (128 + e) _ _ 3 ⟨e, he⟩ hρ (by simp; omega)
    simp (disch := omega) only [dif_pos, dif_neg, e1, m1, m2, m3, h474.a3, g, ← EReal.coe_add, ← EReal.coe_sub]

end Window

end Cert.KMix
-- ==== Proof.Blocks.lean ====
/- What each block of the kernel's inputs holds: the arguments' real values, read at the block's rows. -/
module

public import proofs.«01_k».proof.Proof.KPool
public import proofs.«01_k».proof.Proof.Run.Value
public import Idealize.ShloMosaic.Lib.Pipeline.ValueKit
public import Idealize.ShloMosaic.Lib.Claim
public import Idealize.ShloMosaic.Lib.StableHlo.RunRead

@[expose] public section
set_option maxRecDepth 16384
noncomputable section
namespace Cert.KMix
open Idealize.ShloMosaic Cert.Mix Idealize.ShloMosaic.TcCoe Idealize.SL.Sem
open Cert.KernelIdeal Cert.KernelIdeal.Gen

/-- The argument arrays hold these real values. -/
structure Holds (x0 : FVec Ideal ⟨3, ![4, 2048, 2048]⟩ .f32) (x1 x2 : FVec Ideal ⟨4, ![4, 2048, 4, 128]⟩ .f32)
    (x3 : FVec Ideal ⟨1, ![512]⟩ .f32) (x4 : FVec Ideal ⟨3, ![4, 128, 128]⟩ .f32) (x5 : FVec Ideal ⟨1, ![512]⟩ .f32)
    (x6 : FVec Ideal ⟨2, ![1024, 1024]⟩ .f32) (x7 : FVec Ideal ⟨3, ![4, 2048, 1024]⟩ .f32) (A : Args) : Prop where
  q : ∀ b s (h : Fin 4) (d : Fin 64), x0 (ix3 b s ⟨h.val * 64 + d.val, by omega⟩) = (A.q b s h d : EReal)
  k : ∀ b s (h : Fin 4) (d : Fin 64), x0 (ix3 b s ⟨256 + (h.val * 64 + d.val), by omega⟩) = (A.k b s h d : EReal)
  v : ∀ b s (h : Fin 4) (e : Fin 128), x0 (ix3 b s ⟨512 + (h.val * 128 + e.val), by omega⟩) = (A.v b s h e : EReal)
  g : ∀ b s (c : Fin 512), x0 (ix3 b s ⟨1024 + c.val, by omega⟩) = (A.g b s c : EReal)
  o : ∀ b s h e, x1 (ix4 b s h e) = (A.o b s h e : EReal)
  p : ∀ b s h e, x2 (ix4 b s h e) = (A.p b s h e : EReal)
  gain : ∀ c, x3 (ix1 c) = (A.gain c : EReal)
  pw : ∀ h d e, x4 (ix3 h d e) = (A.pw h d e : EReal)
  scale : ∀ c, x5 (ix1 c) = (A.scale c : EReal)
  w : ∀ c d, x6 (ix2 c d) = (A.w c d : EReal)
  ct : ∀ b s d, x7 (ix3 b s d) = (A.ct b s d : EReal)

variable (m : (ℓ : Loc nD τ sig) → Buf (Elt Ideal) ℓ)

/-- The kernel's argument arrays on a device hold these real values. -/
abbrev HoldsAt (c : Dev nD) (A : Args) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) A

/-- The sequence a point works on. -/
abbrev bOf (t : Fin cfg0.N) : Fin 4 := ⟨t.val / 8, by have := lt_of_lt_of_eq t.isLt (show cfg0.N = 32 from N_0); omega⟩
/-- The block of 256 positions a point works on: the last block of a sequence first. -/
abbrev nOf (t : Fin cfg0.N) : Fin 8 := ⟨7 - t.val % 8, by omega⟩

/-- The windows' index maps. -/
theorem idx : ∀ t : Fin cfg0.N, win0_0.index t = ![t.val / 8 * 8 + (7 - t.val % 8), 0] ∧ win0_1.index t = ![t.val / 8 * 8 + (7 - t.val % 8), 0]
    ∧ win0_2.index t = ![t.val / 8 * 8 + (7 - t.val % 8), 0] ∧ win0_3.index t = ![t.val / 8 * 8 + (7 - t.val % 8), 0]
    ∧ win0_4.index t = ![t.val / 8 * 8 + (7 - t.val % 8), 0] ∧ win0_5.index t = ![t.val / 8 * 8 + (7 - t.val % 8), 0]
    ∧ win0_6.index t = ![t.val / 8 * 8 + (7 - t.val % 8), 0] ∧ win0_7.index t = ![t.val / 8 * 8 + (7 - t.val % 8), 0, 0]
    ∧ win0_8.index t = ![0, 0, 0] ∧ win0_9.index t = ![0, 0] ∧ win0_10.index t = ![0, 0] ∧ win0_11.index t = ![0, 0]
    ∧ win0_12.index t = ![0, 0] ∧ win0_13.index t = ![0, 0] ∧ win0_14.index t = ![0, 0, 0] ∧ win0_15.index t = ![0, 0]
    ∧ win0_16.index t = ![0, 0] ∧ win0_17.index t = ![7 - t.val % 8, 0] ∧ win0_18.index t = ![7 - t.val % 8, 0] :=
  (by decide +kernel : ∀ t : Fin grid0.N, _)

/-- There are 32 points. -/
theorem lt32 (t : Fin cfg0.N) : t.val < 32 := lt_of_lt_of_eq t.isLt (show cfg0.N = 32 from N_0)

/-- The row of the flattened arrays at which a point's block puts its row `r`. -/
abbrev flat (t : Fin cfg0.N) (r : Fin 256) : Fin 8192 :=
  ⟨(t.val / 8 * 8 + (7 - t.val % 8)) * 256 + r.val, by have := lt32 t; omega⟩

variable {m} {c : Dev nD} {A : Args} (t : Fin cfg0.N)

theorem at0 (r : Fin 256) (d : Fin 1024) : iblk m c 0 t (ix2 r d) = V m c main_v68 (ix2 (flat t r) d) := by
  have hi := (idx t).1
  have := lt32 t
  blk_simp [iblk]
  generalize V m c main_v68 = X
  blk_ext [hi]

theorem at1 (r : Fin 256) (d : Fin 256) : iblk m c 1 t (ix2 r d) = V m c main_v72 (ix2 (flat t r) d) := by
  have hi := (idx t).2.1
  have := lt32 t
  blk_simp [iblk]
  generalize V m c main_v72 = X
  blk_ext [hi]

theorem at2 (r : Fin 256) (d : Fin 256) : iblk m c 2 t (ix2 r d) = V m c main_v74 (ix2 (flat t r) d) := by
  have hi := (idx t).2.2.1
  have := lt32 t
  blk_simp [iblk]
  generalize V m c main_v74 = X
  blk_ext [hi]

theorem at3 (r : Fin 256) (d : Fin 512) : iblk m c 3 t (ix2 r d) = V m c main_v76 (ix2 (flat t r) d) := by
  have hi := (idx t).2.2.2.1
  have := lt32 t
  blk_simp [iblk]
  generalize V m c main_v76 = X
  blk_ext [hi]

theorem at4 (r : Fin 256) (d : Fin 512) : iblk m c 4 t (ix2 r d) = V m c main_v77 (ix2 (flat t r) d) := by
  have hi := (idx t).2.2.2.2.1
  have := lt32 t
  blk_simp [iblk]
  generalize V m c main_v77 = X
  blk_ext [hi]

theorem at5 (r : Fin 256) (d : Fin 512) : iblk m c 5 t (ix2 r d) = V m c main_v78 (ix2 (flat t r) d) := by
  have hi := (idx t).2.2.2.2.2.1
  have := lt32 t
  blk_simp [iblk]
  generalize V m c main_v78 = X
  blk_ext [hi]

theorem at6 (r : Fin 256) (d : Fin 512) : iblk m c 6 t (ix2 r d) = V m c main_v80 (ix2 (flat t r) d) := by
  have hi := (idx t).2.2.2.2.2.2.1
  have := lt32 t
  blk_simp [iblk]
  generalize V m c main_v80 = X
  blk_ext [hi]

theorem at9 (r : Fin 256) (d : Fin 512) : iblk m c 9 t (ix2 r d) = V m c main_v170 (ix2 r d) := by
  have hi := (idx t).2.2.2.2.2.2.2.2.2.1
  blk_simp [iblk]
  generalize V m c main_v170 = X
  blk_ext [hi]

theorem at10 (r : Fin 256) (d : Fin 256) : iblk m c 10 t (ix2 r d) = V m c main_v181 (ix2 r d) := by
  have hi := (idx t).2.2.2.2.2.2.2.2.2.2.1
  blk_simp [iblk]
  generalize V m c main_v181 = X
  blk_ext [hi]

theorem at11 (r : Fin 256) (d : Fin 512) : iblk m c 11 t (ix2 r d) = V m c main_v196 (ix2 r d) := by
  have hi := (idx t).2.2.2.2.2.2.2.2.2.2.2.1
  blk_simp [iblk]
  generalize V m c main_v196 = X
  blk_ext [hi]

theorem at12 (r : Fin 256) (d : Fin 512) : iblk m c 12 t (ix2 r d) = V m c main_v200 (ix2 r d) := by
  have hi := (idx t).2.2.2.2.2.2.2.2.2.2.2.2.1
  blk_simp [iblk]
  generalize V m c main_v200 = X
  blk_ext [hi]

theorem at13 (r : Fin 1) (d : Fin 512) : iblk m c 13 t (ix2 r d) = V m c main_v201 (ix2 r d) := by
  have hi := (idx t).2.2.2.2.2.2.2.2.2.2.2.2.2.1
  blk_simp [iblk]
  generalize V m c main_v201 = X
  blk_ext [hi]

theorem at15 (r : Fin 1) (d : Fin 512) : iblk m c 15 t (ix2 r d) = V m c main_v203 (ix2 r d) := by
  have hi := (idx t).2.2.2.2.2.2.2.2.2.2.2.2.2.2.2.1
  blk_simp [iblk]
  generalize V m c main_v203 = X
  blk_ext [hi]

theorem at16 (r : Fin 1024) (d : Fin 1024) : iblk m c 16 t (ix2 r d) = V m c main_v205 (ix2 r d) := by
  have hi := (idx t).2.2.2.2.2.2.2.2.2.2.2.2.2.2.2.2.1
  blk_simp [iblk]
  generalize V m c main_v205 = X
  blk_ext [hi]

theorem at8 (h : Fin 4) (r : Fin 256) (d : Fin 256) : iblk m c 8 t (ix3 h r d) = V m c main_v159 (ix3 h r d) := by
  have hi := (idx t).2.2.2.2.2.2.2.2.1
  blk_simp [iblk]
  generalize V m c main_v159 = X
  blk_ext [hi]

theorem at14 (h : Fin 4) (r : Fin 128) (d : Fin 128) : iblk m c 14 t (ix3 h r d) = V m c main_v202 (ix3 h r d) := by
  have hi := (idx t).2.2.2.2.2.2.2.2.2.2.2.2.2.2.1
  blk_simp [iblk]
  generalize V m c main_v202 = X
  blk_ext [hi]

theorem at7 (z : Fin 1) (r : Fin 256) (d : Fin 512) : iblk m c 7 t (ix3 z r d)
    = V m c main_v129 (ix3 (⟨t.val / 8 * 8 + (7 - t.val % 8), by have := lt32 t; omega⟩ : Fin 32) r d) := by
  have hi := (idx t).2.2.2.2.2.2.2.1
  have := lt32 t
  blk_simp [iblk]
  generalize V m c main_v129 = X
  blk_ext [hi]

theorem at17 (r : Fin 256) (d : Fin 256) : iblk m c 17 t (ix2 r d) = V m c main_v62 (ix2 (row (nOf t) r) d) := by
  have hi := (idx t).2.2.2.2.2.2.2.2.2.2.2.2.2.2.2.2.2.1
  have := lt32 t
  blk_simp [iblk]
  generalize V m c main_v62 = X
  blk_ext [hi]

theorem at18 (r : Fin 256) (d : Fin 256) : iblk m c 18 t (ix2 r d) = V m c main_v67 (ix2 (row (nOf t) r) d) := by
  have hi := (idx t).2.2.2.2.2.2.2.2.2.2.2.2.2.2.2.2.2.2
  have := lt32 t
  blk_simp [iblk]
  generalize V m c main_v67 = X
  blk_ext [hi]

variable (H : HoldsAt m c A)
include H

theorem val0 (r : Fin 8192) (d : Fin 1024) : V m c main_v68 (ix2 r d) = (A.ct ⟨r.val / 2048, by omega⟩ ⟨r.val % 2048, by omega⟩ d : EReal) := by
  after_reads_simp
  pointwise
  rw [← H.ct]
  blk_ext

theorem val3 (r : Fin 8192) (d : Fin 512) : V m c main_v76 (ix2 r d) = (A.v ⟨r.val / 2048, by omega⟩ ⟨r.val % 2048, by omega⟩ ⟨d.val / 128, by omega⟩ ⟨d.val % 128, by omega⟩ : EReal) := by
  after_reads_simp
  pointwise
  rw [← H.v]
  blk_ext

theorem val4 (r : Fin 8192) (d : Fin 512) : V m c main_v77 (ix2 r d) = (A.g ⟨r.val / 2048, by omega⟩ ⟨r.val % 2048, by omega⟩ d : EReal) := by
  after_reads_simp
  pointwise
  rw [← H.g]
  blk_ext

theorem val5 (r : Fin 8192) (d : Fin 512) : V m c main_v78 (ix2 r d) = (A.o ⟨r.val / 2048, by omega⟩ ⟨r.val % 2048, by omega⟩ ⟨d.val / 128, by omega⟩ ⟨d.val % 128, by omega⟩ : EReal) := by
  after_reads_simp
  pointwise
  rw [← H.o]
  blk_ext

theorem val6 (r : Fin 8192) (d : Fin 512) : V m c main_v80 (ix2 r d) = (A.p ⟨r.val / 2048, by omega⟩ ⟨r.val % 2048, by omega⟩ ⟨d.val / 128, by omega⟩ ⟨d.val % 128, by omega⟩ : EReal) := by
  after_reads_simp
  pointwise
  rw [← H.p]
  blk_ext

theorem val13 (z : Fin 1) (d : Fin 512) : V m c main_v201 (ix2 z d) = (A.gain d : EReal) := by
  after_reads_simp
  pointwise
  rw [← H.gain]
  try blk_ext

theorem val15 (z : Fin 1) (d : Fin 512) : V m c main_v203 (ix2 z d) = (A.scale d : EReal) := by
  after_reads_simp
  pointwise
  rw [← H.scale]
  try blk_ext

theorem val14 (h : Fin 4) (r d : Fin 128) : V m c main_v202 (ix3 h r d) = (A.pw h r d : EReal) := by
  after_reads_simp
  pointwise
  rw [← H.pw]
  try blk_ext

theorem val16 (r d : Fin 1024) : V m c main_v205 (ix2 r d) = (A.w d r : EReal) := by
  after_reads_simp
  pointwise
  rw [← H.w]
  try blk_ext

omit H in
/-- The flattened row of a point's block is row `r` of its block of its sequence. -/
theorem flat_b (r : Fin 256) : (⟨(flat t r).val / 2048, by have := (flat t r).isLt; omega⟩ : Fin 4) = bOf t := by
  have := lt32 t; apply Fin.ext; show (_ / _ : ℕ) = _; simp only []; omega

omit H in
theorem flat_s (r : Fin 256) : (⟨(flat t r).val % 2048, by omega⟩ : Fin 2048) = row (nOf t) r := by
  have := lt32 t; apply Fin.ext; show (_ % _ : ℕ) = _; simp only []; omega

theorem blk0 : Is2 (n := 256) (k := 1024) (φ := .f32) (iblk m c 0 t) fun r d => A.ct (bOf t) (row (nOf t) r) d := by
  intro r d
  refine (at0 t r d).trans ?_
  rw [val0 H, flat_b, flat_s]

theorem blk3 : Is2 (n := 256) (k := 512) (φ := .bf16) (iblk m c 3 t) fun r d => A.v (bOf t) (row (nOf t) r) ⟨d.val / 128, by omega⟩ ⟨d.val % 128, by omega⟩ := by
  intro r d
  refine (at3 t r d).trans ?_
  rw [val3 H, flat_b, flat_s]

theorem blk4 : Is2 (n := 256) (k := 512) (φ := .f32) (iblk m c 4 t) fun r d => A.g (bOf t) (row (nOf t) r) d := by
  intro r d
  refine (at4 t r d).trans ?_
  rw [val4 H, flat_b, flat_s]

theorem blk5 : Is2 (n := 256) (k := 512) (φ := .f32) (iblk m c 5 t) fun r d => A.o (bOf t) (row (nOf t) r) ⟨d.val / 128, by omega⟩ ⟨d.val % 128, by omega⟩ := by
  intro r d
  refine (at5 t r d).trans ?_
  rw [val5 H, flat_b, flat_s]

theorem blk6 : Is2 (n := 256) (k := 512) (φ := .bf16) (iblk m c 6 t) fun r d => A.p (bOf t) (row (nOf t) r) ⟨d.val / 128, by omega⟩ ⟨d.val % 128, by omega⟩ := by
  intro r d
  refine (at6 t r d).trans ?_
  rw [val6 H, flat_b, flat_s]

theorem blk13 : Is2 (n := 1) (k := 512) (φ := .f32) (iblk m c 13 t) fun r d => A.gain d := by
  intro r d
  refine (at13 t r d).trans ?_
  rw [val13 H]

theorem blk15 : Is2 (n := 1) (k := 512) (φ := .f32) (iblk m c 15 t) fun r d => A.scale d := by
  intro r d
  refine (at15 t r d).trans ?_
  rw [val15 H]

theorem blk16 : Is2 (n := 1024) (k := 1024) (φ := .bf16) (iblk m c 16 t) fun r d => A.w d r := by
  intro r d
  refine (at16 t r d).trans ?_
  rw [val16 H]

theorem blk14 : Is3 (n := 4) (k := 128) (l := 128) (φ := .bf16) (iblk m c 14 t) fun h r d => A.pw h r d := by
  intro h r d
  refine (at14 t h r d).trans ?_
  rw [val14 H]

end Cert.KMix
-- ==== Proof.KAcc.lean ====
/- The three accumulated gradients: what each point adds, and what they hold after the last point. -/
module

public import proofs.«01_k».proof.Proof.Blocks

@[expose] public section
set_option maxRecDepth 16384
noncomputable section
namespace Cert.KMix
open Idealize.ShloMosaic Cert.Mix Idealize.ShloMosaic.TcCoe Idealize.SL.Sem
open Cert.KernelIdeal Cert.KernelIdeal.Gen

/-- Columns split into heads. -/
theorem IsH.of_div {n : ℕ} {φ : FTy} {x : FVec Ideal ⟨2, ![n, 512]⟩ φ} {f : Fin n → Fin 4 → Fin 128 → ℝ}
    (h : Is2 x fun r c => f r ⟨c.val / 128, by omega⟩ ⟨c.val % 128, by omega⟩) : IsH x f := by
  have k : ∀ (h : Fin 4) (e : Fin 128), (⟨(col h e).val / 128, by omega⟩ : Fin 4) = h ∧ (⟨(col h e).val % 128, by omega⟩ : Fin 128) = e := by
    intro h e; constructor <;> apply Fin.ext <;> simp only [] <;> omega
  have := IsH.of_Is2 h
  simpa only [k] using this

theorem pay13_is {x : FVec Ideal S256x1024 .f32} {w : FVec Ideal S1024x1024 .bf16} {f g : _} (h : Is2 x f) (hw : Is2 w g) :
    Is2 (k0_pay13 x w : FVec Ideal S256x512 .f32) fun r c => ∑ d, f r d * g d ⟨c.val, by omega⟩ := by
  intro r c
  rw [← pay12_is h hw]
  pointwise [k0_pay13]

theorem pay14_is {x : FVec Ideal S256x1024 .f32} {w : FVec Ideal S1024x1024 .bf16} {f g : _} (h : Is2 x f) (hw : Is2 w g) :
    Is2 (k0_pay14 x w : FVec Ideal S256x512 .f32) fun r c => ∑ d, f r d * g d ⟨512 + c.val, by omega⟩ := by
  intro r c
  rw [← pay12_is h hw]
  pointwise [k0_pay14]

theorem pay17_eq (y : FVec Ideal S1x512 .f32) : (k0_pay17 y : FVec Ideal S1x512 .f32) = y := by
  funext j
  idx_vars j
  pointwise [k0_pay17]

/-- The sequence and the block of point number `k`. -/
abbrev bN (k : ℕ) : Fin 4 := ⟨k / 8 % 4, by omega⟩
abbrev nN (k : ℕ) : Fin 8 := ⟨7 - k % 8, by omega⟩

theorem bOf_eq (t : Fin cfg0.N) : bOf t = bN t.val := by
  have := lt32 t; apply Fin.ext; simp only []; omega

/-- Summing over the points is summing over the sequences and their blocks. -/
theorem sum_points' (a : Fin 4 → Fin 8 → ℝ) : ∑ k ∈ Finset.range 32, a (bN k) (nN k) = ∑ b, ∑ n, a b n := by
  simp only [Finset.sum_range_succ, Finset.sum_range_zero, Fin.sum_univ_four, Fin.sum_univ_eight, zero_add]
  show a 0 7 + a 0 6 + a 0 5 + a 0 4 + a 0 3 + a 0 2 + a 0 1 + a 0 0 + a 1 7 + a 1 6 + a 1 5 + a 1 4 + a 1 3 + a 1 2 + a 1 1 + a 1 0 + a 2 7 + a 2 6 + a 2 5 + a 2 4 + a 2 3 + a 2 2 + a 2 1 + a 2 0 + a 3 7 + a 3 6 + a 3 5 + a 3 4 + a 3 3 + a 3 2 + a 3 1 + a 3 0 = _
  ring

/-- Summing over the points and the rows of their blocks is summing over the sequences and their positions. -/
theorem sum_points (f : Fin 4 → Fin 2048 → ℝ) :
    ∑ k ∈ Finset.range 32, ∑ r : Fin 256, f (bN k) (row (nN k) r) = ∑ b, ∑ s, f b s := by
  have hs : ∀ b, ∑ s, f b s = ∑ n : Fin 8, ∑ r : Fin 256, f b (row n r) := by
    intro b
    refine (Fintype.sum_equiv (finProdFinEquiv : Fin 8 × Fin 256 ≃ Fin (8 * 256)) (fun x => f b (row x.1 x.2)) (f b) fun x => ?_).symm.trans
      (Fintype.sum_prod_type _)
    refine congrArg (f b) (Fin.ext ?_)
    show x.1.val * 256 + x.2.val = x.2.val + 256 * x.1.val
    ring
  simp only [hs]
  exact sum_points' fun b n => ∑ r, f b (row n r)

variable (m : (ℓ : Loc nD τ sig) → Buf (Elt Ideal) ℓ) {c : Dev nD} {A : Args} (H : HoldsAt m c A) (t : Fin cfg0.N)
include H

theorem isO : IsO A (bOf t) (nOf t) (iblk m c 5 t) := IsH.of_div (f := fun r h e => A.o (bOf t) (row (nOf t) r) h e) (blk5 t H)

theorem dret_is : Is2 (k0_pay13 (iblk m c 0 t) (iblk m c 16 t) : FVec Ideal S256x512 .f32) fun r c => A.dret (bOf t) (row (nOf t) r) c :=
  pay13_is (blk0 t H) (blk16 t H)

theorem dpool_is : Is2 (k0_pay14 (iblk m c 0 t) (iblk m c 16 t) : FVec Ideal S256x512 .f32) fun r c => A.dpool (bOf t) (row (nOf t) r) c :=
  pay14_is (blk0 t H) (blk16 t H)

theorem sil_is : Is2 (k0_pay19 (iblk m c 4 t) : FVec Ideal S256x512 .f32)
    fun r c => A.g (bOf t) (row (nOf t) r) c * sigm (A.g (bOf t) (row (nOf t) r) c) := pay19_is (blk4 t H)

theorem nrmc_is : Is2 (k0_pay33 (k0_pay16 (iblk m c 5 t)) (k0_pay24 (k0_pay20 (iblk m c 5 t)) (k0_pay21 (iblk m c 5 t))) (k0_pay27 (k0_pay16 (iblk m c 5 t)))
    (k0_pay28 (k0_pay16 (iblk m c 5 t))) (k0_pay29 (k0_pay16 (iblk m c 5 t))) : FVec Ideal S256x512 .f32)
    fun r c => A.nrmc (bOf t) (row (nOf t) r) c := by
  rw [pay16_eq (isO m H t)]
  exact IsH.is2 (nrm_is (isO m H t))

/-- One point's step of the gradient of the gain. -/
theorem gain_step {acc : FVec Ideal S1x512 .f32} {a : Fin 1 → Fin 512 → ℝ} (ha : Is2 acc a) :
    Is2 (k0_pay36 (k0_pay13 (iblk m c 0 t) (iblk m c 16 t)) (k0_pay16 (iblk m c 5 t)) (k0_pay19 (iblk m c 4 t))
      (k0_pay24 (k0_pay20 (iblk m c 5 t)) (k0_pay21 (iblk m c 5 t))) (k0_pay27 (k0_pay16 (iblk m c 5 t))) (k0_pay28 (k0_pay16 (iblk m c 5 t)))
      (k0_pay29 (k0_pay16 (iblk m c 5 t))) acc : FVec Ideal S1x512 .f32)
      fun z c => a z c + ∑ r, A.dgainRow (bN t.val) (row (nN t.val) r) c := by
  have h := pay36_is (dret_is m H t) (sil_is m H t) ha (nrmc_is m H t)
  rw [bOf_eq] at h
  exact h

omit H in
theorem pay6_is : Is2 (k0_pay6 : FVec Ideal S1x512 .f32) fun _ _ => 0 := by
  intro z c
  pointwise [k0_pay6]
  simp

theorem gain_is : ∀ n (h : n < cfg0.N), Is2 (φ := .f32) (outsAt0 m c n h).2.2.1
    fun _ c => ∑ k ∈ Finset.range (n + 1), ∑ r, A.dgainRow (bN k) (row (nN k) r) c := by
  intro n
  induction n with
  | zero =>
    intro h
    rw [outsAt0_A m c ⟨0, h⟩ rfl rfl]
    frame_out
    have := gain_step m H ⟨0, h⟩ pay6_is
    simpa only [zero_add, Finset.sum_range_succ, Finset.sum_range_zero] using this
  | succ n ih =>
    intro h
    have hn := lt32 ⟨n + 1, h⟩
    have key := gain_step m H ⟨n + 1, h⟩ (ih (by omega))
    simp only [Finset.sum_range_succ _ (n + 1)]
    by_cases h1 : (n + 1) % 8 = 0
    · rw [outsAt0_C m c ⟨n + 1, h⟩ (by simp only []; simp only [] at hn; omega) h1]
      frame_out
      exact key
    · rw [outsAt0_B m c ⟨n + 1, h⟩ (by simp only []; simp only [] at hn; omega) h1]
      frame_out
      exact key

end Cert.KMix
-- ==== Proof.Tiles.lean ====
/- Stores of one group after another into the gradient of the pooling weights, and what is read back. -/
module

public import proofs.«01_k».proof.Proof.KAcc

@[expose] public section
set_option maxRecDepth 16384
noncomputable section
namespace Cert.KMix
open Idealize.ShloMosaic Cert.Mix Idealize.ShloMosaic.TcCoe Idealize.SL.Sem
open Cert.KernelIdeal Cert.KernelIdeal.Gen

/-- Group `k`'s tile, at its own index. -/
theorem rect_idx (k : ℕ) (h : Fin 4) (hk : h.val = k) (inb) (d e : Fin 128) :
    (Rect.unit (s := S4x128x128) ![k, 0, 0] ![1, 128, 128] inb).emb (ix3 0 d e) = ix3 h d e := by
  subst hk
  blk_ext

theorem ld_at (x : Vec Ideal S4x128x128 .f32) (k : ℕ) (h : Fin 4) (hk : h.val = k) (inb) (z : Fin 1) (d e : Fin 128) :
    (View.ld x (Rect.unit (s := S4x128x128) ![k, 0, 0] ![1, 128, 128] inb) : FVec Ideal S1x128x128 .f32) (ix3 z d e) = x (ix3 h d e) := by
  rw [Subsingleton.elim z 0]
  exact congrArg x (rect_idx k h hk inb d e)

theorem ldb_at (x : Vec Ideal S4x128x128 .bf16) (k : ℕ) (h : Fin 4) (hk : h.val = k) (inb) (z : Fin 1) (d e : Fin 128) :
    (View.ld x (Rect.unit (s := S4x128x128) ![k, 0, 0] ![1, 128, 128] inb) : FVec Ideal S1x128x128 .bf16) (ix3 z d e) = x (ix3 h d e) := by
  rw [Subsingleton.elim z 0]
  exact congrArg x (rect_idx k h hk inb d e)

/-- What the stores so far leave in the groups `P` of the weights' gradient. -/
def Stored (L : List (View.Piece (Elt Ideal) S4x128x128 .f32)) (f : Fin 4 → Fin 128 → Fin 128 → ℝ) (P : Fin 4 → Prop) : Prop :=
  ∀ h d e, P h → (View.canon L : FVec Ideal S4x128x128 .f32) (ix3 h d e) = (f h d e : EReal)

theorem Stored.nil : Stored [] (fun _ _ _ => 0) fun _ => False := fun _ _ _ h => h.elim

theorem Stored.cons {L : List (View.Piece (Elt Ideal) S4x128x128 .f32)} {f : Fin 4 → Fin 128 → Fin 128 → ℝ} {P : Fin 4 → Prop} (H : Stored L f P)
    (k : ℕ) (h : Fin 4) (hk : h.val = k) (inb : ∀ a, ![k, 0, 0] a + S1x128x128.size a ≤ S4x128x128.size a) {w : FVec Ideal S1x128x128 .f32} {g : Fin 1 → Fin 128 → Fin 128 → ℝ} (hw : Is3 w g) :
    Stored (⟨Rect.unit ![k, 0, 0] ![1, 128, 128] inb, w⟩ :: L) (fun h' d e => if h' = h then g 0 d e else f h' d e) fun h' => h' = h ∨ P h' := by
  intro h' d e hp
  by_cases hh : h' = h
  · subst hh
    dsimp only
    have h0 := View.canon_cons_emb (Val := Elt Ideal) (Rect.unit (s := S4x128x128) ![k, 0, 0] ![1, 128, 128] inb) w L (ix3 (0 : Fin 1) d e)
    rw [rect_idx k h' hk inb d e] at h0
    rw [if_pos rfl]
    exact h0.trans (hw 0 d e)
  · dsimp only
    rw [if_neg hh, ← H h' d e (hp.resolve_left hh)]
    refine View.canon_cons_of_not_mem _ L ?_
    intro hm
    have := (Rect.mem_set_unit (inb := inb).mp hm) 0
    have h1 : k ≤ h'.val ∧ h'.val < k + 1 := this
    exact hh (Fin.ext (by omega))

theorem Stored.read {L : List (View.Piece (Elt Ideal) S4x128x128 .f32)} {f : Fin 4 → Fin 128 → Fin 128 → ℝ} {P : Fin 4 → Prop} (H : Stored L f P)
    {κ sp} (v : View sig κ sp S4x128x128 .f32)
    (hc : ∀ y, ∃ p ∈ L, y ∈ p.1.set) (k : ℕ) (h : Fin 4) (hk : h.val = k) (inb) (hp : P h) :
    Is3 (n := 1) (k := 128) (l := 128) (φ := .f32) (v.readCov L (Rect.unit (s := S4x128x128) ![k, 0, 0] ![1, 128, 128] inb).toLoadRect) fun _ d e => f h d e := by
  intro z d e
  rw [View.readCov_eq_canon_ld _ _ _ hc, ← H h d e hp]
  exact ld_at _ k h hk inb z d e

theorem pay8_is : Stored [⟨Rect.unit ![0, 0, 0] ![4, 128, 128] inb_S4x128x128_S4x128x128_0_0_0, k0_pay8 (F := Ideal)⟩] (fun _ _ _ => 0) fun _ => True := by
  intro h d e _
  rw [View.canon_cons_unit_lit inb_S4x128x128_S4x128x128_0_0_0 _ _ (by decide)]
  pointwise [k0_pay8]
  simp

theorem cov_whole (w : FVec Ideal S4x128x128 .f32) : ∀ y, ∃ p ∈ ([⟨Rect.unit ![0, 0, 0] ![4, 128, 128] inb_S4x128x128_S4x128x128_0_0_0, w⟩] :
    List (View.Piece (Elt Ideal) S4x128x128 .f32)), y ∈ p.1.set := by
  intro y
  refine ⟨_, List.mem_cons_self, ?_⟩
  show y ∈ (Rect.unit ![0, 0, 0] ![4, 128, 128] inb_S4x128x128_S4x128x128_0_0_0).set
  refine Rect.mem_set_unit.mpr fun a => ⟨?_, ?_⟩
  · fin_cases a <;> exact Nat.zero_le _
  · fin_cases a
    · exact lt_of_lt_of_eq (y 0).isLt rfl
    · exact lt_of_lt_of_eq (y 1).isLt rfl
    · exact lt_of_lt_of_eq (y 2).isLt rfl

theorem cov_cons {L : List (View.Piece (Elt Ideal) S4x128x128 .f32)} (q) (h : ∀ y, ∃ p ∈ L, y ∈ p.1.set) : ∀ y, ∃ p ∈ q :: L, y ∈ p.1.set := by
  intro y
  obtain ⟨p, hp, hy⟩ := h y
  exact ⟨p, List.mem_cons_of_mem _ hp, hy⟩

/-- A store to one group leaves the others. -/
theorem Stored.keep {L : List (View.Piece (Elt Ideal) S4x128x128 .f32)} {f : Fin 4 → Fin 128 → Fin 128 → ℝ} {P : Fin 4 → Prop} (H : Stored L f P)
    (k : ℕ) (h : Fin 4) (hk : h.val = k) (inb : ∀ a, ![k, 0, 0] a + S1x128x128.size a ≤ S4x128x128.size a) (w : FVec Ideal S1x128x128 .f32) :
    Stored (⟨Rect.unit ![k, 0, 0] ![1, 128, 128] inb, w⟩ :: L) f fun h' => h' ≠ h ∧ P h' := by
  intro h' d e hp
  refine (View.canon_cons_of_not_mem _ L ?_).trans (H h' d e hp.2)
  intro hm
  have h1 : k ≤ h'.val ∧ h'.val < k + 1 := (Rect.mem_set_unit (inb := inb).mp hm) 0
  exact hp.1 (Fin.ext (by omega))

/-- After the four groups' stores the array holds the four tiles. -/
theorem tiles4 (L : List (View.Piece (Elt Ideal) S4x128x128 .f32)) {w0 w1 w2 w3 : FVec Ideal S1x128x128 .f32} {f : Fin 4 → Fin 128 → Fin 128 → ℝ}
    (h0 : Is3 w0 fun _ d e => f 0 d e) (h1 : Is3 w1 fun _ d e => f 1 d e) (h2 : Is3 w2 fun _ d e => f 2 d e) (h3 : Is3 w3 fun _ d e => f 3 d e) :
    Is3 (n := 4) (k := 128) (l := 128) (φ := .f32) (View.canon ((⟨Rect.unit ![3, 0, 0] ![1, 128, 128] inb_S4x128x128_S1x128x128_3_0_0, w3⟩ :
      View.Piece (Elt Ideal) S4x128x128 .f32) :: ⟨Rect.unit ![2, 0, 0] ![1, 128, 128] inb_S4x128x128_S1x128x128_2_0_0, w2⟩ ::
      ⟨Rect.unit ![1, 0, 0] ![1, 128, 128] inb_S4x128x128_S1x128x128_1_0_0, w1⟩ :: ⟨Rect.unit ![0, 0, 0] ![1, 128, 128] inb_S4x128x128_S1x128x128_0_0_0, w0⟩ :: L)) f := by
  have base : Stored L (fun _ _ _ => 0) fun _ => False := fun _ _ _ h => h.elim
  have key := (((base.cons 0 0 rfl inb_S4x128x128_S1x128x128_0_0_0 h0).cons 1 1 rfl inb_S4x128x128_S1x128x128_1_0_0 h1).cons 2 2 rfl
    inb_S4x128x128_S1x128x128_2_0_0 h2).cons 3 3 rfl inb_S4x128x128_S1x128x128_3_0_0 h3
  intro h d e
  fin_cases h
  · exact key 0 d e (by decide)
  · exact key 1 d e (by decide)
  · exact key 2 d e (by decide)
  · exact key 3 d e (by decide)

end Cert.KMix
-- ==== Proof.KAcc2.lean ====
/- The pooling branch's accumulated gradients: of its scale and of its weights. -/
module

public import proofs.«01_k».proof.Proof.Tiles

@[expose] public section
set_option maxRecDepth 16384
noncomputable section
namespace Cert.KMix
open Idealize.ShloMosaic Cert.Mix Idealize.ShloMosaic.TcCoe Idealize.SL.Sem
open Cert.KernelIdeal Cert.KernelIdeal.Gen

variable (m : (ℓ : Loc nD τ sig) → Buf (Elt Ideal) ℓ) {c : Dev nD} {A : Args} (H : HoldsAt m c A) (t : Fin cfg0.N)
include H

theorem isP : IsH (n := 256) (φ := .bf16) (iblk m c 6 t) fun r h d => A.p (bOf t) (row (nOf t) r) h d :=
  IsH.of_div (f := fun r h d => A.p (bOf t) (row (nOf t) r) h d) (blk6 t H)

theorem isP' : IsH (k0_pay94 (iblk m c 6 t) : FVec Ideal S256x512 .bf16) fun r h d => A.p (bOf t) (row (nOf t) r) h d :=
  pay94_is (isP m H t)

theorem ldw (k : ℕ) (h : Fin 4) (hk : h.val = k) (inb) : Is3 (n := 1) (k := 128) (l := 128) (φ := .bf16)
    (View.ld (Val := Elt Ideal) (iblk m c 14 t) (Rect.unit (s := S4x128x128) ![k, 0, 0] ![1, 128, 128] inb)) fun _ d e => A.pw h d e :=
  fun z d e => (ldb_at _ k h hk inb z d e).trans (blk14 t H h d e)

theorem dz_is : IsH (k0_pay95 (k0_pay14 (iblk m c 0 t) (iblk m c 16 t)) (iblk m c 15 t) : FVec Ideal S256x512 .bf16)
    fun r h e => A.dz (bOf t) (row (nOf t) r) (col h e) :=
  IsH.of_Is2 (f := fun r c => A.dz (bOf t) (row (nOf t) r) c) (pay95_is (dpool_is m H t) (blk15 t H))

/-- One point's step of the gradient of the scale. -/
theorem scale_step {acc : FVec Ideal S1x512 .f32} {a : Fin 1 → Fin 512 → ℝ} (ha : Is2 acc a) :
    Is2 (k0_pay114 (k0_pay14 (iblk m c 0 t) (iblk m c 16 t)) (k0_pay94 (iblk m c 6 t))
      (k0_pay98 (iblk m c 6 t) (View.ld (iblk m c 14 t) (Rect.unit ![0, 0, 0] ![1, 128, 128] inb_S4x128x128_S1x128x128_0_0_0)))
      (k0_pay104 (k0_pay94 (iblk m c 6 t)) (View.ld (iblk m c 14 t) (Rect.unit ![1, 0, 0] ![1, 128, 128] inb_S4x128x128_S1x128x128_1_0_0)))
      (k0_pay109 (k0_pay94 (iblk m c 6 t)) (View.ld (iblk m c 14 t) (Rect.unit ![2, 0, 0] ![1, 128, 128] inb_S4x128x128_S1x128x128_2_0_0)))
      (View.ld (iblk m c 14 t) (Rect.unit ![3, 0, 0] ![1, 128, 128] inb_S4x128x128_S1x128x128_3_0_0)) acc : FVec Ideal S1x512 .f32)
      fun z c => a z c + ∑ r, A.dscaleRow (bN t.val) (row (nN t.val) r) c := by
  have h := (pay114_is (y := fun r h e => ∑ d, A.p (bOf t) (row (nOf t) r) h d * A.pw h d e) (IsH.of_Is2 (dpool_is m H t)) (isP' m H t)
    (pay98_is (isP m H t) (ldw m H t 0 0 rfl inb_S4x128x128_S1x128x128_0_0_0)) (pay104_is (isP' m H t) (ldw m H t 1 1 rfl inb_S4x128x128_S1x128x128_1_0_0)) (pay109_is (isP' m H t) (ldw m H t 2 2 rfl inb_S4x128x128_S1x128x128_2_0_0))
    (ldw m H t 3 3 rfl inb_S4x128x128_S1x128x128_3_0_0) (fun _ _ => rfl) (IsH.of_Is2 ha)).is2
  intro z c
  refine (h z c).trans ?_
  have e : ∀ (x : Fin 512), col ⟨x.val / 128, by omega⟩ ⟨x.val % 128, by omega⟩ = x := by
    intro x; apply Fin.ext; simp only []; omega
  simp only [e, bOf_eq]
  rfl

omit H in
theorem pay7_is : Is2 (k0_pay7 : FVec Ideal S1x512 .f32) fun _ _ => 0 := by
  intro z c
  pointwise [k0_pay7]
  simp

theorem scale_is : ∀ n (h : n < cfg0.N), Is2 (φ := .f32) (outsAt0 m c n h).2.2.2.1
    fun _ c => ∑ k ∈ Finset.range (n + 1), ∑ r, A.dscaleRow (bN k) (row (nN k) r) c := by
  intro n
  induction n with
  | zero =>
    intro h
    rw [outsAt0_A m c ⟨0, h⟩ rfl rfl]
    frame_out
    have := scale_step m H ⟨0, h⟩ pay7_is
    simp only [zero_add, Finset.sum_range_succ, Finset.sum_range_zero] at this ⊢
    exact this
  | succ n ih =>
    intro h
    have hn := lt32 ⟨n + 1, h⟩
    have key := scale_step m H ⟨n + 1, h⟩ (ih (by omega))
    simp only [Finset.sum_range_succ _ (n + 1)]
    by_cases h1 : (n + 1) % 8 = 0
    · rw [outsAt0_C m c ⟨n + 1, h⟩ (by simp only []; simp only [] at hn; omega) h1]
      frame_out
      exact key
    · rw [outsAt0_B m c ⟨n + 1, h⟩ (by simp only []; simp only [] at hn; omega) h1]
      frame_out
      exact key

/-- One point's part of the gradient of the pooling weights. -/
abbrev pwAdd (A : Args) (k : ℕ) (h : Fin 4) (d e : Fin 128) : ℝ :=
  ∑ r, A.p (bN k) (row (nN k) r) h d * A.dz (bN k) (row (nN k) r) (col h e)

section
variable {a : Fin 128 → Fin 128 → ℝ} {w : FVec Ideal S1x128x128 .f32} (hw : Is3 w fun _ d e => a d e)
include hw

theorem pw_tile0 : Is3 (k0_pay99 (k0_pay14 (iblk m c 0 t) (iblk m c 16 t)) (iblk m c 6 t) (iblk m c 15 t) w : FVec Ideal S1x128x128 .f32)
    fun _ d e => a d e + pwAdd A t.val 0 d e := by
  have h := pay99_is (isP m H t) (dz_is m H t) hw
  rw [bOf_eq] at h
  exact h

theorem pw_tile1 : Is3 (k0_pay105 (k0_pay94 (iblk m c 6 t)) (k0_pay95 (k0_pay14 (iblk m c 0 t) (iblk m c 16 t)) (iblk m c 15 t)) w : FVec Ideal S1x128x128 .f32)
    fun _ d e => a d e + pwAdd A t.val 1 d e := by
  have h := pay105_is (isP' m H t) (dz_is m H t) hw
  rw [bOf_eq] at h
  exact h

theorem pw_tile2 : Is3 (k0_pay110 (k0_pay94 (iblk m c 6 t)) (k0_pay95 (k0_pay14 (iblk m c 0 t) (iblk m c 16 t)) (iblk m c 15 t)) w : FVec Ideal S1x128x128 .f32)
    fun _ d e => a d e + pwAdd A t.val 2 d e := by
  have h := pay110_is (isP' m H t) (dz_is m H t) hw
  rw [bOf_eq] at h
  exact h

theorem pw_tile3 : Is3 (k0_pay113 (k0_pay94 (iblk m c 6 t)) (k0_pay95 (k0_pay14 (iblk m c 0 t) (iblk m c 16 t)) (iblk m c 15 t)) w : FVec Ideal S1x128x128 .f32)
    fun _ d e => a d e + pwAdd A t.val 3 d e := by
  have h := pay113_is (isP' m H t) (dz_is m H t) hw
  rw [bOf_eq] at h
  exact h
end

theorem pw_is : ∀ n (h : n < cfg0.N), Is3 (n := 4) (k := 128) (l := 128) (φ := .f32) (outsAt0 m c n h).2.2.2.2.1
    fun g d e => ∑ k ∈ Finset.range (n + 1), pwAdd A k g d e := by
  intro n
  induction n with
  | zero =>
    intro h
    rw [outsAt0_A m c ⟨0, h⟩ rfl rfl]
    frame_out
    simp only [Finset.sum_range_succ, Finset.sum_range_zero]
    refine tiles4 _ (pw_tile0 m H ⟨0, h⟩ ?_) (pw_tile1 m H ⟨0, h⟩ ?_) (pw_tile2 m H ⟨0, h⟩ ?_) (pw_tile3 m H ⟨0, h⟩ ?_)
    · exact pay8_is.read _ (cov_whole _) 0 0 rfl _ trivial
    · exact (pay8_is.keep 0 0 rfl _ _).read _ (cov_cons _ (cov_whole _)) 1 1 rfl _ (by decide)
    · exact ((pay8_is.keep 0 0 rfl _ _).keep 1 1 rfl _ _).read _ (cov_cons _ (cov_cons _ (cov_whole _))) 2 2 rfl _ (by decide)
    · exact (((pay8_is.keep 0 0 rfl _ _).keep 1 1 rfl _ _).keep 2 2 rfl _ _).read _ (cov_cons _ (cov_cons _ (cov_cons _ (cov_whole _)))) 3 3 rfl _ (by decide)
  | succ n ih =>
    intro h
    have hn := lt32 ⟨n + 1, h⟩
    let acc : Fin 4 → Fin 128 → Fin 128 → ℝ := fun g d e => ∑ k ∈ Finset.range (n + 1), pwAdd A k g d e
    have key := tiles4 [] (f := fun g d e => acc g d e + pwAdd A (n + 1) g d e)
      (pw_tile0 m H ⟨n + 1, h⟩ (a := fun d e => acc 0 d e) (w := View.ld (Val := Elt Ideal) (outsAt0 m c n (by omega)).2.2.2.2.1 (Rect.unit (s := S4x128x128) ![0, 0, 0] ![1, 128, 128] inb_S4x128x128_S1x128x128_0_0_0)) fun z d e => (ld_at _ 0 0 rfl _ z d e).trans (ih (by omega) 0 d e))
      (pw_tile1 m H ⟨n + 1, h⟩ (a := fun d e => acc 1 d e) (w := View.ld (Val := Elt Ideal) (outsAt0 m c n (by omega)).2.2.2.2.1 (Rect.unit (s := S4x128x128) ![1, 0, 0] ![1, 128, 128] inb_S4x128x128_S1x128x128_1_0_0)) fun z d e => (ld_at _ 1 1 rfl _ z d e).trans (ih (by omega) 1 d e))
      (pw_tile2 m H ⟨n + 1, h⟩ (a := fun d e => acc 2 d e) (w := View.ld (Val := Elt Ideal) (outsAt0 m c n (by omega)).2.2.2.2.1 (Rect.unit (s := S4x128x128) ![2, 0, 0] ![1, 128, 128] inb_S4x128x128_S1x128x128_2_0_0)) fun z d e => (ld_at _ 2 2 rfl _ z d e).trans (ih (by omega) 2 d e))
      (pw_tile3 m H ⟨n + 1, h⟩ (a := fun d e => acc 3 d e) (w := View.ld (Val := Elt Ideal) (outsAt0 m c n (by omega)).2.2.2.2.1 (Rect.unit (s := S4x128x128) ![3, 0, 0] ![1, 128, 128] inb_S4x128x128_S1x128x128_3_0_0)) fun z d e => (ld_at _ 3 3 rfl _ z d e).trans (ih (by omega) 3 d e))
    simp only [Finset.sum_range_succ _ (n + 1)]
    by_cases h1 : (n + 1) % 8 = 0
    · rw [outsAt0_C m c ⟨n + 1, h⟩ (by simp only []; simp only [] at hn; omega) h1]
      frame_out
      exact key
    · rw [outsAt0_B m c ⟨n + 1, h⟩ (by simp only []; simp only [] at hn; omega) h1]
      frame_out
      exact key

end Cert.KMix
-- ==== Proof.KOut.lean ====
/- The kernel's result arrays, from what the points leave in their blocks. -/
module

public import proofs.«01_k».proof.Proof.KAcc2

@[expose] public section
set_option maxRecDepth 16384
noncomputable section
namespace Cert.KMix
open Idealize.ShloMosaic Cert.Mix Idealize.ShloMosaic.TcCoe Idealize.SL.Sem
open Cert.KernelIdeal Cert.KernelIdeal.Gen Cert.KernelIdeal.Value

theorem pay11_is {x : FVec Ideal S256x1024 .f32} {f : _} (h : Is2 x f) : Is2 (k0_pay11 x : FVec Ideal S256x1024 .bf16) f := by
  intro r c
  pointwise [k0_pay11]
  exact h r c

theorem pay4_is {x : FVec Ideal S256x512 .f32} {f : _} (h : Is2 x f) : Is2 (k0_pay4 x : FVec Ideal S256x512 .bf16) f := by
  intro r c
  pointwise [k0_pay4]
  exact h r c

/-! ### Column tiles of a block of the projection's cotangent -/

theorem col_hit {o n : ℕ} (inb : ∀ a, ![0, o] a + ![256, n] a ≤ S256x2048.size a) (w : (⟨2, ![256, n]⟩ : Shape).Idx → EReal)
    (L : List (View.Piece (Elt Ideal) S256x2048 .bf16)) (r : Fin 256) (c : Fin n) (p) :
    View.canon (⟨Rect.unit (s := S256x2048) ![0, o] ![256, n] inb, w⟩ :: L) (ix2 r (⟨o + c.val, p⟩ : Fin 2048)) = w (ix2 r c) := by
  have h0 := View.canon_cons_emb (Val := Elt Ideal) (Rect.unit (s := S256x2048) ![0, o] ![256, n] inb) w L (ix2 r c)
  have h1 : (Rect.unit (s := S256x2048) ![0, o] ![256, n] inb).emb (ix2 r c) = ix2 r (⟨o + c.val, p⟩ : Fin 2048) := by
    blk_ext
  rw [h1] at h0
  exact h0

theorem col_miss {o n : ℕ} (inb : ∀ a, ![0, o] a + ![256, n] a ≤ S256x2048.size a) (w : (⟨2, ![256, n]⟩ : Shape).Idx → EReal)
    (L : List (View.Piece (Elt Ideal) S256x2048 .bf16)) (r : Fin 256) (c : Fin 2048) (h : c.val < o ∨ o + n ≤ c.val) :
    View.canon (⟨Rect.unit (s := S256x2048) ![0, o] ![256, n] inb, w⟩ :: L) (ix2 r c) = View.canon L (ix2 r c) := by
  refine View.canon_cons_of_not_mem _ L ?_
  intro hm
  have h1 : o ≤ c.val ∧ c.val < o + n := (Rect.mem_set_unit (inb := inb).mp hm) 1
  omega

variable (m : (ℓ : Loc nD τ sig) → Buf (Elt Ideal) ℓ) {c : Dev nD} {A : Args}

/-- The point that works on row `r` of the flattened arrays. -/
abbrev ptOf (r : Fin 8192) : Fin cfg0.N := ⟨r.val / 2048 * 8 + (7 - r.val % 2048 / 256), by rw [show cfg0.N = 32 from N_0]; omega⟩

theorem flat_pt (r : Fin 8192) : flat (ptOf r) ⟨r.val % 256, by omega⟩ = r := by
  apply Fin.ext; simp only []; omega

theorem bOf_pt (r : Fin 8192) : bOf (ptOf r) = ⟨r.val / 2048, by omega⟩ := by
  apply Fin.ext; simp only []; omega

theorem row_pt (r : Fin 8192) : row (nOf (ptOf r)) ⟨r.val % 256, by omega⟩ = ⟨r.val % 2048, by omega⟩ := by
  apply Fin.ext; simp only []; omega

theorem idxO : ∀ t : Fin cfg0.N, win0_19.index t = ![t.val / 8 * 8 + (7 - t.val % 8), 0] ∧ win0_20.index t = ![t.val / 8 * 8 + (7 - t.val % 8), 0]
    ∧ win0_21.index t = ![0, 0] ∧ win0_22.index t = ![0, 0] ∧ win0_23.index t = ![0, 0, 0] :=
  (by decide +kernel : ∀ t : Fin grid0.N, _)

/-- Columns of the first result array, from what the points leave in their blocks. -/
theorem out19 (o n : ℕ) (ho : o + n ≤ 2048) (f : Fin 4 → Fin 2048 → Fin n → ℝ)
    (hT : ∀ t r (x : Fin n), (outsAt0 m c t.val t.isLt).1 (ix2 r (⟨o + x.val, by omega⟩ : Fin 2048)) = (f (bOf t) (row (nOf t) r) x : EReal))
    (r : Fin 8192) (x : Fin n) : ((dats m 0 c).arrAt 19 cfg0.N : FVec Ideal S8192x2048 .bf16) (ix2 r (⟨o + x.val, by omega⟩ : Fin 2048))
      = (f ⟨r.val / 2048, by omega⟩ ⟨r.val % 2048, by omega⟩ x : EReal) := by
  have h := congrFun (blocks19 m c (ptOf r) (flush0_19 _)) (ix2 (⟨r.val % 256, by omega⟩ : Fin 256) (⟨o + x.val, by omega⟩ : Fin 2048))
  rw [flushed19] at h
  have h2 := hT (ptOf r) ⟨r.val % 256, by omega⟩ x
  rw [bOf_pt, row_pt] at h2
  refine Eq.trans ?_ (h.trans h2)
  have hi := (idxO (ptOf r)).1
  have e := congrArg Fin.val (flat_pt r)
  simp only [] at e hi
  generalize (dats m 0 c).arrAt 19 cfg0.N = X
  blk_ext [hi]

theorem out20 (f : Fin 4 → Fin 2048 → Fin 1024 → ℝ)
    (hT : ∀ t r x, (outsAt0 m c t.val t.isLt).2.1 (ix2 r x) = (f (bOf t) (row (nOf t) r) x : EReal))
    (r : Fin 8192) (x : Fin 1024) : ((dats m 0 c).arrAt 20 cfg0.N : FVec Ideal S8192x1024 .bf16) (ix2 r x)
      = (f ⟨r.val / 2048, by omega⟩ ⟨r.val % 2048, by omega⟩ x : EReal) := by
  have h := congrFun (blocks20 m c (ptOf r) (flush0_20 _)) (ix2 (⟨r.val % 256, by omega⟩ : Fin 256) x)
  rw [flushed20] at h
  have h2 := hT (ptOf r) ⟨r.val % 256, by omega⟩ x
  rw [bOf_pt, row_pt] at h2
  refine Eq.trans ?_ (h.trans h2)
  have hi := (idxO (ptOf r)).2.1
  have e := congrArg Fin.val (flat_pt r)
  simp only [] at e hi
  generalize (dats m 0 c).arrAt 20 cfg0.N = X
  blk_ext [hi]

variable (H : HoldsAt m c A)
include H

theorem ct_out (r : Fin 8192) (x : Fin 1024) : ((dats m 0 c).arrAt 20 cfg0.N : FVec Ideal S8192x1024 .bf16) (ix2 r x)
    = (A.ct ⟨r.val / 2048, by omega⟩ ⟨r.val % 2048, by omega⟩ x : EReal) := by
  refine out20 m A.ct (fun t r x => ?_) r x
  have key := pay11_is (blk0 t H) r x
  by_cases h0 : t.val % 32 = 0
  · rw [outsAt0_A m c t h0 (by omega)]
    frame_out
    exact key
  · by_cases h1 : t.val % 8 = 0
    · rw [outsAt0_C m c t h0 h1]
      frame_out
      exact key
    · rw [outsAt0_B m c t h0 h1]
      frame_out
      exact key

theorem dgTile (t : Fin cfg0.N) : Is2 (k0_pay4 (k0_pay34 (k0_pay13 (iblk m c 0 t) (iblk m c 16 t)) (k0_pay15 (iblk m c 4 t)) (k0_pay16 (iblk m c 5 t))
      (k0_pay17 (iblk m c 13 t)) (k0_pay18 (iblk m c 4 t)) (k0_pay24 (k0_pay20 (iblk m c 5 t)) (k0_pay21 (iblk m c 5 t))) (k0_pay27 (k0_pay16 (iblk m c 5 t)))
      (k0_pay28 (k0_pay16 (iblk m c 5 t))) (k0_pay29 (k0_pay16 (iblk m c 5 t)))) : FVec Ideal S256x512 .bf16)
    fun r c => A.dg (bOf t) (row (nOf t) r) c := by
  have h15 : Is2 (k0_pay15 (iblk m c 4 t) : FVec Ideal S256x512 .f32) fun r c => A.g (bOf t) (row (nOf t) r) c := by
    intro r x
    pointwise [k0_pay15]
    exact blk4 t H r x
  have h17 : Is2 (k0_pay17 (iblk m c 13 t) : FVec Ideal S1x512 .f32) fun _ c => A.gain c := by
    rw [pay17_eq]
    exact blk13 t H
  exact pay4_is (pay34_is (dret_is m H t) h15 (pay18_is (blk4 t H)) h17 (nrmc_is m H t))

theorem dg_out (r : Fin 8192) (x : Fin 512) : ((dats m 0 c).arrAt 19 cfg0.N : FVec Ideal S8192x2048 .bf16) (ix2 r (⟨1024 + x.val, by omega⟩ : Fin 2048))
    = (A.dg ⟨r.val / 2048, by omega⟩ ⟨r.val % 2048, by omega⟩ x : EReal) := by
  refine out19 m 1024 512 (by omega) A.dg (fun t r x => ?_) r x
  have key := dgTile m H t r x
  have pick : ∀ (w : (⟨2, ![256, 512]⟩ : Shape).Idx → EReal) (L : List (View.Piece (Elt Ideal) S256x2048 .bf16)),
      View.canon (⟨Rect.unit (s := S256x2048) ![0, 1536] ![256, 512] inb_S256x2048_S256x512_0_1536, w⟩ :: L) (ix2 r (⟨1024 + x.val, by omega⟩ : Fin 2048))
        = View.canon L (ix2 r (⟨1024 + x.val, by omega⟩ : Fin 2048)) := fun w L => col_miss _ w L r _ (by simp only []; omega)
  by_cases h0 : t.val % 32 = 0
  · rw [outsAt0_A m c t h0 (by omega)]
    frame_out
    exact (pick _ _).trans ((col_hit _ _ _ r x _).trans key)
  · by_cases h1 : t.val % 8 = 0
    · rw [outsAt0_C m c t h0 h1]
      frame_out
      exact (pick _ _).trans ((col_hit _ _ _ r x _).trans key)
    · rw [outsAt0_B m c t h0 h1]
      frame_out
      exact (pick _ _).trans ((col_hit _ _ _ r x _).trans key)

theorem gain_out (z : Fin 1) (x : Fin 512) : ((dats m 0 c).arrAt 21 cfg0.N : FVec Ideal S1x512 .f32) (ix2 z x) = (A.dgain x : EReal) := by
  have h : (dats m 0 c).arrAt 21 cfg0.N = (fun i => ((A.dgain (i 1) : ℝ) : EReal) : FVec Ideal S1x512 .f32) := by
    refine (dats m 0 c).arrAt_eq_of_covers 21 _ (by decide +kernel) fun t hf y => ?_
    have ht := (flush0_21 t).mp hf
    have hi := (idxO t).2.2.1
    have hl := lt32 t
    have key := gain_is m H t.val t.isLt
    rw [show t.val + 1 = 32 by omega] at key
    idx_vars y
    rw [after0_21]
    refine (key _ _).trans ?_
    have e : ((View.whole main_v206_2).slice ((win0 21).rect t)).emb (ix2 y0 y1) = ix2 y0 y1 := by blk_ext [hi]
    exact (congrArg (fun r : ℝ => (r : EReal)) (sum_points fun b s => A.dgainRow b s y1)).trans
      (congrArg (fun i : S1x512.Idx => ((A.dgain (i 1) : ℝ) : EReal)) e).symm
  rw [h]
  rfl

theorem scale_out (z : Fin 1) (x : Fin 512) : ((dats m 0 c).arrAt 22 cfg0.N : FVec Ideal S1x512 .f32) (ix2 z x) = (A.dscale x : EReal) := by
  have h : (dats m 0 c).arrAt 22 cfg0.N = (fun i => ((A.dscale (i 1) : ℝ) : EReal) : FVec Ideal S1x512 .f32) := by
    refine (dats m 0 c).arrAt_eq_of_covers 22 _ (by decide +kernel) fun t hf y => ?_
    have ht := (flush0_22 t).mp hf
    have hi := (idxO t).2.2.2.1
    have hl := lt32 t
    have key := scale_is m H t.val t.isLt
    rw [show t.val + 1 = 32 by omega] at key
    idx_vars y
    rw [after0_22]
    refine (key _ _).trans ?_
    have e : ((View.whole main_v206_3).slice ((win0 22).rect t)).emb (ix2 y0 y1) = ix2 y0 y1 := by blk_ext [hi]
    exact (congrArg (fun r : ℝ => (r : EReal)) (sum_points fun b s => A.dscaleRow b s y1)).trans
      (congrArg (fun i : S1x512.Idx => ((A.dscale (i 1) : ℝ) : EReal)) e).symm
  rw [h]
  rfl

theorem pw_out (h : Fin 4) (d e : Fin 128) : ((dats m 0 c).arrAt 23 cfg0.N : FVec Ideal S4x128x128 .f32) (ix3 h d e) = (A.dpw h d e : EReal) := by
  have h : (dats m 0 c).arrAt 23 cfg0.N = (fun i => ((A.dpw (i 0) (i 1) (i 2) : ℝ) : EReal) : FVec Ideal S4x128x128 .f32) := by
    refine (dats m 0 c).arrAt_eq_of_covers 23 _ (by decide +kernel) fun t hf y => ?_
    have ht := (flush0_23 t).mp hf
    have hi := (idxO t).2.2.2.2
    have hl := lt32 t
    have key := pw_is m H t.val t.isLt
    rw [show t.val + 1 = 32 by omega] at key
    idx_vars y
    rw [after0_23]
    refine (key _ _ _).trans ?_
    have e : ((View.whole main_v206_4).slice ((win0 23).rect t)).emb (ix3 y0 y1 y2) = ix3 y0 y1 y2 := by blk_ext [hi]
    exact (congrArg (fun r : ℝ => (r : EReal)) (sum_points fun b s => A.p b s y0 y1 * A.dz b s (col y0 y2))).trans
      (congrArg (fun i : S4x128x128.Idx => ((A.dpw (i 0) (i 1) (i 2) : ℝ) : EReal)) e).symm
  rw [h]
  rfl

end Cert.KMix
-- ==== Proof.RefA.lean ====
/- The reference's gradients of the projection, the head norm, the gate and the pooling branch, as real numbers. -/
module

public import proofs.«01_k».proof.Proof.Gen.ReferenceIdeal.Run
public import proofs.«01_k».proof.Proof.Blocks

@[expose] public section

set_option maxRecDepth 16384

noncomputable section

namespace Cert.RefMix

open Idealize.ShloMosaic Idealize.SL.Sem
open Cert.ReferenceIdeal Cert.ReferenceIdeal.Gen Cert.ReferenceIdeal.Value Cert.Mix

/-- A host sum over the first two of three axes, at a result index. -/
theorem red01 {n0 n1 n2 : ℕ} (h : (⟨3, ![n0, n1, n2]⟩ : Shape).ReducesTo [0, 1] ⟨1, ![n2]⟩) (v : (⟨3, ![n0, n1, n2]⟩ : Shape).Idx → EReal)
    (init : EReal) (c : Fin n2) : Ideal.hostReduceAdd h v init (ix1 c) = init + ∑ a, ∑ b, v (ix3 a b c) := by
  refine congrArg (init + ·) ((Finset.sum_filter_eq_sum_of_fiber _ (fun k : Fin n0 × Fin n1 => ix3 k.1 k.2 c)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The reference's argument arrays hold these real values. -/
abbrev HoldsV (V : Valuation τ sig (Elt Ideal)) (A : Args) : Prop :=
  Cert.KMix.Holds (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) A

variable {V : Valuation τ sig (Elt Ideal)} {A : Args} (H : HoldsV V A)
include H

theorem v9_at (b : Fin 4) (s : Fin 2048) (c : Fin 1024) :
    (res_main_v9 V : FVec Ideal S4x2048x1024 .f32) (ix3 b s c) = (A.dmix b s c : EReal) := by
  unfold res_main_v9
  pointwise
  simp only [H.ct, H.w, ← EReal.coe_mul, coe_sum, Args.dmix]

theorem v10_at (b : Fin 4) (s : Fin 2048) (c : Fin 512) :
    (res_main_v10 V : FVec Ideal S4x2048x512 .f32) (ix3 b s c) = (A.dret b s c : EReal) := by
  unfold res_main_v10
  pointwise
  simp only [v9_at H, Args.dret]

theorem v11_at (b : Fin 4) (s : Fin 2048) (c : Fin 512) :
    (res_main_v11 V : FVec Ideal S4x2048x512 .f32) (ix3 b s c) = (A.dpool b s c : EReal) := by
  unfold res_main_v11
  pointwise
  simp only [v9_at H, Args.dpool]

theorem v6_at (b : Fin 4) (s : Fin 2048) (c : Fin 512) :
    (res_main_v6 V : FVec Ideal S4x2048x512 .f32) (ix3 b s c) = (A.g b s c : EReal) := by
  unfold res_main_v6
  pointwise
  exact H.g b s c

theorem v14_at (b : Fin 4) (s : Fin 2048) (c : Fin 512) : (res_main_v14 V : FVec Ideal S4x2048x512 .f32) (ix3 b s c)
    = ((∑ d : Fin 128, A.p b s ⟨c.val / 128, by omega⟩ d * A.pw ⟨c.val / 128, by omega⟩ d ⟨c.val % 128, by omega⟩ : ℝ) : EReal) := by
  unfold res_main_v14
  pointwise
  simp only [H.pw, H.p, ← EReal.coe_mul, coe_sum]
  congr 1
  exact Finset.sum_congr rfl fun _ _ => mul_comm _ _

theorem v25_at (h : Fin 4) (e : Fin 128) (b : Fin 4) (s : Fin 2048) : (res_main_v25 V : FVec Ideal S4x128x4x2048 .f32) (ix4 h e b s)
    = (A.dz b s (col h e) : EReal) := by
  unfold res_main_v25 res_main_v15
  pointwise
  simp only [v11_at H, H.scale, ← EReal.coe_mul, Args.dz]

theorem v27_at (b : Fin 4) (s : Fin 2048) (h : Fin 4) (d : Fin 128) : (res_main_v27 V : FVec Ideal S4x2048x4x128 .f32) (ix4 b s h d)
    = (A.dp b s h d : EReal) := by
  unfold res_main_v27
  pointwise
  simp only [v25_at H, H.pw, ← EReal.coe_mul, coe_sum, Args.dp]

theorem sig_at (b : Fin 4) (s : Fin 2048) (c : Fin 512) :
    (res_main_v30_2 V : FVec Ideal S4x2048x512 .f32) (ix3 b s c) = (sigm (A.g b s c) : EReal) := by
  unfold res_main_v30_2
  pointwise
  simp only [v6_at H, exp_real, ← EReal.coe_neg, ← EReal.coe_one, ← EReal.coe_add]
  rw [div_real _ _ (by positivity)]
  rfl

theorem sil_at (b : Fin 4) (s : Fin 2048) (c : Fin 512) :
    (res_main_v30_0 V : FVec Ideal S4x2048x512 .f32) (ix3 b s c) = ((A.g b s c * sigm (A.g b s c) : ℝ) : EReal) := by
  unfold res_main_v30_0
  pointwise
  simp only [v6_at H, sig_at H, ← EReal.coe_mul]

theorem v34_at (b : Fin 4) (s : Fin 2048) (h : Fin 4) (z : Fin 1) :
    (res_main_v34 V : FVec Ideal S4x2048x4x1 .f32) (ix4 b s h z) = (A.mean b s h : EReal) := by
  unfold res_main_v34
  pointwise
  simp only [H.o, coe_sum, lit_128, div_128, Args.mean]

theorem v36_at (b : Fin 4) (s : Fin 2048) (h : Fin 4) (e : Fin 128) :
    (res_main_v36 V : FVec Ideal S4x2048x4x128 .f32) (ix4 b s h e) = ((A.o b s h e - A.mean b s h : ℝ) : EReal) := by
  unfold res_main_v36
  pointwise
  simp only [H.o, v34_at H, ← EReal.coe_sub]

theorem v45_at (b : Fin 4) (s : Fin 2048) (h : Fin 4) (e : Fin 128) :
    (res_main_v45 V : FVec Ideal S4x2048x4x128 .f32) (ix4 b s h e) = ((A.o b s h e - A.mean b s h : ℝ) : EReal) := by
  unfold res_main_v45
  pointwise
  simp only [H.o, v34_at H, ← EReal.coe_sub]

theorem v47_at (b : Fin 4) (s : Fin 2048) (h : Fin 4) (z : Fin 1) :
    (res_main_v47 V : FVec Ideal S4x2048x4x1 .f32) (ix4 b s h z) = ((A.var b s h + eps : ℝ) : EReal) := by
  unfold res_main_v47
  pointwise
  simp only [v36_at H, ← EReal.coe_mul, coe_sum, lit_128, div_128, lit_eps, ← EReal.coe_add, Args.var]

theorem v48_at (b : Fin 4) (s : Fin 2048) (h : Fin 4) (z : Fin 1) :
    (res_main_v48 V : FVec Ideal S4x2048x4x1 .f32) (ix4 b s h z) = ((A.rstd b s h : ℝ) : EReal) := by
  unfold res_main_v48
  pointwise
  rw [v47_at H, rsqrt_real _ (A.var_pos b s h)]
  rfl

theorem v54_at (b : Fin 4) (s : Fin 2048) (c : Fin 512) :
    (res_main_v54 V : FVec Ideal S4x2048x512 .f32) (ix3 b s c) = ((A.nrmc b s c : ℝ) : EReal) := by
  unfold res_main_v54
  pointwise
  simp only [v45_at H, v48_at H, ← EReal.coe_mul, Args.nrmc, Args.nrm]

theorem v57_at (b : Fin 4) (s : Fin 2048) (c : Fin 512) :
    (res_main_v57 V : FVec Ideal S4x2048x512 .f32) (ix3 b s c) = ((A.nrmc b s c * A.gain c : ℝ) : EReal) := by
  unfold res_main_v57 res_main_v55
  pointwise
  simp only [v54_at H, H.gain, ← EReal.coe_mul]

theorem v59_at (b : Fin 4) (s : Fin 2048) (c : Fin 512) :
    (res_main_v59 V : FVec Ideal S4x2048x512 .f32) (ix3 b s c) = ((A.g b s c * sigm (A.g b s c) * A.dret b s c : ℝ) : EReal) := by
  unfold res_main_v59
  pointwise
  simp only [sil_at H, v10_at H, ← EReal.coe_mul]

theorem v60_at (b : Fin 4) (s : Fin 2048) (c : Fin 512) :
    (res_main_v60 V : FVec Ideal S4x2048x512 .f32) (ix3 b s c) = ((A.dret b s c * (A.nrmc b s c * A.gain c) : ℝ) : EReal) := by
  unfold res_main_v60
  pointwise
  simp only [v57_at H, v10_at H, ← EReal.coe_mul]

theorem dgain_at (z : Fin 1) (c : Fin 512) : (shapeCast S1x512 (Host.reduceAdd (F := Ideal) (shapeCast S1x1x512 (Host.reduceAdd (mulf (res_main_v54 V) (res_main_v59 V)) (constant S_ .f32 0x00000000#32)
      reducesTo_S4x2048x512_S512_d0_1 h_S_) shapeCasts_S512_S1x1x512) (constant S_ .f32 0x00000000#32) reducesTo_S1x1x512_S512_d0_1 h_S_) shapeCasts_S512_S1x512 : FVec Ideal S1x512 .f32) (ix2 z c)
    = ((A.dgain c : ℝ) : EReal) := by
  pointwise
  simp only [red01]
  pointwise
  simp only [red01]
  pointwise
  simp only [Fin.sum_univ_one]
  pointwise
  simp only [v54_at H, v59_at H, ← EReal.coe_mul, coe_sum, Args.dgain, Args.dgainRow]
  congr 1
  exact Finset.sum_congr rfl fun _ _ => Finset.sum_congr rfl fun _ _ => by ring

theorem dscale_at (z : Fin 1) (c : Fin 512) : (shapeCast S1x512 (Host.reduceAdd (F := Ideal) (shapeCast S1x1x512 (Host.reduceAdd (mulf (res_main_v14 V) (res_main_v11 V)) (constant S_ .f32 0x00000000#32)
      reducesTo_S4x2048x512_S512_d0_1 h_S_) shapeCasts_S512_S1x1x512) (constant S_ .f32 0x00000000#32) reducesTo_S1x1x512_S512_d0_1 h_S_) shapeCasts_S512_S1x512 : FVec Ideal S1x512 .f32) (ix2 z c)
    = ((A.dscale c : ℝ) : EReal) := by
  pointwise
  simp only [red01]
  pointwise
  simp only [red01]
  pointwise
  simp only [Fin.sum_univ_one]
  pointwise
  simp only [v14_at H, v11_at H, ← EReal.coe_mul, coe_sum, Args.dscale, Args.dscaleRow]
  congr 1
  exact Finset.sum_congr rfl fun _ _ => Finset.sum_congr rfl fun _ _ => by ring

theorem dpw_at (h : Fin 4) (d e : Fin 128) : (transpose S4x128x128 [0, 2, 1] (Host.dotGeneral (F := Ideal) (φ₁ := .f32) (φ₂ := .f32) dot_S4x128x4x2048_S4x2048x4x128_S4x128x128_23_01_1_3_0_2 none (res_main_v25 V)
      (V (Proc.devRef .tc main_arg2))) transposes_S4x128x128_S4x128x128_0_2_1 : FVec Ideal S4x128x128 .f32) (ix3 h d e) = ((A.dpw h d e : ℝ) : EReal) := by
  pointwise
  simp only [v25_at H, H.p, ← EReal.coe_mul, coe_sum, Args.dpw]
  congr 1
  exact Finset.sum_congr rfl fun _ _ => Finset.sum_congr rfl fun _ _ => by ring

theorem dg_at (r : Fin 8192) (c : Fin 512) : (shapeCast S8192x512 (addf (F := Ideal) (mulf (res_main_v60 V) (res_main_v30_2 V)) (mulf (mulf (res_main_v6 V) (res_main_v60 V))
      (mulf (res_main_v30_2 V) (subf (broadcastInDim S4x2048x512 ![] bcast_S_S4x2048x512 (constant S_ .f32 0x3F800000#32)) (res_main_v30_2 V)))))
      shapeCasts_S4x2048x512_S8192x512 : FVec Ideal S8192x512 .f32) (ix2 r c) = ((A.dg ⟨r.val / 2048, by omega⟩ ⟨r.val % 2048, by omega⟩ c : ℝ) : EReal) := by
  pointwise
  simp only [v60_at H, sig_at H, v6_at H, ← EReal.coe_one, ← EReal.coe_mul, ← EReal.coe_sub, ← EReal.coe_add, Args.dg]
  congr 1
  ring

theorem ct_at (r : Fin 8192) (d : Fin 1024) : (truncf (F := Ideal) .bf16 (shapeCast S8192x1024 (V (Proc.devRef .tc main_arg7) : FVec Ideal S4x2048x1024 .f32) shapeCasts_S4x2048x1024_S8192x1024) bitsLt_bf16_f32 : FVec Ideal S8192x1024 .bf16)
    (ix2 r d) = ((A.ct ⟨r.val / 2048, by omega⟩ ⟨r.val % 2048, by omega⟩ d : ℝ) : EReal) := by
  pointwise
  simp only [H.ct]

end Cert.RefMix
end
-- ==== Proof.Consts.lean ====
/- The constants of the rotation and of the decays, as the two programs write them, over the real numbers. -/
module

public import proofs.«01_k».proof.Proof.Spec

@[expose] public section
noncomputable section
namespace Cert.Mix
open Idealize.ShloMosaic

theorem lit_neg5 : Ideal.ofBits .f32 3231711232#32 = ((-5 : ℝ) : EReal) := by
  simp [Ideal.ofBits, Ideal.ieee, -EReal.coe_mul]; norm_num
theorem lit_255 : Ideal.ofBits .f32 1132396544#32 = ((255 : ℝ) : EReal) := by
  simp [Ideal.ofBits, Ideal.ieee, -EReal.coe_mul]; norm_num
theorem lit_256 : Ideal.ofBits .f32 1132462080#32 = ((256 : ℝ) : EReal) := by
  simp [Ideal.ofBits, Ideal.ieee, -EReal.coe_mul]; norm_num
theorem lit_10000 : Ideal.ofBits .f32 1176256512#32 = ((10000 : ℝ) : EReal) := by
  simp [Ideal.ofBits, Ideal.ieee, -EReal.coe_mul]; norm_num
theorem lit_64 : Ideal.ofBits .f32 1115684864#32 = ((64 : ℝ) : EReal) := by
  simp [Ideal.ofBits, Ideal.ieee, -EReal.coe_mul]; norm_num

/-- A small index read as a number. -/
theorem idx_real {n : ℕ} (hn : n < 2 ^ 31) : (FloatOps.sitofp FTy.f32 (BitVec.ofNat 32 n) : Ideal .f32) = ((n : ℝ) : EReal) := by
  show ((((BitVec.ofNat 32 n).toInt : ℤ) : ℝ) : EReal) = _
  have : (BitVec.ofNat 32 n).toInt = (n : ℤ) := by
    rw [BitVec.toInt_eq_toNat_of_lt] <;> simp only [BitVec.toNat_ofNat] <;> omega
  rw [this]
  simp

/-- The logarithm of a head's decay. -/
theorem lgam_real (h : Fin 4) : Ideal.log (1 - Ideal.pow (Ideal.ofBits FTy.f32 1073741824#32)
    (Ideal.ofBits FTy.f32 3231711232#32 - (FloatOps.sitofp FTy.f32 (BitVec.ofNat 32 h.val) : Ideal .f32))) = (lgam h : EReal) := by
  have hp : ((1 : EReal) - ((Real.rpow 2 (-5 - (h.val : ℝ)) : ℝ) : EReal)) = ((gam h : ℝ) : EReal) := by
    rw [← EReal.coe_one, ← EReal.coe_sub]; rfl
  rw [lit_2, lit_neg5, idx_real (by omega), ← EReal.coe_sub, Ideal.pow_coe_coe, hp, Ideal.log_coe, if_neg (not_le.mpr (gam_pos h))]
  rfl

/-- The angle of pair `i` at position `s`. -/
theorem ang_real {s i : ℕ} (hs : s < 2 ^ 31) (hi : i < 2 ^ 31) : (FloatOps.sitofp FTy.f32 (BitVec.ofNat 32 s) : Ideal .f32) *
    Ideal.pow (Ideal.ofBits FTy.f32 1176256512#32) (Ideal.div (-(FloatOps.sitofp FTy.f32 (BitVec.ofNat 32 i) : Ideal .f32) * Ideal.ofBits FTy.f32 1073741824#32)
      (Ideal.ofBits FTy.f32 1115684864#32)) = ((s * freq i : ℝ) : EReal) := by
  rw [lit_10000, lit_2, lit_64, idx_real hs, idx_real hi, ← EReal.coe_neg, ← EReal.coe_mul, div_real _ _ (by norm_num), Ideal.pow_coe_coe, ← EReal.coe_mul]
  rfl

/-- Small indices compared. -/
theorem sel_le {α : Type} {a b : ℕ} (ha : a < 32) (hb : b < 32) (x y : α) :
    Scalar.select (IntOp.cmpi CmpIPredicate.sle (BitVec.ofNat 32 a) (BitVec.ofNat 32 b)) x y = if a ≤ b then x else y := by
  have h : ∀ a b : Fin 32, IntOp.cmpi CmpIPredicate.sle (BitVec.ofNat 32 a.val) (BitVec.ofNat 32 b.val) = if a.val ≤ b.val then 1#1 else 0#1 := by
    decide +kernel
  rw [h ⟨a, ha⟩ ⟨b, hb⟩]
  show Scalar.select (if a ≤ b then 1#1 else 0#1) x y = _
  split_ifs <;> rfl

theorem sel_eq {α : Type} {a b : ℕ} (ha : a < 4) (hb : b < 4) (x y : α) :
    Scalar.select (IntOp.cmpi CmpIPredicate.eq (BitVec.ofNat 32 a) (BitVec.ofNat 32 b)) x y = if a = b then x else y := by
  interval_cases a <;> interval_cases b <;> rfl

theorem abs_real (x : ℝ) : (FloatOps.absf ((x : ℝ) : EReal) : Ideal .f32) = ((|x| : ℝ) : EReal) := by
  show max ((x : ℝ) : EReal) (-((x : ℝ) : EReal)) = _
  rw [← EReal.coe_neg, ← EReal.coe_strictMono.monotone.map_max, abs]

end Cert.Mix
-- ==== Proof.RefB.lean ====
module

public import proofs.«01_k».proof.Proof.RefA
public import proofs.«01_k».proof.Proof.Consts
@[expose] public section
set_option maxRecDepth 16384
noncomputable section
namespace Cert.RefMix
open Idealize.ShloMosaic Idealize.SL.Sem
open Cert.ReferenceIdeal Cert.ReferenceIdeal.Gen Cert.ReferenceIdeal.Value Cert.Mix
variable {V : Valuation τ sig (Elt Ideal)} {A : Args}

theorem v107_at (s : Fin 2048) (i : Fin 32) : (res_main_v107 V : FVec Ideal S2048x32 .f32) (ix2 s i) = ((s.val * freq i.val : ℝ) : EReal) := by
  unfold res_main_v107 res_main_v93
  pointwise
  exact ang_real (by omega) (by omega)
theorem v138_at (s : Fin 2048) (i : Fin 32) : (res_main_v138 V : FVec Ideal S2048x32 .f32) (ix2 s i) = ((s.val * freq i.val : ℝ) : EReal) := by
  unfold res_main_v138 res_main_v93
  pointwise
  exact ang_real (by omega) (by omega)
theorem v109_at (z w : Fin 1) (s : Fin 2048) (i : Fin 32) : (res_main_v109 V : FVec Ideal S1x2048x1x32 .f32) (ix4 z s w i) = ((Real.cos (s.val * freq i.val) : ℝ) : EReal) := by
  unfold res_main_v109
  pointwise
  rw [v107_at, cos_real]
theorem v111_at (z w : Fin 1) (s : Fin 2048) (i : Fin 32) : (res_main_v111 V : FVec Ideal S1x2048x1x32 .f32) (ix4 z s w i) = ((Real.sin (s.val * freq i.val) : ℝ) : EReal) := by
  unfold res_main_v111
  pointwise
  rw [v107_at, sin_real]
theorem v140_at (z w : Fin 1) (s : Fin 2048) (i : Fin 32) : (res_main_v140 V : FVec Ideal S1x2048x1x32 .f32) (ix4 z s w i) = ((Real.cos (s.val * freq i.val) : ℝ) : EReal) := by
  unfold res_main_v140
  pointwise
  rw [v138_at, cos_real]
theorem v142_at (z w : Fin 1) (s : Fin 2048) (i : Fin 32) : (res_main_v142 V : FVec Ideal S1x2048x1x32 .f32) (ix4 z s w i) = ((Real.sin (s.val * freq i.val) : ℝ) : EReal) := by
  unfold res_main_v142
  pointwise
  rw [v138_at, sin_real]
theorem v189_at (z : Fin 1) (h : Fin 4) (i j : Fin 2048) : (res_main_v189 V : FVec Ideal S1x4x2048x2048 .f32) (ix4 z h i j) = (dec h i.val j.val : EReal) := by
  unfold res_main_v189 res_main_v166 res_main_v164
  pointwise
  rw [lgam_real h, idx_real (by omega), idx_real (by omega), ← EReal.coe_sub, abs_real, ← EReal.coe_mul, exp_real, sel_le (by omega) (by omega), dec]
  split_ifs
  · rfl
  · exact lit_0
variable (H : HoldsV V A)
include H
theorem v67_at (b : Fin 4) (s : Fin 2048) (h : Fin 4) (e : Fin 128) : (res_main_v67 V : FVec Ideal S4x2048x4x128 .f32) (ix4 b s h e) = (A.dnrm b s h e : EReal) := by
  unfold res_main_v67 res_main_v55
  pointwise
  simp only [v59_at H, H.gain, ← EReal.coe_mul]
  refine congrArg _ ?_
  unfold Args.dnrm
  show _ * _ * A.gain (col h e) = _
  rw [mul_comm (A.dret _ _ _)]

theorem v72_at (b : Fin 4) (s : Fin 2048) (h : Fin 4) (e : Fin 128) : (res_main_v72 V : FVec Ideal S4x2048x4x128 .f32) (ix4 b s h e) = ((A.dnrm b s h e * A.rstd b s h : ℝ) : EReal) := by
  unfold res_main_v72
  pointwise
  simp only [v67_at H, v48_at H, ← EReal.coe_mul]

theorem v81_at (b : Fin 4) (s : Fin 2048) (h : Fin 4) (e : Fin 128) : (res_main_v81 V : FVec Ideal S4x2048x4x128 .f32) (ix4 b s h e)
    = (((∑ e', (A.o b s h e' - A.mean b s h) * A.dnrm b s h e') * (-1/2 * (A.rstd b s h / (A.var b s h + eps))) / 128 * (2 * (A.o b s h e - A.mean b s h)) : ℝ) : EReal) := by
  have hd : ∀ b s h z, Ideal.div (res_main_v48 V (ix4 b s h z)) (res_main_v47 V (ix4 b s h z)) = ((A.rstd b s h / (A.var b s h + eps) : ℝ) : EReal) := fun b s h z => by
    rw [v48_at H, v47_at H, div_real _ _ (A.var_pos b s h).ne']
  unfold res_main_v81
  pointwise
  simp only [Fin.sum_univ_one, Fin.isValue]
  pointwise
  simp only [v36_at H, v45_at H, v67_at H, hd, ← EReal.coe_mul, coe_sum, lit_2, lit_neg_half, lit_128, div_128]
  exact congrArg _ (by ring)

omit H
theorem dO_eq (b : Fin 4) (s : Fin 2048) (h : Fin 4) (e : Fin 128) (f : Fin 128 → ℝ) (hf : ∀ e, f e = (∑ e', (A.o b s h e' - A.mean b s h) * A.dnrm b s h e') * (-1/2 * (A.rstd b s h / (A.var b s h + eps))) / 128 * (2 * (A.o b s h e - A.mean b s h))) :
    A.dnrm b s h e * A.rstd b s h + f e + ((∑ e', -(A.dnrm b s h e' * A.rstd b s h)) + ∑ e', -f e') / 128 = A.dO b s h e := by
  have hv := A.var_pos b s h
  have hr : A.rstd b s h / (A.var b s h + eps) = A.rstd b s h * (A.rstd b s h * A.rstd b s h) := by
    unfold Args.rstd
    have := Real.mul_self_sqrt hv.le
    have hs : Real.sqrt (A.var b s h + eps) ≠ 0 := (Real.sqrt_pos.mpr hv).ne'
    rw [div_eq_mul_one_div (1 / _), one_div_mul_one_div, one_div_mul_one_div, one_div_mul_one_div, this]
  have hz : ∑ e', (A.o b s h e' - A.mean b s h) = 0 := by
    rw [Finset.sum_sub_distrib, Finset.sum_const, Finset.card_univ, Fintype.card_fin, Args.mean]
    simp only [nsmul_eq_mul]; push_cast; ring
  have hfs : ∑ e', f e' = 0 := by
    simp only [hf]
    rw [← Finset.mul_sum, ← Finset.mul_sum, hz, mul_zero, mul_zero]
  have hn : ∑ e', A.dnrm b s h e' * A.nrm b s h e' = A.rstd b s h * ∑ e', (A.o b s h e' - A.mean b s h) * A.dnrm b s h e' := by
    rw [Finset.mul_sum]
    refine Finset.sum_congr rfl fun x _ => ?_
    unfold Args.nrm
    ring
  rw [Finset.sum_neg_distrib, Finset.sum_neg_distrib, hfs, ← Finset.sum_mul, hf, hr]
  unfold Args.dO
  rw [hn]
  unfold Args.nrm
  ring

include H
theorem v194_at (b : Fin 4) (s : Fin 2048) (h : Fin 4) (e : Fin 128) : (res_main_v194 V : FVec Ideal S4x4x128x2048 .f32) (ix4 b h e s) = (A.dO b s h e : EReal) := by
  unfold res_main_v194
  pointwise
  simp only [Fin.sum_univ_one, Fin.isValue]
  pointwise
  simp only [v72_at H, v81_at H, ← EReal.coe_neg, coe_sum, ← EReal.coe_add, lit_128, div_128]
  exact congrArg _ (dO_eq b s h e _ fun _ => rfl)
theorem v187_at (b : Fin 4) (s : Fin 2048) (h : Fin 4) (d : Fin 64) : (res_main_v187 V : FVec Ideal S4x2048x4x64 .f32) (ix4 b s h d) = (A.qr b s h d : EReal) := by
  unfold res_main_v187 res_main_v112 res_main_v113 res_main_v1
  pointwise
  have hx : ∀ e (he : e < 64) (p), V (Proc.tc.devRef main_arg0) (ix3 b s (⟨h.val * 64 + e, p⟩ : Fin 2048)) = (A.q b s h ⟨e, he⟩ : EReal) := fun e he p => H.q b s h ⟨e, he⟩
  unfold Args.qr rot
  have e1 : d.val + 32 = 32 + d.val := by omega
  by_cases hd : d.val < 32
  · simp (disch := omega) only [hd, if_true, dite_true, hx, v109_at, v111_at, lit_eighth, ← EReal.coe_mul, ← EReal.coe_sub, e1]
  · have e2 : 32 + (d.val - 32) = d.val := by omega
    simp (disch := omega) only [hd, if_false, dite_false, e2, hx, v109_at, v111_at, lit_eighth, ← EReal.coe_mul, ← EReal.coe_add]
theorem v155_at (b : Fin 4) (s : Fin 2048) (h : Fin 4) (d : Fin 64) : (res_main_v155 V : FVec Ideal S4x2048x4x64 .f32) (ix4 b s h d) = (A.kr b s h d : EReal) := by
  unfold res_main_v155 res_main_v143 res_main_v144 res_main_v3
  pointwise
  have hx : ∀ e (he : e < 64) (p), V (Proc.tc.devRef main_arg0) (ix3 b s (⟨256 + (h.val * 64 + e), p⟩ : Fin 2048)) = (A.k b s h ⟨e, he⟩ : EReal) := fun e he p => H.k b s h ⟨e, he⟩
  unfold Args.kr rot
  have e1 : d.val + 32 = 32 + d.val := by omega
  by_cases hd : d.val < 32
  · simp (disch := omega) only [hd, if_true, dite_true, hx, v140_at, v142_at, ← EReal.coe_mul, ← EReal.coe_sub, e1]
  · have e2 : 32 + (d.val - 32) = d.val := by omega
    simp (disch := omega) only [hd, if_false, dite_false, e2, hx, v140_at, v142_at, ← EReal.coe_mul, ← EReal.coe_add]

theorem v191_at (b h : Fin 4) (i j : Fin 2048) : (res_main_v191 V : FVec Ideal S4x4x2048x2048 .f32) (ix4 b h i j) = (A.sc b h i j : EReal) := by
  unfold res_main_v191
  pointwise
  simp only [v187_at H, v155_at H, v189_at, ← EReal.coe_mul, coe_sum]
  rfl

theorem v199_at (b h : Fin 4) (i j : Fin 2048) : (res_main_v199 V : FVec Ideal S4x4x2048x2048 .f32) (ix4 b h i j) = (A.dsc b h i j : EReal) := by
  unfold res_main_v199 res_main_v5
  pointwise
  simp only [v194_at H, H.v, v189_at, ← EReal.coe_mul, coe_sum]
  rfl

theorem v201_at (b : Fin 4) (s : Fin 2048) (h : Fin 4) (d : Fin 64) : (res_main_v201 V : FVec Ideal S4x2048x4x64 .f32) (ix4 b s h d) = (A.dkr b s h d : EReal) := by
  unfold res_main_v201
  pointwise
  simp only [v199_at H, v187_at H, ← EReal.coe_mul, coe_sum]
  rfl

theorem v205_at (b : Fin 4) (s : Fin 2048) (h : Fin 4) (d : Fin 64) : (res_main_v205 V : FVec Ideal S4x2048x4x64 .f32) (ix4 b s h d) = (A.dqr b s h d : EReal) := by
  unfold res_main_v205
  pointwise
  simp only [v199_at H, v155_at H, lit_eighth, ← EReal.coe_mul, coe_sum]
  rfl

theorem dv_at (r : Fin 8192) (x : Fin 512) : (shapeCast S8192x512 (transpose S4x2048x4x128 [0, 3, 1, 2] (Host.dotGeneral (F := Ideal) (φ₁ := .f32) (φ₂ := .f32) dot_S4x4x128x2048_S4x4x2048x2048_S4x4x128x2048_3_2_2_3_01_01 none (res_main_v194 V : FVec Ideal S4x4x128x2048 .f32) (res_main_v191 V : FVec Ideal S4x4x2048x2048 .f32))
      transposes_S4x4x128x2048_S4x2048x4x128_0_3_1_2) shapeCasts_S4x2048x4x128_S8192x512 : FVec Ideal S8192x512 .f32) (ix2 r x)
      = ((A.dv ⟨r.val / 2048, by omega⟩ ⟨r.val % 2048, by omega⟩ ⟨x.val / 128, by omega⟩ ⟨x.val % 128, by omega⟩ : ℝ) : EReal) := by
  pointwise
  simp only [v194_at H, v191_at H, ← EReal.coe_mul, coe_sum]
  refine congrArg _ ?_
  unfold Args.dv
  exact Finset.sum_congr rfl fun _ _ => mul_comm _ _

omit H in
theorem pad_lo {b : Fin 4} {s : Fin 2048} {h : Fin 4} {d : Fin 64} (hd : ¬ d.val < 32) (a : Fin 4) : (![0, 0, 0, 32] : Fin 4 → ℕ) a ≤ (ix4 b s h d a).val
    ∧ ((ix4 b s h d a).val - (![0, 0, 0, 32] : Fin 4 → ℕ) a) % ((![0, 0, 0, 0] : Fin 4 → ℕ) a + 1) = 0
    ∧ ((ix4 b s h d a).val - (![0, 0, 0, 32] : Fin 4 → ℕ) a) / ((![0, 0, 0, 0] : Fin 4 → ℕ) a + 1) < S4x2048x4x32.size a := by
  fin_cases a
  · exact ⟨Nat.zero_le _, Nat.mod_one _, by show (b.val - 0) / (0 + 1) < 4; omega⟩
  · exact ⟨Nat.zero_le _, Nat.mod_one _, by show (s.val - 0) / (0 + 1) < 2048; omega⟩
  · exact ⟨Nat.zero_le _, Nat.mod_one _, by show (h.val - 0) / (0 + 1) < 4; omega⟩
  · exact ⟨by show 32 ≤ d.val; omega, Nat.mod_one _, by show (d.val - 32) / (0 + 1) < 32; omega⟩

omit H in
theorem pad_hi {b : Fin 4} {s : Fin 2048} {h : Fin 4} {d : Fin 64} (hd : d.val < 32) (a : Fin 4) : (![0, 0, 0, 0] : Fin 4 → ℕ) a ≤ (ix4 b s h d a).val
    ∧ ((ix4 b s h d a).val - (![0, 0, 0, 0] : Fin 4 → ℕ) a) % ((![0, 0, 0, 0] : Fin 4 → ℕ) a + 1) = 0
    ∧ ((ix4 b s h d a).val - (![0, 0, 0, 0] : Fin 4 → ℕ) a) / ((![0, 0, 0, 0] : Fin 4 → ℕ) a + 1) < S4x2048x4x32.size a := by
  fin_cases a
  · exact ⟨Nat.zero_le _, Nat.mod_one _, by show (b.val - 0) / (0 + 1) < 4; omega⟩
  · exact ⟨Nat.zero_le _, Nat.mod_one _, by show (s.val - 0) / (0 + 1) < 2048; omega⟩
  · exact ⟨Nat.zero_le _, Nat.mod_one _, by show (h.val - 0) / (0 + 1) < 4; omega⟩
  · exact ⟨Nat.zero_le _, Nat.mod_one _, by show (d.val - 0) / (0 + 1) < 32; omega⟩

theorem dq_at (r : Fin 8192) (x : Fin 256) : (shapeCast S8192x256 (addf (F := Ideal) (pad S4x2048x4x64 ![0, 0, 0, 32] ![0, 0, 0, 0] ![0, 0, 0, 0] (addf (mulf (res_main_v223 V) (broadcastInDim S4x2048x4x32 ![0, 1, 2, 3] bcast_S1x2048x1x32_S4x2048x4x32_0_1_2_3 (res_main_v109 V)))
      (mulf (Host.negf (res_main_v222 V)) (broadcastInDim S4x2048x4x32 ![0, 1, 2, 3] bcast_S1x2048x1x32_S4x2048x4x32_0_1_2_3 (res_main_v111 V)))) (constant S_ .f32 0x00000000#32) pads_S4x2048x4x32_S4x2048x4x64_000_000_000_3200 h_S_)
      (pad S4x2048x4x64 ![0, 0, 0, 0] ![0, 0, 0, 32] ![0, 0, 0, 0] (addf (mulf (res_main_v223 V) (broadcastInDim S4x2048x4x32 ![0, 1, 2, 3] bcast_S1x2048x1x32_S4x2048x4x32_0_1_2_3 (res_main_v111 V)))
      (mulf (res_main_v222 V) (broadcastInDim S4x2048x4x32 ![0, 1, 2, 3] bcast_S1x2048x1x32_S4x2048x4x32_0_1_2_3 (res_main_v109 V)))) (constant S_ .f32 0x00000000#32) pads_S4x2048x4x32_S4x2048x4x64_000_000_000_0320 h_S_)) shapeCasts_S4x2048x4x64_S8192x256 : FVec Ideal S8192x256 .f32) (ix2 r x)
      = ((A.dq ⟨r.val / 2048, by omega⟩ ⟨r.val % 2048, by omega⟩ ⟨x.val / 64, by omega⟩ ⟨x.val % 64, by omega⟩ : ℝ) : EReal) := by
  unfold res_main_v223 res_main_v222
  pointwise
  unfold Args.dq unrot
  by_cases hd : x.val % 64 < 32
  · refine (congrArg₂ (· + ·) (dif_neg fun h => absurd (h (3 : Fin 4)).1 (by show ¬ 32 ≤ x.val % 64; omega)) (dif_pos (pad_hi hd))).trans ?_
    have e1 : x.val % 64 + 32 = 32 + x.val % 64 := by omega
    simp only [hd, dite_true, v109_at, v111_at, v205_at H, ← EReal.coe_mul, ← EReal.coe_add, e1, zero_add]
    exact congrArg _ (by ring)
  · refine (congrArg₂ (· + ·) (dif_pos (pad_lo hd)) (dif_neg fun h => absurd (h (3 : Fin 4)).2.2 (by show ¬ (x.val % 64 - 0) / (0 + 1) < 32; omega))).trans ?_
    have e2 : 32 + (x.val % 64 - 32) = x.val % 64 := by omega
    simp only [hd, dite_false, v109_at, v111_at, v205_at H, ← EReal.coe_neg, ← EReal.coe_mul, ← EReal.coe_add, e2, add_zero]
    exact congrArg _ (by ring)

theorem dk_at (r : Fin 8192) (x : Fin 256) : (shapeCast S8192x256 (addf (F := Ideal) (pad S4x2048x4x64 ![0, 0, 0, 32] ![0, 0, 0, 0] ![0, 0, 0, 0] (addf (mulf (res_main_v207 V) (broadcastInDim S4x2048x4x32 ![0, 1, 2, 3] bcast_S1x2048x1x32_S4x2048x4x32_0_1_2_3 (res_main_v140 V)))
      (mulf (Host.negf (res_main_v206 V)) (broadcastInDim S4x2048x4x32 ![0, 1, 2, 3] bcast_S1x2048x1x32_S4x2048x4x32_0_1_2_3 (res_main_v142 V)))) (constant S_ .f32 0x00000000#32) pads_S4x2048x4x32_S4x2048x4x64_000_000_000_3200 h_S_)
      (pad S4x2048x4x64 ![0, 0, 0, 0] ![0, 0, 0, 32] ![0, 0, 0, 0] (addf (mulf (res_main_v207 V) (broadcastInDim S4x2048x4x32 ![0, 1, 2, 3] bcast_S1x2048x1x32_S4x2048x4x32_0_1_2_3 (res_main_v142 V)))
      (mulf (res_main_v206 V) (broadcastInDim S4x2048x4x32 ![0, 1, 2, 3] bcast_S1x2048x1x32_S4x2048x4x32_0_1_2_3 (res_main_v140 V)))) (constant S_ .f32 0x00000000#32) pads_S4x2048x4x32_S4x2048x4x64_000_000_000_0320 h_S_)) shapeCasts_S4x2048x4x64_S8192x256 : FVec Ideal S8192x256 .f32) (ix2 r x)
      = ((A.dk ⟨r.val / 2048, by omega⟩ ⟨r.val % 2048, by omega⟩ ⟨x.val / 64, by omega⟩ ⟨x.val % 64, by omega⟩ : ℝ) : EReal) := by
  unfold res_main_v207 res_main_v206
  pointwise
  unfold Args.dk unrot
  by_cases hd : x.val % 64 < 32
  · refine (congrArg₂ (· + ·) (dif_neg fun h => absurd (h (3 : Fin 4)).1 (by show ¬ 32 ≤ x.val % 64; omega)) (dif_pos (pad_hi hd))).trans ?_
    have e1 : x.val % 64 + 32 = 32 + x.val % 64 := by omega
    simp only [hd, dite_true, v140_at, v142_at, v201_at H, ← EReal.coe_mul, ← EReal.coe_add, e1, zero_add]
    exact congrArg _ (by ring)
  · refine (congrArg₂ (· + ·) (dif_pos (pad_lo hd)) (dif_neg fun h => absurd (h (3 : Fin 4)).2.2 (by show ¬ (x.val % 64 - 0) / (0 + 1) < 32; omega))).trans ?_
    have e2 : 32 + (x.val % 64 - 32) = x.val % 64 := by omega
    simp only [hd, dite_false, v140_at, v142_at, v201_at H, ← EReal.coe_neg, ← EReal.coe_mul, ← EReal.coe_add, e2, add_zero]
    exact congrArg _ (by ring)
-- ==== Proof.RetMath.lean ====
/- The retention's gradients block by block: what a block of 256 tokens gets from itself, and what it gets from the
   tokens before or after it through a decayed state. -/
module

public import proofs.«01_k».proof.Proof.KGate

@[expose] public section
noncomputable section
namespace Cert.Mix
open Cert.KMix (row)

/-- the weight of token `i` in the state passed down to the tokens before position `N` -/
def up (h : Fin 4) (N i : ℕ) : ℝ := if N ≤ i then Real.exp (lgam h * ((i : ℝ) - N + 1)) else 0

/-- the weight of token `s` in the state passed on to the tokens from position `N` on -/
def dn (h : Fin 4) (N s : ℕ) : ℝ := if s < N then Real.exp (lgam h * ((N : ℝ) - 1 - s)) else 0

theorem dec_block (h : Fin 4) (n r j : ℕ) : dec h (n * 256 + r) (n * 256 + j) = dec h r j := by
  unfold dec
  have e : ((n * 256 + j) / 64 ≤ (n * 256 + r) / 64) ↔ j / 64 ≤ r / 64 := by omega
  have e2 : ((n * 256 + r : ℕ) : ℝ) - ((n * 256 + j : ℕ) : ℝ) = (r : ℝ) - j := by push_cast; ring
  simp only [e, e2]

theorem dec_up (h : Fin 4) (n r i : ℕ) (hr : r < 256) : dec h i (n * 256 + r)
    = up h ((n + 1) * 256) i * Real.exp (lgam h * (255 - r)) + if i / 256 = n then dec h (i % 256) r else 0 := by
  by_cases h1 : i / 256 = n
  · have hi : i = n * 256 + i % 256 := by omega
    rw [if_pos h1, up, if_neg (by omega), zero_mul, zero_add, ← dec_block h n (i % 256) r, ← hi]
  · rw [if_neg h1, add_zero, up]
    by_cases h2 : (n + 1) * 256 ≤ i
    · rw [if_pos h2, dec, if_pos (by omega), ← Real.exp_add]
      have : (r : ℝ) + n * 256 ≤ i := by exact_mod_cast (by omega : r + n * 256 ≤ i)
      rw [abs_of_nonneg (by push_cast; linarith)]
      congr 1; push_cast; ring
    · rw [if_neg h2, zero_mul, dec, if_neg (by omega)]

theorem dec_dn (h : Fin 4) (n r j : ℕ) (hr : r < 256) : dec h (n * 256 + r) j
    = Real.exp (lgam h * (r + 1)) * dn h (n * 256) j + if j / 256 = n then dec h r (j % 256) else 0 := by
  by_cases h1 : j / 256 = n
  · have hi : j = n * 256 + j % 256 := by omega
    rw [if_pos h1, dn, if_neg (by omega), mul_zero, zero_add, ← dec_block h n r (j % 256), ← hi]
  · rw [if_neg h1, add_zero, dn]
    by_cases h2 : j < n * 256
    · rw [if_pos h2, dec, if_pos (by omega), ← Real.exp_add]
      have : (j : ℝ) ≤ r + n * 256 := by exact_mod_cast (by omega : j ≤ r + n * 256)
      rw [abs_of_nonneg (by push_cast; linarith)]
      congr 1; push_cast; ring
    · rw [if_neg h2, mul_zero, dec, if_neg (by omega)]

theorem up_step (h : Fin 4) (n i : ℕ) : up h (n * 256) i
    = (if i / 256 = n then Real.exp (lgam h * ((i % 256 : ℕ) + 1)) else 0) + Real.exp (lgam h * 256) * up h ((n + 1) * 256) i := by
  unfold up
  by_cases h1 : i / 256 = n
  · have hi : (i : ℝ) = n * 256 + (i % 256 : ℕ) := by exact_mod_cast (by omega : i = n * 256 + i % 256)
    rw [if_pos h1, if_pos (by omega), if_neg (by omega), mul_zero, add_zero]
    congr 2; push_cast at hi ⊢; linarith
  · rw [if_neg h1, zero_add]
    by_cases h2 : (n + 1) * 256 ≤ i
    · rw [if_pos h2, if_pos (by omega), ← Real.exp_add]
      congr 1; push_cast; ring
    · rw [if_neg h2, if_neg (by omega), mul_zero]

/-- A sum over all tokens restricted to one block. -/
theorem sum_block (n : Fin 8) (F : Fin 2048 → ℝ) : (∑ i : Fin 2048, if i.val / 256 = n.val then F i else 0) = ∑ r : Fin 256, F (row n r) := by
  rw [← Finset.sum_filter]
  refine (Finset.sum_bij (fun (r : Fin 256) _ => row n r) (fun r _ => ?_) (fun a _ b _ e => ?_) (fun i hi => ?_) (fun _ _ => rfl)).symm
  · simp only [Finset.mem_filter, Finset.mem_univ, true_and]; omega
  · have := congrArg Fin.val e; apply Fin.ext; simp only [] at this; omega
  · simp only [Finset.mem_filter, Finset.mem_univ, true_and] at hi
    exact ⟨⟨i.val % 256, by omega⟩, Finset.mem_univ _, Fin.ext (by simp only []; omega)⟩

theorem row_mod (n : Fin 8) (r : Fin 256) : (n.val * 256 + r.val) % 256 = r.val := by omega

namespace Args
variable (A : Args) (b : Fin 4) (n : Fin 8) (r : Fin 256) (h : Fin 4)

/-- the state passed down to the tokens before position `N` -/
def RS (N : ℕ) (d : Fin 64) (e : Fin 128) : ℝ := ∑ i : Fin 2048, up h N i.val * A.qr b i h d * A.dO b i h e

/-- the state passed on to the tokens from position `N` on -/
def ST (N : ℕ) (d : Fin 64) (e : Fin 128) : ℝ := ∑ s : Fin 2048, A.kr b s h d * dn h N s.val * A.v b s h e

theorem dv_block (e : Fin 128) : A.dv b (row n r) h e
    = (∑ d, A.kr b (row n r) h d * Real.exp (lgam h * (255 - r.val)) * A.RS b h ((n.val + 1) * 256) d e)
      + ∑ i : Fin 256, (∑ d, A.qr b (row n i) h d * A.kr b (row n r) h d) * dec h i.val r.val * A.dO b (row n i) h e := by
  have h2 := sum_block n fun i => (∑ d, A.qr b i h d * A.kr b (row n r) h d) * dec h (i.val % 256) r.val * A.dO b i h e
  simp only [row_mod] at h2
  have h1 : (∑ d, A.kr b (row n r) h d * Real.exp (lgam h * (255 - r.val)) * A.RS b h ((n.val + 1) * 256) d e)
      = ∑ i : Fin 2048, (∑ d, A.qr b i h d * A.kr b (row n r) h d) * (up h ((n.val + 1) * 256) i.val * Real.exp (lgam h * (255 - r.val))) * A.dO b i h e := by
    simp only [RS, Finset.mul_sum, Finset.sum_mul]
    rw [Finset.sum_comm]
    exact Finset.sum_congr rfl fun i _ => Finset.sum_congr rfl fun d _ => by ring
  rw [← h2, h1, ← Finset.sum_add_distrib]
  refine Finset.sum_congr rfl fun i _ => ?_
  rw [sc, dec_up h n.val r.val i.val r.isLt]
  split_ifs <;> ring

theorem dkr_block (d : Fin 64) : A.dkr b (row n r) h d
    = (∑ e, A.v b (row n r) h e * A.RS b h ((n.val + 1) * 256) d e) * Real.exp (lgam h * (255 - r.val))
      + ∑ i : Fin 256, (∑ e, A.dO b (row n i) h e * A.v b (row n r) h e) * dec h i.val r.val * A.qr b (row n i) h d := by
  have h2 := sum_block n fun i => (∑ e, A.dO b i h e * A.v b (row n r) h e) * dec h (i.val % 256) r.val * A.qr b i h d
  simp only [row_mod] at h2
  have h1 : (∑ e, A.v b (row n r) h e * A.RS b h ((n.val + 1) * 256) d e) * Real.exp (lgam h * (255 - r.val))
      = ∑ i : Fin 2048, (∑ e, A.dO b i h e * A.v b (row n r) h e) * (up h ((n.val + 1) * 256) i.val * Real.exp (lgam h * (255 - r.val))) * A.qr b i h d := by
    simp only [RS, Finset.mul_sum, Finset.sum_mul]
    rw [Finset.sum_comm]
    exact Finset.sum_congr rfl fun i _ => Finset.sum_congr rfl fun d _ => by ring
  rw [← h2, h1, ← Finset.sum_add_distrib]
  refine Finset.sum_congr rfl fun i _ => ?_
  rw [dsc, dec_up h n.val r.val i.val r.isLt]
  split_ifs <;> ring

theorem dqr_block (d : Fin 64) : A.dqr b (row n r) h d
    = ((∑ e, A.dO b (row n r) h e * Real.exp (lgam h * (r.val + 1)) * A.ST b h (n.val * 256) d e)
      + ∑ j : Fin 256, (∑ e, A.dO b (row n r) h e * A.v b (row n j) h e) * dec h r.val j.val * A.kr b (row n j) h d) * (1 / 8) := by
  have h2 := sum_block n fun j => (∑ e, A.dO b (row n r) h e * A.v b j h e) * dec h r.val (j.val % 256) * A.kr b j h d
  simp only [row_mod] at h2
  have h1 : (∑ e, A.dO b (row n r) h e * Real.exp (lgam h * (r.val + 1)) * A.ST b h (n.val * 256) d e)
      = ∑ j : Fin 2048, (∑ e, A.dO b (row n r) h e * A.v b j h e) * (Real.exp (lgam h * (r.val + 1)) * dn h (n.val * 256) j.val) * A.kr b j h d := by
    simp only [ST, Finset.mul_sum, Finset.sum_mul]
    rw [Finset.sum_comm]
    exact Finset.sum_congr rfl fun i _ => Finset.sum_congr rfl fun d _ => by ring
  rw [dqr, ← h2, h1, ← Finset.sum_add_distrib]
  refine congrArg (· * (1 / 8 : ℝ)) (Finset.sum_congr rfl fun j _ => ?_)
  rw [dsc, dec_dn h n.val r.val j.val r.isLt]
  split_ifs <;> ring

theorem RS_step (d : Fin 64) (e : Fin 128) : A.RS b h (n.val * 256) d e
    = (∑ r : Fin 256, A.qr b (row n r) h d * (A.dO b (row n r) h e * Real.exp (lgam h * (r.val + 1))))
      + Real.exp (lgam h * 256) * A.RS b h ((n.val + 1) * 256) d e := by
  have h2 := sum_block n fun i => A.qr b i h d * (A.dO b i h e * Real.exp (lgam h * ((i.val % 256 : ℕ) + 1)))
  simp only [row_mod] at h2
  rw [← h2, RS, RS, Finset.mul_sum, ← Finset.sum_add_distrib]
  refine Finset.sum_congr rfl fun i _ => ?_
  rw [up_step h n.val i.val]
  split_ifs <;> ring

theorem RS_end (d : Fin 64) (e : Fin 128) : A.RS b h 2048 d e = 0 :=
  Finset.sum_eq_zero fun i _ => by rw [up, if_neg (by omega), zero_mul, zero_mul]

end Args
end Cert.Mix
-- ==== Proof.KRet.lean ====
/- The retention's gradients in the kernel's body, read at an index over the real numbers: one block of 256 rows, the
   heads picked by masks on the columns. -/
module

public import proofs.«01_k».proof.Proof.KAcc
public import proofs.«01_k».proof.Proof.RetMath
@[expose] public section
set_option maxRecDepth 16384
noncomputable section
namespace Cert.KMix
open Idealize.ShloMosaic Cert.Mix
open Cert.KernelIdeal Cert.KernelIdeal.Gen

/-- An array of 256 columns holds the real numbers `f` by head and channel. -/
abbrev IsQ {n : ℕ} {φ : FTy} (x : FVec Ideal ⟨2, ![n, 256]⟩ φ) (f : Fin n → Fin 4 → Fin 64 → ℝ) : Prop :=
  Is2 x fun r c => f r ⟨c.val / 64, by omega⟩ ⟨c.val % 64, by omega⟩

/-- A state: the head's 64 by 128 block on the diagonal, nothing off it. -/
abbrev stat (S : Fin 4 → Fin 64 → Fin 128 → ℝ) (i : Fin 256) (j : Fin 512) : ℝ :=
  if i.val / 64 = j.val / 128 then S ⟨i.val / 64, by omega⟩ ⟨i.val % 64, by omega⟩ ⟨j.val % 128, by omega⟩ else 0

theorem sum_q (a : ℕ) (ha : a < 4) (F : Fin 256 → ℝ) : (∑ c : Fin 256, if c.val / 64 = a then F c else 0)
    = ∑ d : Fin 64, F ⟨a * 64 + d.val, by omega⟩ := by
  rw [← Finset.sum_filter]
  refine (Finset.sum_bij (fun (d : Fin 64) _ => (⟨a * 64 + d.val, by omega⟩ : Fin 256)) (fun r _ => ?_) (fun x _ y _ e => ?_) (fun i hi => ?_) (fun _ _ => rfl)).symm
  · simp only [Finset.mem_filter, Finset.mem_univ, true_and]; omega
  · have := congrArg Fin.val e; apply Fin.ext; simp only [] at this; omega
  · simp only [Finset.mem_filter, Finset.mem_univ, true_and] at hi
    exact ⟨⟨i.val % 64, by omega⟩, Finset.mem_univ _, Fin.ext (by simp only []; omega)⟩

theorem sum_v (a : ℕ) (ha : a < 4) (F : Fin 512 → ℝ) : (∑ c : Fin 512, if a = c.val / 128 then F c else 0)
    = ∑ e : Fin 128, F ⟨a * 128 + e.val, by omega⟩ := by
  rw [← Finset.sum_filter]
  refine (Finset.sum_bij (fun (d : Fin 128) _ => (⟨a * 128 + d.val, by omega⟩ : Fin 512)) (fun r _ => ?_) (fun x _ y _ e => ?_) (fun i hi => ?_) (fun _ _ => rfl)).symm
  · simp only [Finset.mem_filter, Finset.mem_univ, true_and]; omega
  · have := congrArg Fin.val e; apply Fin.ext; simp only [] at this; omega
  · simp only [Finset.mem_filter, Finset.mem_univ, true_and] at hi
    exact ⟨⟨i.val % 128, by omega⟩, Finset.mem_univ _, Fin.ext (by simp only []; omega)⟩

theorem div64 (a : ℕ) (d : Fin 64) : (a * 64 + d.val) / 64 = a := by omega
theorem mod64 (a : ℕ) (d : Fin 64) : (a * 64 + d.val) % 64 = d.val := by omega
theorem div128 (a : ℕ) (d : Fin 128) : (a * 128 + d.val) / 128 = a := by omega
theorem mod128 (a : ℕ) (d : Fin 128) : (a * 128 + d.val) % 128 = d.val := by omega

theorem coe_ite0 {p : Prop} [Decidable p] (a : ℝ) : (if p then (a : EReal) else 0) = ((if p then a else 0 : ℝ) : EReal) := by
  split_ifs <;> rfl

theorem mask0 (c : Fin 256) (x y : EReal) : Scalar.select (IntOp.andi (IntOp.cmpi CmpIPredicate.sge (BitVec.ofNat 32 c.val) 0#32)
    (IntOp.cmpi CmpIPredicate.slt (BitVec.ofNat 32 c.val) 64#32)) x y = if c.val / 64 = 0 then x else y := by
  have hb : (IntOp.andi (IntOp.cmpi CmpIPredicate.sge (BitVec.ofNat 32 c.val) 0#32) (IntOp.cmpi CmpIPredicate.slt (BitVec.ofNat 32 c.val) 64#32))
      = if c.val / 64 = 0 then 1#1 else 0#1 := by revert c; decide +kernel
  rw [hb]; split_ifs <;> rfl

theorem mask1 (c : Fin 256) (x y : EReal) : Scalar.select (IntOp.andi (IntOp.cmpi CmpIPredicate.sge (BitVec.ofNat 32 c.val) 64#32)
    (IntOp.cmpi CmpIPredicate.slt (BitVec.ofNat 32 c.val) 128#32)) x y = if c.val / 64 = 1 then x else y := by
  have hb : (IntOp.andi (IntOp.cmpi CmpIPredicate.sge (BitVec.ofNat 32 c.val) 64#32) (IntOp.cmpi CmpIPredicate.slt (BitVec.ofNat 32 c.val) 128#32))
      = if c.val / 64 = 1 then 1#1 else 0#1 := by revert c; decide +kernel
  rw [hb]; split_ifs <;> rfl

theorem mask2 (c : Fin 256) (x y : EReal) : Scalar.select (IntOp.andi (IntOp.cmpi CmpIPredicate.sge (BitVec.ofNat 32 c.val) 128#32)
    (IntOp.cmpi CmpIPredicate.slt (BitVec.ofNat 32 c.val) 192#32)) x y = if c.val / 64 = 2 then x else y := by
  have hb : (IntOp.andi (IntOp.cmpi CmpIPredicate.sge (BitVec.ofNat 32 c.val) 128#32) (IntOp.cmpi CmpIPredicate.slt (BitVec.ofNat 32 c.val) 192#32))
      = if c.val / 64 = 2 then 1#1 else 0#1 := by revert c; decide +kernel
  rw [hb]; split_ifs <;> rfl

theorem mask3 (c : Fin 256) (x y : EReal) : Scalar.select (IntOp.andi (IntOp.cmpi CmpIPredicate.sge (BitVec.ofNat 32 c.val) 192#32)
    (IntOp.cmpi CmpIPredicate.slt (BitVec.ofNat 32 c.val) 256#32)) x y = if c.val / 64 = 3 then x else y := by
  have hb : (IntOp.andi (IntOp.cmpi CmpIPredicate.sge (BitVec.ofNat 32 c.val) 192#32) (IntOp.cmpi CmpIPredicate.slt (BitVec.ofNat 32 c.val) 256#32))
      = if c.val / 64 = 3 then 1#1 else 0#1 := by revert c; decide +kernel
  rw [hb]; split_ifs <;> rfl

section
variable {D v : FVec Ideal S256x512 .bf16} {q k : FVec Ideal S256x256 .bf16} {x0 x1 x2 x3 : FVec Ideal S1x256x256 .f32}
  {R : FVec Ideal S256x512 .bf16} {x9 : FVec Ideal S256x512 .f32} {x10 : FVec Ideal S256x256 .f32}
  {fD fV : Fin 256 → Fin 4 → Fin 128 → ℝ} {fQ fK : Fin 256 → Fin 4 → Fin 64 → ℝ} {fM : Fin 4 → Fin 256 → Fin 256 → ℝ}
  {fE : Fin 256 → Fin 4 → ℝ} {S : Fin 4 → Fin 64 → Fin 128 → ℝ}

theorem dpm0 (hD : IsH D fD) (hv : IsH v fV) (hx : ∀ i j, x0 (ix3 (0 : Fin 1) i j) = (fM 0 i j : EReal)) :
    Is2 (k0_pay59 D v x0 : FVec Ideal S256x256 .bf16) fun i j => (∑ e, fD i 0 e * fV j 0 e) * fM 0 i j := by
  intro i j
  pointwise [k0_pay59, k0_pay58, k0_pay57]
  simp (disch := simp) only [hD.a0, hv.a0, hx, ← EReal.coe_mul, coe_sum]

theorem dpm1 (hD : IsH D fD) (hv : IsH v fV) (hx : ∀ i j, x1 (ix3 (0 : Fin 1) i j) = (fM 1 i j : EReal)) :
    Is2 (k0_pay65 D v x1 : FVec Ideal S256x256 .bf16) fun i j => (∑ e, fD i 1 e * fV j 1 e) * fM 1 i j := by
  intro i j
  pointwise [k0_pay65, k0_pay64, k0_pay63]
  simp (disch := simp) only [hD.a1, hv.a1, hx, ← EReal.coe_mul, coe_sum]

theorem dpm2 (hD : IsH D fD) (hv : IsH v fV) (hx : ∀ i j, x2 (ix3 (0 : Fin 1) i j) = (fM 2 i j : EReal)) :
    Is2 (k0_pay72 D v x2 : FVec Ideal S256x256 .bf16) fun i j => (∑ e, fD i 2 e * fV j 2 e) * fM 2 i j := by
  intro i j
  pointwise [k0_pay72, k0_pay71, k0_pay69]
  simp (disch := simp) only [hD.a2, hv.a2, hx, ← EReal.coe_mul, coe_sum]

theorem dpm3 (hD : IsH D fD) (hv : IsH v fV) (hx : ∀ i j, x3 (ix3 (0 : Fin 1) i j) = (fM 3 i j : EReal)) :
    Is2 (k0_pay80 (k0_pay77 x3) (k0_pay79 D v) : FVec Ideal S256x256 .bf16) fun i j => (∑ e, fD i 3 e * fV j 3 e) * fM 3 i j := by
  intro i j
  pointwise [k0_pay80, k0_pay79, k0_pay77, k0_pay76]
  simp (disch := simp) only [hD.a3, hv.a3, hx, ← EReal.coe_mul, coe_sum]

theorem scv0 (hD : IsH D fD) (hq : IsQ q fQ) (hk : IsQ k fK) (hx : ∀ i j, x0 (ix3 (0 : Fin 1) i j) = (fM 0 i j : EReal)) :
    Is2 (k0_pay62 D q k x0 : FVec Ideal S256x128 .f32) fun j e => ∑ i, (∑ d, fQ i 0 d * fK j 0 d) * fM 0 i j * fD i 0 e := by
  intro i j
  pointwise [k0_pay58, k0_pay57, k0_pay62]
  simp (disch := simp) only [mask0, hq _ _, hk _ _, hD.a0, hx, ← EReal.coe_mul, coe_ite0, coe_sum, ite_mul, zero_mul, sum_q, div64, mod64]
  rfl

theorem scv1 (hD : IsH D fD) (hq : IsQ q fQ) (hk : IsQ k fK) (hx : ∀ i j, x1 (ix3 (0 : Fin 1) i j) = (fM 1 i j : EReal)) :
    Is2 (k0_pay68 D q k x1 : FVec Ideal S256x128 .f32) fun j e => ∑ i, (∑ d, fQ i 1 d * fK j 1 d) * fM 1 i j * fD i 1 e := by
  intro i j
  pointwise [k0_pay64, k0_pay63, k0_pay68]
  simp (disch := simp) only [mask1, hq _ _, hk _ _, hD.a1, hx, ← EReal.coe_mul, coe_ite0, coe_sum, ite_mul, zero_mul, sum_q, div64, mod64]
  rfl

theorem scv2 (hD : IsH D fD) (hq : IsQ q fQ) (hk : IsQ k fK) (hx : ∀ i j, x2 (ix3 (0 : Fin 1) i j) = (fM 2 i j : EReal)) :
    Is2 (k0_pay75 D k (k0_pay70 q) x2 : FVec Ideal S256x128 .f32) fun j e => ∑ i, (∑ d, fQ i 2 d * fK j 2 d) * fM 2 i j * fD i 2 e := by
  intro i j
  pointwise [k0_pay71, k0_pay69, k0_pay75, k0_pay70]
  simp (disch := simp) only [mask2, hq _ _, hk _ _, hD.a2, hx, ← EReal.coe_mul, coe_ite0, coe_sum, ite_mul, zero_mul, sum_q, div64, mod64]
  rfl

theorem scv3 (hq : IsQ q fQ) (hk : IsQ k fK) (hx : ∀ i j, x3 (ix3 (0 : Fin 1) i j) = (fM 3 i j : EReal)) :
    Is2 (k0_pay78 q k x3 : FVec Ideal S256x256 .bf16) fun i j => (∑ d, fQ i 3 d * fK j 3 d) * fM 3 i j := by
  intro i j
  pointwise [k0_pay78, k0_pay77, k0_pay76]
  simp (disch := simp) only [mask3, hq _ _, hk _ _, hx, ← EReal.coe_mul, coe_ite0, coe_sum, ite_mul, zero_mul, sum_q, div64, mod64]
  rfl

theorem pay56_is (hk : IsQ k fK) (hR : Is2 R (stat S)) (hE : Is2 x10 fun r c => fE r ⟨c.val / 64, by omega⟩) :
    Is2 (k0_pay56 k R x10 : FVec Ideal S256x512 .f32) fun r c =>
      ∑ d, fK r ⟨c.val / 128, by omega⟩ d * fE r ⟨c.val / 128, by omega⟩ * S ⟨c.val / 128, by omega⟩ d ⟨c.val % 128, by omega⟩ := by
  intro r c
  pointwise [k0_pay56, k0_pay55]
  simp (disch := omega) only [hk _ _, hR _ _, hE _ _, ← EReal.coe_mul, coe_sum, mul_ite, mul_zero, sum_q, div64, mod64]

theorem tile_v (hD : IsH D fD) (hq : IsQ q fQ) (hk : IsQ k fK) (h0 : ∀ i j, x0 (ix3 (0 : Fin 1) i j) = (fM 0 i j : EReal))
    (h1 : ∀ i j, x1 (ix3 (0 : Fin 1) i j) = (fM 1 i j : EReal)) (h2 : ∀ i j, x2 (ix3 (0 : Fin 1) i j) = (fM 2 i j : EReal))
    (h3 : ∀ i j, x3 (ix3 (0 : Fin 1) i j) = (fM 3 i j : EReal)) (hR : Is2 R (stat S)) (hE : Is2 x10 fun r c => fE r ⟨c.val / 64, by omega⟩) :
    IsH (k0_pay82 D (k0_pay56 k R x10) (k0_pay62 D q k x0) (k0_pay68 D q k x1) (k0_pay75 D k (k0_pay70 q) x2) (k0_pay78 q k x3) : FVec Ideal S256x512 .f32)
      fun j h e => (∑ d, fK j h d * fE j h * S h d e) + ∑ i, (∑ d, fQ i h d * fK j h d) * fM h i j * fD i h e := by
  have hp := pay56_is hk hR hE
  have p0 := scv0 hD hq hk h0
  have p1 := scv1 hD hq hk h1
  have p2 := scv2 hD hq hk h2
  have p3 := scv3 (fQ := fQ) hq hk h3
  constructor <;> intro j e he p <;> pointwise [k0_pay82]
  · have e1 : (e) / 128 = 0 := by omega
    have e2 : (e) % 128 = e := by omega
    simp (disch := omega) only [dif_pos, dif_neg, hp _ _, p0 _ _, p1 _ _, p2 _ _, p3 _ _, hD.a3, ← EReal.coe_mul, coe_sum, ← EReal.coe_add, e1, e2]
    rfl
  · have e1 : (128 + e) / 128 = 1 := by omega
    have e2 : (128 + e) % 128 = e := by omega
    have e3 : 128 + e - 128 = e := by omega
    simp (disch := omega) only [dif_pos, dif_neg, hp _ _, p0 _ _, p1 _ _, p2 _ _, p3 _ _, hD.a3, ← EReal.coe_mul, coe_sum, ← EReal.coe_add, e1, e2, e3]
    rfl
  · have e1 : (256 + e) / 128 = 2 := by omega
    have e2 : (256 + e) % 128 = e := by omega
    have e3 : 256 + e - 128 - 128 = e := by omega
    simp (disch := omega) only [dif_pos, dif_neg, hp _ _, p0 _ _, p1 _ _, p2 _ _, p3 _ _, hD.a3, ← EReal.coe_mul, coe_sum, ← EReal.coe_add, e1, e2, e3]
    rfl
  · have e1 : (384 + e) / 128 = 3 := by omega
    have e2 : (384 + e) % 128 = e := by omega
    have e3 : 384 + e - 128 - 128 - 128 = e := by omega
    simp (disch := omega) only [dif_pos, dif_neg, hp _ _, p0 _ _, p1 _ _, p2 _ _, p3 _ _, hD.a3, ← EReal.coe_mul, coe_sum, ← EReal.coe_add, e1, e2, e3]
    rfl

theorem dk0 (hD : IsH D fD) (hv : IsH v fV) (hq : IsQ q fQ) (h0 : ∀ i j, x0 (ix3 (0 : Fin 1) i j) = (fM 0 i j : EReal)) (hR : Is2 R (stat S))
    (hE : Is2 x10 fun r c => fE r ⟨c.val / 64, by omega⟩) :
    Is2 (k0_pay61 D q v R x10 x0 : FVec Ideal S256x256 .f32) fun r c =>
      (∑ e, fV r ⟨c.val / 64, by omega⟩ e * S ⟨c.val / 64, by omega⟩ ⟨c.val % 64, by omega⟩ e) * fE r ⟨c.val / 64, by omega⟩
      + if c.val / 64 = 0 then ∑ i, (∑ e, fD i 0 e * fV r 0 e) * fM 0 i r * fQ i ⟨c.val / 64, by omega⟩ ⟨c.val % 64, by omega⟩ else 0 := by
  have p := dpm0 hD hv h0
  have hv2 := hv.is2
  intro r c
  pointwise [k0_pay61, k0_pay57, k0_pay55]
  simp (disch := omega) only [mask0, hv2 _ _, hR _ _, hE _ _, p _ _, hq _ _, ← EReal.coe_mul, coe_sum, coe_ite0, ← EReal.coe_add, mul_ite, mul_zero, sum_v, div128, mod128]

theorem dk1 {p : FVec Ideal S256x256 .f32} {f : Fin 256 → Fin 256 → ℝ} (hp : Is2 p f) (hD : IsH D fD) (hv : IsH v fV) (hq : IsQ q fQ) (hx : ∀ i j, x1 (ix3 (0 : Fin 1) i j) = (fM 1 i j : EReal)) :
    Is2 (k0_pay67 D q v p x1 : FVec Ideal S256x256 .f32) fun r c =>
      f r c + if c.val / 64 = 1 then ∑ i, (∑ e, fD i 1 e * fV r 1 e) * fM 1 i r * fQ i ⟨c.val / 64, by omega⟩ ⟨c.val % 64, by omega⟩ else 0 := by
  have p1 := dpm1 hD hv hx
  intro r c
  pointwise [k0_pay67, k0_pay63]
  simp only [mask1, hp _ _, p1 _ _, hq _ _, ← EReal.coe_mul, coe_sum, coe_ite0, ← EReal.coe_add]

theorem dk2 {p : FVec Ideal S256x256 .f32} {f : Fin 256 → Fin 256 → ℝ} (hp : Is2 p f) (hD : IsH D fD) (hv : IsH v fV) (hq : IsQ q fQ) (hx : ∀ i j, x2 (ix3 (0 : Fin 1) i j) = (fM 2 i j : EReal)) :
    Is2 (k0_pay74 D q v p k0_pay69 x2 : FVec Ideal S256x256 .f32) fun r c =>
      f r c + if c.val / 64 = 2 then ∑ i, (∑ e, fD i 2 e * fV r 2 e) * fM 2 i r * fQ i ⟨c.val / 64, by omega⟩ ⟨c.val % 64, by omega⟩ else 0 := by
  have p2 := dpm2 hD hv hx
  intro r c
  pointwise [k0_pay74, k0_pay69]
  simp only [mask2, hp _ _, p2 _ _, hq _ _, ← EReal.coe_mul, coe_sum, coe_ite0, ← EReal.coe_add]

theorem dk3 {p : FVec Ideal S256x256 .f32} {f : Fin 256 → Fin 256 → ℝ} (hp : Is2 p f) (hD : IsH D fD) (hv : IsH v fV) (hq : IsQ q fQ) (hx : ∀ i j, x3 (ix3 (0 : Fin 1) i j) = (fM 3 i j : EReal)) :
    Is2 (k0_pay81 q p k0_pay76 (k0_pay77 x3) (k0_pay79 D v) : FVec Ideal S256x256 .f32) fun r c =>
      f r c + if c.val / 64 = 3 then ∑ i, (∑ e, fD i 3 e * fV r 3 e) * fM 3 i r * fQ i ⟨c.val / 64, by omega⟩ ⟨c.val % 64, by omega⟩ else 0 := by
  have p3 := dpm3 hD hv hx
  intro r c
  pointwise [k0_pay81, k0_pay76]
  simp only [mask3, hp _ _, p3 _ _, hq _ _, ← EReal.coe_mul, coe_sum, coe_ite0, ← EReal.coe_add]

theorem dq0 {p : FVec Ideal S256x256 .f32} {f : Fin 256 → Fin 256 → ℝ} (hp : Is2 p f) (hD : IsH D fD) (hv : IsH v fV) (hk : IsQ k fK) (hx : ∀ i j, x0 (ix3 (0 : Fin 1) i j) = (fM 0 i j : EReal)) :
    Is2 (k0_pay60 D k v p x0 : FVec Ideal S256x256 .f32) fun r c =>
      f r c + if c.val / 64 = 0 then ∑ i, (∑ e, fD r 0 e * fV i 0 e) * fM 0 r i * fK i ⟨c.val / 64, by omega⟩ ⟨c.val % 64, by omega⟩ else 0 := by
  have p0 := dpm0 hD hv hx
  intro r c
  pointwise [k0_pay60, k0_pay57]
  simp only [mask0, hp _ _, p0 _ _, hk _ _, ← EReal.coe_mul, coe_sum, coe_ite0, ← EReal.coe_add]

theorem dq1 {p : FVec Ideal S256x256 .f32} {f : Fin 256 → Fin 256 → ℝ} (hp : Is2 p f) (hD : IsH D fD) (hv : IsH v fV) (hk : IsQ k fK) (hx : ∀ i j, x1 (ix3 (0 : Fin 1) i j) = (fM 1 i j : EReal)) :
    Is2 (k0_pay66 D k v p x1 : FVec Ideal S256x256 .f32) fun r c =>
      f r c + if c.val / 64 = 1 then ∑ i, (∑ e, fD r 1 e * fV i 1 e) * fM 1 r i * fK i ⟨c.val / 64, by omega⟩ ⟨c.val % 64, by omega⟩ else 0 := by
  have p1 := dpm1 hD hv hx
  intro r c
  pointwise [k0_pay66, k0_pay63]
  simp only [mask1, hp _ _, p1 _ _, hk _ _, ← EReal.coe_mul, coe_sum, coe_ite0, ← EReal.coe_add]

theorem dq2 {p : FVec Ideal S256x256 .f32} {f : Fin 256 → Fin 256 → ℝ} (hp : Is2 p f) (hD : IsH D fD) (hv : IsH v fV) (hk : IsQ k fK) (hx : ∀ i j, x2 (ix3 (0 : Fin 1) i j) = (fM 2 i j : EReal)) :
    Is2 (k0_pay73 D k v p k0_pay69 x2 : FVec Ideal S256x256 .f32) fun r c =>
      f r c + if c.val / 64 = 2 then ∑ i, (∑ e, fD r 2 e * fV i 2 e) * fM 2 r i * fK i ⟨c.val / 64, by omega⟩ ⟨c.val % 64, by omega⟩ else 0 := by
  have p2 := dpm2 hD hv hx
  intro r c
  pointwise [k0_pay73, k0_pay69]
  simp only [mask2, hp _ _, p2 _ _, hk _ _, ← EReal.coe_mul, coe_sum, coe_ite0, ← EReal.coe_add]

theorem dq3 {p : FVec Ideal S256x256 .f32} {f : Fin 256 → Fin 256 → ℝ} (hp : Is2 p f) (hD : IsH D fD) (hv : IsH v fV) (hk : IsQ k fK) (hx : ∀ i j, x3 (ix3 (0 : Fin 1) i j) = (fM 3 i j : EReal)) :
    Is2 (k0_pay86 k p k0_pay76 (k0_pay77 x3) (k0_pay79 D v) : FVec Ideal S256x256 .f32) fun r c =>
      (f r c + (if c.val / 64 = 3 then ∑ i, (∑ e, fD r 3 e * fV i 3 e) * fM 3 r i * fK i ⟨c.val / 64, by omega⟩ ⟨c.val % 64, by omega⟩ else 0)) * (1 / 8) := by
  have p3 := dpm3 hD hv hx
  intro r c
  pointwise [k0_pay86, k0_pay76]
  simp only [mask3, hp _ _, p3 _ _, hk _ _, ← EReal.coe_mul, coe_sum, coe_ite0, ← EReal.coe_add, lit_eighth]

/-- Of the four heads a column is in one. -/
theorem four (c : Fin 256) (F : Fin 4 → ℝ) : (((if c.val / 64 = 0 then F 0 else 0) + if c.val / 64 = 1 then F 1 else 0)
    + if c.val / 64 = 2 then F 2 else 0) + (if c.val / 64 = 3 then F 3 else 0) = F ⟨c.val / 64, by omega⟩ := by
  have h : ∀ a : Fin 4, (((if a.val = 0 then F 0 else 0) + if a.val = 1 then F 1 else 0)
    + if a.val = 2 then F 2 else 0) + (if a.val = 3 then F 3 else 0) = F a := by
    intro a; fin_cases a <;> simp
  exact h ⟨c.val / 64, by omega⟩

theorem tile_k (hD : IsH D fD) (hv : IsH v fV) (hq : IsQ q fQ) (h0 : ∀ i j, x0 (ix3 (0 : Fin 1) i j) = (fM 0 i j : EReal))
    (h1 : ∀ i j, x1 (ix3 (0 : Fin 1) i j) = (fM 1 i j : EReal)) (h2 : ∀ i j, x2 (ix3 (0 : Fin 1) i j) = (fM 2 i j : EReal))
    (h3 : ∀ i j, x3 (ix3 (0 : Fin 1) i j) = (fM 3 i j : EReal)) (hR : Is2 R (stat S))
    (hE : Is2 x10 fun r c => fE r ⟨c.val / 64, by omega⟩) :
    IsQ (k0_pay81 q (k0_pay74 D q v (k0_pay67 D q v (k0_pay61 D q v R x10 x0) x1) k0_pay69 x2) k0_pay76 (k0_pay77 x3) (k0_pay79 D v) : FVec Ideal S256x256 .f32)
      fun r h d => (∑ e, fV r h e * S h d e) * fE r h + ∑ i, (∑ e, fD i h e * fV r h e) * fM h i r * fQ i h d := by
  intro r c
  refine (dk3 (dk2 (dk1 (dk0 hD hv hq h0 hR hE) hD hv hq h1) hD hv hq h2) hD hv hq h3 r c).trans (congrArg _ ?_)
  have := four c fun h => ∑ i, (∑ e, fD i h e * fV r h e) * fM h i r * fQ i ⟨c.val / 64, by omega⟩ ⟨c.val % 64, by omega⟩
  simp only [] at this ⊢
  rw [← this]
  ring

theorem pay51_is {a0 : FVec Ideal S256x1 .f32} {a1 a2 : FVec Ideal S256x512 .f32} {a3 a4 a5 : FVec Ideal S256x128 .f32} {x7 : FVec Ideal S1x256x512 .f32}
    (hD : IsH (k0_pay44 a0 a1 a2 a3 a4 a5 : FVec Ideal S256x512 .f32) fD) (h9 : Is2 x9 fun r c => fE r ⟨c.val / 128, by omega⟩)
    (h7 : ∀ i j, x7 (ix3 (0 : Fin 1) i j) = (stat S i j : EReal)) :
    IsQ (k0_pay51 a0 a1 a2 a3 a4 a5 x7 x9 : FVec Ideal S256x256 .f32) fun r h d => ∑ e, fD r h e * fE r h * S h d e := by
  have hD2 := hD.is2
  intro r c
  pointwise [k0_pay51, k0_pay50]
  simp (disch := omega) only [hD2 _ _, h9 _ _, h7 _ _, ← EReal.coe_mul, coe_sum, mul_ite, mul_zero, sum_v, div128, mod128]

theorem tile_q {p : FVec Ideal S256x256 .f32} {f : Fin 256 → Fin 4 → Fin 64 → ℝ} (hp : IsQ p f) (hD : IsH D fD) (hv : IsH v fV) (hk : IsQ k fK) (h0 : ∀ i j, x0 (ix3 (0 : Fin 1) i j) = (fM 0 i j : EReal))
    (h1 : ∀ i j, x1 (ix3 (0 : Fin 1) i j) = (fM 1 i j : EReal)) (h2 : ∀ i j, x2 (ix3 (0 : Fin 1) i j) = (fM 2 i j : EReal))
    (h3 : ∀ i j, x3 (ix3 (0 : Fin 1) i j) = (fM 3 i j : EReal)) :
    IsQ (k0_pay86 k (k0_pay73 D k v (k0_pay66 D k v (k0_pay60 D k v p x0) x1) k0_pay69 x2) k0_pay76 (k0_pay77 x3) (k0_pay79 D v) : FVec Ideal S256x256 .f32)
      fun r h d => (f r h d + ∑ i, (∑ e, fD r h e * fV i h e) * fM h r i * fK i h d) * (1 / 8) := by
  intro r c
  refine (dq3 (dq2 (dq1 (dq0 hp hD hv hk h0) hD hv hk h1) hD hv hk h2) hD hv hk h3 r c).trans (congrArg _ ?_)
  have := four c fun h => ∑ i, (∑ e, fD r h e * fV i h e) * fM h r i * fK i ⟨c.val / 64, by omega⟩ ⟨c.val % 64, by omega⟩
  simp only [] at this ⊢
  rw [← this]
  ring

theorem pay83_is {a0 : FVec Ideal S256x1 .f32} {a1 a2 : FVec Ideal S256x512 .f32} {a3 a4 a5 : FVec Ideal S256x128 .f32} {x12 x11 P : FVec Ideal S256x512 .f32} {g : Fin 4 → ℝ}
    (hD : IsH (k0_pay44 a0 a1 a2 a3 a4 a5 : FVec Ideal S256x512 .f32) fD) (hq : IsQ q fQ) (h9 : Is2 x9 fun r c => fE r ⟨c.val / 128, by omega⟩)
    (h12 : Is2 x12 fun i j => if i.val / 64 = j.val / 128 then 1 else 0) (h11 : Is2 x11 fun i j => if i.val / 64 = j.val / 128 then g ⟨i.val / 64, by omega⟩ else 0)
    (hP : Is2 P (stat S)) :
    Is2 (k0_pay83 P (k0_pay54 (k0_pay52 a0 a1 a2 a3 a4 a5 q x9) (k0_pay53 x12)) x11 : FVec Ideal S256x512 .f32)
      (stat fun h d e => (∑ r, fQ r h d * (fD r h e * fE r h)) + g h * S h d e) := by
  have hD2 := hD.is2
  intro i j
  pointwise [k0_pay83, k0_pay54, k0_pay53, k0_pay52, k0_pay50, k0_pay46]
  simp (disch := omega) only [hD2 _ _, h9 _ _, hq _ _, h12 _ _, h11 _ _, hP _ _, ← EReal.coe_mul, coe_sum, ← EReal.coe_add]
  refine congrArg _ ?_
  by_cases h : i.val / 64 = j.val / 128
  · simp only [if_pos h, mul_one]
    simp only [h]
  · simp only [if_neg h, mul_zero, add_zero]

end

/-- The columns of the first halves of the heads. -/
theorem half (c : Fin 256) (x y : EReal) : Scalar.select (IntOp.cmpi CmpIPredicate.slt (IntOp.andi (BitVec.ofNat 32 c.val) 63#32) 32#32) x y
    = if c.val % 64 < 32 then x else y := by
  have hb : IntOp.cmpi CmpIPredicate.slt (IntOp.andi (BitVec.ofNat 32 c.val) 63#32) 32#32 = if c.val % 64 < 32 then 1#1 else 0#1 := by
    revert c; decide +kernel
  rw [hb]; split_ifs <;> rfl

theorem rot_eq {X C Z : FVec Ideal S256x256 .f32} {f : Fin 256 → Fin 4 → Fin 64 → ℝ} {pos : Fin 256 → ℕ} (hX : IsQ X f)
    (hC : Is2 C fun r c => if c.val % 64 < 32 then Real.cos (pos r * freq (c.val % 64)) else Real.cos (pos r * freq (c.val % 64 - 32)))
    (hZ : Is2 Z fun r c => if c.val % 64 < 32 then -Real.sin (pos r * freq (c.val % 64)) else Real.sin (pos r * freq (c.val % 64 - 32)))
    (r c : Fin 256) (p q) : X (ix2 r c) * C (ix2 r c) +
      Scalar.select (IntOp.cmpi CmpIPredicate.slt (IntOp.andi (BitVec.ofNat 32 c.val) 63#32) 32#32)
        (X (ix2 r ⟨(c.val + 256 - 224) % 256, p⟩) * Z (ix2 r ⟨(c.val + 256 - 224) % 256, p⟩))
        (X (ix2 r ⟨(c.val + 256 - 32) % 256, q⟩) * Z (ix2 r ⟨(c.val + 256 - 32) % 256, q⟩))
      = (unrot (pos r) (f r ⟨c.val / 64, by omega⟩) ⟨c.val % 64, by omega⟩ : EReal) := by
  rw [half]
  by_cases h : c.val % 64 < 32
  · have e1 : (c.val + 256 - 224) % 256 / 64 = c.val / 64 := by omega
    have e2 : (c.val + 256 - 224) % 256 % 64 = c.val % 64 + 32 := by omega
    have e3 : ¬ c.val % 64 + 32 < 32 := by omega
    have e4 : c.val % 64 + 32 - 32 = c.val % 64 := by omega
    simp only [if_pos h, hX _ _, hC _ _, hZ _ _, e1, e2, if_neg e3, e4, ← EReal.coe_mul, ← EReal.coe_add, unrot, dif_pos h]
  · have e1 : (c.val + 256 - 32) % 256 / 64 = c.val / 64 := by omega
    have e2 : (c.val + 256 - 32) % 256 % 64 = c.val % 64 - 32 := by omega
    have e3 : c.val % 64 - 32 < 32 := by omega
    simp only [if_neg h, hX _ _, hC _ _, hZ _ _, e1, e2, if_pos e3, ← EReal.coe_mul, ← EReal.coe_add, unrot, dif_neg h]
    rw [mul_neg, sub_eq_add_neg]

section
variable {X C Z : FVec Ideal S256x256 .f32} {f : Fin 256 → Fin 4 → Fin 64 → ℝ} {pos : Fin 256 → ℕ}
    (hC : Is2 C fun r c => if c.val % 64 < 32 then Real.cos (pos r * freq (c.val % 64)) else Real.cos (pos r * freq (c.val % 64 - 32)))
    (hZ : Is2 Z fun r c => if c.val % 64 < 32 then -Real.sin (pos r * freq (c.val % 64)) else Real.sin (pos r * freq (c.val % 64 - 32)))
include hC hZ

theorem pay93_is (hX : IsQ X f) : IsQ (k0_pay93 X (k0_pay84 C) (k0_pay85 Z) : FVec Ideal S256x256 .f32) fun r h d => unrot (pos r) (f r h) d := by
  intro r c
  pointwise [k0_pay93, k0_pay84, k0_pay85]
  exact rot_eq hX hC hZ r c _ _

theorem pay92_is {k : FVec Ideal S256x256 .bf16} {Y M : FVec Ideal S256x256 .f32} {m : IVec S1x256 1} (hX : IsQ (k0_pay86 k X m Y M : FVec Ideal S256x256 .f32) f) :
    IsQ (k0_pay92 (k0_pay87 k X m Y M C) (k0_pay89 k X m Y M Z) (k0_pay90 k X m Y M Z) k0_pay91 : FVec Ideal S256x256 .f32) fun r h d => unrot (pos r) (f r h) d := by
  intro r c
  pointwise [k0_pay92, k0_pay87, k0_pay88, k0_pay89, k0_pay90, k0_pay91, k0_pay84, k0_pay85]
  exact rot_eq hX hC hZ r c _ _
end

end Cert.KMix
-- ==== Proof.Blocks2.lean ====
/- What the blocks of the retention's inputs hold at a point. -/
module

public import proofs.«01_k».proof.Proof.Blocks
public import proofs.«01_k».proof.Proof.Consts
public import proofs.«01_k».proof.Proof.RetMath
@[expose] public section
set_option maxRecDepth 16384
noncomputable section
namespace Cert.KMix
open Idealize.ShloMosaic Cert.Mix Idealize.ShloMosaic.TcCoe Idealize.SL.Sem
open Cert.KernelIdeal Cert.KernelIdeal.Gen
/-- One term of a state: the key's decay is taken up to the position the state ends at. -/
theorem st_term (h : Fin 4) (n : Fin 8) (x : Fin 2048) {a b : EReal} {u v : ℝ} (hb : b = (v : EReal)) (ha : a = (u : EReal)) : b * (a *
        if (FloatOps.sitofp FTy.f32 (BitVec.ofNat 32 x.val) : Ideal .f32) < Ideal.ofBits FTy.f32 1132462080#32 * (FloatOps.sitofp FTy.f32 (BitVec.ofNat 32 n.val) : Ideal .f32)
        then Ideal.exp (Ideal.log (1 - Ideal.pow (Ideal.ofBits FTy.f32 1073741824#32)
                        (Ideal.ofBits FTy.f32 3231711232#32 - (FloatOps.sitofp FTy.f32 (BitVec.ofNat 32 h.val) : Ideal .f32))) * (Ideal.ofBits FTy.f32 1132462080#32 * (FloatOps.sitofp FTy.f32 (BitVec.ofNat 32 n.val) : Ideal .f32) - 1
          - (FloatOps.sitofp FTy.f32 (BitVec.ofNat 32 x.val) : Ideal .f32)))
        else (id (constant (F := Ideal) S_ FTy.f32 0#32) ix0 : Ideal .f32))
        = ((u * dn h (n.val * 256) x.val * v : ℝ) : EReal) := by
  subst ha hb
  have e3 : (x.val : ℝ) < 256 * ((n.val : ℕ) : ℝ) ↔ x.val < n.val * 256 := by
    rw [mul_comm]; exact_mod_cast Iff.rfl
  have e4 : (256 : ℝ) * ((n.val : ℕ) : ℝ) = ((n.val * 256 : ℕ) : ℝ) := by push_cast; ring
  have l0 : (id (constant (F := Ideal) S_ FTy.f32 0#32) ix0 : EReal) = ((0 : ℝ) : EReal) := lit_0
  have i1 := idx_real (n := x.val) (by omega)
  have i2 := idx_real (n := n.val) (by omega)
  rw [lgam_real, l0, lit_256]
  simp only [i1, i2, ← EReal.coe_one, ← EReal.coe_mul, ← EReal.coe_sub, exp_real, EReal.coe_lt_coe_iff, e3]
  unfold dn
  split_ifs
  · rw [← EReal.coe_mul, ← EReal.coe_mul, mul_comm, e4]
  · rw [← EReal.coe_mul, ← EReal.coe_mul, mul_comm]

theorem ite_coe {p : Prop} [Decidable p] {a b : EReal} {x : ℝ} (h : a = (x : EReal)) (h0 : b = ((0 : ℝ) : EReal)) : (if p then a else b) = ((if p then x else 0 : ℝ) : EReal) := by
  split_ifs <;> assumption

theorem sum_eq_coe {n : ℕ} {a : Fin n → EReal} {f : Fin n → ℝ} (h : ∀ x, a x = (f x : EReal)) : ∑ x, a x = ((∑ x, f x : ℝ) : EReal) := by
  rw [← coe_sum]; exact Finset.sum_congr rfl fun x _ => h x

variable (m : (ℓ : Loc nD τ sig) → Buf (Elt Ideal) ℓ)
variable {m} {c : Dev nD} {A : Args} (t : Fin cfg0.N)

theorem val17 (s : Fin 2048) (d : Fin 256) : V m c main_v62 (ix2 s d) = ((if d.val % 64 < 32 then Real.cos (s.val * freq (d.val % 64)) else Real.cos (s.val * freq (d.val % 64 - 32)) : ℝ) : EReal) := by
  after_reads_simp
  pointwise
  after_reads_simp
  pointwise
  by_cases hd : d.val % 64 < 32 <;>
    simp (disch := omega) only [hd, if_true, dite_true, if_false, dite_false, ang_real, cos_real]

theorem val18 (s : Fin 2048) (d : Fin 256) : V m c main_v67 (ix2 s d) = ((if d.val % 64 < 32 then -Real.sin (s.val * freq (d.val % 64)) else Real.sin (s.val * freq (d.val % 64 - 32)) : ℝ) : EReal) := by
  after_reads_simp
  pointwise
  after_reads_simp
  pointwise
  by_cases hd : d.val % 64 < 32 <;>
    simp (disch := omega) only [hd, if_true, dite_true, if_false, dite_false, ang_real, sin_real, ← EReal.coe_neg]

theorem val9 (r : Fin 256) (d : Fin 512) : V m c main_v170 (ix2 r d) = (Real.exp (lgam ⟨d.val / 128, by omega⟩ * (r.val + 1)) : EReal) := by
  after_reads_simp
  pointwise
  have hl := lgam_real ⟨d.val / 128, by omega⟩
  simp only [] at hl
  rw [hl, idx_real (by omega), ← EReal.coe_one, ← EReal.coe_add, ← EReal.coe_mul, exp_real]

theorem val10 (r : Fin 256) (d : Fin 256) : V m c main_v181 (ix2 r d) = (Real.exp (lgam ⟨d.val / 64, by omega⟩ * (255 - r.val)) : EReal) := by
  after_reads_simp
  pointwise
  have hl := lgam_real ⟨d.val / 64, by omega⟩
  simp only [] at hl
  rw [hl, idx_real (by omega), lit_255, ← EReal.coe_sub, ← EReal.coe_mul, exp_real]

theorem val8 (h : Fin 4) (i j : Fin 256) : V m c main_v159 (ix3 h i j) = (dec h i.val j.val : EReal) := by
  after_reads_simp
  simp -implicitDefEqProofs only [StableHlo.TRef.toBuf, StableHlo.TRef.ofBuf, cast_cast, cast_eq]
  pointwise
  rw [lgam_real h, idx_real (by omega), idx_real (by omega), ← EReal.coe_sub, abs_real, ← EReal.coe_mul, exp_real, sel_le (by omega) (by omega), dec]
  split_ifs
  · rfl
  · exact lit_0

theorem val11 (i : Fin 256) (j : Fin 512) : V m c main_v196 (ix2 i j) = ((if i.val / 64 = j.val / 128 then Real.exp (lgam ⟨i.val / 64, by omega⟩ * 256) else 0 : ℝ) : EReal) := by
  after_reads_simp
  simp -implicitDefEqProofs only [StableHlo.TRef.toBuf, StableHlo.TRef.ofBuf, cast_cast, cast_eq]
  pointwise
  have hl := lgam_real ⟨i.val / 64, by omega⟩
  simp only [] at hl
  rw [hl, lit_256, ← EReal.coe_mul, exp_real, sel_eq (by omega) (by omega)]
  split_ifs
  · rfl
  · exact lit_0

theorem val12 (i : Fin 256) (j : Fin 512) : V m c main_v200 (ix2 i j) = ((if i.val / 64 = j.val / 128 then 1 else 0 : ℝ) : EReal) := by
  after_reads_simp
  simp -implicitDefEqProofs only [StableHlo.TRef.toBuf, StableHlo.TRef.ofBuf, cast_cast, cast_eq]
  pointwise
  rw [sel_eq (by omega) (by omega)]
  split_ifs
  · rfl
  · exact lit_0

theorem blk9 : Is2 (n := 256) (k := 512) (φ := .f32) (iblk m c 9 t) fun r d => Real.exp (lgam ⟨d.val / 128, by omega⟩ * (r.val + 1)) := by
  intro r d
  exact (at9 t r d).trans (val9 r d)

theorem blk10 : Is2 (n := 256) (k := 256) (φ := .f32) (iblk m c 10 t) fun r d => Real.exp (lgam ⟨d.val / 64, by omega⟩ * (255 - r.val)) := by
  intro r d
  exact (at10 t r d).trans (val10 r d)

theorem blk11 : Is2 (n := 256) (k := 512) (φ := .f32) (iblk m c 11 t) fun r d => if r.val / 64 = d.val / 128 then Real.exp (lgam ⟨r.val / 64, by omega⟩ * 256) else 0 := by
  intro r d
  exact (at11 t r d).trans (val11 r d)

theorem blk12 : Is2 (n := 256) (k := 512) (φ := .f32) (iblk m c 12 t) fun r d => if r.val / 64 = d.val / 128 then 1 else 0 := by
  intro r d
  exact (at12 t r d).trans (val12 r d)

theorem blk17 : Is2 (n := 256) (k := 256) (φ := .f32) (iblk m c 17 t) fun r d => if d.val % 64 < 32
    then Real.cos ((row (nOf t) r).val * freq (d.val % 64)) else Real.cos ((row (nOf t) r).val * freq (d.val % 64 - 32)) := by
  intro r d
  exact (at17 t r d).trans (val17 _ d)

theorem blk18 : Is2 (n := 256) (k := 256) (φ := .f32) (iblk m c 18 t) fun r d => if d.val % 64 < 32
    then -Real.sin ((row (nOf t) r).val * freq (d.val % 64)) else Real.sin ((row (nOf t) r).val * freq (d.val % 64 - 32)) := by
  intro r d
  exact (at18 t r d).trans (val18 _ d)

theorem blk8_0 (i j : Fin 256) : View.ld (iblk m c 8 t) (Rect.unit (s := S4x256x256) ![0, 0, 0] ![1, 256, 256] inb_S4x256x256_S1x256x256_0_0_0) (ix3 (0 : Fin 1) i j)
    = (dec 0 i.val j.val : EReal) := by
  have e : (Rect.unit (s := S4x256x256) ![0, 0, 0] ![1, 256, 256] inb_S4x256x256_S1x256x256_0_0_0).emb (ix3 (0 : Fin 1) i j) = ix3 (0 : Fin 4) i j := by
    blk_ext
  exact (congrArg (iblk m c 8 t) e).trans ((at8 (m := m) (c := c) t 0 i j).trans (val8 0 i j))

theorem blk8_1 (i j : Fin 256) : View.ld (iblk m c 8 t) (Rect.unit (s := S4x256x256) ![1, 0, 0] ![1, 256, 256] inb_S4x256x256_S1x256x256_1_0_0) (ix3 (0 : Fin 1) i j)
    = (dec 1 i.val j.val : EReal) := by
  have e : (Rect.unit (s := S4x256x256) ![1, 0, 0] ![1, 256, 256] inb_S4x256x256_S1x256x256_1_0_0).emb (ix3 (0 : Fin 1) i j) = ix3 (1 : Fin 4) i j := by
    blk_ext
  exact (congrArg (iblk m c 8 t) e).trans ((at8 (m := m) (c := c) t 1 i j).trans (val8 1 i j))

theorem blk8_2 (i j : Fin 256) : View.ld (iblk m c 8 t) (Rect.unit (s := S4x256x256) ![2, 0, 0] ![1, 256, 256] inb_S4x256x256_S1x256x256_2_0_0) (ix3 (0 : Fin 1) i j)
    = (dec 2 i.val j.val : EReal) := by
  have e : (Rect.unit (s := S4x256x256) ![2, 0, 0] ![1, 256, 256] inb_S4x256x256_S1x256x256_2_0_0).emb (ix3 (0 : Fin 1) i j) = ix3 (2 : Fin 4) i j := by
    blk_ext
  exact (congrArg (iblk m c 8 t) e).trans ((at8 (m := m) (c := c) t 2 i j).trans (val8 2 i j))

theorem blk8_3 (i j : Fin 256) : View.ld (iblk m c 8 t) (Rect.unit (s := S4x256x256) ![3, 0, 0] ![1, 256, 256] inb_S4x256x256_S1x256x256_3_0_0) (ix3 (0 : Fin 1) i j)
    = (dec 3 i.val j.val : EReal) := by
  have e : (Rect.unit (s := S4x256x256) ![3, 0, 0] ![1, 256, 256] inb_S4x256x256_S1x256x256_3_0_0).emb (ix3 (0 : Fin 1) i j) = ix3 (3 : Fin 4) i j := by
    blk_ext
  exact (congrArg (iblk m c 8 t) e).trans ((at8 (m := m) (c := c) t 3 i j).trans (val8 3 i j))

variable (H : HoldsAt m c A)
include H

theorem val1 (r : Fin 8192) (d : Fin 256) : V m c main_v72 (ix2 r d) = (A.qr ⟨r.val / 2048, by omega⟩ ⟨r.val % 2048, by omega⟩ ⟨d.val / 64, by omega⟩ ⟨d.val % 64, by omega⟩ : EReal) := by
  have hx : ∀ b s (a e : ℕ) (ha : a < 4) (he : e < 64) (p), m (c, Proc.tc.devRef main_arg0) (ix3 b s (⟨a * 64 + e, p⟩ : Fin 2048))
      = (A.q b s ⟨a, ha⟩ ⟨e, he⟩ : EReal) := fun b s a e ha he p => (H.q b s ⟨a, ha⟩ ⟨e, he⟩ ▸ by blk_ext)
  after_reads_simp
  pointwise
  after_reads_simp
  pointwise
  unfold Args.qr rot
  have e1 : d.val % 64 + 32 = 32 + d.val % 64 := by omega
  by_cases hd : d.val % 64 < 32
  · simp (disch := omega) only [hd, if_true, dite_true, hx, ang_real, cos_real, sin_real, lit_eighth, ← EReal.coe_mul, ← EReal.coe_sub, e1]
  · have e2 : 32 + (d.val % 64 - 32) = d.val % 64 := by omega
    simp (disch := omega) only [hd, if_false, dite_false, e2, hx, ang_real, cos_real, sin_real, lit_eighth, ← EReal.coe_mul, ← EReal.coe_add]

theorem val2 (r : Fin 8192) (d : Fin 256) : V m c main_v74 (ix2 r d) = (A.kr ⟨r.val / 2048, by omega⟩ ⟨r.val % 2048, by omega⟩ ⟨d.val / 64, by omega⟩ ⟨d.val % 64, by omega⟩ : EReal) := by
  have hx : ∀ b s (a e : ℕ) (ha : a < 4) (he : e < 64) (p), m (c, Proc.tc.devRef main_arg0) (ix3 b s (⟨(4 + a) * 64 + e, p⟩ : Fin 2048))
      = (A.k b s ⟨a, ha⟩ ⟨e, he⟩ : EReal) := fun b s a e ha he p => (H.k b s ⟨a, ha⟩ ⟨e, he⟩ ▸ by blk_ext)
  after_reads_simp
  pointwise
  after_reads_simp
  pointwise
  unfold Args.kr rot
  have e1 : d.val % 64 + 32 = 32 + d.val % 64 := by omega
  by_cases hd : d.val % 64 < 32
  · simp (disch := omega) only [hd, if_true, dite_true, hx, ang_real, cos_real, sin_real, ← EReal.coe_mul, ← EReal.coe_sub, e1]
  · have e2 : 32 + (d.val % 64 - 32) = d.val % 64 := by omega
    simp (disch := omega) only [hd, if_false, dite_false, e2, hx, ang_real, cos_real, sin_real, ← EReal.coe_mul, ← EReal.coe_add]

theorem val7 (z : Fin 32) (i : Fin 256) (j : Fin 512) : V m c main_v129 (ix3 z i j) = ((if i.val / 64 = j.val / 128 then A.ST ⟨z.val / 8, by omega⟩ ⟨i.val / 64, by omega⟩ (z.val % 8 * 256) ⟨i.val % 64, by omega⟩ ⟨j.val % 128, by omega⟩ else 0 : ℝ) : EReal) := by
  have hx : ∀ b s (a e : ℕ) (ha : a < 4) (he : e < 64) (p), m (c, Proc.tc.devRef main_arg0) (ix3 b s (⟨(4 + a) * 64 + e, p⟩ : Fin 2048))
      = (A.k b s ⟨a, ha⟩ ⟨e, he⟩ : EReal) := fun b s a e ha he p => (H.k b s ⟨a, ha⟩ ⟨e, he⟩ ▸ by blk_ext)
  have hv : ∀ b s (a e : ℕ) (ha : a < 4) (he : e < 128) (p), m (c, Proc.tc.devRef main_arg0) (ix3 b s (⟨512 + (a * 128 + e), p⟩ : Fin 2048))
      = (A.v b s ⟨a, ha⟩ ⟨e, he⟩ : EReal) := fun b s a e ha he p => H.v b s ⟨a, ha⟩ ⟨e, he⟩
  after_reads_simp
  simp -implicitDefEqProofs only [StableHlo.TRef.toBuf, StableHlo.TRef.ofBuf, cast_cast, cast_eq]
  pointwise
  after_reads_simp
  pointwise
  rw [sel_eq (by omega) (by omega)]
  refine ite_coe ?_ lit_0
  unfold Args.ST
  refine sum_eq_coe fun x => ?_
  refine st_term ⟨i.val / 64, by omega⟩ ⟨z.val % 8, by omega⟩ x (hv _ _ _ _ (by omega) (by omega) _) ?_
  unfold Args.kr rot
  have e1 : i.val % 64 + 32 = 32 + i.val % 64 := by omega
  by_cases hd : i.val % 64 < 32
  · simp (disch := omega) only [hd, if_true, dite_true, hx, ang_real, cos_real, sin_real, ← EReal.coe_mul, ← EReal.coe_sub, e1]
  · have e2 : 32 + (i.val % 64 - 32) = i.val % 64 := by omega
    simp (disch := omega) only [hd, if_false, dite_false, e2, hx, ang_real, cos_real, sin_real, ← EReal.coe_mul, ← EReal.coe_add]

theorem blk1 : Is2 (n := 256) (k := 256) (φ := .bf16) (iblk m c 1 t) fun r d => A.qr (bOf t) (row (nOf t) r) ⟨d.val / 64, by omega⟩ ⟨d.val % 64, by omega⟩ := by
  intro r d
  refine (at1 t r d).trans ?_
  rw [val1 H, flat_b, flat_s]

theorem blk2 : Is2 (n := 256) (k := 256) (φ := .bf16) (iblk m c 2 t) fun r d => A.kr (bOf t) (row (nOf t) r) ⟨d.val / 64, by omega⟩ ⟨d.val % 64, by omega⟩ := by
  intro r d
  refine (at2 t r d).trans ?_
  rw [val2 H, flat_b, flat_s]

theorem blk7 (i : Fin 256) (j : Fin 512) : iblk m c 7 t (ix3 (0 : Fin 1) i j) = ((if i.val / 64 = j.val / 128
    then A.ST (bOf t) ⟨i.val / 64, by omega⟩ ((nOf t).val * 256) ⟨i.val % 64, by omega⟩ ⟨j.val % 128, by omega⟩ else 0 : ℝ) : EReal) := by
  refine (at7 t 0 i j).trans ((val7 H _ i j).trans ?_)
  have hl := lt32 t
  have e1 : (t.val / 8 * 8 + (7 - t.val % 8)) / 8 = t.val / 8 := by omega
  have e2 : (t.val / 8 * 8 + (7 - t.val % 8)) % 8 = 7 - t.val % 8 := by omega
  simp only [e1, e2]

end Cert.KMix
-- ==== Proof.KRet2.lean ====
/- The query, key and value columns of the projection's cotangent, as the kernel leaves them. -/
module

public import proofs.«01_k».proof.Proof.KOut
public import proofs.«01_k».proof.Proof.KRet
public import proofs.«01_k».proof.Proof.Blocks2
public import Idealize.ShloMosaic.Lib.Pipeline.ReadBack

@[expose] public section
set_option maxRecDepth 16384
noncomputable section
namespace Cert.KMix
open Idealize.ShloMosaic Cert.Mix Idealize.ShloMosaic.TcCoe Idealize.SL.Sem
open Cert.KernelIdeal Cert.KernelIdeal.Gen Cert.KernelIdeal.Value

theorem pay1_is {x : FVec Ideal S256x256 .f32} {f : _} (h : Is2 x f) : Is2 (k0_pay1 x : FVec Ideal S256x256 .bf16) f := by
  intro r c
  pointwise [k0_pay1]
  exact h r c

theorem pay2_is {x : FVec Ideal S256x256 .f32} {f : _} (h : Is2 x f) : Is2 (k0_pay2 x : FVec Ideal S256x256 .bf16) f := by
  intro r c
  pointwise [k0_pay2]
  exact h r c

theorem pay3_is {x : FVec Ideal S256x512 .f32} {f : _} (h : Is2 x f) : Is2 (k0_pay3 x : FVec Ideal S256x512 .bf16) f := by
  intro r c
  pointwise [k0_pay3]
  exact h r c

theorem pay49_is {x : FVec Ideal S256x512 .f32} {f : _} (h : Is2 x f) : Is2 (k0_pay49 x : FVec Ideal S256x512 .bf16) f := by
  intro r c
  pointwise [k0_pay49]
  exact h r c

theorem pay9_is : Is2 (k0_pay9 : FVec Ideal S256x512 .f32) (stat fun _ _ _ => 0) := by
  intro r c
  pointwise [k0_pay9]
  simp only [stat, ite_self]
  rfl

theorem pay45_is {a0 : FVec Ideal S256x1 .f32} {a1 a2 : FVec Ideal S256x512 .f32} {a3 a4 a5 : FVec Ideal S256x128 .f32} {f : _}
    (h : IsH (k0_pay44 a0 a1 a2 a3 a4 a5 : FVec Ideal S256x512 .f32) f) : IsH (k0_pay45 a0 a1 a2 a3 a4 a5 : FVec Ideal S256x512 .bf16) f := by
  have w : ∀ r c, (k0_pay45 a0 a1 a2 a3 a4 a5 : FVec Ideal S256x512 .bf16) (ix2 r c) = (k0_pay44 a0 a1 a2 a3 a4 a5 : FVec Ideal S256x512 .f32) (ix2 r c) := fun r c => by
    pointwise [k0_pay45]
  exact ⟨fun r e he p => (w _ _).trans (h.a0 r e he p), fun r e he p => (w _ _).trans (h.a1 r e he p),
    fun r e he p => (w _ _).trans (h.a2 r e he p), fun r e he p => (w _ _).trans (h.a3 r e he p)⟩

section
variable {v15 v30 v20 : FVec Ideal S256x512 .f32} {v22 : FVec Ideal S1x512 .f32} {v47 v64 v71 : FVec Ideal S256x128 .f32} {v78 : FVec Ideal S256x1 .f32}
  {f : Fin 256 → Fin 4 → Fin 128 → ℝ}

theorem pay38_is (h : IsH (k0_pay37 v15 v22 v30 : FVec Ideal S256x512 .f32) f) : Is2 (k0_pay38 v15 v22 v30 : FVec Ideal S256x128 .f32) fun r e => f r 0 e := by
  intro r e
  pointwise [k0_pay38]
  exact h.a0 r e.val e.isLt _

theorem pay39_is (h : IsH (k0_pay33 v20 v47 v64 v71 v78 : FVec Ideal S256x512 .f32) f) : Is2 (k0_pay39 v20 v47 v64 v71 v78 : FVec Ideal S256x128 .f32) fun r e => f r 0 e := by
  intro r e
  pointwise [k0_pay39]
  exact h.a0 r e.val e.isLt _

theorem pay40_is (h : IsH (k0_pay37 v15 v22 v30 : FVec Ideal S256x512 .f32) f) : Is2 (k0_pay40 v15 v22 v30 : FVec Ideal S256x1 .f32) fun r _ => ∑ e, f r 0 e := by
  intro r z
  pointwise [k0_pay40]
  refine Eq.trans (Finset.sum_congr (M := EReal) rfl fun e _ => pay38_is h r e) ?_
  rw [coe_sum]
end

variable (m : (ℓ : Loc nD τ sig) → Buf (Elt Ideal) ℓ) {c : Dev nD} {A : Args}

/-- The argument lists of the cotangent of the normed block: standard deviation, normed block, its cotangent, and the first three heads' columns. -/
abbrev c0 (t : Fin cfg0.N) : FVec Ideal S256x1 .f32 := k0_pay32 (k0_pay16 (iblk m c 5 t))
abbrev c1 (t : Fin cfg0.N) : FVec Ideal S256x512 .f32 := k0_pay33 (k0_pay16 (iblk m c 5 t)) (k0_pay24 (k0_pay20 (iblk m c 5 t)) (k0_pay21 (iblk m c 5 t)))
  (k0_pay27 (k0_pay16 (iblk m c 5 t))) (k0_pay28 (k0_pay16 (iblk m c 5 t))) (k0_pay29 (k0_pay16 (iblk m c 5 t)))
abbrev c2 (t : Fin cfg0.N) : FVec Ideal S256x512 .f32 := k0_pay37 (k0_pay13 (iblk m c 0 t) (iblk m c 16 t)) (k0_pay17 (iblk m c 13 t)) (k0_pay19 (iblk m c 4 t))
abbrev c3 (t : Fin cfg0.N) : FVec Ideal S256x128 .f32 := k0_pay41 (k0_pay23 (k0_pay20 (iblk m c 5 t)) (k0_pay21 (iblk m c 5 t)))
  (k0_pay38 (k0_pay13 (iblk m c 0 t) (iblk m c 16 t)) (k0_pay17 (iblk m c 13 t)) (k0_pay19 (iblk m c 4 t)))
  (k0_pay39 (k0_pay16 (iblk m c 5 t)) (k0_pay24 (k0_pay20 (iblk m c 5 t)) (k0_pay21 (iblk m c 5 t))) (k0_pay27 (k0_pay16 (iblk m c 5 t)))
    (k0_pay28 (k0_pay16 (iblk m c 5 t))) (k0_pay29 (k0_pay16 (iblk m c 5 t))))
  (k0_pay40 (k0_pay13 (iblk m c 0 t) (iblk m c 16 t)) (k0_pay17 (iblk m c 13 t)) (k0_pay19 (iblk m c 4 t))) (FloatOps.ofBits FTy.f32 1124073472#32)
abbrev c4 (t : Fin cfg0.N) : FVec Ideal S256x128 .f32 := k0_pay42 (k0_pay26 (k0_pay16 (iblk m c 5 t))) (c1 (c := c) m t) (c2 (c := c) m t)
abbrev c5 (t : Fin cfg0.N) : FVec Ideal S256x128 .f32 := k0_pay43 (k0_pay30 (k0_pay29 (k0_pay16 (iblk m c 5 t)))) (c1 (c := c) m t) (c2 (c := c) m t)

variable (H : HoldsAt m c A) (t : Fin cfg0.N)
include H

theorem dnrm_is : Is2 (c2 (c := c) m t) fun r x => A.dret (bOf t) (row (nOf t) r) x * (A.g (bOf t) (row (nOf t) r) x * sigm (A.g (bOf t) (row (nOf t) r) x)) * A.gain x := by
  have h17 : Is2 (k0_pay17 (iblk m c 13 t) : FVec Ideal S1x512 .f32) fun _ c => A.gain c := by
    rw [pay17_eq]
    exact blk13 t H
  exact pay37_is (dret_is m H t) (sil_is m H t) h17

theorem dnrmH : IsH (c2 (c := c) m t) fun r h e => A.dnrm (bOf t) (row (nOf t) r) h e := by
  have h := IsH.of_Is2 (dnrm_is m H t)
  have e : (fun r h e => A.dret (bOf t) (row (nOf t) r) (col h e) * (A.g (bOf t) (row (nOf t) r) (col h e) * sigm (A.g (bOf t) (row (nOf t) r) (col h e))) * A.gain (col h e))
      = fun r h e => A.dnrm (bOf t) (row (nOf t) r) h e := by
    funext r h e
    unfold Args.dnrm
    ring
  rw [← e]
  exact h

theorem nrmH : IsH (c1 (c := c) m t) fun r h e => A.nrm (bOf t) (row (nOf t) r) h e := by
  unfold c1
  rw [pay16_eq (isO m H t)]
  exact nrm_is (isO m H t)

theorem dO_is : IsH (k0_pay44 (c0 (c := c) m t) (c1 (c := c) m t) (c2 (c := c) m t) (c3 (c := c) m t) (c4 (c := c) m t) (c5 (c := c) m t) : FVec Ideal S256x512 .f32)
    fun r h e => A.dO (bOf t) (row (nOf t) r) h e := by
  have hn := nrmH m H t
  have hd := dnrmH m H t
  have hO : IsO A (bOf t) (nOf t) (k0_pay16 (iblk m c 5 t)) := by
    rw [pay16_eq (isO m H t)]
    exact isO m H t
  exact pay44_is (v137 := c3 (c := c) m t) (v155 := c4 (c := c) m t) (v173 := c5 (c := c) m t) (rs := fun r h => A.rstd (bOf t) (row (nOf t) r) h) (rstd0 (isO m H t)) (rstd1 hO) (rstd2 hO) (rstd3 hO) hn hd (pay38_is hd) (pay39_is hn) (pay40_is hd)

theorem D_is : IsH (k0_pay45 (c0 (c := c) m t) (c1 (c := c) m t) (c2 (c := c) m t) (c3 (c := c) m t) (c4 (c := c) m t) (c5 (c := c) m t) : FVec Ideal S256x512 .bf16)
    fun r h e => A.dO (bOf t) (row (nOf t) r) h e := pay45_is (dO_is m H t)

theorem q_is : IsQ (k0_pay46 (iblk m c 1 t) : FVec Ideal S256x256 .bf16) fun r h d => A.qr (bOf t) (row (nOf t) r) h d := by
  intro r x
  pointwise [k0_pay46]
  exact blk1 t H r x

theorem k_is : IsQ (k0_pay47 (iblk m c 2 t) : FVec Ideal S256x256 .bf16) fun r h d => A.kr (bOf t) (row (nOf t) r) h d := by
  intro r x
  pointwise [k0_pay47]
  exact blk2 t H r x

theorem v_is : IsH (k0_pay48 (iblk m c 3 t) : FVec Ideal S256x512 .bf16) fun r h e => A.v (bOf t) (row (nOf t) r) h e := by
  refine IsH.of_div (f := fun r h e => A.v (bOf t) (row (nOf t) r) h e) fun r x => ?_
  pointwise [k0_pay48]
  exact blk3 t H r x

/-- One point's step of the state. -/
theorem state_step {P : FVec Ideal S256x512 .f32} (hP : Is2 P (stat fun h d e => A.RS (bOf t) h (((nOf t).val + 1) * 256) d e)) :
    Is2 (k0_pay83 P (k0_pay54 (k0_pay52 (c0 (c := c) m t) (c1 (c := c) m t) (c2 (c := c) m t) (c3 (c := c) m t) (c4 (c := c) m t) (c5 (c := c) m t) (iblk m c 1 t) (iblk m c 9 t))
      (k0_pay53 (iblk m c 12 t))) (iblk m c 11 t) : FVec Ideal S256x512 .f32)
      (stat fun h d e => A.RS (bOf t) h ((nOf t).val * 256) d e) := by
  have h := pay83_is (fE := fun r h => Real.exp (lgam h * (r.val + 1))) (g := fun h => Real.exp (lgam h * 256)) (dO_is m H t) (blk1 t H) (blk9 (m := m) (c := c) t) (blk12 (m := m) (c := c) t) (blk11 (m := m) (c := c) t) hP
  have e : (fun h d e => A.RS (bOf t) h ((nOf t).val * 256) d e) = fun h d e => (∑ r : Fin 256, A.qr (bOf t) (row (nOf t) r) h d * (A.dO (bOf t) (row (nOf t) r) h e * Real.exp (lgam h * (r.val + 1))))
      + Real.exp (lgam h * 256) * A.RS (bOf t) h (((nOf t).val + 1) * 256) d e := by
    funext h d e
    exact A.RS_step _ _ _ _ _
  rw [e]
  exact h

theorem zero_state (ht : t.val % 8 = 0) : Is2 (k0_pay9 : FVec Ideal S256x512 .f32) (stat fun h d e => A.RS (bOf t) h (((nOf t).val + 1) * 256) d e) := by
  have e : ((nOf t).val + 1) * 256 = 2048 := by simp only []; omega
  rw [e]
  simp only [Args.RS_end]
  exact pay9_is

omit t in
theorem s0_is : ∀ n (h : n < cfg0.N), Is2 (φ := .f32) (outsAt0 m c n h).2.2.2.2.2.1
    (stat fun a d e => A.RS (bOf ⟨n, h⟩) a ((nOf ⟨n, h⟩).val * 256) d e) := by
  intro n
  induction n with
  | zero =>
    intro h
    rw [outsAt0_A m c ⟨0, h⟩ rfl rfl]
    frame_out
    exact state_step m H ⟨0, h⟩ (zero_state m H ⟨0, h⟩ rfl)
  | succ n ih =>
    intro h
    have hn := lt32 ⟨n + 1, h⟩
    by_cases h1 : (n + 1) % 8 = 0
    · rw [outsAt0_C m c ⟨n + 1, h⟩ (by simp only []; simp only [] at hn; omega) h1]
      frame_out
      exact state_step m H ⟨n + 1, h⟩ (zero_state m H ⟨n + 1, h⟩ h1)
    · have hp := ih (by omega)
      have e1 : bOf ⟨n, by omega⟩ = bOf ⟨n + 1, h⟩ := Fin.ext (by simp only []; omega)
      have e2 : (nOf ⟨n, by omega⟩).val = (nOf ⟨n + 1, h⟩).val + 1 := by simp only []; omega
      rw [e1, e2] at hp
      rw [outsAt0_B m c ⟨n + 1, h⟩ (by simp only []; simp only [] at hn; omega) h1]
      frame_out
      rw [read_unread_whole]
      exact state_step m H ⟨n + 1, h⟩ hp

/-! ### The tiles of a point -/

/-- the state a point reads -/
abbrev IsR (A : Args) (t : Fin cfg0.N) (P : FVec Ideal S256x512 .f32) : Prop := Is2 P (stat fun h d e => A.RS (bOf t) h (((nOf t).val + 1) * 256) d e)

theorem vTile {P : FVec Ideal S256x512 .f32} (hP : IsR A t P) : Is2 (k0_pay3 (k0_pay82 (k0_pay45 (c0 (c := c) m t) (c1 (c := c) m t) (c2 (c := c) m t) (c3 (c := c) m t) (c4 (c := c) m t) (c5 (c := c) m t)) (k0_pay56 (k0_pay47 (iblk m c 2 t)) (k0_pay49 P) (iblk m c 10 t))
      (k0_pay62 (k0_pay45 (c0 (c := c) m t) (c1 (c := c) m t) (c2 (c := c) m t) (c3 (c := c) m t) (c4 (c := c) m t) (c5 (c := c) m t)) (k0_pay46 (iblk m c 1 t)) (k0_pay47 (iblk m c 2 t)) (View.ld (iblk m c 8 t) (Rect.unit ![0, 0, 0] ![1, 256, 256] inb_S4x256x256_S1x256x256_0_0_0))) (k0_pay68 (k0_pay45 (c0 (c := c) m t) (c1 (c := c) m t) (c2 (c := c) m t) (c3 (c := c) m t) (c4 (c := c) m t) (c5 (c := c) m t)) (k0_pay46 (iblk m c 1 t)) (k0_pay47 (iblk m c 2 t)) (View.ld (iblk m c 8 t) (Rect.unit ![1, 0, 0] ![1, 256, 256] inb_S4x256x256_S1x256x256_1_0_0)))
      (k0_pay75 (k0_pay45 (c0 (c := c) m t) (c1 (c := c) m t) (c2 (c := c) m t) (c3 (c := c) m t) (c4 (c := c) m t) (c5 (c := c) m t)) (k0_pay47 (iblk m c 2 t)) (k0_pay70 (k0_pay46 (iblk m c 1 t))) (View.ld (iblk m c 8 t) (Rect.unit ![2, 0, 0] ![1, 256, 256] inb_S4x256x256_S1x256x256_2_0_0))) (k0_pay78 (k0_pay46 (iblk m c 1 t)) (k0_pay47 (iblk m c 2 t)) (View.ld (iblk m c 8 t) (Rect.unit ![3, 0, 0] ![1, 256, 256] inb_S4x256x256_S1x256x256_3_0_0)))) : FVec Ideal S256x512 .bf16)
    fun r x => A.dv (bOf t) (row (nOf t) r) ⟨x.val / 128, by omega⟩ ⟨x.val % 128, by omega⟩ := by
  refine pay3_is ?_
  have h := (tile_v (fM := fun h i j => dec h i.val j.val) (fE := fun r h => Real.exp (lgam h * (255 - r.val))) (D_is m H t) (q_is m H t) (k_is m H t) (blk8_0 (m := m) (c := c) t) (blk8_1 (m := m) (c := c) t) (blk8_2 (m := m) (c := c) t) (blk8_3 (m := m) (c := c) t)
    (pay49_is hP) (blk10 (m := m) (c := c) t)).is2
  exact fun r x => (h r x).trans (congrArg _ (A.dv_block (bOf t) (nOf t) r _ _).symm)

theorem kTile {P : FVec Ideal S256x512 .f32} (hP : IsR A t P) : Is2 (k0_pay2 (k0_pay93 (k0_pay81 (k0_pay46 (iblk m c 1 t))
      (k0_pay74 (k0_pay45 (c0 (c := c) m t) (c1 (c := c) m t) (c2 (c := c) m t) (c3 (c := c) m t) (c4 (c := c) m t) (c5 (c := c) m t)) (k0_pay46 (iblk m c 1 t)) (k0_pay48 (iblk m c 3 t)) (k0_pay67 (k0_pay45 (c0 (c := c) m t) (c1 (c := c) m t) (c2 (c := c) m t) (c3 (c := c) m t) (c4 (c := c) m t) (c5 (c := c) m t)) (k0_pay46 (iblk m c 1 t)) (k0_pay48 (iblk m c 3 t))
        (k0_pay61 (k0_pay45 (c0 (c := c) m t) (c1 (c := c) m t) (c2 (c := c) m t) (c3 (c := c) m t) (c4 (c := c) m t) (c5 (c := c) m t)) (k0_pay46 (iblk m c 1 t)) (k0_pay48 (iblk m c 3 t)) (k0_pay49 P) (iblk m c 10 t) (View.ld (iblk m c 8 t) (Rect.unit ![0, 0, 0] ![1, 256, 256] inb_S4x256x256_S1x256x256_0_0_0))) (View.ld (iblk m c 8 t) (Rect.unit ![1, 0, 0] ![1, 256, 256] inb_S4x256x256_S1x256x256_1_0_0))) k0_pay69 (View.ld (iblk m c 8 t) (Rect.unit ![2, 0, 0] ![1, 256, 256] inb_S4x256x256_S1x256x256_2_0_0))) k0_pay76 (k0_pay77 (View.ld (iblk m c 8 t) (Rect.unit ![3, 0, 0] ![1, 256, 256] inb_S4x256x256_S1x256x256_3_0_0))) (k0_pay79 (k0_pay45 (c0 (c := c) m t) (c1 (c := c) m t) (c2 (c := c) m t) (c3 (c := c) m t) (c4 (c := c) m t) (c5 (c := c) m t)) (k0_pay48 (iblk m c 3 t))))
      (k0_pay84 (iblk m c 17 t)) (k0_pay85 (iblk m c 18 t))) : FVec Ideal S256x256 .bf16)
    fun r x => A.dk (bOf t) (row (nOf t) r) ⟨x.val / 64, by omega⟩ ⟨x.val % 64, by omega⟩ := by
  refine pay2_is ?_
  have h := tile_k (fM := fun h i j => dec h i.val j.val) (fE := fun r h => Real.exp (lgam h * (255 - r.val))) (D_is m H t) (v_is m H t) (q_is m H t) (blk8_0 (m := m) (c := c) t) (blk8_1 (m := m) (c := c) t) (blk8_2 (m := m) (c := c) t) (blk8_3 (m := m) (c := c) t)
    (pay49_is hP) (blk10 (m := m) (c := c) t)
  have h' : IsQ _ fun r h d => A.dkr (bOf t) (row (nOf t) r) h d :=
    fun r x => (h r x).trans (congrArg _ (A.dkr_block (bOf t) (nOf t) r _ _).symm)
  exact pay93_is (pos := fun r => (row (nOf t) r).val) (blk17 (m := m) (c := c) t) (blk18 (m := m) (c := c) t) h'

theorem qTile : Is2 (k0_pay1 (k0_pay92
      (k0_pay87 (k0_pay47 (iblk m c 2 t)) (k0_pay73 (k0_pay45 (c0 (c := c) m t) (c1 (c := c) m t) (c2 (c := c) m t) (c3 (c := c) m t) (c4 (c := c) m t) (c5 (c := c) m t)) (k0_pay47 (iblk m c 2 t)) (k0_pay48 (iblk m c 3 t)) (k0_pay66 (k0_pay45 (c0 (c := c) m t) (c1 (c := c) m t) (c2 (c := c) m t) (c3 (c := c) m t) (c4 (c := c) m t) (c5 (c := c) m t)) (k0_pay47 (iblk m c 2 t)) (k0_pay48 (iblk m c 3 t))
      (k0_pay60 (k0_pay45 (c0 (c := c) m t) (c1 (c := c) m t) (c2 (c := c) m t) (c3 (c := c) m t) (c4 (c := c) m t) (c5 (c := c) m t)) (k0_pay47 (iblk m c 2 t)) (k0_pay48 (iblk m c 3 t)) (k0_pay51 (c0 (c := c) m t) (c1 (c := c) m t) (c2 (c := c) m t) (c3 (c := c) m t) (c4 (c := c) m t) (c5 (c := c) m t) (iblk m c 7 t) (iblk m c 9 t)) (View.ld (iblk m c 8 t) (Rect.unit ![0, 0, 0] ![1, 256, 256] inb_S4x256x256_S1x256x256_0_0_0))) (View.ld (iblk m c 8 t) (Rect.unit ![1, 0, 0] ![1, 256, 256] inb_S4x256x256_S1x256x256_1_0_0))) k0_pay69 (View.ld (iblk m c 8 t) (Rect.unit ![2, 0, 0] ![1, 256, 256] inb_S4x256x256_S1x256x256_2_0_0))) k0_pay76 (k0_pay77 (View.ld (iblk m c 8 t) (Rect.unit ![3, 0, 0] ![1, 256, 256] inb_S4x256x256_S1x256x256_3_0_0))) (k0_pay79 (k0_pay45 (c0 (c := c) m t) (c1 (c := c) m t) (c2 (c := c) m t) (c3 (c := c) m t) (c4 (c := c) m t) (c5 (c := c) m t)) (k0_pay48 (iblk m c 3 t))) (iblk m c 17 t))
      (k0_pay89 (k0_pay47 (iblk m c 2 t)) (k0_pay73 (k0_pay45 (c0 (c := c) m t) (c1 (c := c) m t) (c2 (c := c) m t) (c3 (c := c) m t) (c4 (c := c) m t) (c5 (c := c) m t)) (k0_pay47 (iblk m c 2 t)) (k0_pay48 (iblk m c 3 t)) (k0_pay66 (k0_pay45 (c0 (c := c) m t) (c1 (c := c) m t) (c2 (c := c) m t) (c3 (c := c) m t) (c4 (c := c) m t) (c5 (c := c) m t)) (k0_pay47 (iblk m c 2 t)) (k0_pay48 (iblk m c 3 t))
      (k0_pay60 (k0_pay45 (c0 (c := c) m t) (c1 (c := c) m t) (c2 (c := c) m t) (c3 (c := c) m t) (c4 (c := c) m t) (c5 (c := c) m t)) (k0_pay47 (iblk m c 2 t)) (k0_pay48 (iblk m c 3 t)) (k0_pay51 (c0 (c := c) m t) (c1 (c := c) m t) (c2 (c := c) m t) (c3 (c := c) m t) (c4 (c := c) m t) (c5 (c := c) m t) (iblk m c 7 t) (iblk m c 9 t)) (View.ld (iblk m c 8 t) (Rect.unit ![0, 0, 0] ![1, 256, 256] inb_S4x256x256_S1x256x256_0_0_0))) (View.ld (iblk m c 8 t) (Rect.unit ![1, 0, 0] ![1, 256, 256] inb_S4x256x256_S1x256x256_1_0_0))) k0_pay69 (View.ld (iblk m c 8 t) (Rect.unit ![2, 0, 0] ![1, 256, 256] inb_S4x256x256_S1x256x256_2_0_0))) k0_pay76 (k0_pay77 (View.ld (iblk m c 8 t) (Rect.unit ![3, 0, 0] ![1, 256, 256] inb_S4x256x256_S1x256x256_3_0_0))) (k0_pay79 (k0_pay45 (c0 (c := c) m t) (c1 (c := c) m t) (c2 (c := c) m t) (c3 (c := c) m t) (c4 (c := c) m t) (c5 (c := c) m t)) (k0_pay48 (iblk m c 3 t))) (iblk m c 18 t))
      (k0_pay90 (k0_pay47 (iblk m c 2 t)) (k0_pay73 (k0_pay45 (c0 (c := c) m t) (c1 (c := c) m t) (c2 (c := c) m t) (c3 (c := c) m t) (c4 (c := c) m t) (c5 (c := c) m t)) (k0_pay47 (iblk m c 2 t)) (k0_pay48 (iblk m c 3 t)) (k0_pay66 (k0_pay45 (c0 (c := c) m t) (c1 (c := c) m t) (c2 (c := c) m t) (c3 (c := c) m t) (c4 (c := c) m t) (c5 (c := c) m t)) (k0_pay47 (iblk m c 2 t)) (k0_pay48 (iblk m c 3 t))
      (k0_pay60 (k0_pay45 (c0 (c := c) m t) (c1 (c := c) m t) (c2 (c := c) m t) (c3 (c := c) m t) (c4 (c := c) m t) (c5 (c := c) m t)) (k0_pay47 (iblk m c 2 t)) (k0_pay48 (iblk m c 3 t)) (k0_pay51 (c0 (c := c) m t) (c1 (c := c) m t) (c2 (c := c) m t) (c3 (c := c) m t) (c4 (c := c) m t) (c5 (c := c) m t) (iblk m c 7 t) (iblk m c 9 t)) (View.ld (iblk m c 8 t) (Rect.unit ![0, 0, 0] ![1, 256, 256] inb_S4x256x256_S1x256x256_0_0_0))) (View.ld (iblk m c 8 t) (Rect.unit ![1, 0, 0] ![1, 256, 256] inb_S4x256x256_S1x256x256_1_0_0))) k0_pay69 (View.ld (iblk m c 8 t) (Rect.unit ![2, 0, 0] ![1, 256, 256] inb_S4x256x256_S1x256x256_2_0_0))) k0_pay76 (k0_pay77 (View.ld (iblk m c 8 t) (Rect.unit ![3, 0, 0] ![1, 256, 256] inb_S4x256x256_S1x256x256_3_0_0))) (k0_pay79 (k0_pay45 (c0 (c := c) m t) (c1 (c := c) m t) (c2 (c := c) m t) (c3 (c := c) m t) (c4 (c := c) m t) (c5 (c := c) m t)) (k0_pay48 (iblk m c 3 t))) (iblk m c 18 t)) k0_pay91) : FVec Ideal S256x256 .bf16)
    fun r x => A.dq (bOf t) (row (nOf t) r) ⟨x.val / 64, by omega⟩ ⟨x.val % 64, by omega⟩ := by
  refine pay1_is ?_
  have h5 := pay51_is (fE := fun r h => Real.exp (lgam h * (r.val + 1))) (S := fun h d e => A.ST (bOf t) h ((nOf t).val * 256) d e) (dO_is m H t) (blk9 (m := m) (c := c) t) (blk7 t H)
  have h := tile_q (fM := fun h i j => dec h i.val j.val) h5 (D_is m H t) (v_is m H t) (k_is m H t) (blk8_0 (m := m) (c := c) t) (blk8_1 (m := m) (c := c) t) (blk8_2 (m := m) (c := c) t) (blk8_3 (m := m) (c := c) t)
  have h' : IsQ _ fun r h d => A.dqr (bOf t) (row (nOf t) r) h d :=
    fun r x => (h r x).trans (congrArg _ (A.dqr_block (bOf t) (nOf t) r _ _).symm)
  exact pay92_is (pos := fun r => (row (nOf t) r).val) (blk17 (m := m) (c := c) t) (blk18 (m := m) (c := c) t) h'

/-- The state carried from the point before, where the sequence has not just begun. -/
theorem carried (h1 : ¬ t.val % 8 = 0) : IsR A t (outsAt0 m c (t.val - 1) (by omega)).2.2.2.2.2.1 := by
  have hn := lt32 t
  have hp := s0_is m H (t.val - 1) (by omega)
  have e1 : bOf ⟨t.val - 1, by omega⟩ = bOf t := Fin.ext (by simp only []; omega)
  have e2 : (nOf ⟨t.val - 1, by omega⟩).val = (nOf t).val + 1 := by simp only []; omega
  rw [e1, e2] at hp
  exact hp

/-! ### The columns of the first result -/

omit t

theorem dv_out (r : Fin 8192) (x : Fin 512) : ((dats m 0 c).arrAt 19 cfg0.N : FVec Ideal S8192x2048 .bf16) (ix2 r (⟨512 + x.val, by omega⟩ : Fin 2048))
    = (A.dv ⟨r.val / 2048, by omega⟩ ⟨r.val % 2048, by omega⟩ ⟨x.val / 128, by omega⟩ ⟨x.val % 128, by omega⟩ : EReal) := by
  refine out19 m 512 512 (by omega) (fun b s x => A.dv b s ⟨x.val / 128, by omega⟩ ⟨x.val % 128, by omega⟩) (fun t r x => ?_) r x
  have p0 : ∀ (w : (⟨2, ![256, 512]⟩ : Shape).Idx → EReal) (L : List (View.Piece (Elt Ideal) S256x2048 .bf16)),
      View.canon (⟨Rect.unit (s := S256x2048) ![0, 1536] ![256, 512] inb_S256x2048_S256x512_0_1536, w⟩ :: L) (ix2 r (⟨512 + x.val, by omega⟩ : Fin 2048))
        = View.canon L (ix2 r (⟨512 + x.val, by omega⟩ : Fin 2048)) := fun w L => col_miss _ w L r _ (by simp only []; omega)
  have p1 : ∀ (w : (⟨2, ![256, 512]⟩ : Shape).Idx → EReal) (L : List (View.Piece (Elt Ideal) S256x2048 .bf16)),
      View.canon (⟨Rect.unit (s := S256x2048) ![0, 1024] ![256, 512] inb_S256x2048_S256x512_0_1024, w⟩ :: L) (ix2 r (⟨512 + x.val, by omega⟩ : Fin 2048))
        = View.canon L (ix2 r (⟨512 + x.val, by omega⟩ : Fin 2048)) := fun w L => col_miss _ w L r _ (by simp only []; omega)
  by_cases h0 : t.val % 32 = 0
  · rw [outsAt0_A m c t h0 (by omega)]
    frame_out
    exact (p0 _ _).trans ((p1 _ _).trans ((col_hit _ _ _ r x _).trans (vTile m H t (zero_state m H t (by omega)) r x)))
  · by_cases h1 : t.val % 8 = 0
    · rw [outsAt0_C m c t h0 h1]
      frame_out
      exact (p0 _ _).trans ((p1 _ _).trans ((col_hit _ _ _ r x _).trans (vTile m H t (zero_state m H t h1) r x)))
    · rw [outsAt0_B m c t h0 h1]
      frame_out
      refine (p0 _ _).trans ((p1 _ _).trans ((col_hit _ _ _ r x _).trans (vTile m H t ?_ r x)))
      rw [read_unread_whole]
      exact carried m H t h1

theorem dk_out (r : Fin 8192) (x : Fin 256) : ((dats m 0 c).arrAt 19 cfg0.N : FVec Ideal S8192x2048 .bf16) (ix2 r (⟨256 + x.val, by omega⟩ : Fin 2048))
    = (A.dk ⟨r.val / 2048, by omega⟩ ⟨r.val % 2048, by omega⟩ ⟨x.val / 64, by omega⟩ ⟨x.val % 64, by omega⟩ : EReal) := by
  refine out19 m 256 256 (by omega) (fun b s x => A.dk b s ⟨x.val / 64, by omega⟩ ⟨x.val % 64, by omega⟩) (fun t r x => ?_) r x
  have p0 : ∀ (w : (⟨2, ![256, 512]⟩ : Shape).Idx → EReal) (L : List (View.Piece (Elt Ideal) S256x2048 .bf16)),
      View.canon (⟨Rect.unit (s := S256x2048) ![0, 1536] ![256, 512] inb_S256x2048_S256x512_0_1536, w⟩ :: L) (ix2 r (⟨256 + x.val, by omega⟩ : Fin 2048))
        = View.canon L (ix2 r (⟨256 + x.val, by omega⟩ : Fin 2048)) := fun w L => col_miss _ w L r _ (by simp only []; omega)
  have p1 : ∀ (w : (⟨2, ![256, 512]⟩ : Shape).Idx → EReal) (L : List (View.Piece (Elt Ideal) S256x2048 .bf16)),
      View.canon (⟨Rect.unit (s := S256x2048) ![0, 1024] ![256, 512] inb_S256x2048_S256x512_0_1024, w⟩ :: L) (ix2 r (⟨256 + x.val, by omega⟩ : Fin 2048))
        = View.canon L (ix2 r (⟨256 + x.val, by omega⟩ : Fin 2048)) := fun w L => col_miss _ w L r _ (by simp only []; omega)
  have p2 : ∀ (w : (⟨2, ![256, 512]⟩ : Shape).Idx → EReal) (L : List (View.Piece (Elt Ideal) S256x2048 .bf16)),
      View.canon (⟨Rect.unit (s := S256x2048) ![0, 512] ![256, 512] inb_S256x2048_S256x512_0_512, w⟩ :: L) (ix2 r (⟨256 + x.val, by omega⟩ : Fin 2048))
        = View.canon L (ix2 r (⟨256 + x.val, by omega⟩ : Fin 2048)) := fun w L => col_miss _ w L r _ (by simp only []; omega)
  by_cases h0 : t.val % 32 = 0
  · rw [outsAt0_A m c t h0 (by omega)]
    frame_out
    exact (p0 _ _).trans ((p1 _ _).trans ((p2 _ _).trans ((col_hit _ _ _ r x _).trans (kTile m H t (zero_state m H t (by omega)) r x))))
  · by_cases h1 : t.val % 8 = 0
    · rw [outsAt0_C m c t h0 h1]
      frame_out
      exact (p0 _ _).trans ((p1 _ _).trans ((p2 _ _).trans ((col_hit _ _ _ r x _).trans (kTile m H t (zero_state m H t h1) r x))))
    · rw [outsAt0_B m c t h0 h1]
      frame_out
      refine (p0 _ _).trans ((p1 _ _).trans ((p2 _ _).trans ((col_hit _ _ _ r x _).trans (kTile m H t ?_ r x))))
      rw [read_unread_whole]
      exact carried m H t h1

theorem dq_out (r : Fin 8192) (x : Fin 256) : ((dats m 0 c).arrAt 19 cfg0.N : FVec Ideal S8192x2048 .bf16) (ix2 r (⟨0 + x.val, by omega⟩ : Fin 2048))
    = (A.dq ⟨r.val / 2048, by omega⟩ ⟨r.val % 2048, by omega⟩ ⟨x.val / 64, by omega⟩ ⟨x.val % 64, by omega⟩ : EReal) := by
  refine out19 m 0 256 (by omega) (fun b s x => A.dq b s ⟨x.val / 64, by omega⟩ ⟨x.val % 64, by omega⟩) (fun t r x => ?_) r x
  have p0 : ∀ (w : (⟨2, ![256, 512]⟩ : Shape).Idx → EReal) (L : List (View.Piece (Elt Ideal) S256x2048 .bf16)),
      View.canon (⟨Rect.unit (s := S256x2048) ![0, 1536] ![256, 512] inb_S256x2048_S256x512_0_1536, w⟩ :: L) (ix2 r (⟨0 + x.val, by omega⟩ : Fin 2048))
        = View.canon L (ix2 r (⟨0 + x.val, by omega⟩ : Fin 2048)) := fun w L => col_miss _ w L r _ (by simp only []; omega)
  have p1 : ∀ (w : (⟨2, ![256, 512]⟩ : Shape).Idx → EReal) (L : List (View.Piece (Elt Ideal) S256x2048 .bf16)),
      View.canon (⟨Rect.unit (s := S256x2048) ![0, 1024] ![256, 512] inb_S256x2048_S256x512_0_1024, w⟩ :: L) (ix2 r (⟨0 + x.val, by omega⟩ : Fin 2048))
        = View.canon L (ix2 r (⟨0 + x.val, by omega⟩ : Fin 2048)) := fun w L => col_miss _ w L r _ (by simp only []; omega)
  have p2 : ∀ (w : (⟨2, ![256, 512]⟩ : Shape).Idx → EReal) (L : List (View.Piece (Elt Ideal) S256x2048 .bf16)),
      View.canon (⟨Rect.unit (s := S256x2048) ![0, 512] ![256, 512] inb_S256x2048_S256x512_0_512, w⟩ :: L) (ix2 r (⟨0 + x.val, by omega⟩ : Fin 2048))
        = View.canon L (ix2 r (⟨0 + x.val, by omega⟩ : Fin 2048)) := fun w L => col_miss _ w L r _ (by simp only []; omega)
  have p3 : ∀ (w : (⟨2, ![256, 256]⟩ : Shape).Idx → EReal) (L : List (View.Piece (Elt Ideal) S256x2048 .bf16)),
      View.canon (⟨Rect.unit (s := S256x2048) ![0, 256] ![256, 256] inb_S256x2048_S256x256_0_256, w⟩ :: L) (ix2 r (⟨0 + x.val, by omega⟩ : Fin 2048))
        = View.canon L (ix2 r (⟨0 + x.val, by omega⟩ : Fin 2048)) := fun w L => col_miss _ w L r _ (by simp only []; omega)
  by_cases h0 : t.val % 32 = 0
  · rw [outsAt0_A m c t h0 (by omega)]
    frame_out
    exact (p0 _ _).trans ((p1 _ _).trans ((p2 _ _).trans ((p3 _ _).trans ((col_hit _ _ _ r x _).trans (qTile m H t r x)))))
  · by_cases h1 : t.val % 8 = 0
    · rw [outsAt0_C m c t h0 h1]
      frame_out
      exact (p0 _ _).trans ((p1 _ _).trans ((p2 _ _).trans ((p3 _ _).trans ((col_hit _ _ _ r x _).trans (qTile m H t r x)))))
    · rw [outsAt0_B m c t h0 h1]
      frame_out
      exact (p0 _ _).trans ((p1 _ _).trans ((p2 _ _).trans ((p3 _ _).trans ((col_hit _ _ _ r x _).trans (qTile m H t r x)))))

end Cert.KMix
-- ==== Proof.Finite.lean ====
/- The precondition read back: every entry of the arguments is a real number, so the arguments are the arrays of the
   mathematics. -/
module

public import proofs.«01_k».proof.Proof.RefA
public import proofs.«01_k».proof.Proof.Gen.Pre_finite
public import Idealize.ShloMosaic.Lib.ReduceAll

@[expose] public section

set_option maxRecDepth 16384

noncomputable section

namespace Cert.Mix

open Idealize.ShloMosaic

/-- An extended real whose absolute value is below infinity is a real number. -/
theorem real_of (x : EReal) (h : Ideal.cmp .olt (max x (-x)) (Ideal.ofBits .f32 0x7F800000#32) = 1#1) : x = ((x.toReal : ℝ) : EReal) := by
  have hi : Ideal.ofBits .f32 0x7F800000#32 = ⊤ := by simp [Ideal.ofBits, Ideal.ieee]
  rw [hi] at h
  induction x with
  | bot => simp [Ideal.cmp] at h
  | top => simp [Ideal.cmp] at h
  | coe r => rfl

instance : Subsingleton ((⟨0, ![]⟩ : Shape).Idx) := ⟨fun a b => funext fun i => i.elim0⟩

/-- Of an array all of whose entries are below infinity in absolute value, every entry is a real number. -/
theorem all_real {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) h hu j = 1#1) (i : s.Idx) : x i = (((x i).toReal : ℝ) : EReal) :=
  real_of _ (Host.reduce_andi_all _ _ h hu j e i)

/-- The real arrays that arguments hold. -/
def argsOf (x0 : FVec Ideal ⟨3, ![4, 2048, 2048]⟩ .f32) (x1 x2 : FVec Ideal ⟨4, ![4, 2048, 4, 128]⟩ .f32)
    (x3 : FVec Ideal ⟨1, ![512]⟩ .f32) (x4 : FVec Ideal ⟨3, ![4, 128, 128]⟩ .f32) (x5 : FVec Ideal ⟨1, ![512]⟩ .f32)
    (x6 : FVec Ideal ⟨2, ![1024, 1024]⟩ .f32) (x7 : FVec Ideal ⟨3, ![4, 2048, 1024]⟩ .f32) : Args where
  q b s h d := (x0 (ix3 b s ⟨h.val * 64 + d.val, by omega⟩)).toReal
  k b s h d := (x0 (ix3 b s ⟨256 + (h.val * 64 + d.val), by omega⟩)).toReal
  v b s h e := (x0 (ix3 b s ⟨512 + (h.val * 128 + e.val), by omega⟩)).toReal
  g b s c := (x0 (ix3 b s ⟨1024 + c.val, by omega⟩)).toReal
  o b s h e := (x1 (ix4 b s h e)).toReal
  p b s h e := (x2 (ix4 b s h e)).toReal
  gain c := (x3 (ix1 c)).toReal
  pw h d e := (x4 (ix3 h d e)).toReal
  scale c := (x5 (ix1 c)).toReal
  w c d := (x6 (ix2 c d)).toReal
  ct b s d := (x7 (ix3 b s d)).toReal

/-- Under the precondition the arguments hold real arrays. -/
theorem holds_of (x0 : FVec Ideal ⟨3, ![4, 2048, 2048]⟩ .f32) (x1 x2 : FVec Ideal ⟨4, ![4, 2048, 4, 128]⟩ .f32)
    (x3 : FVec Ideal ⟨1, ![512]⟩ .f32) (x4 : FVec Ideal ⟨3, ![4, 128, 128]⟩ .f32) (x5 : FVec Ideal ⟨1, ![512]⟩ .f32)
    (x6 : FVec Ideal ⟨2, ![1024, 1024]⟩ .f32) (x7 : FVec Ideal ⟨3, ![4, 2048, 1024]⟩ .f32)
    (h : Cert.Pre_finite.fn (F := Ideal) x0 x1 x2 x3 x4 x5 x6 x7 = fun _ => 1#1) :
    Cert.KMix.Holds x0 x1 x2 x3 x4 x5 x6 x7 (argsOf x0 x1 x2 x3 x4 x5 x6 x7) := by
  have h7 := IntOp.andi_eq_one.1 (congrFun h (fun i => i.elim0))
  have h6 := IntOp.andi_eq_one.1 h7.1
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  have r0 := all_real x0 _ _ _ _ h1.1
  have r1 := all_real x1 _ _ _ _ h1.2
  have r2 := all_real x2 _ _ _ _ h2.2
  have r3 := all_real x3 _ _ _ _ h3.2
  have r4 := all_real x4 _ _ _ _ h4.2
  have r5 := all_real x5 _ _ _ _ h5.2
  have r6 := all_real x6 _ _ _ _ h6.2
  have r7 := all_real x7 _ _ _ _ h7.2
  exact ⟨fun _ _ _ _ => r0 _, fun _ _ _ _ => r0 _, fun _ _ _ _ => r0 _, fun _ _ _ => r0 _, fun _ _ _ _ => r1 _,
    fun _ _ _ _ => r2 _, fun _ => r3 _, fun _ _ _ => r4 _, fun _ => r5 _, fun _ _ => r6 _, fun _ _ _ => r7 _⟩

/-- Arrays equal to arrays that hold the real values hold them too. -/
theorem holds_congr {x0 y0 : FVec Ideal ⟨3, ![4, 2048, 2048]⟩ .f32} {x1 x2 y1 y2 : FVec Ideal ⟨4, ![4, 2048, 4, 128]⟩ .f32}
    {x3 y3 : FVec Ideal ⟨1, ![512]⟩ .f32} {x4 y4 : FVec Ideal ⟨3, ![4, 128, 128]⟩ .f32} {x5 y5 : FVec Ideal ⟨1, ![512]⟩ .f32}
    {x6 y6 : FVec Ideal ⟨2, ![1024, 1024]⟩ .f32} {x7 y7 : FVec Ideal ⟨3, ![4, 2048, 1024]⟩ .f32} {A : Args}
    (h : Cert.KMix.Holds x0 x1 x2 x3 x4 x5 x6 x7 A) (e0 : y0 = x0) (e1 : y1 = x1) (e2 : y2 = x2) (e3 : y3 = x3) (e4 : y4 = x4)
    (e5 : y5 = x5) (e6 : y6 = x6) (e7 : y7 = x7) : Cert.KMix.Holds y0 y1 y2 y3 y4 y5 y6 y7 A := by
  subst e0 e1 e2 e3 e4 e5 e6 e7
  exact h

end Cert.Mix
end
-- ==== Proof.Cat.lean ====
/- The columns of the first result: the five gradients side by side. -/
module

public import proofs.«01_k».proof.Proof.Gen.ReferenceIdeal.Run
public import Idealize.ShloMosaic.Lib.Pointwise

@[expose] public section

set_option maxRecDepth 16384

noncomputable section

namespace Cert.RefMix

open Idealize.ShloMosaic Cert.ReferenceIdeal Cert.ReferenceIdeal.Gen

variable (a b : FVec Ideal S8192x256 .f32) (c d e : FVec Ideal S8192x512 .f32) (r : Fin 8192)

/-- The five gradients side by side, rounded. -/
abbrev cat : FVec Ideal S8192x2048 .bf16 :=
  truncf (F := Ideal) .bf16 (concatenate S8192x2048 1 [⟨S8192x256, a⟩, ⟨S8192x256, b⟩, ⟨S8192x512, c⟩, ⟨S8192x512, d⟩, ⟨S8192x512, e⟩] concatenates_S8192x256_S8192x256_S8192x512_S8192x512_S8192x512_S8192x2048_d1) bitsLt_bf16_f32

theorem cat_q (x : Fin 256) : cat a b c d e (ix2 r (⟨0 + x.val, by omega⟩ : Fin 2048)) = a (ix2 r x) := by
  have e : (⟨0 + x.val, by omega⟩ : Fin 2048) = ⟨x.val, by omega⟩ := Fin.ext (Nat.zero_add _)
  rw [e]
  pointwise
theorem cat_k (x : Fin 256) : cat a b c d e (ix2 r (⟨256 + x.val, by omega⟩ : Fin 2048)) = b (ix2 r x) := by
  pointwise
theorem cat_v (x : Fin 512) : cat a b c d e (ix2 r (⟨512 + x.val, by omega⟩ : Fin 2048)) = c (ix2 r x) := by
  pointwise
  rw [dif_neg (by omega), dif_neg (by omega), dif_pos (by omega)]
  exact congrArg (fun z => c (ix2 r z)) (Fin.ext (by simp only []; omega))
theorem cat_g (x : Fin 512) : cat a b c d e (ix2 r (⟨1024 + x.val, by omega⟩ : Fin 2048)) = d (ix2 r x) := by
  pointwise
  rw [dif_neg (by omega), dif_neg (by omega), dif_neg (by omega), dif_pos (by omega)]
  exact congrArg (fun z => d (ix2 r z)) (Fin.ext (by simp only []; omega))
theorem cat_u (x : Fin 512) : cat a b c d e (ix2 r (⟨1536 + x.val, by omega⟩ : Fin 2048)) = e (ix2 r x) := by
  pointwise
  rw [dif_neg (by omega), dif_neg (by omega), dif_neg (by omega), dif_neg (by omega)]
  exact congrArg (fun z => e (ix2 r z)) (Fin.ext (by simp only []; omega))

/-- Two arrays that agree on a range of columns, column by column. -/
theorem cols {U W : FVec Ideal S8192x2048 .bf16} (lo n : ℕ) (hn : lo + n ≤ 2048)
    (H : ∀ (r : Fin 8192) (y : Fin n), U (ix2 r (⟨lo + y.val, by omega⟩ : Fin 2048)) = W (ix2 r (⟨lo + y.val, by omega⟩ : Fin 2048)))
    (i : S8192x2048.Idx) (h0 : lo ≤ (i 1 : ℕ)) (h1 : (i 1 : ℕ) < lo + n) : U i = W i := by
  have key : ∀ (r : Fin 8192) (x : Fin 2048), lo ≤ x.val → x.val < lo + n → U (ix2 r x) = W (ix2 r x) := fun r x a0 a1 => by
    have e : (⟨lo + (x.val - lo), by omega⟩ : Fin 2048) = x := Fin.ext (by simp only []; omega)
    have := H r ⟨x.val - lo, by omega⟩
    rwa [e] at this
  have := key (i 0) (i 1) h0 h1
  rwa [← eq_ix2 i] at this

end Cert.RefMix
end
-- ==== Proof.KDu.lean ====
/- The pool input's columns of the projection's cotangent, as the kernel leaves them: a token gathers from the windows that
   hold it, those of its own block of 256 and the first sixteen of the block after it, which the point before carried here. -/
module

public import proofs.«01_k».proof.Proof.KRet2

@[expose] public section
set_option maxRecDepth 16384
noncomputable section
namespace Cert.KMix
open Idealize.ShloMosaic Cert.Mix Idealize.ShloMosaic.TcCoe Idealize.SL.Sem
open Cert.KernelIdeal Cert.KernelIdeal.Gen Cert.KernelIdeal.Value

/-- The pooled mean's cotangent over its window's length at any position of a sequence: nothing past its end. -/
def zr (A : Args) (b h : Fin 4) (e : Fin 128) (n : ℕ) : ℝ := if hn : n < 2048 then A.dpn (Args.win h) b ⟨n, hn⟩ h e else 0

/-- A token's gradient is the sum of `zr` over the positions from its own on, as many as the window has. -/
theorem du_window (A : Args) (b : Fin 4) (s : Fin 2048) (h : Fin 4) (d : Fin 128) :
    A.du b s h d = (∑ i ∈ Finset.range (Args.win h), zr A b h d (s.val + i)) - A.dp b s h d := by
  unfold Args.du
  congr 1
  have e : ∀ t : Fin 2048, (if s.val ≤ t.val ∧ t.val < s.val + Args.win h then A.dpn (Args.win h) b t h d else 0)
      = (fun n => if s.val ≤ n ∧ n < s.val + Args.win h then zr A b h d n else 0) t.val := fun t => by simp [zr]
  rw [Finset.sum_congr rfl fun t _ => e t, Fin.sum_univ_eq_sum_range (fun n => if s.val ≤ n ∧ n < s.val + Args.win h then zr A b h d n else 0) 2048,
    ← Finset.sum_filter]
  have r := Finset.sum_Ico_eq_sum_range (zr A b h d) s.val (s.val + Args.win h)
  rw [Nat.add_sub_cancel_left] at r
  rw [← r]
  apply Finset.sum_subset
  · intro n hn
    rw [Finset.mem_filter] at hn
    exact Finset.mem_Ico.mpr hn.2
  · intro n hn hn'
    unfold zr
    apply dif_neg
    intro hl
    exact hn' (Finset.mem_filter.mpr ⟨Finset.mem_range.mpr hl, Finset.mem_Ico.mp hn⟩)

/-- The windows by doubling: the sums of two, four, eight and sixteen rows. -/
theorem win_sum (E : Fin 4 → ℕ → ℝ) (g : Fin 4) (r : ℕ) : (if g = 0 then E 0 r + E 0 (r + 1)
    else if g = 1 then E 1 r + E 1 (r + 1) + (E 1 (r + 2) + E 1 (r + 2 + 1))
    else if g = 2 then E 2 r + E 2 (r + 1) + (E 2 (r + 2) + E 2 (r + 2 + 1)) + (E 2 (r + 4) + E 2 (r + 4 + 1) + (E 2 (r + 4 + 2) + E 2 (r + 4 + 2 + 1)))
    else E 3 r + E 3 (r + 1) + (E 3 (r + 2) + E 3 (r + 2 + 1)) + (E 3 (r + 4) + E 3 (r + 4 + 1) + (E 3 (r + 4 + 2) + E 3 (r + 4 + 2 + 1)))
      + (E 3 (r + 8) + E 3 (r + 8 + 1) + (E 3 (r + 8 + 2) + E 3 (r + 8 + 2 + 1)) + (E 3 (r + 12) + E 3 (r + 12 + 1) + (E 3 (r + 12 + 2) + E 3 (r + 12 + 2 + 1)))))
    = ∑ i ∈ Finset.range (Args.win g), E g (r + i) := by
  fin_cases g <;> simp [Args.win, Finset.sum_range_succ, Nat.add_assoc, add_assoc]

theorem crd : ∀ t : Fin cfg0.N, (grid0.coords t 1 : ℕ) = t.val % 8 := by decide +kernel

/-- The positions of a block's rows in their sequence. -/
theorem pay116_at (t : Fin cfg0.N) (r : Fin 256) (z : Fin 1) :
    k0_pay116 (BitVec.ofNat 32 (grid0.coords t 1 : ℕ)) (ix2 r z) = BitVec.ofNat 32 ((nOf t).val * 256 + r.val) := by
  have key : ∀ (k : Fin 8) (r : Fin 256), IntOp.addi (Scalar.muli (Scalar.subi 7#32 (BitVec.ofNat 32 k.val)) 256#32) (BitVec.ofNat 32 r.val)
      = BitVec.ofNat 32 ((7 - k.val) * 256 + r.val) := by decide +kernel
  rw [crd]
  pointwise [k0_pay116]
  exact key ⟨t.val % 8, by omega⟩ r

theorem pay10_is : Is2 (k0_pay10 : FVec Ideal S16x512 .f32) fun _ _ => 0 := by
  intro z c
  pointwise [k0_pay10]
  simp

variable (m : (ℓ : Loc nD τ sig) → Buf (Elt Ideal) ℓ) {c : Dev nD} {A : Args} (H : HoldsAt m c A) (t : Fin cfg0.N)
include H

/-- a weight block of the pooling groups at a point -/
abbrev wts0 (m : (ℓ : Loc nD τ sig) → Buf (Elt Ideal) ℓ) (c : Dev nD) (t : Fin cfg0.N) : FVec Ideal S1x128x128 .bf16 :=
  View.ld (iblk m c 14 t) (Rect.unit (s := S4x128x128) ![0, 0, 0] ![1, 128, 128] inb_S4x128x128_S1x128x128_0_0_0)
abbrev wts1 (m : (ℓ : Loc nD τ sig) → Buf (Elt Ideal) ℓ) (c : Dev nD) (t : Fin cfg0.N) : FVec Ideal S1x128x128 .bf16 :=
  View.ld (iblk m c 14 t) (Rect.unit (s := S4x128x128) ![1, 0, 0] ![1, 128, 128] inb_S4x128x128_S1x128x128_1_0_0)
abbrev wts2 (m : (ℓ : Loc nD τ sig) → Buf (Elt Ideal) ℓ) (c : Dev nD) (t : Fin cfg0.N) : FVec Ideal S1x128x128 .bf16 :=
  View.ld (iblk m c 14 t) (Rect.unit (s := S4x128x128) ![2, 0, 0] ![1, 128, 128] inb_S4x128x128_S1x128x128_2_0_0)
abbrev wts3 (m : (ℓ : Loc nD τ sig) → Buf (Elt Ideal) ℓ) (c : Dev nD) (t : Fin cfg0.N) : FVec Ideal S1x128x128 .bf16 :=
  View.ld (iblk m c 14 t) (Rect.unit (s := S4x128x128) ![3, 0, 0] ![1, 128, 128] inb_S4x128x128_S1x128x128_3_0_0)

/-- the pooled product's cotangent at a point -/
abbrev dzT (m : (ℓ : Loc nD τ sig) → Buf (Elt Ideal) ℓ) (c : Dev nD) (t : Fin cfg0.N) : FVec Ideal S256x512 .bf16 :=
  k0_pay95 (k0_pay14 (iblk m c 0 t) (iblk m c 16 t)) (iblk m c 15 t)

/-- its products with the first two groups' weights -/
abbrev dpT0 (m : (ℓ : Loc nD τ sig) → Buf (Elt Ideal) ℓ) (c : Dev nD) (t : Fin cfg0.N) : FVec Ideal S256x128 .f32 :=
  k0_pay101 (k0_pay97 (k0_pay14 (iblk m c 0 t) (iblk m c 16 t)) (iblk m c 15 t)) (k0_pay100 (wts0 m c t))
abbrev dpT1 (m : (ℓ : Loc nD τ sig) → Buf (Elt Ideal) ℓ) (c : Dev nD) (t : Fin cfg0.N) : FVec Ideal S256x128 .f32 := k0_pay106 (dzT m c t) (wts1 m c t)

/-- the pooled channels' cotangent at a point -/
abbrev dpT (m : (ℓ : Loc nD τ sig) → Buf (Elt Ideal) ℓ) (c : Dev nD) (t : Fin cfg0.N) : FVec Ideal S256x512 .f32 :=
  k0_pay115 (dzT m c t) (dpT0 m c t) (dpT1 m c t) (k0_pay108 (dzT m c t)) (wts2 m c t) (wts3 m c t)

/-- its first group -/
abbrev dpF (m : (ℓ : Loc nD τ sig) → Buf (Elt Ideal) ℓ) (c : Dev nD) (t : Fin cfg0.N) : FVec Ideal S256x128 .f32 :=
  k0_pay117 (dzT m c t) (dpT0 m c t) (dpT1 m c t) (k0_pay108 (dzT m c t)) (wts2 m c t) (wts3 m c t)

/-- the rows' positions -/
abbrev posT (t : Fin cfg0.N) : IVec S256x1 32 := k0_pay116 (BitVec.ofNat 32 (grid0.coords t 1 : ℕ))

theorem dp_is : IsH (dpT m c t) fun r h d => A.dp (bOf t) (row (nOf t) r) h d :=
  pay115_is (dz_is m H t) (pay101_is (pay97_is (dz_is m H t)) (ldw m H t 0 0 rfl _)) (pay106_is (dz_is m H t) (ldw m H t 1 1 rfl _))
    (ldw m H t 2 2 rfl _) (ldw m H t 3 3 rfl _) (fun _ _ => rfl) (fun _ _ => rfl)

theorem dpF_is : Is2 (dpF m c t) fun r e => A.dp (bOf t) (row (nOf t) r) 0 e := by
  intro r e
  have h := (dp_is m H t).a0 r e.val e.isLt
  pointwise [k0_pay117]
  exact h _

/-- The point's rows of `zr`. -/
theorem z_is : IsH (k0_pay119 (dpT m c t) (posT t) (dpF m c t) k0_pay118 : FVec Ideal S256x512 .f32)
    fun r h e => zr A (bOf t) h e ((nOf t).val * 256 + r.val) := by
  have h := pay119_is (nOf t).isLt (pay116_at t) (dp_is m H t) (dpF_is m H t)
  have e : (fun (r : Fin 256) (h : Fin 4) (e : Fin 128) => A.dp (bOf t) (row (nOf t) r) h e / ((min ((nOf t).val * 256 + r.val + 1) (2 ^ (h.val + 1)) : ℕ) : ℝ))
      = fun r h e => zr A (bOf t) h e ((nOf t).val * 256 + r.val) := by
    funext r h e
    unfold zr
    rw [dif_pos (by have := (nOf t).isLt; omega)]
    rfl
  rw [e] at h
  exact h

/-- What a point hands over: its first sixteen rows of `zr`. -/
theorem hand_is : IsH (k0_pay120 (dpT m c t) (posT t) (dpF m c t) k0_pay118 : FVec Ideal S16x512 .f32)
    fun r h e => zr A (bOf t) h e ((nOf t).val * 256 + r.val) :=
  pay120_is (E := fun ρ h e => zr A (bOf t) h e ((nOf t).val * 256 + ρ)) (z_is m H t)

/-- What a point reads: the first sixteen rows of `zr` of the block after it. -/
abbrev IsN (A : Args) (t : Fin cfg0.N) (P : FVec Ideal S16x512 .f32) : Prop :=
  IsH P fun r h e => zr A (bOf t) h e ((nOf t).val * 256 + (256 + r.val))

omit H in
theorem zero_next (h1 : t.val % 8 = 0) : IsN A t k0_pay10 := by
  have h := IsH.of_Is2 pay10_is
  have e : (fun (r : Fin 16) (h : Fin 4) (e : Fin 128) => (0 : ℝ)) = fun r h e => zr A (bOf t) h e ((nOf t).val * 256 + (256 + r.val)) := by
    funext r h e
    unfold zr
    rw [dif_neg (by simp only []; omega)]
  rw [e] at h
  exact h

theorem uTile {P : FVec Ideal S16x512 .f32} (hP : IsN A t P) : Is2 (k0_pay5 (dpT m c t) (k0_pay122 (dpT m c t) (posT t) (dpF m c t) k0_pay118 P)
      (k0_pay124 (dpT m c t) (posT t) (dpF m c t) k0_pay118 P) (k0_pay125 (dpT m c t) (posT t) (dpF m c t) k0_pay118 P) 268#32 : FVec Ideal S256x512 .bf16)
    fun r x => A.du (bOf t) (row (nOf t) r) ⟨x.val / 128, by omega⟩ ⟨x.val % 128, by omega⟩ := by
  have h1 := pay121_is (E := fun ρ h e => zr A (bOf t) h e ((nOf t).val * 256 + ρ)) (z_is m H t) hP
  have h3 := pay123_is h1
  have h := (pay5_is (dp_is m H t) (pay122_is h1) (pay124_is h3) (pay125_is h3)).is2
  have key : ∀ (r : Fin 256) (h : Fin 4) (e : Fin 128), A.du (bOf t) (row (nOf t) r) h e = _ := fun r h e => du_window A (bOf t) (row (nOf t) r) h e
  intro r x
  refine (h r x).trans ?_
  simp only [key]
  generalize (⟨x.val / 128, by omega⟩ : Fin 4) = g
  generalize (⟨x.val % 128, by omega⟩ : Fin 128) = e
  congr 2
  exact (win_sum (fun h ρ => zr A (bOf t) h e ((nOf t).val * 256 + ρ)) g r.val).trans
    (Finset.sum_congr rfl fun i _ => congrArg (zr A (bOf t) g e) (Nat.add_assoc _ _ _).symm)

omit t in
theorem s1_is : ∀ n (h : n < cfg0.N), IsH (φ := .f32) (outsAt0 m c n h).2.2.2.2.2.2
    fun r a e => zr A (bOf ⟨n, h⟩) a e ((nOf ⟨n, h⟩).val * 256 + r.val) := by
  intro n h
  have hn := lt32 ⟨n, h⟩
  by_cases h0 : n % 32 = 0
  · rw [outsAt0_A m c ⟨n, h⟩ h0 (by simp only []; omega)]
    frame_out
    exact hand_is m H ⟨n, h⟩
  · by_cases h1 : n % 8 = 0
    · rw [outsAt0_C m c ⟨n, h⟩ h0 h1]
      frame_out
      exact hand_is m H ⟨n, h⟩
    · rw [outsAt0_B m c ⟨n, h⟩ h0 h1]
      frame_out
      exact hand_is m H ⟨n, h⟩

/-- What the point before handed over, where the sequence has not just begun. -/
theorem handed (h1 : ¬ t.val % 8 = 0) : IsN A t (outsAt0 m c (t.val - 1) (by omega)).2.2.2.2.2.2 := by
  have hn := lt32 t
  have hp := s1_is m H (t.val - 1) (by omega)
  have e1 : bOf ⟨t.val - 1, by omega⟩ = bOf t := Fin.ext (by simp only []; omega)
  have e2 : (nOf ⟨t.val - 1, by omega⟩).val = (nOf t).val + 1 := by simp only []; omega
  rw [e1, e2] at hp
  have e3 : ∀ r : ℕ, ((nOf t).val + 1) * 256 + r = (nOf t).val * 256 + (256 + r) := fun r => by omega
  simp only [e3] at hp
  exact hp

omit t in
theorem du_out (r : Fin 8192) (x : Fin 512) : ((dats m 0 c).arrAt 19 cfg0.N : FVec Ideal S8192x2048 .bf16) (ix2 r (⟨1536 + x.val, by omega⟩ : Fin 2048))
    = (A.du ⟨r.val / 2048, by omega⟩ ⟨r.val % 2048, by omega⟩ ⟨x.val / 128, by omega⟩ ⟨x.val % 128, by omega⟩ : EReal) := by
  refine out19 m 1536 512 (by omega) (fun b s x => A.du b s ⟨x.val / 128, by omega⟩ ⟨x.val % 128, by omega⟩) (fun t r x => ?_) r x
  by_cases h0 : t.val % 32 = 0
  · rw [outsAt0_A m c t h0 (by omega)]
    frame_out
    exact (col_hit _ _ _ r x _).trans (uTile m H t (zero_next t (by omega)) r x)
  · by_cases h1 : t.val % 8 = 0
    · rw [outsAt0_C m c t h0 h1]
      frame_out
      exact (col_hit _ _ _ r x _).trans (uTile m H t (zero_next t h1) r x)
    · rw [outsAt0_B m c t h0 h1]
      frame_out
      refine (col_hit _ _ _ r x _).trans (uTile m H t ?_ r x)
      rw [read_unread_whole]
      exact handed m H t h1

end Cert.KMix
-- ==== Proof.RefC.lean ====
/- The pool input's gradient in the reference, read at an index over the real numbers. -/
module

public import proofs.«01_k».proof.Proof.RefA

@[expose] public section
set_option maxRecDepth 16384
noncomputable section
namespace Cert.RefMix
open Idealize.ShloMosaic Cert.Mix Idealize.ShloMosaic.TcCoe
open Cert.ReferenceIdeal Cert.ReferenceIdeal.Gen Cert.ReferenceIdeal.Value

theorem sum_eq_coe {n : ℕ} {a : Fin n → EReal} {f : Fin n → ℝ} (h : ∀ x, a x = (f x : EReal)) : ∑ x, a x = ((∑ x, f x : ℝ) : EReal) := by
  rw [← coe_sum]
  exact Finset.sum_congr rfl fun x _ => h x

variable {V : Valuation τ sig (Elt Ideal)} {A : Args} (H : HoldsV V A)

theorem int_small (k : ℕ) (hk : k < 4096) : (BitVec.ofNat 32 k).toInt = (k : ℤ) := by
  rw [BitVec.toInt_eq_toNat_of_lt (by simp; omega), BitVec.toNat_ofNat, Nat.mod_eq_of_lt (by omega)]

/-- A group's window width, as the program holds it. -/
theorem lit_win (g : Fin 4) : lit0 (S4.rowMajor (ix1 g)) = BitVec.ofNat 32 (Args.win g) := by
  revert g
  decide +kernel

/-- The first position of the window that ends at a position. -/
theorem lo_win (g : Fin 4) (i : Fin 2048) : IntOp.maxsi (IntOp.subi (IntOp.addi (BitVec.ofNat 32 i.val) 1#32) (BitVec.ofNat 32 (Args.win g))) 0#32
    = BitVec.ofNat 32 (i.val + 1 - Args.win g) := by
  have key : ∀ w : Fin 17, ∀ i : Fin 2048, IntOp.maxsi (IntOp.subi (IntOp.addi (BitVec.ofNat 32 i.val) 1#32) (BitVec.ofNat 32 w.val)) 0#32
    = BitVec.ofNat 32 (i.val + 1 - w.val) := by decide +kernel
  have hw : Args.win g < 17 := by revert g; decide +kernel
  exact key ⟨_, hw⟩ i

theorem sle_small (a b : ℕ) (ha : a < 4096) (hb : b < 4096) : IntOp.cmpi CmpIPredicate.sle (BitVec.ofNat 32 a) (BitVec.ofNat 32 b) = if a ≤ b then 1#1 else 0#1 := by
  have h : (BitVec.ofNat 32 a).sle (BitVec.ofNat 32 b) = decide (a ≤ b) := by
    unfold BitVec.sle
    rw [int_small a ha, int_small b hb]
    simp
  show BitVec.ofBool ((BitVec.ofNat 32 a).sle (BitVec.ofNat 32 b)) = _
  rw [h]
  by_cases hab : a ≤ b <;> simp [hab]

theorem v268_at (g : Fin 4) (i j : Fin 2048) : (res_main_v268 V : FVec Ideal S4x2048x2048 .f32) (ix3 g i j)
    = ((if j.val ≤ i.val ∧ i.val < j.val + Args.win g then 1 else 0 : ℝ) : EReal) := by
  unfold res_main_v268 res_main_v248 res_main_v239
  pointwise
  rw [lit_win, lo_win, sle_small _ _ (by omega) (by omega), sle_small _ _ (by omega) (by omega)]
  have e : i.val < j.val + Args.win g ↔ i.val + 1 - Args.win g ≤ j.val := by omega
  simp only [e]
  by_cases h1 : j.val ≤ i.val <;> by_cases h2 : i.val + 1 - Args.win g ≤ j.val <;> simp [h1, h2, Scalar.select, IntOp.andi]

theorem v271_at (z : Fin 1) (s : Fin 2048) (g : Fin 4) (y : Fin 1) : (res_main_v271 V : FVec Ideal S1x2048x4x1 .f32) (ix4 z s g y)
    = (((min (s.val + 1) (Args.win g) : ℕ) : ℝ) : EReal) := by
  unfold res_main_v271 res_main_v248 res_main_v239
  pointwise
  have key : ∀ s : Fin 2048, ∀ w : Fin 17, IntOp.subi (IntOp.addi (BitVec.ofNat 32 s.val) 1#32) (BitVec.ofNat 32 (s.val + 1 - w.val))
    = BitVec.ofNat 32 (min (s.val + 1) w.val) := by decide +kernel
  have hw : Args.win g < 17 := by revert g; decide +kernel
  rw [lit_win, lo_win, key s ⟨_, hw⟩]
  show ((((BitVec.ofNat 32 (min (s.val + 1) (Args.win g))).toInt : ℤ) : ℝ) : EReal) = _
  rw [int_small _ (by omega)]
  norm_num

include H in
theorem du_at (r : Fin 8192) (x : Fin 512) : (shapeCast S8192x512 (shapeCast S4x2048x512 (addf (F := Ideal) (Host.negf (res_main_v27 V)) (transpose S4x2048x4x128 [1, 3, 0, 2] (Host.dotGeneral (F := Ideal) (φ₁ := .f32) (φ₂ := .f32) dot_S4x4x128x2048_S4x2048x2048_S4x4x128x2048_3_1_12_2_0_0 none (transpose S4x4x128x2048 [2, 0, 3, 1] (Host.divf (res_main_v27 V) (broadcastInDim S4x2048x4x128 ![0, 1, 2, 3] bcast_S1x2048x4x1_S4x2048x4x128_0_1_2_3 (res_main_v271 V))) transposes_S4x2048x4x128_S4x4x128x2048_2_0_3_1) (res_main_v268 V)) transposes_S4x4x128x2048_S4x2048x4x128_1_3_0_2)) shapeCasts_S4x2048x4x128_S4x2048x512) shapeCasts_S4x2048x512_S8192x512 : FVec Ideal S8192x512 .f32) (ix2 r x)
    = ((A.du ⟨r.val / 2048, by omega⟩ ⟨r.val % 2048, by omega⟩ ⟨x.val / 128, by omega⟩ ⟨x.val % 128, by omega⟩ : ℝ) : EReal) := by
  pointwise
  simp only [v27_at H, v271_at, v268_at]
  unfold Args.du Args.dpn
  rw [sum_eq_coe (f := fun t : Fin 2048 => if r.val % 2048 ≤ t.val ∧ t.val < r.val % 2048 + Args.win ⟨x.val / 128, by omega⟩
    then A.dp ⟨r.val / 2048, by omega⟩ t ⟨x.val / 128, by omega⟩ ⟨x.val % 128, by omega⟩ / ((min (t.val + 1) (Args.win ⟨x.val / 128, by omega⟩) : ℕ) : ℝ) else 0)
    (fun t => ?_), ← EReal.coe_neg, ← EReal.coe_add]
  · exact congrArg _ (by ring)
  · have hp : 0 < min (t.val + 1) (Args.win ⟨x.val / 128, by omega⟩) := lt_min (by omega) (by unfold Args.win; positivity)
    rw [div_real _ _ (by exact_mod_cast hp.ne'), ← EReal.coe_mul]
    exact congrArg _ (by split_ifs <;> simp)

end Cert.RefMix
-- ==== Proof.FrameBits.lean ====
/- The machine's kernel and its ideal reading have the same text: one run, over any floats, is the run of both. -/
module
public import proofs.«01_k».proof.Defs
public import proofs.«01_k».proof.Proof.Gen.Kernel
public import proofs.«01_k».proof.Proof.Run.Points
@[expose] public section
set_option maxRecDepth 16384
set_option maxHeartbeats 4000000
noncomputable section
namespace Cert.Proof
open Idealize.ShloMosaic
/-- The two programs have the same text: their launch's body is the same program. -/
theorem body_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl
  | ⟨_ + 1, h⟩, _ => exact absurd h (Nat.not_lt.2 (Nat.le_add_left _ _))

/-- So are their pipelined launches. -/
theorem defs_eq : Cert.Kernel.defs (F := Bits) = Cert.KernelIdeal.defs (F := Bits) :=
  congrArg (Pipeline.defs (Cert.KernelIdeal.pcfgs (F := Bits))) body_eq

/-- The kernel's run at the machine's floats, from the run over any floats. -/
theorem frame_kernel : Cert.quiescent_Kernel := fun m ρ _ => by
  rw [defs_eq]
  exact Cert.KernelIdeal.Gen.frame (F := Bits) m ρ

end Cert.Proof
-- ==== Proof.FrameBits2.lean ====
/- The machine's kernels of the feed-forward network's calls and their ideal readings have the same text: one run, over any floats, is the run of both. -/
module
public import proofs.«01_k».proof.Defs
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
@[expose] public section
set_option maxRecDepth 16384
set_option maxHeartbeats 4000000
noncomputable section
namespace Cert.Proof
open Idealize.ShloMosaic

/-- The two programs have the same text: their launch's body is the same program. -/
theorem body_eq2 : Cert.Kernel2.defs₀ (F := Bits) = Cert.Kernel2Ideal.defs₀ (F := Bits) := by
  unfold Cert.Kernel2.defs₀ Cert.Kernel2Ideal.defs₀
  refine congrArg (Defs.onTc (nD := Cert.Kernel2.nD) (τ := Cert.Kernel2.τ) (sig := Cert.Kernel2.sig) (Val := Elt Bits) (Λ := Cert.Kernel2.Λ₀)) ?_
  funext l a
  match l, a with
  | 0, (t, s) => rfl
  | ⟨_ + 1, h⟩, _ => exact absurd h (Nat.not_lt.2 (Nat.le_add_left _ _))

theorem defs_eq2 : Cert.Kernel2.defs (F := Bits) = Cert.Kernel2Ideal.defs (F := Bits) :=
  congrArg (Pipeline.defs (Cert.Kernel2Ideal.pcfgs (F := Bits))) body_eq2

/-- The kernel's run at the machine's floats, from the run over any floats. -/
theorem frame_kernel2 : Cert.quiescent_Kernel2 := fun m ρ _ => by
  rw [defs_eq2]
  exact Cert.Kernel2Ideal.Gen.frame (F := Bits) m ρ

/-- The two programs have the same text: their launch's body is the same program. -/
theorem body_eq3 : Cert.Kernel3.defs₀ (F := Bits) = Cert.Kernel3Ideal.defs₀ (F := Bits) := by
  unfold Cert.Kernel3.defs₀ Cert.Kernel3Ideal.defs₀
  refine congrArg (Defs.onTc (nD := Cert.Kernel3.nD) (τ := Cert.Kernel3.τ) (sig := Cert.Kernel3.sig) (Val := Elt Bits) (Λ := Cert.Kernel3.Λ₀)) ?_
  funext l a
  match l, a with
  | 0, (t, s) => rfl
  | ⟨_ + 1, h⟩, _ => exact absurd h (Nat.not_lt.2 (Nat.le_add_left _ _))

theorem defs_eq3 : Cert.Kernel3.defs (F := Bits) = Cert.Kernel3Ideal.defs (F := Bits) :=
  congrArg (Pipeline.defs (Cert.Kernel3Ideal.pcfgs (F := Bits))) body_eq3

/-- The kernel's run at the machine's floats, from the run over any floats. -/
theorem frame_kernel3 : Cert.quiescent_Kernel3 := fun m ρ _ => by
  rw [defs_eq3]
  exact Cert.Kernel3Ideal.Gen.frame (F := Bits) m ρ

/-- The two programs have the same text: their launch's body is the same program. -/
theorem body_eq4 : Cert.Kernel4.defs₀ (F := Bits) = Cert.Kernel4Ideal.defs₀ (F := Bits) := by
  unfold Cert.Kernel4.defs₀ Cert.Kernel4Ideal.defs₀
  refine congrArg (Defs.onTc (nD := Cert.Kernel4.nD) (τ := Cert.Kernel4.τ) (sig := Cert.Kernel4.sig) (Val := Elt Bits) (Λ := Cert.Kernel4.Λ₀)) ?_
  funext l a
  match l, a with
  | 0, (t, s) => rfl
  | ⟨_ + 1, h⟩, _ => exact absurd h (Nat.not_lt.2 (Nat.le_add_left _ _))

theorem defs_eq4 : Cert.Kernel4.defs (F := Bits) = Cert.Kernel4Ideal.defs (F := Bits) :=
  congrArg (Pipeline.defs (Cert.Kernel4Ideal.pcfgs (F := Bits))) body_eq4

/-- The kernel's run at the machine's floats, from the run over any floats. -/
theorem frame_kernel4 : Cert.quiescent_Kernel4 := fun m ρ _ => by
  rw [defs_eq4]
  exact Cert.Kernel4Ideal.Gen.frame (F := Bits) m ρ

theorem frame_ref2 : Cert.quiescent_Reference2Ideal := fun m ρ _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m ρ)

theorem frame_ref3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ref4 : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

end Cert.Proof
-- ==== Proof.Act.lean ====
/- The gradient of the gate and the down projection: what the points leave, the kernel's three results, and the reference's. -/
module

public import proofs.«01_k».proof.Proof.Gen.Kernel2Ideal.Value
public import proofs.«01_k».proof.Proof.Gen.Reference2Ideal.Run
public import proofs.«01_k».proof.Proof.Gen.Pre_finite2
public import proofs.«01_k».proof.Proof.Finite
public import Idealize.ShloMosaic.Lib.Pipeline.ValueKit
public import Idealize.ShloMosaic.Lib.Pipeline.ReadBack
public import Idealize.ShloMosaic.Lib.Claim
public import proofs.«01_k».proof.Defs
public import Idealize.ShloMosaic.Lib.Pointwise
public import Idealize.ShloMosaic.PureOps.Ideal.Laws
public import Idealize.ShloMosaic.Lib.StableHlo.RunRead

@[expose] public section
set_option maxRecDepth 16384
noncomputable section
namespace Cert.Act
open Idealize.ShloMosaic Idealize.ShloMosaic.TcCoe Idealize.SL.Sem Cert.Mix
open Cert.Kernel2Ideal Cert.Kernel2Ideal.Gen Cert.Kernel2Ideal.Value

/-- The real arrays of the call: the two hidden products, the down projection, and the output's cotangent. -/
structure Arr where
  a : Fin 8192 → Fin 3072 → ℝ
  b : Fin 8192 → Fin 3072 → ℝ
  w : Fin 3072 → Fin 1024 → ℝ
  ct : Fin 8192 → Fin 1024 → ℝ

namespace Arr
variable (A : Arr)
/-- The gated product's cotangent. -/
def ds (r : Fin 8192) (f : Fin 3072) : ℝ := ∑ d, A.ct r d * A.w f d
def sil (r : Fin 8192) (f : Fin 3072) : ℝ := A.a r f * sigm (A.a r f)
def da (r : Fin 8192) (f : Fin 3072) : ℝ := A.ds r f * A.b r f * (sigm (A.a r f) + A.sil r f * (1 - sigm (A.a r f)))
def db (r : Fin 8192) (f : Fin 3072) : ℝ := A.ds r f * A.sil r f
/-- One token's part of the down projection's gradient. -/
def part (r : Fin 8192) (f : Fin 3072) (d : Fin 1024) : ℝ := A.sil r f * A.b r f * A.ct r d
end Arr

/-- The arguments hold the arrays. -/
def Holds (x0 x1 : FVec Ideal ⟨2, ![8192, 3072]⟩ .f32) (x2 : FVec Ideal ⟨2, ![3072, 1024]⟩ .f32) (x3 : FVec Ideal ⟨2, ![8192, 1024]⟩ .f32) (A : Arr) : Prop :=
  (∀ r f, x0 (ix2 r f) = (A.a r f : EReal)) ∧ (∀ r f, x1 (ix2 r f) = (A.b r f : EReal))
    ∧ (∀ f d, x2 (ix2 f d) = (A.w f d : EReal)) ∧ ∀ r d, x3 (ix2 r d) = (A.ct r d : EReal)

/-- The token that row `r` of the block `k % 8` is, and the hidden channel that column `f` of the block of point `n` is. -/
abbrev rowN (k : ℕ) (r : Fin 1024) : Fin 8192 := ⟨k % 8 * 1024 + r.val, by omega⟩
abbrev colN (n : ℕ) (f : Fin 768) : Fin 3072 := ⟨n / 8 % 4 * 768 + f.val, by omega⟩

variable (m : (ℓ : Loc nD τ sig) → Buf (Elt Ideal) ℓ) (c : Dev nD) (t : Fin cfg0.N)

theorem lt32 : t.val < 32 := lt_of_lt_of_eq t.isLt (show cfg0.N = 32 from N_0)

theorem idx : ∀ t : Fin cfg0.N, win0_0.index t = ![t.val % 8, 0] ∧ win0_1.index t = ![t.val % 8, t.val / 8]
    ∧ win0_2.index t = ![t.val % 8, t.val / 8] ∧ win0_3.index t = ![t.val % 8, t.val / 8] ∧ win0_4.index t = ![0, t.val / 8] :=
  (by decide +kernel : ∀ t : Fin grid0.N, _)

theorem at0 (r : Fin 1024) (d : Fin 1024) : iblk m c 0 t (ix2 r d) = V m c main_v12 (ix2 (rowN t.val r) d) := by
  have hi := (idx t).1
  blk_simp [iblk]
  generalize V m c main_v12 = X
  blk_ext [hi]

theorem at1 (r : Fin 1024) (f : Fin 768) : iblk m c 1 t (ix2 r f) = V m c main_v13 (ix2 (rowN t.val r) (colN t.val f)) := by
  have hi := (idx t).2.1
  have := lt32 t
  have e : t.val / 8 % 4 = t.val / 8 := by omega
  blk_simp [iblk]
  generalize V m c main_v13 = X
  blk_ext [hi, e]

theorem at2 (r : Fin 1024) (f : Fin 768) : iblk m c 2 t (ix2 r f) = V m c main_v14 (ix2 (rowN t.val r) (colN t.val f)) := by
  have hi := (idx t).2.2.1
  have := lt32 t
  have e : t.val / 8 % 4 = t.val / 8 := by omega
  blk_simp [iblk]
  generalize V m c main_v14 = X
  blk_ext [hi, e]

theorem at3 (r : Fin 1024) (f : Fin 768) : iblk m c 3 t (ix2 r f) = V m c main_v15 (ix2 (rowN t.val r) (colN t.val f)) := by
  have hi := (idx t).2.2.2.1
  have := lt32 t
  have e : t.val / 8 % 4 = t.val / 8 := by omega
  blk_simp [iblk]
  generalize V m c main_v15 = X
  blk_ext [hi, e]

theorem at4 (d : Fin 1024) (f : Fin 768) : iblk m c 4 t (ix2 d f) = V m c main_v17 (ix2 d (colN t.val f)) := by
  have hi := (idx t).2.2.2.2
  have := lt32 t
  have e : t.val / 8 % 4 = t.val / 8 := by omega
  blk_simp [iblk]
  generalize V m c main_v17 = X
  blk_ext [hi, e]

/-- The kernel's arguments hold the arrays. -/
abbrev HoldsAt (A : Arr) : Prop := Holds (m ((c : Thread nD τ).loc main_arg0)) (m ((c : Thread nD τ).loc main_arg1))
  (m ((c : Thread nD τ).loc main_arg2)) (m ((c : Thread nD τ).loc main_arg3)) A

variable {A : Arr} {c} (H : HoldsAt m c A)
include H

theorem val12 (r : Fin 8192) (d : Fin 1024) : V m c main_v12 (ix2 r d) = (A.ct r d : EReal) := by
  rw [← H.2.2.2]
  after_reads_simp
  pointwise

theorem val13 (r : Fin 8192) (f : Fin 3072) : V m c main_v13 (ix2 r f) = (A.b r f : EReal) := by
  rw [← H.2.1]
  after_reads_simp
  pointwise

theorem val14 (r : Fin 8192) (f : Fin 3072) : V m c main_v14 (ix2 r f) = (A.sil r f : EReal) := by
  after_reads_simp
  pointwise
  have h := H.1 r f
  simp only [h, lit_half, ← EReal.coe_mul, tanh_real, ← EReal.coe_add, sigm_tanh]
  rfl

theorem val15 (r : Fin 8192) (f : Fin 3072) : V m c main_v15 (ix2 r f) = ((sigm (A.a r f) + A.sil r f * (1 - sigm (A.a r f)) : ℝ) : EReal) := by
  after_reads_simp
  pointwise
  have h := H.1 r f
  simp only [h, lit_half, lit_1, ← EReal.coe_mul, tanh_real, ← EReal.coe_add, ← EReal.coe_sub, sigm_tanh]
  rfl

theorem val17 (d : Fin 1024) (f : Fin 3072) : V m c main_v17 (ix2 d f) = (A.w f d : EReal) := by
  rw [← H.2.2.1]
  after_reads_simp
  pointwise

theorem b0 (r : Fin 1024) (d : Fin 1024) : iblk m c 0 t (ix2 r d) = (A.ct (rowN t.val r) d : EReal) := (at0 m c t r d).trans (val12 m H _ _)
theorem b1 (r : Fin 1024) (f : Fin 768) : iblk m c 1 t (ix2 r f) = (A.b (rowN t.val r) (colN t.val f) : EReal) := (at1 m c t r f).trans (val13 m H _ _)
theorem b2 (r : Fin 1024) (f : Fin 768) : iblk m c 2 t (ix2 r f) = (A.sil (rowN t.val r) (colN t.val f) : EReal) := (at2 m c t r f).trans (val14 m H _ _)
theorem b3 (r : Fin 1024) (f : Fin 768) : iblk m c 3 t (ix2 r f)
    = ((sigm (A.a (rowN t.val r) (colN t.val f)) + A.sil (rowN t.val r) (colN t.val f) * (1 - sigm (A.a (rowN t.val r) (colN t.val f))) : ℝ) : EReal) :=
  (at3 m c t r f).trans (val15 m H _ _)
theorem b4 (d : Fin 1024) (f : Fin 768) : iblk m c 4 t (ix2 d f) = (A.w (colN t.val f) d : EReal) := (at4 m c t d f).trans (val17 m H _ _)
omit H

/-- The body's formulas over blocks of real numbers. -/
theorem pay7_at (x : FVec Ideal S1024x1024 .bf16) (y : FVec Ideal S1024x768 .bf16) (z : FVec Ideal S1024x768 .bf16) (u : FVec Ideal S1024x768 .bf16)
    {X : Fin 1024 → Fin 1024 → ℝ} {Z : Fin 1024 → Fin 768 → ℝ} {Y U : Fin 1024 → Fin 768 → ℝ} (hx : ∀ r d, x (ix2 r d) = (X r d : EReal))
    (hy : ∀ r f, y (ix2 r f) = (Y r f : EReal)) (hz : ∀ d f, z (ix2 d f) = (Z d f : EReal)) (hu : ∀ r f, u (ix2 r f) = (U r f : EReal))
    (r : Fin 1024) (f : Fin 768) : (k0_pay7 x y z u : FVec Ideal S1024x768 .bf16) (ix2 r f) = (((∑ d, X r d * Z d f) * Y r f * U r f : ℝ) : EReal) := by
  pointwise [k0_pay7, k0_pay6, k0_pay5, k0_pay4, k0_pay3]
  simp only [hx, hy, hz, hu, ← EReal.coe_mul, coe_sum]

theorem pay8_at (x : FVec Ideal S1024x1024 .bf16) (y : FVec Ideal S1024x768 .bf16) (z : FVec Ideal S1024x768 .bf16)
    {X : Fin 1024 → Fin 1024 → ℝ} {Z : Fin 1024 → Fin 768 → ℝ} {Y : Fin 1024 → Fin 768 → ℝ} (hx : ∀ r d, x (ix2 r d) = (X r d : EReal))
    (hy : ∀ r f, y (ix2 r f) = (Y r f : EReal)) (hz : ∀ d f, z (ix2 d f) = (Z d f : EReal))
    (r : Fin 1024) (f : Fin 768) : (k0_pay8 x y z : FVec Ideal S1024x768 .bf16) (ix2 r f) = (((∑ d, X r d * Z d f) * Y r f : ℝ) : EReal) := by
  pointwise [k0_pay8, k0_pay6, k0_pay5, k0_pay4, k0_pay3]
  simp only [hx, hy, hz, ← EReal.coe_mul, coe_sum]

theorem pay9_at (x : FVec Ideal S1024x1024 .bf16) (y z : FVec Ideal S1024x768 .bf16) (acc : FVec Ideal S768x1024 .f32)
    {X : Fin 1024 → Fin 1024 → ℝ} {Y Z : Fin 1024 → Fin 768 → ℝ} {s : ℝ} (hx : ∀ r d, x (ix2 r d) = (X r d : EReal))
    (hy : ∀ r f, y (ix2 r f) = (Y r f : EReal)) (hz : ∀ r f, z (ix2 r f) = (Z r f : EReal))
    (f : Fin 768) (d : Fin 1024) (ha : acc (ix2 f d) = (s : EReal)) :
    (k0_pay9 x y z acc : FVec Ideal S768x1024 .f32) (ix2 f d) = ((s + ∑ r, Z r f * Y r f * X r d : ℝ) : EReal) := by
  pointwise [k0_pay9, k0_pay5, k0_pay4, k0_pay3]
  simp only [hx, hy, hz, ha, ← EReal.coe_mul, coe_sum, ← EReal.coe_add]

theorem pay2_at (f : Fin 768) (d : Fin 1024) : (k0_pay2 : FVec Ideal S768x1024 .f32) (ix2 f d) = ((0 : ℝ) : EReal) := by
  pointwise [k0_pay2]
  exact EReal.coe_zero.symm

theorem pay1_at (acc : FVec Ideal S768x1024 .f32) (f : Fin 768) (d : Fin 1024) : (k0_pay1 acc : FVec Ideal S768x1024 .bf16) (ix2 f d) = acc (ix2 f d) := by
  pointwise [k0_pay1]

include H

/-- What each point leaves in the two row blocks. -/
theorem da_at (n : ℕ) (h : n < cfg0.N) (r : Fin 1024) (f : Fin 768) :
    ((outsAt0 m c n h).1 : FVec Ideal S1024x768 .bf16) (ix2 r f) = (A.da (rowN n r) (colN n f) : EReal) := by
  have key := pay7_at _ _ _ _ (b0 m ⟨n, h⟩ H) (b1 m ⟨n, h⟩ H) (b4 m ⟨n, h⟩ H) (b3 m ⟨n, h⟩ H) r f
  rcases Nat.lt_or_ge 0 (n % 8) with h0 | h0
  · by_cases h7 : n % 8 = 7
    · rw [outsAt0_C m c ⟨n, h⟩ (by simp only []; omega) h7]
      frame_out
      exact key
    · rw [outsAt0_B m c ⟨n, h⟩ (by simp only []; omega) h7]
      frame_out
      exact key
  · rw [outsAt0_A m c ⟨n, h⟩ (by simp only []; omega) (by simp only []; omega)]
    frame_out
    exact key

theorem db_at (n : ℕ) (h : n < cfg0.N) (r : Fin 1024) (f : Fin 768) :
    ((outsAt0 m c n h).2.1 : FVec Ideal S1024x768 .bf16) (ix2 r f) = (A.db (rowN n r) (colN n f) : EReal) := by
  have key := pay8_at _ _ _ (b0 m ⟨n, h⟩ H) (b2 m ⟨n, h⟩ H) (b4 m ⟨n, h⟩ H) r f
  rcases Nat.lt_or_ge 0 (n % 8) with h0 | h0
  · by_cases h7 : n % 8 = 7
    · rw [outsAt0_C m c ⟨n, h⟩ (by simp only []; omega) h7]
      frame_out
      exact key
    · rw [outsAt0_B m c ⟨n, h⟩ (by simp only []; omega) h7]
      frame_out
      exact key
  · rw [outsAt0_A m c ⟨n, h⟩ (by simp only []; omega) (by simp only []; omega)]
    frame_out
    exact key

/-- What the accumulator holds after each point. -/
theorem acc_at : ∀ n (h : n < cfg0.N) (f : Fin 768) (d : Fin 1024), ((outsAt0 m c n h).2.2.2 : FVec Ideal S768x1024 .f32) (ix2 f d)
    = ((∑ k ∈ Finset.range (n % 8 + 1), ∑ r : Fin 1024, A.part (rowN k r) (colN n f) d : ℝ) : EReal) := by
  intro n
  induction n with
  | zero =>
    intro h f d
    rw [outsAt0_A m c ⟨0, h⟩ rfl (by simp)]
    frame_out
    refine (pay9_at _ _ _ _ (b0 m ⟨0, h⟩ H) (b1 m ⟨0, h⟩ H) (b2 m ⟨0, h⟩ H) f d (pay2_at f d)).trans ?_
    simp only [Nat.zero_mod, zero_add, Finset.sum_range_one]
    rfl
  | succ n ih =>
    intro h f d
    have hn := lt32 ⟨n + 1, h⟩
    by_cases h1 : (n + 1) % 8 = 0
    · rw [outsAt0_A m c ⟨n + 1, h⟩ h1 (by simp only []; omega)]
      frame_out
      refine (pay9_at _ _ _ _ (b0 m ⟨n + 1, h⟩ H) (b1 m ⟨n + 1, h⟩ H) (b2 m ⟨n + 1, h⟩ H) f d (pay2_at f d)).trans ?_
      simp only [h1, zero_add, Finset.sum_range_one, rowN, Nat.zero_mod]
      rfl
    · have e0 : (n + 1) % 8 = n % 8 + 1 := by omega
      have e1 : colN n f = colN (n + 1) f := by apply Fin.ext; simp only []; omega
      have e2 : (n % 8 + 1) % 8 = n % 8 + 1 := by omega
      have key := pay9_at _ _ _ (outsAt0 m c n (by omega)).2.2.2 (b0 m ⟨n + 1, h⟩ H) (b1 m ⟨n + 1, h⟩ H) (b2 m ⟨n + 1, h⟩ H) f d (ih (by omega) f d)
      have fin : ((∑ k ∈ Finset.range (n % 8 + 1), ∑ r : Fin 1024, A.part (rowN k r) (colN n f) d)
          + ∑ r, A.sil (rowN (n + 1) r) (colN (n + 1) f) * A.b (rowN (n + 1) r) (colN (n + 1) f) * A.ct (rowN (n + 1) r) d : ℝ)
          = ∑ k ∈ Finset.range ((n + 1) % 8 + 1), ∑ r : Fin 1024, A.part (rowN k r) (colN (n + 1) f) d := by
        rw [e0, Finset.sum_range_succ _ (n % 8 + 1), e1]
        refine congrArg _ (Finset.sum_congr rfl fun r _ => ?_)
        have : rowN (n + 1) r = rowN (n % 8 + 1) r := by apply Fin.ext; simp only [e0, e2]
        rw [this]
        rfl
      rw [← fin]
      by_cases h7 : (n + 1) % 8 = 7
      · rw [outsAt0_C m c ⟨n + 1, h⟩ h1 h7]
        frame_out
        first | exact key | (rw [read_unread_whole]; exact key)
      · rw [outsAt0_B m c ⟨n + 1, h⟩ h1 h7]
        frame_out
        first | exact key | (rw [read_unread_whole]; exact key)

/-- What a column block's last point writes. -/
theorem gd_at (n : ℕ) (h : n < cfg0.N) (hn : n % 8 = 7) (f : Fin 768) (d : Fin 1024) :
    ((outsAt0 m c n h).2.2.1 : FVec Ideal S768x1024 .bf16) (ix2 f d)
      = ((∑ k ∈ Finset.range 8, ∑ r : Fin 1024, A.part (rowN k r) (colN n f) d : ℝ) : EReal) := by
  have ha := acc_at m H n h f d
  have e : (outsAt0 m c n h).2.2.1 = k0_pay1 (outsAt0 m c n h).2.2.2 := by
    rw [outsAt0_C m c ⟨n, h⟩ (by simp only []; omega) hn]
    frame_out
  rw [e, pay1_at, ha, hn]
omit H

/-- A sum over the tokens is the sum of the eight blocks' sums. -/
theorem eighths (g : Fin 8192 → ℝ) : ∑ k ∈ Finset.range 8, ∑ r : Fin 1024, g (rowN k r) = ∑ r, g r := by
  rw [Finset.sum_range]
  rw [← Fintype.sum_prod_type' (f := fun (k : Fin 8) (r : Fin 1024) => g (rowN k r))]
  refine Fintype.sum_equiv (finProdFinEquiv (m := 8) (n := 1024)) _ _ fun x => congrArg g (Fin.ext ?_)
  have := x.1.isLt
  simp [finProdFinEquiv, rowN]
  omega

include H

/-- What the kernel leaves. -/
theorem G5_at (r : Fin 8192) (f : Fin 3072) : (G5 m c : FVec Ideal S8192x3072 .bf16) (ix2 r f) = (A.da r f : EReal) := by
  have hN : cfg0.N = 32 := N_0
  have hp : pt5Of (ix2 r f) = r.val / 1024 + 8 * (f.val / 768) := by simp [pt5Of, run5Of]
  have hl : loc5Of (ix2 r f) = ix2 (⟨r.val % 1024, by omega⟩ : Fin 1024) (⟨f.val % 768, by omega⟩ : Fin 768) := by blk_ext [loc5Of]
  unfold G5
  have hb : pt5Of (ix2 r f) < cfg0.N := by rw [hp, hN]; omega
  rw [dif_pos hb, ← outsAt0_sweep m c _ hb, hl]
  refine (da_at m H _ _ _ _).trans ?_
  have e1 : rowN (pt5Of (ix2 r f)) ⟨r.val % 1024, by omega⟩ = r := by apply Fin.ext; simp only [hp]; omega
  have e2 : colN (pt5Of (ix2 r f)) ⟨f.val % 768, by omega⟩ = f := by apply Fin.ext; simp only [hp]; omega
  rw [e1, e2]

theorem G6_at (r : Fin 8192) (f : Fin 3072) : (G6 m c : FVec Ideal S8192x3072 .bf16) (ix2 r f) = (A.db r f : EReal) := by
  have hN : cfg0.N = 32 := N_0
  have hp : pt6Of (ix2 r f) = r.val / 1024 + 8 * (f.val / 768) := by simp [pt6Of, run6Of]
  have hl : loc6Of (ix2 r f) = ix2 (⟨r.val % 1024, by omega⟩ : Fin 1024) (⟨f.val % 768, by omega⟩ : Fin 768) := by blk_ext [loc6Of]
  unfold G6
  have hb : pt6Of (ix2 r f) < cfg0.N := by rw [hp, hN]; omega
  rw [dif_pos hb, ← outsAt0_sweep m c _ hb, hl]
  refine (db_at m H _ _ _ _).trans ?_
  have e1 : rowN (pt6Of (ix2 r f)) ⟨r.val % 1024, by omega⟩ = r := by apply Fin.ext; simp only [hp]; omega
  have e2 : colN (pt6Of (ix2 r f)) ⟨f.val % 768, by omega⟩ = f := by apply Fin.ext; simp only [hp]; omega
  rw [e1, e2]

theorem G7_at (f : Fin 3072) (d : Fin 1024) : (G7 m c : FVec Ideal S3072x1024 .bf16) (ix2 f d) = ((∑ r, A.part r f d : ℝ) : EReal) := by
  have hN : cfg0.N = 32 := N_0
  have hp : pt7Of (ix2 f d) = 8 * (f.val / 768) + 7 := by simp [pt7Of, run7Of]
  have hl : loc7Of (ix2 f d) = ix2 (⟨f.val % 768, by omega⟩ : Fin 768) d := by blk_ext [loc7Of]
  unfold G7
  have hb : pt7Of (ix2 f d) < cfg0.N := by rw [hp, hN]; omega
  rw [dif_pos hb, ← outsAt0_sweep m c _ hb, hl]
  refine (gd_at m H _ _ (by rw [hp]; omega) _ d).trans ?_
  have e : colN (pt7Of (ix2 f d)) ⟨f.val % 768, by omega⟩ = f := by apply Fin.ext; simp only [hp]; omega
  rw [e, eighths fun r => A.part r f d]
omit H

/-- The precondition says that the arguments hold real arrays. -/
theorem holds_of (x0 x1 : FVec Ideal ⟨2, ![8192, 3072]⟩ .f32) (x2 : FVec Ideal ⟨2, ![3072, 1024]⟩ .f32) (x3 : FVec Ideal ⟨2, ![8192, 1024]⟩ .f32)
    (h : Cert.Pre_finite2.fn (F := Ideal) x0 x1 x2 x3 = fun _ => 1#1) :
    Holds x0 x1 x2 x3 ⟨fun r f => (x0 (ix2 r f)).toReal, fun r f => (x1 (ix2 r f)).toReal, fun f d => (x2 (ix2 f d)).toReal, fun r d => (x3 (ix2 r d)).toReal⟩ := by
  have h3 := IntOp.andi_eq_one.1 (congrFun h (fun i => i.elim0))
  have h2 := IntOp.andi_eq_one.1 h3.1
  have h1 := IntOp.andi_eq_one.1 h2.1
  exact ⟨fun r f => all_real x0 _ _ _ _ h1.1 _, fun r f => all_real x1 _ _ _ _ h1.2 _, fun f d => all_real x2 _ _ _ _ h2.2 _, fun r d => all_real x3 _ _ _ _ h3.2 _⟩

end Cert.Act

namespace Cert.ActRef
open Idealize.ShloMosaic Cert.Mix Cert.Act
open Cert.Reference2Ideal Cert.Reference2Ideal.Gen

/-- The reference's logistic function and gated product's cotangent. -/
def sg (x0 : FVec Ideal S8192x3072 .f32) : FVec Ideal S8192x3072 .f32 := Host.divf (broadcastInDim S8192x3072 ![] bcast_S_S8192x3072 (constant S_ .f32 0x3F800000#32)) (addf (broadcastInDim S8192x3072 ![] bcast_S_S8192x3072 (constant S_ .f32 0x3F800000#32)) (Host.exp (Host.negf x0)))
def dsr (x2 : FVec Ideal S3072x1024 .f32) (x3 : FVec Ideal S8192x1024 .f32) : FVec Ideal S8192x3072 .f32 := Host.dotGeneral dot_S8192x1024_S3072x1024_S8192x3072_1_1_0_0_n_n none x3 x2

variable {x0 x1 : FVec Ideal S8192x3072 .f32} {x2 : FVec Ideal S3072x1024 .f32} {x3 : FVec Ideal S8192x1024 .f32} {A : Arr} (H : Holds x0 x1 x2 x3 A)
include H

theorem sg_at (r : Fin 8192) (f : Fin 3072) : sg x0 (ix2 r f) = (sigm (A.a r f) : EReal) := by
  unfold sg
  pointwise
  simp only [H.1 _ _, exp_real, ← EReal.coe_neg, ← EReal.coe_one, ← EReal.coe_add]
  rw [div_real _ _ (by positivity)]
  rfl

theorem ds_at (r : Fin 8192) (f : Fin 3072) : dsr x2 x3 (ix2 r f) = (A.ds r f : EReal) := by
  unfold dsr
  pointwise
  simp only [H.2.2.1 _ _, H.2.2.2 _ _, ← EReal.coe_mul, coe_sum, Arr.ds]

theorem da_at (r : Fin 8192) (f : Fin 3072) : (truncf .bf16 (addf (mulf (mulf (dsr x2 x3) x1) (sg x0)) (mulf (mulf x0 (mulf (dsr x2 x3) x1)) (mulf (sg x0) (subf (broadcastInDim S8192x3072 ![] bcast_S_S8192x3072 (constant S_ .f32 0x3F800000#32)) (sg x0))))) bitsLt_bf16_f32 : FVec Ideal S8192x3072 .bf16) (ix2 r f) = (A.da r f : EReal) := by
  pointwise
  simp only [sg_at H, ds_at H, H.1 _ _, H.2.1 _ _, ← EReal.coe_one, ← EReal.coe_mul, ← EReal.coe_sub, ← EReal.coe_add]
  refine congrArg _ ?_
  unfold Arr.da Arr.sil
  ring

theorem db_at (r : Fin 8192) (f : Fin 3072) : (truncf .bf16 (mulf (mulf x0 (sg x0)) (dsr x2 x3)) bitsLt_bf16_f32 : FVec Ideal S8192x3072 .bf16) (ix2 r f) = (A.db r f : EReal) := by
  pointwise
  simp only [sg_at H, ds_at H, H.1 _ _, ← EReal.coe_mul]
  refine congrArg _ ?_
  unfold Arr.db Arr.sil
  ring

theorem dw_at (f : Fin 3072) (d : Fin 1024) : (truncf .bf16 (transpose S3072x1024 [1, 0] (Host.dotGeneral dot_S8192x1024_S8192x3072_S1024x3072_0_0_1_1_n_n none x3 (mulf (mulf x0 (sg x0)) x1)) transposes_S1024x3072_S3072x1024_1_0) bitsLt_bf16_f32 : FVec Ideal S3072x1024 .bf16) (ix2 f d) = ((∑ r, A.part r f d : ℝ) : EReal) := by
  pointwise
  simp only [sg_at H, H.1 _ _, H.2.1 _ _, H.2.2.2 _ _, ← EReal.coe_mul, coe_sum]
  refine congrArg _ (Finset.sum_congr rfl fun r _ => ?_)
  unfold Arr.part Arr.sil
  ring

end Cert.ActRef

namespace Cert.Act
open Cert.Kernel2Ideal Cert.Kernel2Ideal.Gen Cert.Kernel2Ideal.Value
open Idealize.ShloMosaic Idealize.ShloMosaic.TcCoe Idealize.SL.Sem Cert.Mix

/-- The kernel and the reference leave the same arrays. -/
theorem value : Cert.algebraic_Kernel2Ideal_Reference2Ideal_pre_finite2 := by
  intro m g m' g' hpre hagree
  have key : ∀ c, ∃ A, HoldsAt m c A := fun c => ⟨_, holds_of _ _ _ _ (hpre c)⟩
  choose A H using key
  have H' : ∀ c : Dev nD, Holds (m' ((c.tc : Thread Reference2Ideal.nD Reference2Ideal.τ).loc Reference2Ideal.main_arg0))
      (m' ((c.tc : Thread Reference2Ideal.nD Reference2Ideal.τ).loc Reference2Ideal.main_arg1))
      (m' ((c.tc : Thread Reference2Ideal.nD Reference2Ideal.τ).loc Reference2Ideal.main_arg2))
      (m' ((c.tc : Thread Reference2Ideal.nD Reference2Ideal.τ).loc Reference2Ideal.main_arg3)) (A c) := fun c => by
    rw [(hagree c).1, (hagree c).2.1, (hagree c).2.2.1, (hagree c).2.2.2]
    exact H c
  refine ⟨fun c => G5 m c, fun c => G6 m c, fun c => G7 m c, run m g, (θ_run Cert.Reference2Ideal.defs _ _).mono
    (fun _ h c => ⟨funext fun i => ?_, funext fun i => ?_, funext fun i => ?_, (h c).2.2.2⟩) (Cert.Reference2Ideal.Value.run m' g')⟩
  · refine (congrFun (h c).1 i).trans ?_
    obtain ⟨r, f, rfl⟩ : ∃ r f, i = ix2 r f := ⟨i 0, i 1, eq_ix2 i⟩
    exact (Cert.ActRef.da_at (H' c) r f).trans (G5_at m (H c) r f).symm
  · refine (congrFun (h c).2.1 i).trans ?_
    obtain ⟨r, f, rfl⟩ : ∃ r f, i = ix2 r f := ⟨i 0, i 1, eq_ix2 i⟩
    exact (Cert.ActRef.db_at (H' c) r f).trans (G6_at m (H c) r f).symm
  · refine (congrFun (h c).2.2.1 i).trans ?_
    obtain ⟨f, d, rfl⟩ : ∃ f d, i = ix2 f d := ⟨i 0, i 1, eq_ix2 i⟩
    exact (Cert.ActRef.dw_at (H' c) f d).trans (G7_at m (H c) f d).symm

end Cert.Act
-- ==== Proof.Wgrad.lean ====
/- The weight gradient's product: what the points accumulate, the kernel's result, and the reference's. -/
module

public import proofs.«01_k».proof.Proof.Gen.Kernel3Ideal.Value
public import proofs.«01_k».proof.Proof.Gen.Reference3Ideal.Run
public import proofs.«01_k».proof.Proof.Spec
public import Idealize.ShloMosaic.Lib.Pipeline.ValueKit
public import Idealize.ShloMosaic.Lib.Pipeline.ReadBack
public import Idealize.ShloMosaic.Lib.Claim
public import proofs.«01_k».proof.Defs
public import Idealize.ShloMosaic.Lib.Pointwise
public import Idealize.ShloMosaic.PureOps.Ideal.Laws
public import Idealize.ShloMosaic.Lib.StableHlo.RunRead

@[expose] public section
set_option maxRecDepth 16384
noncomputable section
namespace Cert.Wgrad
open Idealize.ShloMosaic Idealize.ShloMosaic.TcCoe Idealize.SL.Sem
open Cert.Kernel3Ideal Cert.Kernel3Ideal.Gen Cert.Kernel3Ideal.Value

/-- The token that row `r` of the half `k % 2` is, and the hidden channel that column `f` of the block of point `n` is. -/
abbrev rowN (k : ℕ) (r : Fin 4096) : Fin 8192 := ⟨k % 2 * 4096 + r.val, by omega⟩
abbrev colN (n : ℕ) (f : Fin 768) : Fin 3072 := ⟨n / 2 % 4 * 768 + f.val, by omega⟩

variable (m : (ℓ : Loc nD τ sig) → Buf (Elt Ideal) ℓ) (c : Dev nD) (t : Fin cfg0.N)

/-- The hidden activations' cotangent and the normalised inputs. -/
abbrev Y : FVec Ideal ⟨2, ![8192, 3072]⟩ .f32 := m ((c : Thread nD τ).loc main_arg1)
abbrev X : FVec Ideal ⟨2, ![8192, 1024]⟩ .f32 := m ((c : Thread nD τ).loc main_arg0)

theorem lt8 : t.val < 8 := lt_of_lt_of_eq t.isLt (show cfg0.N = 8 from N_0)

theorem idx : ∀ t : Fin cfg0.N, win0_0.index t = ![t.val % 2, t.val / 2] ∧ win0_1.index t = ![t.val % 2, 0] :=
  (by decide +kernel : ∀ t : Fin grid0.N, _)

theorem at0 (r : Fin 4096) (f : Fin 768) : iblk m c 0 t (ix2 r f) = V m c main_v0 (ix2 (rowN t.val r) (colN t.val f)) := by
  have hi := (idx t).1
  have := lt8 t
  have e : t.val / 2 % 4 = t.val / 2 := by omega
  blk_simp [iblk]
  generalize V m c main_v0 = X
  blk_ext [hi, e]

theorem at1 (r : Fin 4096) (d : Fin 1024) : iblk m c 1 t (ix2 r d) = V m c main_v1 (ix2 (rowN t.val r) d) := by
  have hi := (idx t).2
  blk_simp [iblk]
  generalize V m c main_v1 = X
  blk_ext [hi]

theorem val0 (r : Fin 8192) (f : Fin 3072) : V m c main_v0 (ix2 r f) = Y m c (ix2 r f) := by
  after_reads_simp
  pointwise

theorem val1 (r : Fin 8192) (d : Fin 1024) : V m c main_v1 (ix2 r d) = X m c (ix2 r d) := by
  after_reads_simp
  pointwise

/-- One point's step: the product of its rows is added. -/
theorem step (acc : FVec Ideal S768x1024 .f32) (f : Fin 768) (d : Fin 1024) :
    (k0_pay2 acc (iblk m c 0 t) (iblk m c 1 t) : FVec Ideal S768x1024 .f32) (ix2 f d)
      = acc (ix2 f d) + ∑ r : Fin 4096, Y m c (ix2 (rowN t.val r) (colN t.val f)) * X m c (ix2 (rowN t.val r) d) := by
  pointwise [k0_pay2]
  refine congrArg (acc (ix2 f d) + ·) (Finset.sum_congr rfl fun r _ => ?_)
  exact congrArg₂ (· * ·) ((at0 m c t r f).trans (val0 m c _ _)) ((at1 m c t r d).trans (val1 m c _ _))

theorem zero (f : Fin 768) (d : Fin 1024) : (k0_pay1 : FVec Ideal S768x1024 .f32) (ix2 f d) = 0 := by
  pointwise [k0_pay1]

theorem pay3_at (acc : FVec Ideal S768x1024 .f32) (f : Fin 768) (d : Fin 1024) :
    (k0_pay3 acc : FVec Ideal S768x1024 .bf16) (ix2 f d) = acc (ix2 f d) := by
  pointwise [k0_pay3]

/-- What the accumulator holds after each point. -/
theorem acc_at : ∀ n (h : n < cfg0.N) (f : Fin 768) (d : Fin 1024), ((outsAt0 m c n h).2 : FVec Ideal S768x1024 .f32) (ix2 f d)
    = ∑ k ∈ Finset.range (n % 2 + 1), ∑ r : Fin 4096, Y m c (ix2 (rowN k r) (colN n f)) * X m c (ix2 (rowN k r) d) := by
  intro n
  induction n with
  | zero =>
    intro h f d
    rw [outsAt0_A m c ⟨0, h⟩ rfl (by simp)]
    frame_out
    refine (step m c ⟨0, h⟩ _ f d).trans ?_
    rw [zero]
    simp only [Nat.zero_mod, zero_add, Finset.sum_range_one]
  | succ n ih =>
    intro h f d
    have hn := lt8 ⟨n + 1, h⟩
    by_cases h1 : (n + 1) % 2 = 0
    · rw [outsAt0_A m c ⟨n + 1, h⟩ h1 (by simp only []; omega)]
      frame_out
      refine (step m c ⟨n + 1, h⟩ _ f d).trans ?_
      rw [zero, h1]
      simp [rowN, h1]
    · have h2 : (n + 1) % 2 = 1 := by omega
      have e0 : n % 2 = 0 := by omega
      have e1 : colN n f = colN (n + 1) f := by apply Fin.ext; simp only []; omega
      rw [outsAt0_B m c ⟨n + 1, h⟩ h1 h2]
      frame_out
      rw [read_unread_whole]
      refine (step m c ⟨n + 1, h⟩ _ f d).trans ?_
      change (outsAt0 m c n _).2 (ix2 f d) + _ = _
      rw [ih, h2, e0, e1]
      simp [Finset.sum_range_succ, rowN, h2]

/-- What a block's last point writes. -/
theorem out_at (n : ℕ) (h : n < cfg0.N) (hn : n % 2 = 1) (f : Fin 768) (d : Fin 1024) :
    ((outsAt0 m c n h).1 : FVec Ideal S768x1024 .bf16) (ix2 f d)
      = ∑ k ∈ Finset.range 2, ∑ r : Fin 4096, Y m c (ix2 (rowN k r) (colN n f)) * X m c (ix2 (rowN k r) d) := by
  have ha := acc_at m c n h f d
  have e : (outsAt0 m c n h).1 = k0_pay3 (outsAt0 m c n h).2 := by
    rw [outsAt0_B m c ⟨n, h⟩ (by simp only []; omega) hn]
    frame_out
  rw [e, pay3_at, ha, hn]

/-- A sum over the tokens is the sum of the two halves' sums. -/
theorem halves (g : Fin 8192 → EReal) : ∑ k ∈ Finset.range 2, ∑ r : Fin 4096, g (rowN k r) = ∑ r, g r := by
  rw [Finset.sum_range]
  rw [← Fintype.sum_prod_type' (f := fun (k : Fin 2) (r : Fin 4096) => g (rowN k r))]
  refine Fintype.sum_equiv (finProdFinEquiv (m := 2) (n := 4096)) _ _ fun x => congrArg g (Fin.ext ?_)
  have := x.1.isLt
  simp [finProdFinEquiv, rowN]
  omega

/-- What the kernel leaves. -/
theorem G2_at (f : Fin 3072) (d : Fin 1024) : (G2 m c : FVec Ideal S3072x1024 .bf16) (ix2 f d)
    = ∑ r : Fin 8192, Y m c (ix2 r f) * X m c (ix2 r d) := by
  have hN : cfg0.N = 8 := N_0
  have hp : pt2Of (ix2 f d) = 2 * (f.val / 768) + 1 := by simp [pt2Of, run2Of]
  have hl : loc2Of (ix2 f d) = ix2 (⟨f.val % 768, by omega⟩ : Fin 768) d := by blk_ext [loc2Of]
  unfold G2
  have hb : pt2Of (ix2 f d) < cfg0.N := by rw [hp, hN]; omega
  rw [dif_pos hb, ← outsAt0_sweep m c _ hb, hl]
  refine (out_at m c _ _ (by rw [hp]; omega) _ d).trans ?_
  have e : colN (pt2Of (ix2 f d)) ⟨f.val % 768, by omega⟩ = f := by apply Fin.ext; simp only [hp]; omega
  rw [e]
  exact halves fun r => Y m c (ix2 r f) * X m c (ix2 r d)

/-- The reference's product. -/
theorem ref_at (y : FVec Ideal ⟨2, ![8192, 3072]⟩ .f32) (x : FVec Ideal ⟨2, ![8192, 1024]⟩ .f32) (h1 h2 h3) (f : Fin 3072) (d : Fin 1024) :
    (truncf .bf16 (transpose Reference3Ideal.S3072x1024 [1, 0] (transpose Reference3Ideal.S1024x3072 [1, 0]
      (Host.dotGeneral Reference3Ideal.dot_S8192x3072_S8192x1024_S3072x1024_0_0_1_1_n_n none y x) h1) h2) h3 : FVec Ideal ⟨2, ![3072, 1024]⟩ .bf16) (ix2 f d)
      = ∑ r : Fin 8192, y (ix2 r f) * x (ix2 r d) := by
  pointwise

/-- The kernel and the reference leave the same array. -/
theorem value : Cert.algebraic_Kernel3Ideal_Reference3Ideal := by
  intro m g m' g' _ hagree
  refine ⟨fun c => G2 m c, run m g, (θ_run Cert.Reference3Ideal.defs _ _).mono (fun _ h c => ⟨funext fun i => ?_, (h c).2⟩)
    (Cert.Reference3Ideal.Value.run m' g')⟩
  refine (congrFun (h c).1 i).trans ?_
  obtain ⟨f, d, rfl⟩ : ∃ f d, i = ix2 f d := ⟨i 0, i 1, eq_ix2 i⟩
  refine (ref_at _ _ _ _ _ f d).trans (Eq.trans ?_ (G2_at m c f d).symm)
  rw [(hagree c).1, (hagree c).2]

end Cert.Wgrad
-- ==== Proof.InGrad.lean ====
/- The gradient of the gate and up projections' input through the norm: what the points leave, the kernel's two results, and the reference's. -/
module

public import proofs.«01_k».proof.Proof.Gen.Kernel4Ideal.Value
public import proofs.«01_k».proof.Proof.Gen.Reference4Ideal.Run
public import proofs.«01_k».proof.Proof.Gen.Pre_finite4
public import proofs.«01_k».proof.Proof.Finite
public import Idealize.ShloMosaic.Lib.Pipeline.ValueKit
public import Idealize.ShloMosaic.Lib.Pipeline.ReadBack
public import Idealize.ShloMosaic.Lib.Claim
public import proofs.«01_k».proof.Defs
public import Idealize.ShloMosaic.Lib.Pointwise
public import Idealize.ShloMosaic.PureOps.Ideal.Laws
public import Idealize.ShloMosaic.Lib.StableHlo.RunRead

@[expose] public section
set_option maxRecDepth 16384
noncomputable section
namespace Cert.InGrad
open Idealize.ShloMosaic Idealize.ShloMosaic.TcCoe Idealize.SL.Sem Cert.Mix
open Cert.Kernel4Ideal Cert.Kernel4Ideal.Gen Cert.Kernel4Ideal.Value

/-- The real arrays of the call: the residual stream, the norm's gain, the two projections, the output's cotangent, and the two hidden products' cotangents. -/
structure Arr where
  x : Fin 8192 → Fin 1024 → ℝ
  n : Fin 1024 → ℝ
  wg : Fin 1024 → Fin 3072 → ℝ
  wu : Fin 1024 → Fin 3072 → ℝ
  ct : Fin 8192 → Fin 1024 → ℝ
  da : Fin 8192 → Fin 3072 → ℝ
  db : Fin 8192 → Fin 3072 → ℝ

/-- The norm's small constant: the binary32 number nearest to `1e-6`. -/
def eps6 : ℝ := 8796093 / 8796093022208

theorem lit_eps6 : Ideal.ofBits .f32 0x358637BD#32 = ((eps6 : ℝ) : EReal) := by
  unfold eps6; simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

namespace Arr
variable (A : Arr)
/-- The normalised input's cotangent. -/
def dh (r : Fin 8192) (d : Fin 1024) : ℝ := (∑ f, A.da r f * A.wg d f) + ∑ f, A.db r f * A.wu d f
def ms (r : Fin 8192) : ℝ := (∑ d, A.x r d * A.x r d) / 1024 + eps6
def inv (r : Fin 8192) : ℝ := 1 / Real.sqrt (A.ms r)
def xh (r : Fin 8192) (d : Fin 1024) : ℝ := A.x r d * A.inv r
def dhn (r : Fin 8192) (d : Fin 1024) : ℝ := A.dh r d * A.n d
def dx (r : Fin 8192) (d : Fin 1024) : ℝ := A.ct r d + A.inv r * (A.dhn r d - A.xh r d * ((∑ k, A.dhn r k * A.xh r k) / 1024))
def dn (r : Fin 8192) (d : Fin 1024) : ℝ := A.dh r d * A.xh r d

theorem ms_pos (r : Fin 8192) : 0 < A.ms r := by
  have h : 0 ≤ ∑ d, A.x r d * A.x r d := Finset.sum_nonneg fun d _ => mul_self_nonneg _
  have h6 : (0 : ℝ) < eps6 := by unfold eps6; norm_num
  unfold ms
  positivity
end Arr

/-- The arguments hold the arrays. -/
def Holds (x0 : FVec Ideal ⟨2, ![8192, 1024]⟩ .f32) (x1 : FVec Ideal ⟨1, ![1024]⟩ .f32) (x2 x3 : FVec Ideal ⟨2, ![1024, 3072]⟩ .f32)
    (x4 : FVec Ideal ⟨2, ![8192, 1024]⟩ .f32) (x5 x6 : FVec Ideal ⟨2, ![8192, 3072]⟩ .f32) (A : Arr) : Prop :=
  (∀ r d, x0 (ix2 r d) = (A.x r d : EReal)) ∧ (∀ d, x1 (ix1 d) = (A.n d : EReal)) ∧ (∀ d f, x2 (ix2 d f) = (A.wg d f : EReal))
    ∧ (∀ d f, x3 (ix2 d f) = (A.wu d f : EReal)) ∧ (∀ r d, x4 (ix2 r d) = (A.ct r d : EReal)) ∧ (∀ r f, x5 (ix2 r f) = (A.da r f : EReal))
    ∧ ∀ r f, x6 (ix2 r f) = (A.db r f : EReal)

/-- The token that row `r` of the block `k % 8` is, and the hidden channel that column `f` of the block `n % 4` is. -/
abbrev rowN (k : ℕ) (r : Fin 1024) : Fin 8192 := ⟨k % 8 * 1024 + r.val, by omega⟩
abbrev colN (n : ℕ) (f : Fin 768) : Fin 3072 := ⟨n % 4 * 768 + f.val, by omega⟩

variable (m : (ℓ : Loc nD τ sig) → Buf (Elt Ideal) ℓ) (c : Dev nD) (t : Fin cfg0.N)

theorem lt32 : t.val < 32 := lt_of_lt_of_eq t.isLt (show cfg0.N = 32 from N_0)

theorem idx : ∀ t : Fin cfg0.N, win0_0.index t = ![t.val / 4, t.val % 4] ∧ win0_1.index t = ![t.val / 4, t.val % 4]
    ∧ win0_2.index t = ![t.val / 4, 0] ∧ win0_3.index t = ![t.val / 4, 0] ∧ win0_4.index t = ![0, 0]
    ∧ win0_5.index t = ![t.val % 4, 0] ∧ win0_6.index t = ![t.val % 4, 1] :=
  (by decide +kernel : ∀ t : Fin grid0.N, _)

theorem at0 (r : Fin 1024) (f : Fin 768) : iblk m c 0 t (ix2 r f) = V m c main_v4 (ix2 (rowN (t.val / 4) r) (colN t.val f)) := by
  have hi := (idx t).1
  have := lt32 t
  have e : t.val / 4 % 8 = t.val / 4 := by omega
  blk_simp [iblk]
  generalize V m c main_v4 = X
  blk_ext [hi, e]

theorem at1 (r : Fin 1024) (f : Fin 768) : iblk m c 1 t (ix2 r f) = V m c main_v5 (ix2 (rowN (t.val / 4) r) (colN t.val f)) := by
  have hi := (idx t).2.1
  have := lt32 t
  have e : t.val / 4 % 8 = t.val / 4 := by omega
  blk_simp [iblk]
  generalize V m c main_v5 = X
  blk_ext [hi, e]

theorem at2 (r : Fin 1024) (d : Fin 1024) : iblk m c 2 t (ix2 r d) = V m c main_arg4 (ix2 (rowN (t.val / 4) r) d) := by
  have hi := (idx t).2.2.1
  have := lt32 t
  have e : t.val / 4 % 8 = t.val / 4 := by omega
  blk_simp [iblk]
  generalize V m c main_arg4 = X
  blk_ext [hi, e]

theorem at3 (r : Fin 1024) (d : Fin 1024) : iblk m c 3 t (ix2 r d) = V m c main_arg0 (ix2 (rowN (t.val / 4) r) d) := by
  have hi := (idx t).2.2.2.1
  have := lt32 t
  have e : t.val / 4 % 8 = t.val / 4 := by omega
  blk_simp [iblk]
  generalize V m c main_arg0 = X
  blk_ext [hi, e]

theorem at4 (z : Fin 1) (d : Fin 1024) : iblk m c 4 t (ix2 z d) = V m c main_v6 (ix2 z d) := by
  have hi := (idx t).2.2.2.2.1
  blk_simp [iblk]
  generalize V m c main_v6 = X
  blk_ext [hi]

theorem at5 (f : Fin 768) (d : Fin 1024) : iblk m c 5 t (ix2 f d) = V m c main_v3 (ix2 (colN t.val f) (⟨d.val, by omega⟩ : Fin 2048)) := by
  have hi := (idx t).2.2.2.2.2.1
  blk_simp [iblk]
  generalize V m c main_v3 = X
  blk_ext [hi]

theorem at6 (f : Fin 768) (d : Fin 1024) : iblk m c 6 t (ix2 f d) = V m c main_v3 (ix2 (colN t.val f) (⟨1024 + d.val, by omega⟩ : Fin 2048)) := by
  have hi := (idx t).2.2.2.2.2.2
  blk_simp [iblk]
  generalize V m c main_v3 = X
  blk_ext [hi]

/-- The kernel's arguments hold the arrays. -/
abbrev HoldsAt (A : Arr) : Prop := Holds (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) A

variable {A : Arr} {c} (H : HoldsAt m c A)
include H

theorem b0 (r : Fin 1024) (f : Fin 768) : iblk m c 0 t (ix2 r f) = (A.da (rowN (t.val / 4) r) (colN t.val f) : EReal) := by
  rw [at0, ← H.2.2.2.2.2.1]
  after_reads_simp
  pointwise

theorem b1 (r : Fin 1024) (f : Fin 768) : iblk m c 1 t (ix2 r f) = (A.db (rowN (t.val / 4) r) (colN t.val f) : EReal) := by
  rw [at1, ← H.2.2.2.2.2.2]
  after_reads_simp
  pointwise

theorem b2 (r d : Fin 1024) : iblk m c 2 t (ix2 r d) = (A.ct (rowN (t.val / 4) r) d : EReal) := by
  rw [at2, ← H.2.2.2.2.1]
  after_reads_simp

theorem b3 (r d : Fin 1024) : iblk m c 3 t (ix2 r d) = (A.x (rowN (t.val / 4) r) d : EReal) := by
  rw [at3, ← H.1]
  after_reads_simp

theorem b4 (z : Fin 1) (d : Fin 1024) : iblk m c 4 t (ix2 z d) = (A.n d : EReal) := by
  rw [at4, ← H.2.1]
  after_reads_simp
  pointwise

theorem b5 (f : Fin 768) (d : Fin 1024) : iblk m c 5 t (ix2 f d) = (A.wg d (colN t.val f) : EReal) := by
  rw [at5, ← H.2.2.1]
  after_reads_simp
  refine (concatenate_pair_apply_left (s₁ := S3072x1024) (s₂ := S3072x1024) (t := S3072x2048) 1 _ _ concatenates_S3072x1024_S3072x1024_S3072x2048_d1 _ rfl (ix2 (colN t.val f) d) (fun b => ?_)).trans ?_
  · match b with
    | 0 => rfl
    | 1 => rfl
  · after_reads_simp
    pointwise

theorem b6 (f : Fin 768) (d : Fin 1024) : iblk m c 6 t (ix2 f d) = (A.wu d (colN t.val f) : EReal) := by
  rw [at6, ← H.2.2.2.1]
  after_reads_simp
  refine (concatenate_pair_apply_right (s₁ := S3072x1024) (s₂ := S3072x1024) (t := S3072x2048) 1 _ _ concatenates_S3072x1024_S3072x1024_S3072x2048_d1 _ rfl rfl (ix2 (colN t.val f) d) (fun b hb => ?_) ?_).trans ?_
  · match b with
    | 0 => rfl
    | 1 => exact absurd rfl hb
  · exact Nat.add_comm _ _
  · after_reads_simp
    pointwise
omit H

/-- The body's formulas over blocks of real numbers. -/
theorem pay3_at (acc : FVec Ideal S1024x1024 .f32) (a : FVec Ideal S1024x768 .bf16) (u : FVec Ideal S768x1024 .bf16) (b : FVec Ideal S1024x768 .bf16)
    (v : FVec Ideal S768x1024 .bf16) {P Q : Fin 1024 → Fin 768 → ℝ} {U W : Fin 768 → Fin 1024 → ℝ} {s : ℝ}
    (ha : ∀ r f, a (ix2 r f) = (P r f : EReal)) (hu : ∀ f d, u (ix2 f d) = (U f d : EReal)) (hb : ∀ r f, b (ix2 r f) = (Q r f : EReal))
    (hv : ∀ f d, v (ix2 f d) = (W f d : EReal)) (r d : Fin 1024) (hs : acc (ix2 r d) = (s : EReal)) :
    (k0_pay3 acc a u b v : FVec Ideal S1024x1024 .f32) (ix2 r d) = ((s + ((∑ f, P r f * U f d) + ∑ f, Q r f * W f d) : ℝ) : EReal) := by
  pointwise [k0_pay3]
  simp only [ha, hu, hb, hv, hs, ← EReal.coe_mul, coe_sum, ← EReal.coe_add]

theorem pay2_at (r d : Fin 1024) : (k0_pay2 : FVec Ideal S1024x1024 .f32) (ix2 r d) = ((0 : ℝ) : EReal) := by
  pointwise [k0_pay2]
  exact EReal.coe_zero.symm

theorem pay1_at (z : Fin 1) (d : Fin 1024) : (k0_pay1 : FVec Ideal S1x1024 .f32) (ix2 z d) = ((0 : ℝ) : EReal) := by
  pointwise [k0_pay1]
  exact EReal.coe_zero.symm

section Norm
variable {x h v : FVec Ideal S1024x1024 .f32} {n : FVec Ideal S1x1024 .f32} {ro : Fin 1024 → Fin 8192}
  (hx : ∀ r d, x (ix2 r d) = (A.x (ro r) d : EReal))
include hx

theorem pay4_at (r : Fin 1024) (z : Fin 1) : (k0_pay4 x : FVec Ideal S1024x1 .f32) (ix2 r z) = (A.inv (ro r) : EReal) := by
  pointwise [k0_pay4]
  simp only [hx, lit_1024, lit_eps6, ← EReal.coe_mul, coe_sum]
  rw [div_real _ _ (by norm_num), ← EReal.coe_add]
  exact rsqrt_real _ (A.ms_pos (ro r))

theorem pay5_at (r d : Fin 1024) : (k0_pay5 x : FVec Ideal S1024x1024 .f32) (ix2 r d) = (A.xh (ro r) d : EReal) := by
  pointwise [k0_pay5]
  rw [pay4_at hx, hx, ← EReal.coe_mul]
  rfl

variable (hh : ∀ r d, h (ix2 r d) = (A.dh (ro r) d : EReal))
include hh

theorem pay6_at (y : FVec Ideal S1x1024 .f32) (z : Fin 1) (d : Fin 1024) {s : ℝ} (hs : y (ix2 z d) = (s : EReal)) :
    (k0_pay6 x h y : FVec Ideal S1x1024 .f32) (ix2 z d) = ((s + ∑ r, A.dn (ro r) d : ℝ) : EReal) := by
  pointwise [k0_pay6]
  simp only [pay5_at hx, hh, hs, ← EReal.coe_mul, coe_sum, ← EReal.coe_add]
  rfl

theorem pay7_at (hn : ∀ z d, n (ix2 z d) = (A.n d : EReal)) (hv : ∀ r d, v (ix2 r d) = (A.ct (ro r) d : EReal)) (r d : Fin 1024) :
    (k0_pay7 x h n v : FVec Ideal S1024x1024 .f32) (ix2 r d) = (A.dx (ro r) d : EReal) := by
  pointwise [k0_pay7]
  simp only [pay4_at hx, pay5_at hx, hh, hn, hv, lit_1024, ← EReal.coe_mul, coe_sum]
  rw [div_real _ _ (by norm_num)]
  simp only [← EReal.coe_mul, ← EReal.coe_sub, ← EReal.coe_add]
  rfl
end Norm

/-- One column block's part of the normalised input's cotangent. -/
def Arr.part (A : Arr) (r : Fin 8192) (k : ℕ) (d : Fin 1024) : ℝ :=
  (∑ f : Fin 768, A.da r (colN k f) * A.wg d (colN k f)) + ∑ f : Fin 768, A.db r (colN k f) * A.wu d (colN k f)

/-- The four column blocks' parts are the whole. -/
theorem quarters (g : Fin 3072 → ℝ) : ∑ k ∈ Finset.range 4, ∑ f : Fin 768, g (colN k f) = ∑ f, g f := by
  rw [Finset.sum_range]
  rw [← Fintype.sum_prod_type' (f := fun (k : Fin 4) (r : Fin 768) => g (colN k r))]
  refine Fintype.sum_equiv (finProdFinEquiv (m := 4) (n := 768)) _ _ fun x => congrArg g (Fin.ext ?_)
  have := x.1.isLt
  simp [finProdFinEquiv, colN]
  omega

theorem parts (r : Fin 8192) (d : Fin 1024) : ∑ k ∈ Finset.range 4, A.part r k d = A.dh r d := by
  unfold Arr.part Arr.dh
  rw [Finset.sum_add_distrib, quarters fun f => A.da r f * A.wg d f, quarters fun f => A.db r f * A.wu d f]

/-- A sum over the tokens is the sum of the eight blocks' sums. -/
theorem eighths (g : Fin 8192 → ℝ) : ∑ k ∈ Finset.range 8, ∑ r : Fin 1024, g (rowN k r) = ∑ r, g r := by
  rw [Finset.sum_range]
  rw [← Fintype.sum_prod_type' (f := fun (k : Fin 8) (r : Fin 1024) => g (rowN k r))]
  refine Fintype.sum_equiv (finProdFinEquiv (m := 8) (n := 1024)) _ _ fun x => congrArg g (Fin.ext ?_)
  have := x.1.isLt
  simp [finProdFinEquiv, rowN]
  omega

include H

/-- One point's step of the accumulator. -/
theorem step (acc : FVec Ideal S1024x1024 .f32) (r d : Fin 1024) {s : ℝ} (hs : acc (ix2 r d) = (s : EReal)) :
    (k0_pay3 acc (iblk m c 0 t) (iblk m c 5 t) (iblk m c 1 t) (iblk m c 6 t) : FVec Ideal S1024x1024 .f32) (ix2 r d)
      = ((s + A.part (rowN (t.val / 4) r) t.val d : ℝ) : EReal) :=
  pay3_at acc _ _ _ _ (b0 m t H) (b5 m t H) (b1 m t H) (b6 m t H) r d hs

/-- What the accumulator holds after each point. -/
theorem acc_at : ∀ n (h : n < cfg0.N) (r d : Fin 1024), ((outsAt0 m c n h).2.2 : FVec Ideal S1024x1024 .f32) (ix2 r d)
    = ((∑ k ∈ Finset.range (n % 4 + 1), A.part (rowN (n / 4) r) k d : ℝ) : EReal) := by
  intro n
  induction n with
  | zero =>
    intro h r d
    rw [outsAt0_A m c ⟨0, h⟩ rfl rfl (by simp)]
    frame_out
    refine (step m ⟨0, h⟩ H _ r d (pay2_at r d)).trans ?_
    simp only [Nat.zero_mod, zero_add, Finset.sum_range_one]
  | succ n ih =>
    intro h r d
    have hn := lt32 ⟨n + 1, h⟩
    have colm : ∀ k, A.part (rowN ((n + 1) / 4) r) k d = A.part (rowN ((n + 1) / 4) r) (k % 4) d := fun k => by
      unfold Arr.part colN
      simp only [Nat.mod_mod]
    by_cases h1 : (n + 1) % 4 = 0
    · have key := step m ⟨n + 1, h⟩ H _ r d (pay2_at r d)
      have fin : ((0 : ℝ) + A.part (rowN ((n + 1) / 4) r) (n + 1) d) = ∑ k ∈ Finset.range ((n + 1) % 4 + 1), A.part (rowN ((n + 1) / 4) r) k d := by
        rw [colm (n + 1), h1, zero_add, zero_add, Finset.sum_range_one]
      rw [← fin]
      by_cases h0 : (n + 1) % 32 = 0
      · rw [outsAt0_A m c ⟨n + 1, h⟩ h0 h1 (by simp only []; omega)]
        frame_out
        exact key
      · rw [outsAt0_D m c ⟨n + 1, h⟩ h0 h1 (by simp only []; omega)]
        frame_out
        exact key
    · have e0 : (n + 1) % 4 = n % 4 + 1 := by omega
      have e1 : (n + 1) / 4 = n / 4 := by omega
      have key := step m ⟨n + 1, h⟩ H (outsAt0 m c n (by omega)).2.2 r d (ih (by omega) r d)
      have fin : (∑ k ∈ Finset.range (n % 4 + 1), A.part (rowN (n / 4) r) k d) + A.part (rowN ((n + 1) / 4) r) (n + 1) d
          = ∑ k ∈ Finset.range ((n + 1) % 4 + 1), A.part (rowN ((n + 1) / 4) r) k d := by
        rw [colm (n + 1), e0, e1, Finset.sum_range_succ _ (n % 4 + 1)]
      rw [← fin]
      have h0 : ¬(n + 1) % 32 = 0 := by omega
      by_cases h3 : (n + 1) % 4 = 3
      · rw [outsAt0_C m c ⟨n + 1, h⟩ h0 h1 h3]
        frame_out
        first | exact key | (rw [read_unread_whole]; exact key)
      · rw [outsAt0_B m c ⟨n + 1, h⟩ h0 h1 h3]
        frame_out
        first | exact key | (rw [read_unread_whole]; exact key)

/-- At a row block's last point the accumulator holds the normalised input's cotangent. -/
theorem dh_at (n : ℕ) (h : n < cfg0.N) (hn : n % 4 = 3) (r d : Fin 1024) :
    ((outsAt0 m c n h).2.2 : FVec Ideal S1024x1024 .f32) (ix2 r d) = (A.dh (rowN (n / 4) r) d : EReal) := by
  rw [acc_at m H n h r d, hn, parts]

/-- What a row block's last point writes. -/
theorem dx_at (n : ℕ) (h : n < cfg0.N) (hn : n % 4 = 3) (r d : Fin 1024) :
    ((outsAt0 m c n h).1 : FVec Ideal S1024x1024 .f32) (ix2 r d) = (A.dx (rowN (n / 4) r) d : EReal) := by
  have e : (outsAt0 m c n h).1 = k0_pay7 (iblk m c 3 ⟨n, h⟩) (outsAt0 m c n h).2.2 (iblk m c 4 ⟨n, h⟩) (iblk m c 2 ⟨n, h⟩) := by
    rw [outsAt0_C m c ⟨n, h⟩ (by simp only []; omega) (by simp only []; omega) hn]
    frame_out
  rw [e]
  exact pay7_at (ro := rowN (n / 4)) (b3 m ⟨n, h⟩ H) (dh_at m H n h hn) (b4 m ⟨n, h⟩ H) (b2 m ⟨n, h⟩ H) r d

/-- What the gain's gradient's row holds after each point. -/
theorem dn_at : ∀ n (h : n < cfg0.N) (z : Fin 1) (d : Fin 1024), ((outsAt0 m c n h).2.1 : FVec Ideal S1x1024 .f32) (ix2 z d)
    = ((∑ k ∈ Finset.range ((n + 1) / 4), ∑ r : Fin 1024, A.dn (rowN k r) d : ℝ) : EReal) := by
  intro n
  induction n with
  | zero =>
    intro h z d
    rw [outsAt0_A m c ⟨0, h⟩ rfl rfl (by simp)]
    frame_out
    exact pay1_at z d
  | succ n ih =>
    intro h z d
    have hn := lt32 ⟨n + 1, h⟩
    have h0 : ¬(n + 1) % 32 = 0 := by simp only [] at hn; omega
    have key := ih (by omega) z d
    by_cases h3 : (n + 1) % 4 = 3
    · have e : (outsAt0 m c (n + 1) h).2.1 = k0_pay6 (iblk m c 3 ⟨n + 1, h⟩) (outsAt0 m c (n + 1) h).2.2 (outsAt0 m c n (by omega)).2.1 := by
        rw [outsAt0_C m c ⟨n + 1, h⟩ h0 (by simp only []; omega) h3]
        frame_out
        try rfl
      have e4 : (n + 1 + 1) / 4 = (n + 1) / 4 + 1 := by omega
      rw [e, e4, Finset.sum_range_succ]
      exact pay6_at (ro := rowN ((n + 1) / 4)) (b3 m ⟨n + 1, h⟩ H) (dh_at m H (n + 1) h h3) _ z d key
    · have e4 : (n + 1 + 1) / 4 = (n + 1) / 4 := by omega
      rw [e4]
      by_cases h1 : (n + 1) % 4 = 0
      · rw [outsAt0_D m c ⟨n + 1, h⟩ h0 h1 (by simp only []; omega)]
        frame_out
        first | exact key | (rw [read_unread_whole]; exact key)
      · rw [outsAt0_B m c ⟨n + 1, h⟩ h0 h1 h3]
        frame_out
        first | exact key | (rw [read_unread_whole]; exact key)

/-- What the kernel leaves. -/
theorem G7_at (r : Fin 8192) (d : Fin 1024) : (G7 m c : FVec Ideal S8192x1024 .f32) (ix2 r d) = (A.dx r d : EReal) := by
  have hN : cfg0.N = 32 := N_0
  have hp : pt7Of (ix2 r d) = 4 * (r.val / 1024) + 3 := by simp [pt7Of, run7Of]
  have hl : loc7Of (ix2 r d) = ix2 (⟨r.val % 1024, by omega⟩ : Fin 1024) d := by blk_ext [loc7Of]
  unfold G7
  have hb : pt7Of (ix2 r d) < cfg0.N := by rw [hp, hN]; omega
  rw [dif_pos hb, ← outsAt0_sweep m c _ hb, hl]
  refine (dx_at m H _ _ (by rw [hp]; omega) _ d).trans ?_
  have e : rowN (pt7Of (ix2 r d) / 4) ⟨r.val % 1024, by omega⟩ = r := by apply Fin.ext; simp only [hp]; omega
  rw [e]

theorem G8_at (z : Fin 1) (d : Fin 1024) : (G8 m c : FVec Ideal S1x1024 .f32) (ix2 z d) = ((∑ r, A.dn r d : ℝ) : EReal) := by
  have hN : cfg0.N = 32 := N_0
  have hp : pt8Of (ix2 z d) = 31 := by simp [pt8Of, run8Of]
  have hl : loc8Of (ix2 z d) = ix2 z d := by blk_ext [loc8Of]
  unfold G8
  have hb : pt8Of (ix2 z d) < cfg0.N := by rw [hp, hN]; omega
  rw [dif_pos hb, ← outsAt0_sweep m c _ hb, hl]
  refine (dn_at m H _ _ z d).trans ?_
  rw [hp, eighths fun r => A.dn r d]
omit H

/-- The precondition says that the arguments hold real arrays. -/
theorem holds_of (x0 : FVec Ideal ⟨2, ![8192, 1024]⟩ .f32) (x1 : FVec Ideal ⟨1, ![1024]⟩ .f32) (x2 x3 : FVec Ideal ⟨2, ![1024, 3072]⟩ .f32)
    (x4 : FVec Ideal ⟨2, ![8192, 1024]⟩ .f32) (x5 x6 : FVec Ideal ⟨2, ![8192, 3072]⟩ .f32)
    (h : Cert.Pre_finite4.fn (F := Ideal) x0 x1 x2 x3 x4 x5 x6 = fun _ => 1#1) :
    Holds x0 x1 x2 x3 x4 x5 x6 ⟨fun r d => (x0 (ix2 r d)).toReal, fun d => (x1 (ix1 d)).toReal, fun d f => (x2 (ix2 d f)).toReal,
      fun d f => (x3 (ix2 d f)).toReal, fun r d => (x4 (ix2 r d)).toReal, fun r f => (x5 (ix2 r f)).toReal, fun r f => (x6 (ix2 r f)).toReal⟩ := by
  have h6 := IntOp.andi_eq_one.1 (congrFun h (fun i => i.elim0))
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  exact ⟨fun r f => all_real x0 _ _ _ _ h1.1 _, fun d => all_real x1 _ _ _ _ h1.2 _, fun f d => all_real x2 _ _ _ _ h2.2 _, fun r d => all_real x3 _ _ _ _ h3.2 _,
    fun r d => all_real x4 _ _ _ _ h4.2 _, fun r d => all_real x5 _ _ _ _ h5.2 _, fun r d => all_real x6 _ _ _ _ h6.2 _⟩

end Cert.InGrad

namespace Cert.InGradRef
open Idealize.ShloMosaic Cert.Mix Cert.InGrad
open Cert.Reference4Ideal Cert.Reference4Ideal.Gen

/-- The reference's parts: the normalised input's cotangent, the mean square and its constant, the cotangent times the gain, and the mean square's cotangent. -/
def dhr (x2 x3 : FVec Ideal S1024x3072 .f32) (x5 x6 : FVec Ideal S8192x3072 .f32) : FVec Ideal S8192x1024 .f32 := addf (Host.dotGeneral dot_S8192x3072_S1024x3072_S8192x1024_1_1_0_0_n_n none x6 x3) (Host.dotGeneral dot_S8192x3072_S1024x3072_S8192x1024_1_1_0_0_n_n none x5 x2)
def msr (x0 : FVec Ideal S8192x1024 .f32) : FVec Ideal S8192x1 .f32 := addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def dhnr (x1 : FVec Ideal S1024 .f32) (x2 x3 : FVec Ideal S1024x3072 .f32) (x5 x6 : FVec Ideal S8192x3072 .f32) : FVec Ideal S8192x1024 .f32 := mulf (dhr x2 x3 x5 x6) (broadcastInDim S8192x1024 ![0, 1] bcast_S1x1024_S8192x1024_0_1 (broadcastInDim S1x1024 ![1] bcast_S1024_S1x1024_1 x1))
def qr (x0 : FVec Ideal S8192x1024 .f32) (x1 : FVec Ideal S1024 .f32) (x2 x3 : FVec Ideal S1024x3072 .f32) (x5 x6 : FVec Ideal S8192x3072 .f32) : FVec Ideal S8192 .f32 :=
  Host.reduceAdd (Host.divf (mulf (shapeCast _ (Host.reduceAdd (mulf x0 (dhnr x1 x2 x3 x5 x6)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msr x0)) (msr x0)))) (broadcastInDim S8192x1 ![] bcast_S_S8192x1 (constant S_ .f32 0x44800000#32))) (constant S_ .f32 0x00000000#32) reducesTo_S8192x1_S8192_d1 h_S_

variable {x0 : FVec Ideal S8192x1024 .f32} {x1 : FVec Ideal S1024 .f32} {x2 x3 : FVec Ideal S1024x3072 .f32} {x4 : FVec Ideal S8192x1024 .f32}
  {x5 x6 : FVec Ideal S8192x3072 .f32} {A : Arr} (H : Holds x0 x1 x2 x3 x4 x5 x6 A)
include H

theorem dh_at (r : Fin 8192) (d : Fin 1024) : dhr x2 x3 x5 x6 (ix2 r d) = (A.dh r d : EReal) := by
  unfold dhr
  pointwise
  simp only [H.2.2.1 _ _, H.2.2.2.1 _ _, H.2.2.2.2.2.1 _ _, H.2.2.2.2.2.2 _ _, ← EReal.coe_mul, coe_sum, ← EReal.coe_add]
  refine congrArg _ ?_
  unfold Arr.dh
  ring

theorem ms_at (r : Fin 8192) (z : Fin 1) : msr x0 (ix2 r z) = (A.ms r : EReal) := by
  unfold msr
  pointwise
  simp only [H.1 _ _, lit_1024, lit_eps6, ← EReal.coe_mul, coe_sum]
  rw [div_real _ _ (by norm_num), ← EReal.coe_add]
  rfl

theorem dhn_at (r : Fin 8192) (d : Fin 1024) : dhnr x1 x2 x3 x5 x6 (ix2 r d) = (A.dhn r d : EReal) := by
  unfold dhnr
  pointwise
  simp only [dh_at H, H.2.1 _, ← EReal.coe_mul]
  rfl

theorem q_at (r : Fin 8192) : qr x0 x1 x2 x3 x5 x6 (ix1 r) = (((∑ k, A.x r k * A.dhn r k) * (-(1 / 2) * (A.inv r / A.ms r)) / 1024 : ℝ) : EReal) := by
  unfold qr
  pointwise
  simp only [ms_at H, dhn_at H, H.1 _ _, lit_1024, lit_neg_half, rsqrt_real _ (A.ms_pos r), div_real _ _ (A.ms_pos r).ne', ← EReal.coe_mul, coe_sum]
  simp only [div_real _ _ (show (1024 : ℝ) ≠ 0 by norm_num), Finset.univ_unique, Finset.sum_singleton]
  rfl

theorem dx_at (r : Fin 8192) (d : Fin 1024) : (addf (addf (addf x4 (mulf (dhnr x1 x2 x3 x5 x6) (broadcastInDim S8192x1024 ![0, 1] bcast_S8192x1_S8192x1024_0_1 (Host.rsqrt (msr x0))))) (mulf x0 (broadcastInDim S8192x1024 ![0] bcast_S8192_S8192x1024_0 (qr x0 x1 x2 x3 x5 x6)))) (mulf (broadcastInDim S8192x1024 ![0] bcast_S8192_S8192x1024_0 (qr x0 x1 x2 x3 x5 x6)) x0) : FVec Ideal S8192x1024 .f32) (ix2 r d) = (A.dx r d : EReal) := by
  pointwise
  simp only [ms_at H, dh_at H, dhn_at H, q_at H, H.1 _ _, H.2.1 _, H.2.2.2.2.1 _ _, rsqrt_real _ (A.ms_pos r), ← EReal.coe_mul, ← EReal.coe_add]
  refine congrArg _ ?_
  have hs : ∑ k, A.dhn r k * A.xh r k = (∑ k, A.x r k * A.dhn r k) * A.inv r := by
    rw [Finset.sum_mul]
    refine Finset.sum_congr rfl fun k _ => ?_
    unfold Arr.xh
    ring
  have hi : A.inv r / A.ms r = A.inv r * A.inv r * A.inv r := by
    have h := A.ms_pos r
    have h2 := Real.sqrt_pos.2 h
    have h3 : A.ms r = Real.sqrt (A.ms r) * Real.sqrt (A.ms r) := (Real.mul_self_sqrt h.le).symm
    unfold Arr.inv
    generalize Real.sqrt (A.ms r) = s at *
    rw [h3]
    field_simp
  unfold Arr.dx
  rw [hs, hi]
  unfold Arr.xh
  change A.ct r d + A.dhn r d * A.inv r + _ + _ = _
  ring

theorem dn_at (z : Fin 1) (d : Fin 1024) : (shapeCast _ (Host.reduceAdd (shapeCast _ (Host.reduceAdd (mulf (mulf x0 (broadcastInDim S8192x1024 ![0, 1] bcast_S8192x1_S8192x1024_0_1 (Host.rsqrt (msr x0)))) (dhr x2 x3 x5 x6)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) (ix2 z d) = ((∑ r, A.dn r d : ℝ) : EReal) := by
  pointwise
  simp only [ms_at H, dh_at H, H.1 _ _, rsqrt_real _ (A.ms_pos _), ← EReal.coe_mul, coe_sum, Finset.univ_unique, Finset.sum_singleton]
  refine congrArg _ (Finset.sum_congr rfl fun r _ => ?_)
  unfold Arr.dn Arr.xh Arr.inv
  ring

end Cert.InGradRef

namespace Cert.InGrad
open Idealize.ShloMosaic Idealize.ShloMosaic.TcCoe Idealize.SL.Sem Cert.Mix
open Cert.Kernel4Ideal Cert.Kernel4Ideal.Gen Cert.Kernel4Ideal.Value

/-- The kernel and the reference leave the same arrays. -/
theorem value : Cert.algebraic_Kernel4Ideal_Reference4Ideal_pre_finite4 := by
  intro m g m' g' hpre hagree
  have key : ∀ c, ∃ A, HoldsAt m c A := fun c => ⟨_, holds_of _ _ _ _ _ _ _ (hpre c)⟩
  choose A H using key
  have H' : ∀ c : Dev nD, Holds (m' ((c.tc : Thread Reference4Ideal.nD Reference4Ideal.τ).loc Reference4Ideal.main_arg0))
      (m' ((c.tc : Thread Reference4Ideal.nD Reference4Ideal.τ).loc Reference4Ideal.main_arg1))
      (m' ((c.tc : Thread Reference4Ideal.nD Reference4Ideal.τ).loc Reference4Ideal.main_arg2))
      (m' ((c.tc : Thread Reference4Ideal.nD Reference4Ideal.τ).loc Reference4Ideal.main_arg3))
      (m' ((c.tc : Thread Reference4Ideal.nD Reference4Ideal.τ).loc Reference4Ideal.main_arg4))
      (m' ((c.tc : Thread Reference4Ideal.nD Reference4Ideal.τ).loc Reference4Ideal.main_arg5))
      (m' ((c.tc : Thread Reference4Ideal.nD Reference4Ideal.τ).loc Reference4Ideal.main_arg6)) (A c) := fun c => by
    rw [(hagree c).1, (hagree c).2.1, (hagree c).2.2.1, (hagree c).2.2.2.1, (hagree c).2.2.2.2.1, (hagree c).2.2.2.2.2.1, (hagree c).2.2.2.2.2.2]
    exact H c
  refine ⟨fun c => G7 m c, fun c => G8 m c, run m g, (θ_run Cert.Reference4Ideal.defs _ _).mono
    (fun _ h c => ⟨funext fun i => ?_, funext fun i => ?_, (h c).2.2⟩) (Cert.Reference4Ideal.Value.run m' g')⟩
  · refine (congrFun (h c).1 i).trans ?_
    obtain ⟨r, d, rfl⟩ : ∃ r d, i = ix2 r d := ⟨i 0, i 1, eq_ix2 i⟩
    exact (Cert.InGradRef.dx_at (H' c) r d).trans (G7_at m (H c) r d).symm
  · refine (congrFun (h c).2.1 i).trans ?_
    obtain ⟨z, d, rfl⟩ : ∃ z d, i = ix2 z d := ⟨i 0, i 1, eq_ix2 i⟩
    exact (Cert.InGradRef.dn_at (H' c) z d).trans (G8_at m (H c) z d).symm

end Cert.InGrad
-- ==== Proof.MixIn.lean ====
/- The gradient of the mixing projections' input through the norm: what the points leave, the kernel's three results, and the reference's. -/
module

public import proofs.«01_k».proof.Proof.Gen.Kernel5Ideal.Value
public import proofs.«01_k».proof.Proof.Gen.Reference5Ideal.Run
public import proofs.«01_k».proof.Proof.Gen.Pre_finite5
public import proofs.«01_k».proof.Proof.Finite
public import proofs.«01_k».proof.Proof.InGrad
public import Idealize.ShloMosaic.Lib.Pipeline.ValueKit
public import Idealize.ShloMosaic.Lib.Pipeline.ReadBack
public import Idealize.ShloMosaic.Lib.Claim
public import proofs.«01_k».proof.Defs
public import Idealize.ShloMosaic.Lib.Pointwise
public import Idealize.ShloMosaic.PureOps.Ideal.Laws
public import Idealize.ShloMosaic.Lib.StableHlo.RunRead

@[expose] public section
set_option maxRecDepth 16384
noncomputable section
namespace Cert.MixIn
open Idealize.ShloMosaic Idealize.ShloMosaic.TcCoe Idealize.SL.Sem Cert.Mix
open Cert.Kernel5Ideal Cert.Kernel5Ideal.Gen Cert.Kernel5Ideal.Value
open Cert.InGrad (eps6 lit_eps6 lit_1024)

/-- The real arrays of the call: the residual stream, the norm's gain, the projections, the output's cotangent, and the projections' cotangent. -/
structure Arr where
  x : Fin 8192 → Fin 1024 → ℝ
  n : Fin 1024 → ℝ
  w : Fin 1024 → Fin 2048 → ℝ
  ct : Fin 8192 → Fin 1024 → ℝ
  dp : Fin 8192 → Fin 2048 → ℝ

namespace Arr
variable (A : Arr)
/-- The normalised input's cotangent. -/
def dh (r : Fin 8192) (d : Fin 1024) : ℝ := ∑ f, A.dp r f * A.w d f
def ms (r : Fin 8192) : ℝ := (∑ d, A.x r d * A.x r d) / 1024 + eps6
def inv (r : Fin 8192) : ℝ := 1 / Real.sqrt (A.ms r)
def xh (r : Fin 8192) (d : Fin 1024) : ℝ := A.x r d * A.inv r
def dhn (r : Fin 8192) (d : Fin 1024) : ℝ := A.dh r d * A.n d
def dx (r : Fin 8192) (d : Fin 1024) : ℝ := A.ct r d + A.inv r * (A.dhn r d - A.xh r d * ((∑ k, A.dhn r k * A.xh r k) / 1024))
def dn (r : Fin 8192) (d : Fin 1024) : ℝ := A.dh r d * A.xh r d

theorem ms_pos (r : Fin 8192) : 0 < A.ms r := by
  have h : 0 ≤ ∑ d, A.x r d * A.x r d := Finset.sum_nonneg fun d _ => mul_self_nonneg _
  have h6 : (0 : ℝ) < eps6 := by unfold eps6; norm_num
  unfold ms
  positivity
end Arr

/-- The arguments hold the arrays. -/
def Holds (x0 : FVec Ideal ⟨2, ![8192, 1024]⟩ .f32) (x1 : FVec Ideal ⟨1, ![1024]⟩ .f32) (x2 : FVec Ideal ⟨2, ![1024, 2048]⟩ .f32)
    (x3 : FVec Ideal ⟨2, ![8192, 1024]⟩ .f32) (x4 : FVec Ideal ⟨2, ![8192, 2048]⟩ .f32) (A : Arr) : Prop :=
  (∀ r d, x0 (ix2 r d) = (A.x r d : EReal)) ∧ (∀ d, x1 (ix1 d) = (A.n d : EReal)) ∧ (∀ d f, x2 (ix2 d f) = (A.w d f : EReal))
    ∧ (∀ r d, x3 (ix2 r d) = (A.ct r d : EReal)) ∧ ∀ r f, x4 (ix2 r f) = (A.dp r f : EReal)

/-- The token that row `r` of the block `k % 16` is. -/
abbrev rowN (k : ℕ) (r : Fin 512) : Fin 8192 := ⟨k % 16 * 512 + r.val, by omega⟩

variable (m : (ℓ : Loc nD τ sig) → Buf (Elt Ideal) ℓ) (c : Dev nD) (t : Fin cfg0.N)

theorem lt16 : t.val < 16 := lt_of_lt_of_eq t.isLt (show cfg0.N = 16 from N_0)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] ∧ win0_7.index t = ![t.val, 0] :=
  (by decide +kernel : ∀ t : Fin grid0.N, _)

theorem at0 (r : Fin 512) (f : Fin 2048) : iblk m c 0 t (ix2 r f) = V m c main_v0 (ix2 (rowN t.val r) f) := by
  have hi := (idx t).1
  have := lt16 t
  have e : t.val % 16 = t.val := by omega
  blk_simp [iblk]
  generalize V m c main_v0 = X
  blk_ext [hi, e]

theorem at1 (r : Fin 512) (d : Fin 1024) : iblk m c 1 t (ix2 r d) = V m c main_arg3 (ix2 (rowN t.val r) d) := by
  have hi := (idx t).2.1
  have := lt16 t
  have e : t.val % 16 = t.val := by omega
  blk_simp [iblk]
  generalize V m c main_arg3 = X
  blk_ext [hi, e]

theorem at2 (r : Fin 512) (d : Fin 1024) : iblk m c 2 t (ix2 r d) = V m c main_arg0 (ix2 (rowN t.val r) d) := by
  have hi := (idx t).2.2.1
  have := lt16 t
  have e : t.val % 16 = t.val := by omega
  blk_simp [iblk]
  generalize V m c main_arg0 = X
  blk_ext [hi, e]

theorem at3 (z : Fin 1) (d : Fin 1024) : iblk m c 3 t (ix2 z d) = V m c main_v1 (ix2 z d) := by
  have hi := (idx t).2.2.2.1
  blk_simp [iblk]
  generalize V m c main_v1 = X
  blk_ext [hi]

theorem at4 (f : Fin 2048) (d : Fin 1024) : iblk m c 4 t (ix2 f d) = V m c main_v3 (ix2 f d) := by
  have hi := (idx t).2.2.2.2.1
  blk_simp [iblk]
  generalize V m c main_v3 = X
  blk_ext [hi]

/-- The kernel's arguments hold the arrays. -/
abbrev HoldsAt (A : Arr) : Prop := Holds (m ((c : Thread nD τ).loc main_arg0)) (m ((c : Thread nD τ).loc main_arg1))
  (m ((c : Thread nD τ).loc main_arg2)) (m ((c : Thread nD τ).loc main_arg3)) (m ((c : Thread nD τ).loc main_arg4)) A

variable {A : Arr} {c} (H : HoldsAt m c A)
include H

theorem b0 (r : Fin 512) (f : Fin 2048) : iblk m c 0 t (ix2 r f) = (A.dp (rowN t.val r) f : EReal) := by
  rw [at0, ← H.2.2.2.2]
  after_reads_simp
  pointwise

theorem b1 (r : Fin 512) (d : Fin 1024) : iblk m c 1 t (ix2 r d) = (A.ct (rowN t.val r) d : EReal) := by
  rw [at1, ← H.2.2.2.1]
  after_reads_simp

theorem b2 (r : Fin 512) (d : Fin 1024) : iblk m c 2 t (ix2 r d) = (A.x (rowN t.val r) d : EReal) := by
  rw [at2, ← H.1]
  after_reads_simp

theorem b3 (z : Fin 1) (d : Fin 1024) : iblk m c 3 t (ix2 z d) = (A.n d : EReal) := by
  rw [at3, ← H.2.1]
  after_reads_simp
  pointwise

theorem b4 (f : Fin 2048) (d : Fin 1024) : iblk m c 4 t (ix2 f d) = (A.w d f : EReal) := by
  rw [at4, ← H.2.2.1]
  after_reads_simp
  pointwise
omit H

/-- The body's formulas over blocks of real numbers. -/
theorem pay3_at (z : Fin 1) (d : Fin 1024) : (k0_pay3 : FVec Ideal S1x1024 .f32) (ix2 z d) = ((0 : ℝ) : EReal) := by
  pointwise [k0_pay3]
  exact EReal.coe_zero.symm

section Norm
variable {p : FVec Ideal S512x2048 .bf16} {w : FVec Ideal S2048x1024 .bf16} {x v : FVec Ideal S512x1024 .f32} {n : FVec Ideal S1x1024 .f32} {ro : Fin 512 → Fin 8192}
  (hx : ∀ r d, x (ix2 r d) = (A.x (ro r) d : EReal))
include hx

theorem pay5_at (r : Fin 512) (z : Fin 1) : (k0_pay5 x : FVec Ideal S512x1 .f32) (ix2 r z) = (A.inv (ro r) : EReal) := by
  pointwise [k0_pay5]
  simp only [hx, lit_1024, lit_eps6, ← EReal.coe_mul, coe_sum]
  rw [div_real _ _ (by norm_num), ← EReal.coe_add]
  exact rsqrt_real _ (A.ms_pos (ro r))

theorem pay6_at (r : Fin 512) (d : Fin 1024) : (k0_pay6 x : FVec Ideal S512x1024 .f32) (ix2 r d) = (A.xh (ro r) d : EReal) := by
  pointwise [k0_pay6]
  rw [pay5_at hx, hx, ← EReal.coe_mul]
  rfl
omit hx

variable (hp : ∀ r f, p (ix2 r f) = (A.dp (ro r) f : EReal)) (hw : ∀ f d, w (ix2 f d) = (A.w d f : EReal))
include hp hw

theorem pay4_at (r : Fin 512) (d : Fin 1024) : (k0_pay4 p w : FVec Ideal S512x1024 .f32) (ix2 r d) = (A.dh (ro r) d : EReal) := by
  pointwise [k0_pay4]
  simp only [hp, hw, ← EReal.coe_mul, coe_sum]
  rfl

include hx in
theorem pay7_at (y : FVec Ideal S1x1024 .f32) (z : Fin 1) (d : Fin 1024) {s : ℝ} (hs : y (ix2 z d) = (s : EReal)) :
    (k0_pay7 p w x y : FVec Ideal S1x1024 .f32) (ix2 z d) = ((s + ∑ r, A.dn (ro r) d : ℝ) : EReal) := by
  pointwise [k0_pay7]
  simp only [pay4_at hp hw, pay6_at hx, hs, ← EReal.coe_mul, coe_sum, ← EReal.coe_add]
  rfl

variable (hn : ∀ z d, n (ix2 z d) = (A.n d : EReal))
include hn

theorem pay8_at (r : Fin 512) (d : Fin 1024) : (k0_pay8 p w n : FVec Ideal S512x1024 .f32) (ix2 r d) = (A.dhn (ro r) d : EReal) := by
  pointwise [k0_pay8]
  simp only [pay4_at hp hw, hn, ← EReal.coe_mul]
  rfl

include hx

theorem pay9_at (r : Fin 512) (z : Fin 1) : (k0_pay9 p w x n : FVec Ideal S512x1 .f32) (ix2 r z) = ((∑ k, A.dhn (ro r) k * A.xh (ro r) k : ℝ) : EReal) := by
  pointwise [k0_pay9]
  simp only [pay8_at hp hw hn, pay6_at hx, ← EReal.coe_mul, coe_sum]

variable (hv : ∀ r d, v (ix2 r d) = (A.ct (ro r) d : EReal))
include hv

theorem pay1_at (r : Fin 512) (d : Fin 1024) :
    (k0_pay1 (k0_pay5 x) (k0_pay6 x) (k0_pay8 p w n) v (k0_pay9 p w x n) (Scalar.ofBits .f32 0x44800000#32) : FVec Ideal S512x1024 .f32) (ix2 r d)
      = (A.dx (ro r) d : EReal) := by
  pointwise [k0_pay1]
  simp only [pay5_at hx, pay6_at hx, pay8_at hp hw hn, pay9_at hx hp hw hn, hv, lit_1024]
  rw [div_real _ _ (by norm_num)]
  simp only [← EReal.coe_mul, ← EReal.coe_sub, ← EReal.coe_add]
  rfl

theorem pay2_at (r : Fin 512) (d : Fin 1024) :
    (k0_pay2 (k0_pay5 x) (k0_pay6 x) (k0_pay8 p w n) v (k0_pay9 p w x n) (Scalar.ofBits .f32 0x44800000#32) : FVec Ideal S512x1024 .bf16) (ix2 r d)
      = ((1 / 2 * A.dx (ro r) d : ℝ) : EReal) := by
  pointwise [k0_pay2]
  rw [lit_half]
  exact (congrArg (((1 / 2 : ℝ) : EReal) * ·) (pay1_at hx hp hw hn hv r d)).trans (EReal.coe_mul _ _).symm
end Norm

/-- A sum over the tokens is the sum of the sixteen blocks' sums. -/
theorem sixteenths (g : Fin 8192 → ℝ) : ∑ k ∈ Finset.range 16, ∑ r : Fin 512, g (rowN k r) = ∑ r, g r := by
  rw [Finset.sum_range]
  rw [← Fintype.sum_prod_type' (f := fun (k : Fin 16) (r : Fin 512) => g (rowN k r))]
  refine Fintype.sum_equiv (finProdFinEquiv (m := 16) (n := 512)) _ _ fun x => congrArg g (Fin.ext ?_)
  have := x.1.isLt
  simp [finProdFinEquiv, rowN]
  omega

include H

/-- What a point leaves in its block of the input's gradient. -/
theorem dx_at (r : Fin 512) (d : Fin 1024) : ((outsAt0 m c t.val t.isLt).1 : FVec Ideal S512x1024 .f32) (ix2 r d) = (A.dx (rowN t.val r) d : EReal) := by
  have key := pay1_at (ro := rowN t.val) (b2 m t H) (b0 m t H) (b4 m t H) (b3 m t H) (b1 m t H) r d
  by_cases h0 : t.val % 16 = 0
  · rw [outsAt0_A m c t h0]
    frame_out
    exact key
  · rw [outsAt0_B m c t h0]
    frame_out
    exact key

/-- What a point leaves in its block of the halved gradient. -/
theorem dxb_at (r : Fin 512) (d : Fin 1024) : ((outsAt0 m c t.val t.isLt).2.2 : FVec Ideal S512x1024 .bf16) (ix2 r d)
    = ((1 / 2 * A.dx (rowN t.val r) d : ℝ) : EReal) := by
  have key := pay2_at (ro := rowN t.val) (b2 m t H) (b0 m t H) (b4 m t H) (b3 m t H) (b1 m t H) r d
  by_cases h0 : t.val % 16 = 0
  · rw [outsAt0_A m c t h0]
    frame_out
    exact key
  · rw [outsAt0_B m c t h0]
    frame_out
    exact key

/-- What the gain's gradient's row holds after each point. -/
theorem dn_at : ∀ n (h : n < cfg0.N) (z : Fin 1) (d : Fin 1024), ((outsAt0 m c n h).2.1 : FVec Ideal S1x1024 .f32) (ix2 z d)
    = ((∑ k ∈ Finset.range (n + 1), ∑ r : Fin 512, A.dn (rowN k r) d : ℝ) : EReal) := by
  intro n
  induction n with
  | zero =>
    intro h z d
    rw [outsAt0_A m c ⟨0, h⟩ rfl]
    frame_out
    refine (pay7_at (ro := rowN 0) (b2 m ⟨0, h⟩ H) (b0 m ⟨0, h⟩ H) (b4 m ⟨0, h⟩ H) _ z d (pay3_at z d)).trans ?_
    simp only [zero_add, Finset.sum_range_one]
  | succ n ih =>
    intro h z d
    have hn := lt16 ⟨n + 1, h⟩
    have h0 : ¬(n + 1) % 16 = 0 := by simp only [] at hn; omega
    have key := pay7_at (ro := rowN (n + 1)) (b2 m ⟨n + 1, h⟩ H) (b0 m ⟨n + 1, h⟩ H) (b4 m ⟨n + 1, h⟩ H) _ z d (ih (by omega) z d)
    rw [Finset.sum_range_succ]
    rw [outsAt0_B m c ⟨n + 1, h⟩ h0]
    frame_out
    first | exact key | (rw [read_unread_whole]; exact key)

/-- The point that works on row `r`. -/
abbrev ptOf (r : Fin 8192) : Fin cfg0.N := ⟨r.val / 512, by rw [show cfg0.N = 16 from N_0]; omega⟩

/-- What the kernel leaves. -/
theorem dx_out (r : Fin 8192) (d : Fin 1024) : ((dats m 0 c).arrAt 5 cfg0.N : FVec Ideal S8192x1024 .f32) (ix2 r d) = (A.dx r d : EReal) := by
  have h := congrFun (blocks5 m c (ptOf r) (flush0_5 _)) (ix2 (⟨r.val % 512, by omega⟩ : Fin 512) d)
  rw [flushed5] at h
  have h2 := dx_at m (ptOf r) H ⟨r.val % 512, by omega⟩ d
  have e : rowN (ptOf r).val ⟨r.val % 512, by omega⟩ = r := by apply Fin.ext; simp only []; omega
  rw [e] at h2
  refine Eq.trans ?_ (h.trans h2)
  have hi := (idx (ptOf r)).2.2.2.2.2.1
  simp only [] at hi
  generalize (dats m 0 c).arrAt 5 cfg0.N = X
  blk_ext [hi]

theorem dxb_out (r : Fin 8192) (d : Fin 1024) : ((dats m 0 c).arrAt 7 cfg0.N : FVec Ideal S8192x1024 .bf16) (ix2 r d) = ((1 / 2 * A.dx r d : ℝ) : EReal) := by
  have h := congrFun (blocks7 m c (ptOf r) (flush0_7 _)) (ix2 (⟨r.val % 512, by omega⟩ : Fin 512) d)
  rw [flushed7] at h
  have h2 := dxb_at m (ptOf r) H ⟨r.val % 512, by omega⟩ d
  have e : rowN (ptOf r).val ⟨r.val % 512, by omega⟩ = r := by apply Fin.ext; simp only []; omega
  rw [e] at h2
  refine Eq.trans ?_ (h.trans h2)
  have hi := (idx (ptOf r)).2.2.2.2.2.2.2
  simp only [] at hi
  generalize (dats m 0 c).arrAt 7 cfg0.N = X
  blk_ext [hi]

theorem dn_out (z : Fin 1) (d : Fin 1024) : ((dats m 0 c).arrAt 6 cfg0.N : FVec Ideal S1x1024 .f32) (ix2 z d) = ((∑ r, A.dn r d : ℝ) : EReal) := by
  have h : (dats m 0 c).arrAt 6 cfg0.N = (fun i => ((∑ r, A.dn r (i 1) : ℝ) : EReal) : FVec Ideal S1x1024 .f32) := by
    refine (dats m 0 c).arrAt_eq_of_covers 6 _ (by decide +kernel) fun t hf y => ?_
    have ht := (flush0_6 t).mp hf
    have hi := (idx t).2.2.2.2.2.2.1
    have hl := lt16 t
    have key := dn_at m H t.val t.isLt
    rw [show t.val + 1 = 16 by omega] at key
    idx_vars y
    rw [after0_6]
    refine (key _ _).trans ?_
    have e : ((View.whole main_v4_1).slice ((win0 6).rect t)).emb (ix2 y0 y1) = ix2 y0 y1 := by blk_ext [hi]
    exact (congrArg (fun r : ℝ => (r : EReal)) (sixteenths fun r => A.dn r y1)).trans
      (congrArg (fun i : S1x1024.Idx => ((∑ r, A.dn r (i 1) : ℝ) : EReal)) e).symm
  rw [h]
  rfl
omit H

/-- The precondition says that the arguments hold real arrays. -/
theorem holds_of (x0 : FVec Ideal ⟨2, ![8192, 1024]⟩ .f32) (x1 : FVec Ideal ⟨1, ![1024]⟩ .f32) (x2 : FVec Ideal ⟨2, ![1024, 2048]⟩ .f32)
    (x3 : FVec Ideal ⟨2, ![8192, 1024]⟩ .f32) (x4 : FVec Ideal ⟨2, ![8192, 2048]⟩ .f32)
    (h : Cert.Pre_finite5.fn (F := Ideal) x0 x1 x2 x3 x4 = fun _ => 1#1) :
    Holds x0 x1 x2 x3 x4 ⟨fun r d => (x0 (ix2 r d)).toReal, fun d => (x1 (ix1 d)).toReal, fun d f => (x2 (ix2 d f)).toReal,
      fun r d => (x3 (ix2 r d)).toReal, fun r f => (x4 (ix2 r f)).toReal⟩ := by
  have h4 := IntOp.andi_eq_one.1 (congrFun h (fun i => i.elim0))
  have h3 := IntOp.andi_eq_one.1 h4.1
  have h2 := IntOp.andi_eq_one.1 h3.1
  have h1 := IntOp.andi_eq_one.1 h2.1
  exact ⟨fun r f => all_real x0 _ _ _ _ h1.1 _, fun d => all_real x1 _ _ _ _ h1.2 _, fun f d => all_real x2 _ _ _ _ h2.2 _, fun r d => all_real x3 _ _ _ _ h3.2 _,
    fun r d => all_real x4 _ _ _ _ h4.2 _⟩

end Cert.MixIn

namespace Cert.MixInRef
open Idealize.ShloMosaic Cert.Mix Cert.MixIn
open Cert.InGrad (eps6 lit_eps6 lit_1024)
open Cert.Reference5Ideal Cert.Reference5Ideal.Gen

/-- The reference's parts: the normalised input's cotangent, the mean square and its constant, the cotangent times the gain, and the mean square's cotangent. -/
def dhr (x2 : FVec Ideal S1024x2048 .f32) (x4 : FVec Ideal S8192x2048 .f32) : FVec Ideal S8192x1024 .f32 := Host.dotGeneral dot_S8192x2048_S1024x2048_S8192x1024_1_1_0_0_n_n none x4 x2
def msr (x0 : FVec Ideal S8192x1024 .f32) : FVec Ideal S8192x1 .f32 := addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def dhnr (x1 : FVec Ideal S1024 .f32) (x2 : FVec Ideal S1024x2048 .f32) (x4 : FVec Ideal S8192x2048 .f32) : FVec Ideal S8192x1024 .f32 := mulf (dhr x2 x4) (broadcastInDim S8192x1024 ![0, 1] bcast_S1x1024_S8192x1024_0_1 (broadcastInDim S1x1024 ![1] bcast_S1024_S1x1024_1 x1))
def qr (x0 : FVec Ideal S8192x1024 .f32) (x1 : FVec Ideal S1024 .f32) (x2 : FVec Ideal S1024x2048 .f32) (x4 : FVec Ideal S8192x2048 .f32) : FVec Ideal S8192 .f32 :=
  Host.reduceAdd (Host.divf (mulf (shapeCast _ (Host.reduceAdd (mulf x0 (dhnr x1 x2 x4)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msr x0)) (msr x0)))) (broadcastInDim S8192x1 ![] bcast_S_S8192x1 (constant S_ .f32 0x44800000#32))) (constant S_ .f32 0x00000000#32) reducesTo_S8192x1_S8192_d1 h_S_

variable {x0 : FVec Ideal S8192x1024 .f32} {x1 : FVec Ideal S1024 .f32} {x2 : FVec Ideal S1024x2048 .f32} {x3 : FVec Ideal S8192x1024 .f32}
  {x4 : FVec Ideal S8192x2048 .f32} {A : Arr} (H : Holds x0 x1 x2 x3 x4 A)
include H

theorem dh_at (r : Fin 8192) (d : Fin 1024) : dhr x2 x4 (ix2 r d) = (A.dh r d : EReal) := by
  unfold dhr
  pointwise
  simp only [H.2.2.1 _ _, H.2.2.2.2 _ _, ← EReal.coe_mul, coe_sum]
  rfl

theorem ms_at (r : Fin 8192) (z : Fin 1) : msr x0 (ix2 r z) = (A.ms r : EReal) := by
  unfold msr
  pointwise
  simp only [H.1 _ _, lit_1024, lit_eps6, ← EReal.coe_mul, coe_sum]
  rw [div_real _ _ (by norm_num), ← EReal.coe_add]
  rfl

theorem dhn_at (r : Fin 8192) (d : Fin 1024) : dhnr x1 x2 x4 (ix2 r d) = (A.dhn r d : EReal) := by
  unfold dhnr
  pointwise
  simp only [dh_at H, H.2.1 _, ← EReal.coe_mul]
  rfl

theorem q_at (r : Fin 8192) : qr x0 x1 x2 x4 (ix1 r) = (((∑ k, A.x r k * A.dhn r k) * (-(1 / 2) * (A.inv r / A.ms r)) / 1024 : ℝ) : EReal) := by
  unfold qr
  pointwise
  simp only [ms_at H, dhn_at H, H.1 _ _, lit_1024, lit_neg_half, rsqrt_real _ (A.ms_pos r), div_real _ _ (A.ms_pos r).ne', ← EReal.coe_mul, coe_sum]
  simp only [div_real _ _ (show (1024 : ℝ) ≠ 0 by norm_num), Finset.univ_unique, Finset.sum_singleton]
  rfl

theorem dx_at (r : Fin 8192) (d : Fin 1024) : (addf (addf (addf x3 (mulf (dhnr x1 x2 x4) (broadcastInDim S8192x1024 ![0, 1] bcast_S8192x1_S8192x1024_0_1 (Host.rsqrt (msr x0))))) (mulf x0 (broadcastInDim S8192x1024 ![0] bcast_S8192_S8192x1024_0 (qr x0 x1 x2 x4)))) (mulf (broadcastInDim S8192x1024 ![0] bcast_S8192_S8192x1024_0 (qr x0 x1 x2 x4)) x0) : FVec Ideal S8192x1024 .f32) (ix2 r d) = (A.dx r d : EReal) := by
  pointwise
  simp only [ms_at H, dh_at H, dhn_at H, q_at H, H.1 _ _, H.2.1 _, H.2.2.2.1 _ _, rsqrt_real _ (A.ms_pos r), ← EReal.coe_mul, ← EReal.coe_add]
  refine congrArg _ ?_
  have hs : ∑ k, A.dhn r k * A.xh r k = (∑ k, A.x r k * A.dhn r k) * A.inv r := by
    rw [Finset.sum_mul]
    refine Finset.sum_congr rfl fun k _ => ?_
    unfold Arr.xh
    ring
  have hi : A.inv r / A.ms r = A.inv r * A.inv r * A.inv r := by
    have h := A.ms_pos r
    have h2 := Real.sqrt_pos.2 h
    have h3 : A.ms r = Real.sqrt (A.ms r) * Real.sqrt (A.ms r) := (Real.mul_self_sqrt h.le).symm
    unfold Arr.inv
    generalize Real.sqrt (A.ms r) = s at *
    rw [h3]
    field_simp
  unfold Arr.dx
  rw [hs, hi]
  unfold Arr.xh
  change A.ct r d + A.dhn r d * A.inv r + _ + _ = _
  ring

theorem dxb_at (r : Fin 8192) (d : Fin 1024) : (truncf .bf16 (mulf (broadcastInDim S8192x1024 ![] bcast_S_S8192x1024 (constant S_ .f32 0x3F000000#32)) (addf (addf (addf x3 (mulf (dhnr x1 x2 x4) (broadcastInDim S8192x1024 ![0, 1] bcast_S8192x1_S8192x1024_0_1 (Host.rsqrt (msr x0))))) (mulf x0 (broadcastInDim S8192x1024 ![0] bcast_S8192_S8192x1024_0 (qr x0 x1 x2 x4)))) (mulf (broadcastInDim S8192x1024 ![0] bcast_S8192_S8192x1024_0 (qr x0 x1 x2 x4)) x0))) bitsLt_bf16_f32 : FVec Ideal S8192x1024 .bf16) (ix2 r d) = ((1 / 2 * A.dx r d : ℝ) : EReal) := by
  have h := dx_at H r d
  generalize (addf (addf (addf x3 (mulf (dhnr x1 x2 x4) (broadcastInDim S8192x1024 ![0, 1] bcast_S8192x1_S8192x1024_0_1 (Host.rsqrt (msr x0))))) (mulf x0 (broadcastInDim S8192x1024 ![0] bcast_S8192_S8192x1024_0 (qr x0 x1 x2 x4)))) (mulf (broadcastInDim S8192x1024 ![0] bcast_S8192_S8192x1024_0 (qr x0 x1 x2 x4)) x0) : FVec Ideal S8192x1024 .f32) = y at h ⊢
  pointwise
  rw [h, lit_half, ← EReal.coe_mul]

theorem dn_at (z : Fin 1) (d : Fin 1024) : (shapeCast _ (Host.reduceAdd (shapeCast _ (Host.reduceAdd (mulf (mulf x0 (broadcastInDim S8192x1024 ![0, 1] bcast_S8192x1_S8192x1024_0_1 (Host.rsqrt (msr x0)))) (dhr x2 x4)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) (ix2 z d) = ((∑ r, A.dn r d : ℝ) : EReal) := by
  pointwise
  simp only [ms_at H, dh_at H, H.1 _ _, rsqrt_real _ (A.ms_pos _), ← EReal.coe_mul, coe_sum, Finset.univ_unique, Finset.sum_singleton]
  refine congrArg _ (Finset.sum_congr rfl fun r _ => ?_)
  unfold Arr.dn Arr.xh Arr.inv
  ring

end Cert.MixInRef

namespace Cert.MixIn
open Idealize.ShloMosaic Idealize.ShloMosaic.TcCoe Idealize.SL.Sem Cert.Mix
open Cert.Kernel5Ideal Cert.Kernel5Ideal.Gen Cert.Kernel5Ideal.Value

/-- The kernel and the reference leave the same arrays. -/
theorem value : Cert.algebraic_Kernel5Ideal_Reference5Ideal_pre_finite5 := by
  intro m g m' g' hpre hagree
  have key : ∀ c, ∃ A, HoldsAt m c A := fun c => ⟨_, holds_of _ _ _ _ _ (hpre c)⟩
  choose A H using key
  have H' : ∀ c : Dev nD, Holds (m' ((c.tc : Thread Reference5Ideal.nD Reference5Ideal.τ).loc Reference5Ideal.main_arg0))
      (m' ((c.tc : Thread Reference5Ideal.nD Reference5Ideal.τ).loc Reference5Ideal.main_arg1))
      (m' ((c.tc : Thread Reference5Ideal.nD Reference5Ideal.τ).loc Reference5Ideal.main_arg2))
      (m' ((c.tc : Thread Reference5Ideal.nD Reference5Ideal.τ).loc Reference5Ideal.main_arg3))
      (m' ((c.tc : Thread Reference5Ideal.nD Reference5Ideal.τ).loc Reference5Ideal.main_arg4)) (A c) := fun c => by
    rw [(hagree c).1, (hagree c).2.1, (hagree c).2.2.1, (hagree c).2.2.2.1, (hagree c).2.2.2.2]
    exact H c
  refine ⟨fun c => (dats m 0 c).arrAt 5 cfg0.N, fun c => (dats m 0 c).arrAt 6 cfg0.N, fun c => (dats m 0 c).arrAt 7 cfg0.N, run_blocks m g,
    (θ_run Cert.Reference5Ideal.defs _ _).mono (fun _ h c => ⟨funext fun i => ?_, funext fun i => ?_, funext fun i => ?_, (h c).2.2.2⟩)
    (Cert.Reference5Ideal.Value.run m' g')⟩
  · refine (congrFun (h c).1 i).trans ?_
    obtain ⟨r, d, rfl⟩ : ∃ r d, i = ix2 r d := ⟨i 0, i 1, eq_ix2 i⟩
    exact (Cert.MixInRef.dx_at (H' c) r d).trans (dx_out m (H c) r d).symm
  · refine (congrFun (h c).2.1 i).trans ?_
    obtain ⟨z, d, rfl⟩ : ∃ z d, i = ix2 z d := ⟨i 0, i 1, eq_ix2 i⟩
    exact (Cert.MixInRef.dn_at (H' c) z d).trans (dn_out m (H c) z d).symm
  · refine (congrFun (h c).2.2.1 i).trans ?_
    obtain ⟨r, d, rfl⟩ : ∃ r d, i = ix2 r d := ⟨i 0, i 1, eq_ix2 i⟩
    exact (Cert.MixInRef.dxb_at (H' c) r d).trans (dxb_out m (H c) r d).symm

end Cert.MixIn
-- ==== Proof.FfnDown.lean ====
/- The feed-forward network's output projection: what the points leave, the kernel's result, and the reference's. -/
module

public import proofs.«01_k».proof.Proof.Gen.Kernel6Ideal.Value
public import proofs.«01_k».proof.Proof.Gen.Reference6Ideal.Run
public import proofs.«01_k».proof.Proof.Spec
public import Idealize.ShloMosaic.Lib.Pipeline.ValueKit
public import Idealize.ShloMosaic.Lib.Pipeline.ReadBack
public import Idealize.ShloMosaic.Lib.Claim
public import proofs.«01_k».proof.Defs
public import Idealize.ShloMosaic.Lib.Pointwise
public import Idealize.ShloMosaic.PureOps.Ideal.Laws
public import Idealize.ShloMosaic.Lib.StableHlo.RunRead

@[expose] public section
set_option maxRecDepth 16384
noncomputable section
namespace Cert.FfnDown
open Idealize.ShloMosaic Idealize.ShloMosaic.TcCoe Idealize.SL.Sem
open Cert.Kernel6Ideal Cert.Kernel6Ideal.Gen Cert.Kernel6Ideal.Value

/-- The token that row `r` of the block `k % 8` is. -/
abbrev rowN (k : ℕ) (r : Fin 1024) : Fin 8192 := ⟨k % 8 * 1024 + r.val, by omega⟩

/-- What the call computes: half of the product, added to the residual stream. -/
def out (s : FVec Ideal ⟨2, ![8192, 3072]⟩ .f32) (x : FVec Ideal ⟨2, ![8192, 1024]⟩ .f32) (w : FVec Ideal ⟨2, ![3072, 1024]⟩ .f32)
    (r : Fin 8192) (d : Fin 1024) : EReal :=
  x (ix2 r d) + Ideal.ofBits .f32 0x3F000000#32 * ∑ f : Fin 3072, s (ix2 r f) * w (ix2 f d)

variable (m : (ℓ : Loc nD τ sig) → Buf (Elt Ideal) ℓ) (c : Dev nD) (t : Fin cfg0.N)

/-- The hidden activations, the residual stream and the projection. -/
abbrev S : FVec Ideal ⟨2, ![8192, 3072]⟩ .f32 := m ((c : Thread nD τ).loc main_arg0)
abbrev X : FVec Ideal ⟨2, ![8192, 1024]⟩ .f32 := m ((c : Thread nD τ).loc main_arg1)
abbrev W : FVec Ideal ⟨2, ![3072, 1024]⟩ .f32 := m ((c : Thread nD τ).loc main_arg2)

theorem lt8 : t.val < 8 := lt_of_lt_of_eq t.isLt (show cfg0.N = 8 from N_0)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem at0 (r : Fin 1024) (f : Fin 3072) : iblk m c 0 t (ix2 r f) = V m c main_v0 (ix2 (rowN t.val r) f) := by
  have hi := (idx t).1
  have := lt8 t
  have e : t.val % 8 = t.val := by omega
  blk_simp [iblk]
  generalize V m c main_v0 = X
  blk_ext [hi, e]

theorem at1 (r d : Fin 1024) : iblk m c 1 t (ix2 r d) = V m c main_arg1 (ix2 (rowN t.val r) d) := by
  have hi := (idx t).2.1
  have := lt8 t
  have e : t.val % 8 = t.val := by omega
  blk_simp [iblk]
  generalize V m c main_arg1 = X
  blk_ext [hi, e]

theorem at2 (f : Fin 3072) (d : Fin 1024) : iblk m c 2 t (ix2 f d) = V m c main_v1 (ix2 f d) := by
  have hi := (idx t).2.2.1
  blk_simp [iblk]
  generalize V m c main_v1 = X
  blk_ext [hi]

theorem b0 (r : Fin 1024) (f : Fin 3072) : iblk m c 0 t (ix2 r f) = S m c (ix2 (rowN t.val r) f) := by
  rw [at0]
  after_reads_simp
  pointwise

theorem b1 (r d : Fin 1024) : iblk m c 1 t (ix2 r d) = X m c (ix2 (rowN t.val r) d) := by
  rw [at1]
  after_reads_simp

theorem b2 (f : Fin 3072) (d : Fin 1024) : iblk m c 2 t (ix2 f d) = W m c (ix2 f d) := by
  rw [at2]
  after_reads_simp
  pointwise

/-- What a point computes. -/
theorem pay_at (r d : Fin 1024) : (k0_pay1 (iblk m c 1 t) (iblk m c 0 t) (iblk m c 2 t) : FVec Ideal S1024x1024 .f32) (ix2 r d)
    = out (S m c) (X m c) (W m c) (rowN t.val r) d := by
  pointwise [k0_pay1]
  simp only [b0 m c t, b1 m c t, b2 m c t]
  rfl

/-- What a point leaves in its block. -/
theorem out_at (r d : Fin 1024) : (out0_3 (iblk m c 0 t) (iblk m c 1 t) (iblk m c 2 t) : FVec Ideal S1024x1024 .f32) (ix2 r d)
    = out (S m c) (X m c) (W m c) (rowN t.val r) d := by
  have e : out0_3 (iblk m c 0 t) (iblk m c 1 t) (iblk m c 2 t) = k0_pay1 (iblk m c 1 t) (iblk m c 0 t) (iblk m c 2 t) := by
    unfold out0_3
    frame_out
  rw [e, pay_at]

/-- The point that works on row `r`. -/
abbrev ptOf (r : Fin 8192) : Fin cfg0.N := ⟨r.val / 1024, by rw [show cfg0.N = 8 from N_0]; omega⟩

/-- What the kernel leaves. -/
theorem out3 (r : Fin 8192) (d : Fin 1024) : ((dats m 0 c).arrAt 3 cfg0.N : FVec Ideal S8192x1024 .f32) (ix2 r d) = out (S m c) (X m c) (W m c) r d := by
  have h := congrFun (blocks3 m c (ptOf r) (flush0_3 _)) (ix2 (⟨r.val % 1024, by omega⟩ : Fin 1024) d)
  rw [flushed3] at h
  have h2 := out_at m c (ptOf r) ⟨r.val % 1024, by omega⟩ d
  have e : rowN (ptOf r).val ⟨r.val % 1024, by omega⟩ = r := by apply Fin.ext; simp only []; omega
  rw [e] at h2
  refine Eq.trans ?_ (h.trans h2)
  have hi := (idx (ptOf r)).2.2.2
  simp only [] at hi
  generalize (dats m 0 c).arrAt 3 cfg0.N = X
  blk_ext [hi]

/-- The reference's result. -/
theorem ref_at (s : FVec Ideal ⟨2, ![8192, 3072]⟩ .f32) (x : FVec Ideal ⟨2, ![8192, 1024]⟩ .f32) (w : FVec Ideal ⟨2, ![3072, 1024]⟩ .f32) (h1)
    (r : Fin 8192) (d : Fin 1024) :
    (addf x (mulf (broadcastInDim Reference6Ideal.S8192x1024 ![] h1 (constant Reference6Ideal.S_ .f32 0x3F000000#32))
      (Host.dotGeneral Reference6Ideal.dot_S8192x3072_S3072x1024_S8192x1024_1_0_0_1_n_n none s w)) : FVec Ideal ⟨2, ![8192, 1024]⟩ .f32) (ix2 r d)
      = out s x w r d := by
  pointwise
  rfl

/-- The kernel and the reference leave the same array. -/
theorem value : Cert.algebraic_Kernel6Ideal_Reference6Ideal := by
  intro m g m' g' _ hagree
  refine ⟨fun c => (dats m 0 c).arrAt 3 cfg0.N, run_blocks m g, (θ_run Cert.Reference6Ideal.defs _ _).mono (fun _ h c => ⟨funext fun i => ?_, (h c).2⟩)
    (Cert.Reference6Ideal.Value.run m' g')⟩
  refine (congrFun (h c).1 i).trans ?_
  obtain ⟨r, d, rfl⟩ : ∃ r d, i = ix2 r d := ⟨i 0, i 1, eq_ix2 i⟩
  refine (ref_at _ _ _ _ r d).trans (Eq.trans ?_ (out3 m c r d).symm)
  rw [(hagree c).1, (hagree c).2.1, (hagree c).2.2]

end Cert.FfnDown
-- ==== Proof.WgradIn.lean ====
/- The weight gradient's product of the mixing input: what the points accumulate, the kernel's result, and the reference's. -/
module

public import proofs.«01_k».proof.Proof.Gen.Kernel7Ideal.Value
public import proofs.«01_k».proof.Proof.Gen.Reference7Ideal.Run
public import proofs.«01_k».proof.Proof.Spec
public import Idealize.ShloMosaic.Lib.Pipeline.ValueKit
public import Idealize.ShloMosaic.Lib.Pipeline.ReadBack
public import Idealize.ShloMosaic.Lib.Claim
public import proofs.«01_k».proof.Defs
public import Idealize.ShloMosaic.Lib.Pointwise
public import Idealize.ShloMosaic.PureOps.Ideal.Laws
public import Idealize.ShloMosaic.Lib.StableHlo.RunRead

@[expose] public section
set_option maxRecDepth 16384
noncomputable section
namespace Cert.WgradIn
open Idealize.ShloMosaic Idealize.ShloMosaic.TcCoe Idealize.SL.Sem
open Cert.Kernel7Ideal Cert.Kernel7Ideal.Gen Cert.Kernel7Ideal.Value

/-- The token that row `r` of the half `k % 2` is, and the channel that column `f` of the block of point `n` is. -/
abbrev rowN (k : ℕ) (r : Fin 4096) : Fin 8192 := ⟨k % 2 * 4096 + r.val, by omega⟩
abbrev colN (n : ℕ) (f : Fin 1024) : Fin 2048 := ⟨n / 2 % 2 * 1024 + f.val, by omega⟩

variable (m : (ℓ : Loc nD τ sig) → Buf (Elt Ideal) ℓ) (c : Dev nD) (t : Fin cfg0.N)

/-- The product's two arrays: the normalised inputs, and the projections' cotangent. -/
abbrev X : FVec Ideal ⟨2, ![8192, 1024]⟩ .f32 := m ((c : Thread nD τ).loc main_arg0)
abbrev Y : FVec Ideal ⟨2, ![8192, 2048]⟩ .f32 := m ((c : Thread nD τ).loc main_arg1)

theorem lt4 : t.val < 4 := lt_of_lt_of_eq t.isLt (show cfg0.N = 4 from N_0)

theorem idx : ∀ t : Fin cfg0.N, win0_0.index t = ![t.val % 2, 0] ∧ win0_1.index t = ![t.val % 2, t.val / 2] :=
  (by decide +kernel : ∀ t : Fin grid0.N, _)

theorem at0 (r : Fin 4096) (d : Fin 1024) : iblk m c 0 t (ix2 r d) = V m c main_v0 (ix2 (rowN t.val r) d) := by
  have hi := (idx t).1
  blk_simp [iblk]
  generalize V m c main_v0 = X
  blk_ext [hi]

theorem at1 (r : Fin 4096) (f : Fin 1024) : iblk m c 1 t (ix2 r f) = V m c main_v1 (ix2 (rowN t.val r) (colN t.val f)) := by
  have hi := (idx t).2
  have := lt4 t
  have e : t.val / 2 % 2 = t.val / 2 := by omega
  blk_simp [iblk]
  generalize V m c main_v1 = X
  blk_ext [hi, e]

theorem val0 (r : Fin 8192) (d : Fin 1024) : V m c main_v0 (ix2 r d) = X m c (ix2 r d) := by
  after_reads_simp
  pointwise

theorem val1 (r : Fin 8192) (f : Fin 2048) : V m c main_v1 (ix2 r f) = Y m c (ix2 r f) := by
  after_reads_simp
  pointwise

/-- One point's step: the product of its rows is added. -/
theorem step (acc : FVec Ideal S1024x1024 .f32) (d f : Fin 1024) :
    (k0_pay2 acc (iblk m c 0 t) (iblk m c 1 t) : FVec Ideal S1024x1024 .f32) (ix2 d f)
      = acc (ix2 d f) + ∑ r : Fin 4096, X m c (ix2 (rowN t.val r) d) * Y m c (ix2 (rowN t.val r) (colN t.val f)) := by
  pointwise [k0_pay2]
  refine congrArg (acc (ix2 d f) + ·) (Finset.sum_congr rfl fun r _ => ?_)
  exact congrArg₂ (· * ·) ((at0 m c t r d).trans (val0 m c _ _)) ((at1 m c t r f).trans (val1 m c _ _))

theorem zero (d f : Fin 1024) : (k0_pay1 : FVec Ideal S1024x1024 .f32) (ix2 d f) = 0 := by
  pointwise [k0_pay1]

theorem pay3_at (acc : FVec Ideal S1024x1024 .f32) (d f : Fin 1024) :
    (k0_pay3 acc : FVec Ideal S1024x1024 .bf16) (ix2 d f) = acc (ix2 d f) := by
  pointwise [k0_pay3]

/-- What the accumulator holds after each point. -/
theorem acc_at : ∀ n (h : n < cfg0.N) (d f : Fin 1024), ((outsAt0 m c n h).2 : FVec Ideal S1024x1024 .f32) (ix2 d f)
    = ∑ k ∈ Finset.range (n % 2 + 1), ∑ r : Fin 4096, X m c (ix2 (rowN k r) d) * Y m c (ix2 (rowN k r) (colN n f)) := by
  intro n
  induction n with
  | zero =>
    intro h d f
    rw [outsAt0_A m c ⟨0, h⟩ rfl (by simp)]
    frame_out
    refine (step m c ⟨0, h⟩ _ d f).trans ?_
    rw [zero]
    simp only [Nat.zero_mod, zero_add, Finset.sum_range_one]
  | succ n ih =>
    intro h d f
    have hn := lt4 ⟨n + 1, h⟩
    by_cases h1 : (n + 1) % 2 = 0
    · rw [outsAt0_A m c ⟨n + 1, h⟩ h1 (by simp only []; omega)]
      frame_out
      refine (step m c ⟨n + 1, h⟩ _ d f).trans ?_
      rw [zero, h1]
      simp [rowN, h1]
    · have h2 : (n + 1) % 2 = 1 := by omega
      have e0 : n % 2 = 0 := by omega
      have e1 : colN n f = colN (n + 1) f := by apply Fin.ext; simp only []; omega
      rw [outsAt0_B m c ⟨n + 1, h⟩ h1 h2]
      frame_out
      rw [read_unread_whole]
      refine (step m c ⟨n + 1, h⟩ _ d f).trans ?_
      change (outsAt0 m c n _).2 (ix2 d f) + _ = _
      rw [ih, h2, e0, e1]
      simp [Finset.sum_range_succ, rowN, h2]

/-- What a block's last point writes. -/
theorem out_at (n : ℕ) (h : n < cfg0.N) (hn : n % 2 = 1) (d f : Fin 1024) :
    ((outsAt0 m c n h).1 : FVec Ideal S1024x1024 .bf16) (ix2 d f)
      = ∑ k ∈ Finset.range 2, ∑ r : Fin 4096, X m c (ix2 (rowN k r) d) * Y m c (ix2 (rowN k r) (colN n f)) := by
  have ha := acc_at m c n h d f
  have e : (outsAt0 m c n h).1 = k0_pay3 (outsAt0 m c n h).2 := by
    rw [outsAt0_B m c ⟨n, h⟩ (by simp only []; omega) hn]
    frame_out
  rw [e, pay3_at, ha, hn]

/-- A sum over the tokens is the sum of the two halves' sums. -/
theorem halves (g : Fin 8192 → EReal) : ∑ k ∈ Finset.range 2, ∑ r : Fin 4096, g (rowN k r) = ∑ r, g r := by
  rw [Finset.sum_range]
  rw [← Fintype.sum_prod_type' (f := fun (k : Fin 2) (r : Fin 4096) => g (rowN k r))]
  refine Fintype.sum_equiv (finProdFinEquiv (m := 2) (n := 4096)) _ _ fun x => congrArg g (Fin.ext ?_)
  have := x.1.isLt
  simp [finProdFinEquiv, rowN]
  omega

/-- What the kernel leaves. -/
theorem G2_at (d : Fin 1024) (f : Fin 2048) : (G2 m c : FVec Ideal S1024x2048 .bf16) (ix2 d f)
    = ∑ r : Fin 8192, X m c (ix2 r d) * Y m c (ix2 r f) := by
  have hN : cfg0.N = 4 := N_0
  have hp : pt2Of (ix2 d f) = 2 * (f.val / 1024) + 1 := by
    have hd : d.val / 1024 = 0 := by omega
    simp [pt2Of, run2Of, hd]
  have hl : loc2Of (ix2 d f) = ix2 d (⟨f.val % 1024, by omega⟩ : Fin 1024) := by blk_ext [loc2Of]
  unfold G2
  have hb : pt2Of (ix2 d f) < cfg0.N := by rw [hp, hN]; omega
  rw [dif_pos hb, ← outsAt0_sweep m c _ hb, hl]
  refine (out_at m c _ _ (by rw [hp]; omega) d _).trans ?_
  have e : colN (pt2Of (ix2 d f)) ⟨f.val % 1024, by omega⟩ = f := by apply Fin.ext; simp only [hp]; omega
  rw [e]
  exact halves fun r => X m c (ix2 r d) * Y m c (ix2 r f)

/-- The reference's product. -/
theorem ref_at (y : FVec Ideal ⟨2, ![8192, 2048]⟩ .f32) (x : FVec Ideal ⟨2, ![8192, 1024]⟩ .f32) (h1 h2) (d : Fin 1024) (f : Fin 2048) :
    (truncf .bf16 (transpose Reference7Ideal.S1024x2048 [1, 0] (Host.dotGeneral Reference7Ideal.dot_S8192x2048_S8192x1024_S2048x1024_0_0_1_1_n_n none y x) h1) h2
      : FVec Ideal ⟨2, ![1024, 2048]⟩ .bf16) (ix2 d f) = ∑ r : Fin 8192, x (ix2 r d) * y (ix2 r f) := by
  pointwise
  exact Finset.sum_congr rfl fun r _ => mul_comm _ _

/-- The kernel and the reference leave the same array. -/
theorem value : Cert.algebraic_Kernel7Ideal_Reference7Ideal := by
  intro m g m' g' _ hagree
  refine ⟨fun c => G2 m c, run m g, (θ_run Cert.Reference7Ideal.defs _ _).mono (fun _ h c => ⟨funext fun i => ?_, (h c).2⟩)
    (Cert.Reference7Ideal.Value.run m' g')⟩
  refine (congrFun (h c).1 i).trans ?_
  obtain ⟨d, f, rfl⟩ : ∃ d f, i = ix2 d f := ⟨i 0, i 1, eq_ix2 i⟩
  refine (ref_at _ _ _ _ d f).trans (Eq.trans ?_ (G2_at m c d f).symm)
  rw [(hagree c).1, (hagree c).2]

end Cert.WgradIn
-- ==== Proof.WgradOut.lean ====
/- The weight gradient's product of the mixing output: what the points accumulate, the kernel's result, and the reference's. -/
module

public import proofs.«01_k».proof.Proof.Gen.Kernel8Ideal.Value
public import proofs.«01_k».proof.Proof.Gen.Reference8Ideal.Run
public import proofs.«01_k».proof.Proof.Spec
public import Idealize.ShloMosaic.Lib.Pipeline.ValueKit
public import Idealize.ShloMosaic.Lib.Pipeline.ReadBack
public import Idealize.ShloMosaic.Lib.Claim
public import proofs.«01_k».proof.Defs
public import Idealize.ShloMosaic.Lib.Pointwise
public import Idealize.ShloMosaic.PureOps.Ideal.Laws
public import Idealize.ShloMosaic.Lib.StableHlo.RunRead

@[expose] public section
set_option maxRecDepth 16384
noncomputable section
namespace Cert.WgradOut
open Idealize.ShloMosaic Idealize.ShloMosaic.TcCoe Idealize.SL.Sem
open Cert.Kernel8Ideal Cert.Kernel8Ideal.Gen Cert.Kernel8Ideal.Value

/-- The token that row `r` of the half `k % 2` is. -/
abbrev rowN (k : ℕ) (r : Fin 4096) : Fin 8192 := ⟨k % 2 * 4096 + r.val, by omega⟩

variable (m : (ℓ : Loc nD τ sig) → Buf (Elt Ideal) ℓ) (c : Dev nD) (t : Fin cfg0.N)

/-- The product's two arrays: the mixing outputs, and the residual stream's cotangent. -/
abbrev X : FVec Ideal ⟨2, ![8192, 1024]⟩ .f32 := m ((c : Thread nD τ).loc main_arg0)
abbrev Y : FVec Ideal ⟨2, ![8192, 1024]⟩ .f32 := m ((c : Thread nD τ).loc main_arg1)

theorem lt2 : t.val < 2 := lt_of_lt_of_eq t.isLt (show cfg0.N = 2 from N_0)

theorem idx : ∀ t : Fin cfg0.N, win0_0.index t = ![t.val % 2, 0] ∧ win0_1.index t = ![t.val % 2, 0] :=
  (by decide +kernel : ∀ t : Fin grid0.N, _)

theorem at0 (r : Fin 4096) (d : Fin 1024) : iblk m c 0 t (ix2 r d) = V m c main_v0 (ix2 (rowN t.val r) d) := by
  have hi := (idx t).1
  blk_simp [iblk]
  generalize V m c main_v0 = X
  blk_ext [hi]

theorem at1 (r : Fin 4096) (f : Fin 1024) : iblk m c 1 t (ix2 r f) = V m c main_v1 (ix2 (rowN t.val r) f) := by
  have hi := (idx t).2
  blk_simp [iblk]
  generalize V m c main_v1 = X
  blk_ext [hi]

theorem val0 (r : Fin 8192) (d : Fin 1024) : V m c main_v0 (ix2 r d) = X m c (ix2 r d) := by
  after_reads_simp
  pointwise

theorem val1 (r : Fin 8192) (f : Fin 1024) : V m c main_v1 (ix2 r f) = Y m c (ix2 r f) := by
  after_reads_simp
  pointwise

/-- One point's step: the product of its rows is added. -/
theorem step (acc : FVec Ideal S1024x1024 .f32) (d f : Fin 1024) :
    (k0_pay2 acc (iblk m c 0 t) (iblk m c 1 t) : FVec Ideal S1024x1024 .f32) (ix2 d f)
      = acc (ix2 d f) + ∑ r : Fin 4096, X m c (ix2 (rowN t.val r) d) * Y m c (ix2 (rowN t.val r) f) := by
  pointwise [k0_pay2]
  refine congrArg (acc (ix2 d f) + ·) (Finset.sum_congr rfl fun r _ => ?_)
  exact congrArg₂ (· * ·) ((at0 m c t r d).trans (val0 m c _ _)) ((at1 m c t r f).trans (val1 m c _ _))

theorem zero (d f : Fin 1024) : (k0_pay1 : FVec Ideal S1024x1024 .f32) (ix2 d f) = 0 := by
  pointwise [k0_pay1]

theorem pay3_at (acc : FVec Ideal S1024x1024 .f32) (d f : Fin 1024) :
    (k0_pay3 acc : FVec Ideal S1024x1024 .bf16) (ix2 d f) = acc (ix2 d f) := by
  pointwise [k0_pay3]

/-- What the accumulator holds after each point. -/
theorem acc_at : ∀ n (h : n < cfg0.N) (d f : Fin 1024), ((outsAt0 m c n h).2 : FVec Ideal S1024x1024 .f32) (ix2 d f)
    = ∑ k ∈ Finset.range (n % 2 + 1), ∑ r : Fin 4096, X m c (ix2 (rowN k r) d) * Y m c (ix2 (rowN k r) f) := by
  intro n
  induction n with
  | zero =>
    intro h d f
    rw [outsAt0_A m c ⟨0, h⟩ rfl (by simp)]
    frame_out
    refine (step m c ⟨0, h⟩ _ d f).trans ?_
    rw [zero]
    simp only [Nat.zero_mod, zero_add, Finset.sum_range_one]
  | succ n ih =>
    intro h d f
    have hn := lt2 ⟨n + 1, h⟩
    by_cases h1 : (n + 1) % 2 = 0
    · rw [outsAt0_A m c ⟨n + 1, h⟩ h1 (by simp only []; omega)]
      frame_out
      refine (step m c ⟨n + 1, h⟩ _ d f).trans ?_
      rw [zero, h1]
      simp [rowN, h1]
    · have h2 : (n + 1) % 2 = 1 := by omega
      have e0 : n % 2 = 0 := by omega
      rw [outsAt0_B m c ⟨n + 1, h⟩ h1 h2]
      frame_out
      rw [read_unread_whole]
      refine (step m c ⟨n + 1, h⟩ _ d f).trans ?_
      change (outsAt0 m c n _).2 (ix2 d f) + _ = _
      rw [ih, h2, e0]
      simp [Finset.sum_range_succ, rowN, h2]

/-- What a block's last point writes. -/
theorem out_at (n : ℕ) (h : n < cfg0.N) (hn : n % 2 = 1) (d f : Fin 1024) :
    ((outsAt0 m c n h).1 : FVec Ideal S1024x1024 .bf16) (ix2 d f)
      = ∑ k ∈ Finset.range 2, ∑ r : Fin 4096, X m c (ix2 (rowN k r) d) * Y m c (ix2 (rowN k r) f) := by
  have ha := acc_at m c n h d f
  have e : (outsAt0 m c n h).1 = k0_pay3 (outsAt0 m c n h).2 := by
    rw [outsAt0_B m c ⟨n, h⟩ (by simp only []; omega) hn]
    frame_out
  rw [e, pay3_at, ha, hn]

/-- A sum over the tokens is the sum of the two halves' sums. -/
theorem halves (g : Fin 8192 → EReal) : ∑ k ∈ Finset.range 2, ∑ r : Fin 4096, g (rowN k r) = ∑ r, g r := by
  rw [Finset.sum_range]
  rw [← Fintype.sum_prod_type' (f := fun (k : Fin 2) (r : Fin 4096) => g (rowN k r))]
  refine Fintype.sum_equiv (finProdFinEquiv (m := 2) (n := 4096)) _ _ fun x => congrArg g (Fin.ext ?_)
  have := x.1.isLt
  simp [finProdFinEquiv, rowN]
  omega

/-- What the kernel leaves. -/
theorem G2_at (d : Fin 1024) (f : Fin 1024) : (G2 m c : FVec Ideal S1024x1024 .bf16) (ix2 d f)
    = ∑ r : Fin 8192, X m c (ix2 r d) * Y m c (ix2 r f) := by
  have hN : cfg0.N = 2 := N_0
  have hp : pt2Of (ix2 d f) = 1 := by
    have hd : d.val / 1024 = 0 := by omega
    have hf : f.val / 1024 = 0 := by omega
    simp [pt2Of, run2Of, hd, hf]
  have hl : loc2Of (ix2 d f) = ix2 d f := by blk_ext [loc2Of]
  unfold G2
  have hb : pt2Of (ix2 d f) < cfg0.N := by rw [hp, hN]; omega
  rw [dif_pos hb, ← outsAt0_sweep m c _ hb, hl]
  refine (out_at m c _ _ (by rw [hp]) d f).trans ?_
  exact halves fun r => X m c (ix2 r d) * Y m c (ix2 r f)

/-- The reference's product. -/
theorem ref_at (y : FVec Ideal ⟨2, ![8192, 1024]⟩ .f32) (x : FVec Ideal ⟨2, ![8192, 1024]⟩ .f32) (h1 h2) (d : Fin 1024) (f : Fin 1024) :
    (truncf .bf16 (transpose Reference8Ideal.S1024x1024 [1, 0] (Host.dotGeneral Reference8Ideal.dot_S8192x1024_S8192x1024_S1024x1024_0_0_1_1_n_n none y x) h1) h2
      : FVec Ideal ⟨2, ![1024, 1024]⟩ .bf16) (ix2 d f) = ∑ r : Fin 8192, x (ix2 r d) * y (ix2 r f) := by
  pointwise
  exact Finset.sum_congr rfl fun r _ => mul_comm _ _

/-- The kernel and the reference leave the same array. -/
theorem value : Cert.algebraic_Kernel8Ideal_Reference8Ideal := by
  intro m g m' g' _ hagree
  refine ⟨fun c => G2 m c, run m g, (θ_run Cert.Reference8Ideal.defs _ _).mono (fun _ h c => ⟨funext fun i => ?_, (h c).2⟩)
    (Cert.Reference8Ideal.Value.run m' g')⟩
  refine (congrFun (h c).1 i).trans ?_
  obtain ⟨d, f, rfl⟩ : ∃ d f, i = ix2 d f := ⟨i 0, i 1, eq_ix2 i⟩
  refine (ref_at _ _ _ _ d f).trans (Eq.trans ?_ (G2_at m c d f).symm)
  rw [(hagree c).1, (hagree c).2]

end Cert.WgradOut
-- ==== Proof.FrameBits3.lean ====
/- The machine's kernels of the mixing input's gradient, the output projection of the feed-forward network and the mixing weights' gradients, and their ideal readings, have the same text: one run, over any floats, is the run of both. -/
module
public import proofs.«01_k».proof.Defs
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
@[expose] public section
set_option maxRecDepth 16384
set_option maxHeartbeats 4000000
noncomputable section
namespace Cert.Proof
open Idealize.ShloMosaic

/-- The two programs have the same text: their launch's body is the same program. -/
theorem body_eq5 : Cert.Kernel5.defs₀ (F := Bits) = Cert.Kernel5Ideal.defs₀ (F := Bits) := by
  unfold Cert.Kernel5.defs₀ Cert.Kernel5Ideal.defs₀
  refine congrArg (Defs.onTc (nD := Cert.Kernel5.nD) (τ := Cert.Kernel5.τ) (sig := Cert.Kernel5.sig) (Val := Elt Bits) (Λ := Cert.Kernel5.Λ₀)) ?_
  funext l a
  match l, a with
  | 0, (t, s) => rfl
  | ⟨_ + 1, h⟩, _ => exact absurd h (Nat.not_lt.2 (Nat.le_add_left _ _))

theorem defs_eq5 : Cert.Kernel5.defs (F := Bits) = Cert.Kernel5Ideal.defs (F := Bits) :=
  congrArg (Pipeline.defs (Cert.Kernel5Ideal.pcfgs (F := Bits))) body_eq5

/-- The kernel's run at the machine's floats, from the run over any floats. -/
theorem frame_kernel5 : Cert.quiescent_Kernel5 := fun m ρ _ => by
  rw [defs_eq5]
  exact Cert.Kernel5Ideal.Gen.frame (F := Bits) m ρ

/-- The two programs have the same text: their launch's body is the same program. -/
theorem body_eq6 : Cert.Kernel6.defs₀ (F := Bits) = Cert.Kernel6Ideal.defs₀ (F := Bits) := by
  unfold Cert.Kernel6.defs₀ Cert.Kernel6Ideal.defs₀
  refine congrArg (Defs.onTc (nD := Cert.Kernel6.nD) (τ := Cert.Kernel6.τ) (sig := Cert.Kernel6.sig) (Val := Elt Bits) (Λ := Cert.Kernel6.Λ₀)) ?_
  funext l a
  match l, a with
  | 0, (t, s) => rfl
  | ⟨_ + 1, h⟩, _ => exact absurd h (Nat.not_lt.2 (Nat.le_add_left _ _))

theorem defs_eq6 : Cert.Kernel6.defs (F := Bits) = Cert.Kernel6Ideal.defs (F := Bits) :=
  congrArg (Pipeline.defs (Cert.Kernel6Ideal.pcfgs (F := Bits))) body_eq6

/-- The kernel's run at the machine's floats, from the run over any floats. -/
theorem frame_kernel6 : Cert.quiescent_Kernel6 := fun m ρ _ => by
  rw [defs_eq6]
  exact Cert.Kernel6Ideal.Gen.frame (F := Bits) m ρ

/-- The two programs have the same text: their launch's body is the same program. -/
theorem body_eq7 : Cert.Kernel7.defs₀ (F := Bits) = Cert.Kernel7Ideal.defs₀ (F := Bits) := by
  unfold Cert.Kernel7.defs₀ Cert.Kernel7Ideal.defs₀
  refine congrArg (Defs.onTc (nD := Cert.Kernel7.nD) (τ := Cert.Kernel7.τ) (sig := Cert.Kernel7.sig) (Val := Elt Bits) (Λ := Cert.Kernel7.Λ₀)) ?_
  funext l a
  match l, a with
  | 0, (t, s) => rfl
  | ⟨_ + 1, h⟩, _ => exact absurd h (Nat.not_lt.2 (Nat.le_add_left _ _))

theorem defs_eq7 : Cert.Kernel7.defs (F := Bits) = Cert.Kernel7Ideal.defs (F := Bits) :=
  congrArg (Pipeline.defs (Cert.Kernel7Ideal.pcfgs (F := Bits))) body_eq7

/-- The kernel's run at the machine's floats, from the run over any floats. -/
theorem frame_kernel7 : Cert.quiescent_Kernel7 := fun m ρ _ => by
  rw [defs_eq7]
  exact Cert.Kernel7Ideal.Gen.frame (F := Bits) m ρ

/-- The two programs have the same text: their launch's body is the same program. -/
theorem body_eq8 : Cert.Kernel8.defs₀ (F := Bits) = Cert.Kernel8Ideal.defs₀ (F := Bits) := by
  unfold Cert.Kernel8.defs₀ Cert.Kernel8Ideal.defs₀
  refine congrArg (Defs.onTc (nD := Cert.Kernel8.nD) (τ := Cert.Kernel8.τ) (sig := Cert.Kernel8.sig) (Val := Elt Bits) (Λ := Cert.Kernel8.Λ₀)) ?_
  funext l a
  match l, a with
  | 0, (t, s) => rfl
  | ⟨_ + 1, h⟩, _ => exact absurd h (Nat.not_lt.2 (Nat.le_add_left _ _))

theorem defs_eq8 : Cert.Kernel8.defs (F := Bits) = Cert.Kernel8Ideal.defs (F := Bits) :=
  congrArg (Pipeline.defs (Cert.Kernel8Ideal.pcfgs (F := Bits))) body_eq8

/-- The kernel's run at the machine's floats, from the run over any floats. -/
theorem frame_kernel8 : Cert.quiescent_Kernel8 := fun m ρ _ => by
  rw [defs_eq8]
  exact Cert.Kernel8Ideal.Gen.frame (F := Bits) m ρ

theorem frame_ref5 : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

theorem frame_ref6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_ref7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame_ref8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

end Cert.Proof
-- ==== Proof.ActRun.lean ====
/- The run of the gate's call, Kernel9Ideal: what each point leaves, the proof data, the body's obligation and the whole run. A row block's
   normed rows are computed at its first column block and read back at the other three. -/
module

public import proofs.«01_k».proof.Proof.Gen.Kernel9Ideal.Skeleton
public import proofs.«01_k».proof.Proof.Gen.Kernel9Ideal.Frame
public import Idealize.ShloMosaic.Lib.Pipeline.ValueKit
public import Idealize.ShloMosaic.Lib.Claim

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row block's first point. -/
abbrev cond0_0 (i : grid0.Coords) : Prop := k0_cond1 i = 1#1
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The normed rows are stored at a row block's first point only. -/
theorem idle4 : ∀ t : Fin cfg0.N, cfg0.idle 4 (grid0.coords t) = !decide (t.val % 4 = 0) := by decide +kernel

section Body
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x768 .bf16) (h4 : a4.IsWhole) (a5 : Memref sig .tc .vmem S1024x768 .bf16) (h5 : a5.IsWhole) (a6 : Memref sig .tc .vmem S1024x1024 .bf16) (h6 : a6.IsWhole) (a7 : Memref sig .tc .vmem S1024x768 .bf16) (h7 : a7.IsWhole) (a8 : Memref sig .tc .vmem S1024x768 .bf16) (h8 : a8.IsWhole) (a9 : Memref sig .tc .vmem S1024x768 .bf16) (h9 : a9.IsWhole) (a10 : Memref sig .tc .vmem S1024x768 .bf16) (h10 : a10.IsWhole)
    (x0 : Vec F S1024x1024 .f32) (x1 : Vec F S1x1024 .f32) (x2 : Vec F S1024x768 .bf16) (x3 : Vec F S1024x768 .bf16) (x4 : Vec F S1024x1024 .bf16)

set_option maxHeartbeats 1000000 in
/-- The pieces that the body stores at a row block's first point, found by running it. -/
noncomputable def runA (hc0 : cond0_0 i) :
    Σ' (L4 : List (View.Piece (Elt F) S1024x1024 .bf16)), Σ' (L5 : List (View.Piece (Elt F) S1024x768 .bf16)), Σ' (L6 : List (View.Piece (Elt F) S1024x768 .bf16)), Σ' (L7 : List (View.Piece (Elt F) S1024x768 .bf16)), { L8 : List (View.Piece (Elt F) S1024x768 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f L7) ∗ (∃ f, a10.view.loc (c : Thread nD τ) ↦[a10.view.set]{fullShare} a10.view.writes (Elt F) f L8)) -∗ K ⟨⟩))
          ⊢ wp frame (wpE (defs₀ (F := F)) Variants.none c none) E (cc0_ffn_act i a2 h2 a3 h3 a4 h4 a5 h5 a6 h6 a7 h7 a8 h8 a9 h9 a10 h10) K } := by
  refine ⟨?_, ?_, ?_, ?_, ?_, fun E K => ?run⟩
  case run =>
    simp only [cc0_ffn_act_eq_skeleton]; unfold cc0_ffn_act_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [H7]; · iexists _; iexact H7
    iexists _; iexact H8

/-- The buffer of output 4 after it. -/
theorem readA4 (hc0 : cond0_0 i) (f) : a6.view.read (Elt F) (a6.view.writes (Elt F) f (runA c i a2 h2 a3 h3 a4 h4 a5 h5 a6 h6 a7 h7 a8 h8 a9 h9 a10 h10 x0 x1 x2 x3 hc0).1) = k0_pay1 x0 x1 := by
  refine (View.read_writes_of_cover _ _ (Memref.whole cc0_stg4_0 : Memref sig .tc .vmem S1024x1024 .bf16).view (Memref.whole cc0_stg4_0 : Memref sig .tc .vmem S1024x1024 .bf16).view.junk _ (View.cover_of_tiledL (runA c i a2 h2 a3 h3 a4 h4 a5 h5 a6 h6 a7 h7 a8 h8 a9 h9 a10 h10 x0 x1 x2 x3 hc0).1 S1024x1024.size (by sl_kernel_rfl))).trans ?_
  unfold runA
  frame_out
  try exact View.canon_cons_unit_lit' (S := S1024x1024) _ _ [] (by decide)

/-- The buffer of output 5 after it. -/
theorem readA5 (hc0 : cond0_0 i) (f) : a7.view.read (Elt F) (a7.view.writes (Elt F) f (runA c i a2 h2 a3 h3 a4 h4 a5 h5 a6 h6 a7 h7 a8 h8 a9 h9 a10 h10 x0 x1 x2 x3 hc0).2.1) = k0_pay7 (k0_pay1 x0 x1) x3 := by
  refine (View.read_writes_of_cover _ _ (Memref.whole cc0_stg5_0 : Memref sig .tc .vmem S1024x768 .bf16).view (Memref.whole cc0_stg5_0 : Memref sig .tc .vmem S1024x768 .bf16).view.junk _ (View.cover_of_tiledL (runA c i a2 h2 a3 h3 a4 h4 a5 h5 a6 h6 a7 h7 a8 h8 a9 h9 a10 h10 x0 x1 x2 x3 hc0).2.1 S1024x768.size (by sl_kernel_rfl))).trans ?_
  unfold runA
  frame_out
  try exact View.canon_cons_unit_lit' (S := S1024x768) _ _ [] (by decide)

/-- The buffer of output 6 after it. -/
theorem readA6 (hc0 : cond0_0 i) (f) : a8.view.read (Elt F) (a8.view.writes (Elt F) f (runA c i a2 h2 a3 h3 a4 h4 a5 h5 a6 h6 a7 h7 a8 h8 a9 h9 a10 h10 x0 x1 x2 x3 hc0).2.2.1) = k0_pay8 (k0_pay1 x0 x1) x2 := by
  refine (View.read_writes_of_cover _ _ (Memref.whole cc0_stg6_0 : Memref sig .tc .vmem S1024x768 .bf16).view (Memref.whole cc0_stg6_0 : Memref sig .tc .vmem S1024x768 .bf16).view.junk _ (View.cover_of_tiledL (runA c i a2 h2 a3 h3 a4 h4 a5 h5 a6 h6 a7 h7 a8 h8 a9 h9 a10 h10 x0 x1 x2 x3 hc0).2.2.1 S1024x768.size (by sl_kernel_rfl))).trans ?_
  unfold runA
  frame_out
  try exact View.canon_cons_unit_lit' (S := S1024x768) _ _ [] (by decide)

/-- The buffer of output 7 after it. -/
theorem readA7 (hc0 : cond0_0 i) (f) : a9.view.read (Elt F) (a9.view.writes (Elt F) f (runA c i a2 h2 a3 h3 a4 h4 a5 h5 a6 h6 a7 h7 a8 h8 a9 h9 a10 h10 x0 x1 x2 x3 hc0).2.2.2.1) = k0_pay9 (k0_pay1 x0 x1) x2 := by
  refine (View.read_writes_of_cover _ _ (Memref.whole cc0_stg7_0 : Memref sig .tc .vmem S1024x768 .bf16).view (Memref.whole cc0_stg7_0 : Memref sig .tc .vmem S1024x768 .bf16).view.junk _ (View.cover_of_tiledL (runA c i a2 h2 a3 h3 a4 h4 a5 h5 a6 h6 a7 h7 a8 h8 a9 h9 a10 h10 x0 x1 x2 x3 hc0).2.2.2.1 S1024x768.size (by sl_kernel_rfl))).trans ?_
  unfold runA
  frame_out
  try exact View.canon_cons_unit_lit' (S := S1024x768) _ _ [] (by decide)

/-- The buffer of output 8 after it. -/
theorem readA8 (hc0 : cond0_0 i) (f) : a10.view.read (Elt F) (a10.view.writes (Elt F) f (runA c i a2 h2 a3 h3 a4 h4 a5 h5 a6 h6 a7 h7 a8 h8 a9 h9 a10 h10 x0 x1 x2 x3 hc0).2.2.2.2.1) = k0_pay10 (k0_pay1 x0 x1) x2 x3 := by
  refine (View.read_writes_of_cover _ _ (Memref.whole cc0_stg8_0 : Memref sig .tc .vmem S1024x768 .bf16).view (Memref.whole cc0_stg8_0 : Memref sig .tc .vmem S1024x768 .bf16).view.junk _ (View.cover_of_tiledL (runA c i a2 h2 a3 h3 a4 h4 a5 h5 a6 h6 a7 h7 a8 h8 a9 h9 a10 h10 x0 x1 x2 x3 hc0).2.2.2.2.1 S1024x768.size (by sl_kernel_rfl))).trans ?_
  unfold runA
  frame_out
  try exact View.canon_cons_unit_lit' (S := S1024x768) _ _ [] (by decide)

set_option maxHeartbeats 1000000 in
/-- The pieces that the body stores at a row block's other points, found by running it. -/
noncomputable def runB (hc0 : ¬cond0_0 i) :
    Σ' (L5 : List (View.Piece (Elt F) S1024x768 .bf16)), Σ' (L6 : List (View.Piece (Elt F) S1024x768 .bf16)), Σ' (L7 : List (View.Piece (Elt F) S1024x768 .bf16)), { L8 : List (View.Piece (Elt F) S1024x768 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f L7) ∗ (∃ f, a10.view.loc (c : Thread nD τ) ↦[a10.view.set]{fullShare} a10.view.writes (Elt F) f L8)) -∗ K ⟨⟩))
          ⊢ wp frame (wpE (defs₀ (F := F)) Variants.none c none) E (cc0_ffn_act i a2 h2 a3 h3 a4 h4 a5 h5 a6 h6 a7 h7 a8 h8 a9 h9 a10 h10) K } := by
  refine ⟨?_, ?_, ?_, ?_, fun E K => ?run⟩
  case run =>
    simp only [cc0_ffn_act_eq_skeleton]; unfold cc0_ffn_act_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3; obtain rfl := h6.eq_unread hf4
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexists _; iexact H6
    isplitl [H7]; · iexists _; iexact H7
    iexists _; iexact H8

/-- The buffer of output 5 after it. -/
theorem readB5 (hc0 : ¬cond0_0 i) (f) : a7.view.read (Elt F) (a7.view.writes (Elt F) f (runB c i a2 h2 a3 h3 a4 h4 a5 h5 a6 h6 a7 h7 a8 h8 a9 h9 a10 h10 x0 x1 x2 x3 x4 hc0).1) = k0_pay7 x4 x3 := by
  refine (View.read_writes_of_cover _ _ (Memref.whole cc0_stg5_0 : Memref sig .tc .vmem S1024x768 .bf16).view (Memref.whole cc0_stg5_0 : Memref sig .tc .vmem S1024x768 .bf16).view.junk _ (View.cover_of_tiledL (runB c i a2 h2 a3 h3 a4 h4 a5 h5 a6 h6 a7 h7 a8 h8 a9 h9 a10 h10 x0 x1 x2 x3 x4 hc0).1 S1024x768.size (by sl_kernel_rfl))).trans ?_
  unfold runB
  frame_out
  try exact View.canon_cons_unit_lit' (S := S1024x768) _ _ [] (by decide)

/-- The buffer of output 6 after it. -/
theorem readB6 (hc0 : ¬cond0_0 i) (f) : a8.view.read (Elt F) (a8.view.writes (Elt F) f (runB c i a2 h2 a3 h3 a4 h4 a5 h5 a6 h6 a7 h7 a8 h8 a9 h9 a10 h10 x0 x1 x2 x3 x4 hc0).2.1) = k0_pay8 x4 x2 := by
  refine (View.read_writes_of_cover _ _ (Memref.whole cc0_stg6_0 : Memref sig .tc .vmem S1024x768 .bf16).view (Memref.whole cc0_stg6_0 : Memref sig .tc .vmem S1024x768 .bf16).view.junk _ (View.cover_of_tiledL (runB c i a2 h2 a3 h3 a4 h4 a5 h5 a6 h6 a7 h7 a8 h8 a9 h9 a10 h10 x0 x1 x2 x3 x4 hc0).2.1 S1024x768.size (by sl_kernel_rfl))).trans ?_
  unfold runB
  frame_out
  try exact View.canon_cons_unit_lit' (S := S1024x768) _ _ [] (by decide)

/-- The buffer of output 7 after it. -/
theorem readB7 (hc0 : ¬cond0_0 i) (f) : a9.view.read (Elt F) (a9.view.writes (Elt F) f (runB c i a2 h2 a3 h3 a4 h4 a5 h5 a6 h6 a7 h7 a8 h8 a9 h9 a10 h10 x0 x1 x2 x3 x4 hc0).2.2.1) = k0_pay9 x4 x2 := by
  refine (View.read_writes_of_cover _ _ (Memref.whole cc0_stg7_0 : Memref sig .tc .vmem S1024x768 .bf16).view (Memref.whole cc0_stg7_0 : Memref sig .tc .vmem S1024x768 .bf16).view.junk _ (View.cover_of_tiledL (runB c i a2 h2 a3 h3 a4 h4 a5 h5 a6 h6 a7 h7 a8 h8 a9 h9 a10 h10 x0 x1 x2 x3 x4 hc0).2.2.1 S1024x768.size (by sl_kernel_rfl))).trans ?_
  unfold runB
  frame_out
  try exact View.canon_cons_unit_lit' (S := S1024x768) _ _ [] (by decide)

/-- The buffer of output 8 after it. -/
theorem readB8 (hc0 : ¬cond0_0 i) (f) : a10.view.read (Elt F) (a10.view.writes (Elt F) f (runB c i a2 h2 a3 h3 a4 h4 a5 h5 a6 h6 a7 h7 a8 h8 a9 h9 a10 h10 x0 x1 x2 x3 x4 hc0).2.2.2.1) = k0_pay10 x4 x2 x3 := by
  refine (View.read_writes_of_cover _ _ (Memref.whole cc0_stg8_0 : Memref sig .tc .vmem S1024x768 .bf16).view (Memref.whole cc0_stg8_0 : Memref sig .tc .vmem S1024x768 .bf16).view.junk _ (View.cover_of_tiledL (runB c i a2 h2 a3 h3 a4 h4 a5 h5 a6 h6 a7 h7 a8 h8 a9 h9 a10 h10 x0 x1 x2 x3 x4 hc0).2.2.2.1 S1024x768.size (by sl_kernel_rfl))).trans ?_
  unfold runB
  frame_out
  try exact View.canon_cons_unit_lit' (S := S1024x768) _ _ [] (by decide)

end Body

/-! ## What each point leaves -/

/-- The first point of `t`'s row block. -/
abbrev start (t : Fin cfg0.N) : Fin cfg0.N := ⟨t.val - t.val % 4, Nat.lt_of_le_of_lt (Nat.sub_le _ _) t.isLt⟩

/-- The normed rows of `t`'s row block. -/
def hAt (c : Dev nD) (t : Fin cfg0.N) : Vec F S1024x1024 .bf16 := k0_pay1 (iblk m c 0 (start t)) (iblk m c 1 (start t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hAt m c t
    | ⟨5, _⟩ => k0_pay7 (hAt m c t) (iblk m c 3 t)
    | ⟨6, _⟩ => k0_pay8 (hAt m c t) (iblk m c 2 t)
    | ⟨7, _⟩ => k0_pay9 (hAt m c t) (iblk m c 2 t)
    | ⟨8, _⟩ => k0_pay10 (hAt m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = hAt m c t := by dsimp only [dats]
theorem after0_5 (c : Dev nD) (t : Fin cfg0.N) : (dats m 0 c).after 5 t = k0_pay7 (hAt m c t) (iblk m c 3 t) := by dsimp only [dats]
theorem after0_6 (c : Dev nD) (t : Fin cfg0.N) : (dats m 0 c).after 6 t = k0_pay8 (hAt m c t) (iblk m c 2 t) := by dsimp only [dats]
theorem after0_7 (c : Dev nD) (t : Fin cfg0.N) : (dats m 0 c).after 7 t = k0_pay9 (hAt m c t) (iblk m c 2 t) := by dsimp only [dats]
theorem after0_8 (c : Dev nD) (t : Fin cfg0.N) : (dats m 0 c).after 8 t = k0_pay10 (hAt m c t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem hAt_start (c : Dev nD) (t : Fin cfg0.N) (h0 : t.val % 4 = 0) : hAt m c t = k0_pay1 (iblk m c 0 t) (iblk m c 1 t) := by
  unfold hAt; rw [show start t = t from Fin.ext (by show t.val - t.val % 4 = t.val; omega)]

/-- After a row block's first point the buffer of the normed rows holds them: a point that stores nothing there keeps them. -/
theorem before0_4 (c : Dev nD) : ∀ (n : ℕ) (hn : n < cfg0.N) (h0 : ¬n % 4 = 0) (d), (dats m 0 c).before 4 ⟨n, hn⟩ d = hAt m c ⟨n, hn⟩ := by
  intro n
  induction n with
  | zero => intro hn h0; exact absurd rfl h0
  | succ k ih =>
    intro hn h0 d
    have hk : k < cfg0.N := Nat.lt_of_succ_lt hn
    have hs : start ⟨k, hk⟩ = start ⟨k + 1, hn⟩ := Fin.ext (by show k - k % 4 = k + 1 - (k + 1) % 4; omega)
    have hh : hAt m c ⟨k, hk⟩ = hAt m c ⟨k + 1, hn⟩ := by unfold hAt; rw [hs]
    rw [(dats m 0 c).before_of_pos 4 ⟨k + 1, hn⟩ (Nat.succ_ne_zero k) ((cfg0.win 4).fetch_out rfl _) d]
    show (if (cfg0.win 4).flush ⟨k, hk⟩ then d else (dats m 0 c).left 4 ⟨k, hk⟩ d) = _
    have hfl : (cfg0.win 4).flush ⟨k, hk⟩ = false := Bool.eq_false_iff.mpr fun h => by have := (flush0_4 _).mp h; dsimp only at this; omega
    rw [hfl, if_neg Bool.false_ne_true, ← hh]
    unfold Dat.left
    by_cases hz : k % 4 = 0
    · rw [show cfg0.idle 4 (cfg0.grid.coords ⟨k, hk⟩) = false from (idle4 ⟨k, hk⟩).trans (by simp [hz])]
      show (dats m 0 c).kept 4 ⟨k, hk⟩ d = _
      unfold Dat.kept
      rw [Pipeline.fill_of_clip_none 4 _ (fun _ => rfl) d ((dats m 0 c).after 4 ⟨k, hk⟩), Window.fill_cut, after0_4]
    · rw [show cfg0.idle 4 (cfg0.grid.coords ⟨k, hk⟩) = true from (idle4 ⟨k, hk⟩).trans (by simp [hz])]
      exact ih hk hz d

/-! ## The body's obligation -/

/-- What the body leaves in the buffer of the normed rows. -/
def post4 (c : Dev nD) (t : Fin cfg0.N) : sProp 𝕄 :=
  match cfg0.idle 4 (cfg0.grid.coords t) with
  | true =>
    match (cfg0.win 4).flush t with
    | false => iprop(∃ d, owns (c : Thread nD τ) (win0_4.stage (cfg0.slots t 4)) fullShare ((dats m 0 c).before 4 t d))
    | true => owns (c : Thread nD τ) (win0_4.stage (cfg0.slots t 4)) fullShare ((dats m 0 c).after 4 t)
  | false => owns (c : Thread nD τ) (win0_4.stage (cfg0.slots t 4)) fullShare ((dats m 0 c).after 4 t)

theorem post4_A (c : Dev nD) (t : Fin cfg0.N) (h0 : t.val % 4 = 0) :
    owns (c : Thread nD τ) (win0_4.stage (cfg0.slots t 4)) fullShare ((dats m 0 c).after 4 t) ⊢ post4 m c t := by
  unfold post4
  rw [show cfg0.idle 4 (cfg0.grid.coords t) = false from (idle4 t).trans (by simp [h0])]

theorem post4_B (c : Dev nD) (t : Fin cfg0.N) (h0 : ¬t.val % 4 = 0) :
    owns (c : Thread nD τ) (win0_4.stage (cfg0.slots t 4)) fullShare (hAt m c t) ⊢ post4 m c t := by
  unfold post4
  rw [show cfg0.idle 4 (cfg0.grid.coords t) = true from (idle4 t).trans (by simp [h0])]
  cases (cfg0.win 4).flush t
  · dsimp only
    simp only [before0_4 m c t.val t.isLt h0]
    iintro H; iexists (hAt m c t); iexact H
  · dsimp only
    rw [after0_4]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ post4 m c t
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_5, after0_6, after0_7, after0_8]
  by_cases h0 : t.val % 4 = 0
  · rw [hAt_start m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ (iblk m c 0 t) (iblk m c 1 t) (iblk m c 2 t) (iblk m c 3 t) ((hcond0_0 t).mpr h0)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    iintro ⟨H0, H1, H2, H3, ⟨%e4, H4⟩, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (post4_A m c t h0)
      rw [after0_4, hAt_start m c t h0]
      unfold owns; iexists _; isplitr
      swap; · iexact H4
      ipureintro; exact readA4 c _ _ _ _ _ _ _ _ _ _ _ _ _ _ _ _ _ _ _ _ _ _ _ _ _
    isplitl [H5]
    · unfold owns; iexists _; isplitr
      swap; · iexact H5
      ipureintro; exact readA5 c _ _ _ _ _ _ _ _ _ _ _ _ _ _ _ _ _ _ _ _ _ _ _ _ _
    isplitl [H6]
    · unfold owns; iexists _; isplitr
      swap; · iexact H6
      ipureintro; exact readA6 c _ _ _ _ _ _ _ _ _ _ _ _ _ _ _ _ _ _ _ _ _ _ _ _ _
    isplitl [H7]
    · unfold owns; iexists _; isplitr
      swap; · iexact H7
      ipureintro; exact readA7 c _ _ _ _ _ _ _ _ _ _ _ _ _ _ _ _ _ _ _ _ _ _ _ _ _
    unfold owns; iexists _; isplitr
    swap; · iexact H8
    ipureintro; exact readA8 c _ _ _ _ _ _ _ _ _ _ _ _ _ _ _ _ _ _ _ _ _ _ _ _ _
  · simp only [before0_4 m c t.val t.isLt h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ (iblk m c 0 t) (iblk m c 1 t) (iblk m c 2 t) (iblk m c 3 t) (hAt m c t) (fun h => h0 ((hcond0_0 t).mp h))).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (post4_B m c t h0); iexact H4
    isplitl [H5]
    · unfold owns; iexists _; isplitr
      swap; · iexact H5
      ipureintro; exact readB5 c _ _ _ _ _ _ _ _ _ _ _ _ _ _ _ _ _ _ _ _ _ _ _ _ _ _
    isplitl [H6]
    · unfold owns; iexists _; isplitr
      swap; · iexact H6
      ipureintro; exact readB6 c _ _ _ _ _ _ _ _ _ _ _ _ _ _ _ _ _ _ _ _ _ _ _ _ _ _
    isplitl [H7]
    · unfold owns; iexists _; isplitr
      swap; · iexact H7
      ipureintro; exact readB7 c _ _ _ _ _ _ _ _ _ _ _ _ _ _ _ _ _ _ _ _ _ _ _ _ _ _
    unfold owns; iexists _; isplitr
    swap; · iexact H8
    ipureintro; exact readB8 c _ _ _ _ _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel9Ideal.Gen

end
-- ==== Proof.Gate.lean ====
/- The gate's forward call: its arrays by row and column, and the reference's five results. -/
module

public import proofs.«01_k».proof.Proof.Gen.Reference9Ideal.Run
public import proofs.«01_k».proof.Proof.Spec
public import Idealize.ShloMosaic.Lib.Pointwise
public import Idealize.ShloMosaic.PureOps.Ideal.Laws

@[expose] public section
set_option maxRecDepth 16384
noncomputable section
namespace Cert.Gate
open Idealize.ShloMosaic Cert.Mix

/-- The arrays of the call: the residual stream, the norm's gain, and the two hidden projections. -/
structure Arr where
  x : Fin 8192 → Fin 1024 → EReal
  n : Fin 1024 → EReal
  wg : Fin 1024 → Fin 3072 → EReal
  wu : Fin 1024 → Fin 3072 → EReal

namespace Arr
variable (A : Arr)
def ms (r : Fin 8192) : EReal := Ideal.div (∑ d, A.x r d * A.x r d) (Ideal.ofBits .f32 0x44800000#32) + Ideal.ofBits .f32 0x358637BD#32
/-- The normed rows, the two hidden products, and the gate's value and slope. -/
def h (r : Fin 8192) (d : Fin 1024) : EReal := A.x r d * Ideal.rsqrt (A.ms r) * A.n d
def a (r : Fin 8192) (f : Fin 3072) : EReal := ∑ d, A.h r d * A.wg d f
def b (r : Fin 8192) (f : Fin 3072) : EReal := ∑ d, A.h r d * A.wu d f
def sil (r : Fin 8192) (f : Fin 3072) : EReal := A.a r f * Ideal.logistic (A.a r f)
def dsil (r : Fin 8192) (f : Fin 3072) : EReal := Ideal.logistic (A.a r f) + A.sil r f * (1 - Ideal.logistic (A.a r f))
end Arr

/-- The kernel's form of the logistic function is the reference's, at the infinities too. -/
theorem half_tanh (a : EReal) : Ideal.ofBits .f32 0x3F000000#32 * Ideal.tanh (Ideal.ofBits .f32 0x3F000000#32 * a) + Ideal.ofBits .f32 0x3F000000#32 = Ideal.logistic a := by
  rw [lit_half]
  induction a using EReal.rec with
  | bot =>
    rw [EReal.coe_mul_bot_of_pos (by norm_num)]
    have e1 : Ideal.tanh ⊥ = ((-1 : ℝ) : EReal) := rfl
    have e2 : Ideal.logistic ⊥ = 0 := by
      show Ideal.div 1 (1 + ⊤) = 0
      have e : (1 : EReal) + ⊤ = ⊤ := by rw [← EReal.coe_one]; exact EReal.coe_add_top 1
      rw [e]
      unfold Ideal.div
      rw [if_neg (by simp)]
      simp
    rw [e1, e2, ← EReal.coe_mul, ← EReal.coe_add, ← EReal.coe_zero]
    norm_num
  | top =>
    rw [EReal.coe_mul_top_of_pos (by norm_num)]
    have e1 : Ideal.tanh ⊤ = ((1 : ℝ) : EReal) := rfl
    have e2 : Ideal.logistic ⊤ = ((1 / 1 : ℝ) : EReal) := by
      show Ideal.div 1 (1 + 0) = _
      rw [add_zero, ← EReal.coe_one, div_real _ _ (by norm_num)]
    rw [e1, e2, ← EReal.coe_mul, ← EReal.coe_add]
    norm_num
  | coe x =>
    rw [← EReal.coe_mul, tanh_real, ← EReal.coe_mul, ← EReal.coe_add, sigm_tanh]
    unfold Ideal.logistic
    rw [← EReal.coe_neg, exp_real, ← EReal.coe_one, ← EReal.coe_add, div_real _ _ (by positivity)]
    rfl

/-- The arguments hold the arrays. -/
def Holds (x0 : FVec Ideal ⟨2, ![8192, 1024]⟩ .f32) (x1 : FVec Ideal ⟨1, ![1024]⟩ .f32) (x2 x3 : FVec Ideal ⟨2, ![1024, 3072]⟩ .f32) (A : Arr) : Prop :=
  (∀ r d, x0 (ix2 r d) = (A.x r d)) ∧ (∀ d, x1 (ix1 d) = (A.n d)) ∧ (∀ d f, x2 (ix2 d f) = (A.wg d f))
    ∧ ∀ d f, x3 (ix2 d f) = (A.wu d f)

open Cert.Reference9Ideal Cert.Reference9Ideal.Gen

/-- The reference's parts: the mean square and its constant, the normed rows, the two hidden products, and the logistic function. -/
def msr (x0 : FVec Ideal S8192x1024 .f32) : FVec Ideal S8192x1 .f32 := addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def hr (x0 : FVec Ideal S8192x1024 .f32) (x1 : FVec Ideal S1024 .f32) : FVec Ideal S8192x1024 .f32 := mulf (mulf x0 (broadcastInDim S8192x1024 ![0, 1] bcast_S8192x1_S8192x1024_0_1 (Host.rsqrt (msr x0)))) (broadcastInDim S8192x1024 ![0, 1] bcast_S1x1024_S8192x1024_0_1 (broadcastInDim S1x1024 ![1] bcast_S1024_S1x1024_1 x1))
def pr (x0 : FVec Ideal S8192x1024 .f32) (x1 : FVec Ideal S1024 .f32) (w : FVec Ideal S1024x3072 .f32) : FVec Ideal S8192x3072 .f32 := Host.dotGeneral dot_S8192x1024_S1024x3072_S8192x3072_1_0_0_1_n_n none (hr x0 x1) w
def ones : FVec Ideal S8192x3072 .f32 := broadcastInDim S8192x3072 ![] bcast_S_S8192x3072 (constant S_ .f32 0x3F800000#32)
def sg (a : FVec Ideal S8192x3072 .f32) : FVec Ideal S8192x3072 .f32 := Host.divf ones (addf ones (Host.exp (Host.negf a)))

variable {x0 : FVec Ideal S8192x1024 .f32} {x1 : FVec Ideal S1024 .f32} {x2 x3 : FVec Ideal S1024x3072 .f32} {A : Arr} (H : Holds x0 x1 x2 x3 A)

theorem ones_at (r : Fin 8192) (f : Fin 3072) : ones (ix2 r f) = 1 := by
  unfold ones
  pointwise

include H

theorem ms_at (r : Fin 8192) (z : Fin 1) : msr x0 (ix2 r z) = A.ms r := by
  unfold msr
  pointwise
  simp only [H.1 _ _]
  rfl

theorem hr_at (r : Fin 8192) (d : Fin 1024) : hr x0 x1 (ix2 r d) = A.h r d := by
  unfold hr
  pointwise
  simp only [ms_at H, H.1 _ _, H.2.1 _]
  rfl

theorem a_at (r : Fin 8192) (f : Fin 3072) : pr x0 x1 x2 (ix2 r f) = A.a r f := by
  unfold pr
  pointwise
  simp only [hr_at H, H.2.2.1 _ _, Arr.a]

theorem b_at (r : Fin 8192) (f : Fin 3072) : pr x0 x1 x3 (ix2 r f) = A.b r f := by
  unfold pr
  pointwise
  simp only [hr_at H, H.2.2.2 _ _, Arr.b]

theorem sg_at (r : Fin 8192) (f : Fin 3072) : sg (pr x0 x1 x2) (ix2 r f) = Ideal.logistic (A.a r f) := by
  unfold sg
  pointwise
  simp only [a_at H, ones_at]
  rfl

/-- The reference's five results. -/
theorem hb_at (r : Fin 8192) (d : Fin 1024) : (truncf .bf16 (hr x0 x1) bitsLt_bf16_f32 : FVec Ideal S8192x1024 .bf16) (ix2 r d) = A.h r d := by
  pointwise
  exact hr_at H r d

theorem bb_at (r : Fin 8192) (f : Fin 3072) : (truncf .bf16 (pr x0 x1 x3) bitsLt_bf16_f32 : FVec Ideal S8192x3072 .bf16) (ix2 r f) = A.b r f := by
  pointwise
  exact b_at H r f

theorem silb_at (r : Fin 8192) (f : Fin 3072) : (truncf .bf16 (mulf (pr x0 x1 x2) (sg (pr x0 x1 x2))) bitsLt_bf16_f32 : FVec Ideal S8192x3072 .bf16) (ix2 r f) = A.sil r f := by
  pointwise
  simp only [a_at H, sg_at H]
  rfl

theorem dsil_at (r : Fin 8192) (f : Fin 3072) : (truncf .bf16 (addf (mulf ones (sg (pr x0 x1 x2))) (mulf (mulf (pr x0 x1 x2) ones) (mulf (sg (pr x0 x1 x2)) (subf ones (sg (pr x0 x1 x2)))))) bitsLt_bf16_f32 : FVec Ideal S8192x3072 .bf16) (ix2 r f) = A.dsil r f := by
  pointwise
  simp only [a_at H, sg_at H, ones_at, one_mul, mul_one, ← mul_assoc]
  rfl

theorem s_at (r : Fin 8192) (f : Fin 3072) : (truncf .bf16 (mulf (mulf (pr x0 x1 x2) (sg (pr x0 x1 x2))) (pr x0 x1 x3)) bitsLt_bf16_f32 : FVec Ideal S8192x3072 .bf16) (ix2 r f)
    = A.sil r f * A.b r f := by
  pointwise
  simp only [a_at H, b_at H, sg_at H]
  rfl

end Cert.Gate
-- ==== Proof.GateA.lean ====
/- The gate's forward call, its two projections apart: what the points leave, the kernel's five results, and the comparison with the reference. -/
module

public import proofs.«01_k».proof.Proof.ActRun
public import proofs.«01_k».proof.Proof.Gate
public import Idealize.ShloMosaic.Lib.Pipeline.Value
public import Idealize.ShloMosaic.Lib.Pipeline.ValueKit
public import Idealize.ShloMosaic.Lib.Pipeline.ReadBack
public import Idealize.ShloMosaic.Lib.Claim
public import proofs.«01_k».proof.Defs
public import Idealize.ShloMosaic.Lib.StableHlo.RunRead

@[expose] public section
set_option maxRecDepth 16384
noncomputable section
namespace Cert.GateA
open Idealize.ShloMosaic Idealize.ShloMosaic.TcCoe Idealize.SL.Sem Cert.Mix Cert.Gate
open Cert.Kernel9Ideal Cert.Kernel9Ideal.Gen

/-- The token that row `r` of the block `k % 8` is, and the hidden channel that column `f` of the block of point `n` is. -/
abbrev rowN (k : ℕ) (r : Fin 1024) : Fin 8192 := ⟨k % 8 * 1024 + r.val, by omega⟩
abbrev colN (n : ℕ) (f : Fin 768) : Fin 3072 := ⟨n % 4 * 768 + f.val, by omega⟩

variable (m : (ℓ : Loc nD τ sig) → Buf (Elt Ideal) ℓ) (c : Dev nD) (t : Fin cfg0.N)

theorem lt32 : t.val < 32 := lt_of_lt_of_eq t.isLt (show cfg0.N = 32 from N_0)

theorem idx : ∀ t : Fin cfg0.N, win0_0.index t = ![t.val / 4, 0] ∧ win0_1.index t = ![0, 0] ∧ win0_2.index t = ![0, t.val % 4]
    ∧ win0_3.index t = ![0, t.val % 4] ∧ win0_4.index t = ![t.val / 4, 0] ∧ win0_5.index t = ![t.val / 4, t.val % 4]
    ∧ win0_6.index t = ![t.val / 4, t.val % 4] ∧ win0_7.index t = ![t.val / 4, t.val % 4] ∧ win0_8.index t = ![t.val / 4, t.val % 4] :=
  (by decide +kernel : ∀ t : Fin grid0.N, _)

theorem at0 (r : Fin 1024) (d : Fin 1024) : iblk m c 0 t (ix2 r d) = V m c main_arg0 (ix2 (rowN (t.val / 4) r) d) := by
  have hi := (idx t).1
  have := lt32 t
  have e : t.val / 4 % 8 = t.val / 4 := by omega
  blk_simp [iblk]
  generalize V m c main_arg0 = X
  blk_ext [hi, e]

theorem at1 (z : Fin 1) (d : Fin 1024) : iblk m c 1 t (ix2 z d) = V m c main_v0 (ix2 z d) := by
  have hi := (idx t).2.1
  blk_simp [iblk]
  generalize V m c main_v0 = X
  blk_ext [hi]

theorem at2 (d : Fin 1024) (f : Fin 768) : iblk m c 2 t (ix2 d f) = V m c main_v1 (ix2 d (colN t.val f)) := by
  have hi := (idx t).2.2.1
  blk_simp [iblk]
  generalize V m c main_v1 = X
  blk_ext [hi]

theorem at3 (d : Fin 1024) (f : Fin 768) : iblk m c 3 t (ix2 d f) = V m c main_v2 (ix2 d (colN t.val f)) := by
  have hi := (idx t).2.2.2.1
  blk_simp [iblk]
  generalize V m c main_v2 = X
  blk_ext [hi]

/-- The kernel's arguments hold the arrays. -/
abbrev HoldsAt (A : Arr) : Prop := Holds (m ((c : Thread nD τ).loc main_arg0)) (m ((c : Thread nD τ).loc main_arg1))
  (m ((c : Thread nD τ).loc main_arg2)) (m ((c : Thread nD τ).loc main_arg3)) A

variable {A : Arr} {c} (H : HoldsAt m c A)
include H

theorem b0 (r : Fin 1024) (d : Fin 1024) : iblk m c 0 t (ix2 r d) = A.x (rowN (t.val / 4) r) d := by
  rw [at0, ← H.1]
  after_reads_simp

theorem b1 (z : Fin 1) (d : Fin 1024) : iblk m c 1 t (ix2 z d) = A.n d := by
  rw [at1, ← H.2.1]
  after_reads_simp
  pointwise

theorem b2 (d : Fin 1024) (f : Fin 768) : iblk m c 2 t (ix2 d f) = A.wg d (colN t.val f) := by
  rw [at2, ← H.2.2.1]
  after_reads_simp
  pointwise

theorem b3 (d : Fin 1024) (f : Fin 768) : iblk m c 3 t (ix2 d f) = A.wu d (colN t.val f) := by
  rw [at3, ← H.2.2.2]
  after_reads_simp
  pointwise
omit H

section Body
variable {x : FVec Ideal S1024x1024 .f32} {n : FVec Ideal S1x1024 .f32} {h : FVec Ideal S1024x1024 .bf16} {g u : FVec Ideal S1024x768 .bf16} {ro : Fin 1024 → Fin 8192} {co : Fin 768 → Fin 3072}

/-- The body's formulas over blocks of real numbers. -/
theorem pay1_at (hx : ∀ r d, x (ix2 r d) = A.x (ro r) d) (hn : ∀ z d, n (ix2 z d) = A.n d) (r d : Fin 1024) :
    (k0_pay1 x n : FVec Ideal S1024x1024 .bf16) (ix2 r d) = A.h (ro r) d := by
  pointwise [k0_pay1]
  simp only [hx, hn]
  rfl

variable (hh : ∀ r d, h (ix2 r d) = A.h (ro r) d) (hg : ∀ d f, g (ix2 d f) = A.wg d (co f)) (hu : ∀ d f, u (ix2 d f) = A.wu d (co f))
include hh

include hg in
theorem pay3_at (r : Fin 1024) (f : Fin 768) : (k0_pay3 h g : FVec Ideal S1024x768 .f32) (ix2 r f) = A.a (ro r) (co f) := by
  pointwise [k0_pay3, k0_pay2]
  simp only [hh, hg]
  rfl

include hu in
theorem pay4_at (r : Fin 1024) (f : Fin 768) : (k0_pay4 h u : FVec Ideal S1024x768 .f32) (ix2 r f) = A.b (ro r) (co f) := by
  pointwise [k0_pay4, k0_pay2]
  simp only [hh, hu]
  rfl

include hu in
theorem pay7_at (r : Fin 1024) (f : Fin 768) : (k0_pay7 h u : FVec Ideal S1024x768 .bf16) (ix2 r f) = A.b (ro r) (co f) := by
  pointwise [k0_pay7]
  exact pay4_at hh hu r f

include hg

theorem pay5_at (r : Fin 1024) (f : Fin 768) : (k0_pay5 h g : FVec Ideal S1024x768 .f32) (ix2 r f) = (Ideal.logistic (A.a (ro r) (co f))) := by
  pointwise [k0_pay5]
  simp only [pay3_at hh hg, half_tanh]

theorem pay6_at (r : Fin 1024) (f : Fin 768) : (k0_pay6 h g : FVec Ideal S1024x768 .f32) (ix2 r f) = A.sil (ro r) (co f) := by
  pointwise [k0_pay6]
  simp only [pay3_at hh hg, pay5_at hh hg]
  rfl

theorem pay8_at (r : Fin 1024) (f : Fin 768) : (k0_pay8 h g : FVec Ideal S1024x768 .bf16) (ix2 r f) = A.sil (ro r) (co f) := by
  pointwise [k0_pay8]
  exact pay6_at hh hg r f

theorem pay9_at (r : Fin 1024) (f : Fin 768) : (k0_pay9 h g : FVec Ideal S1024x768 .bf16) (ix2 r f) = A.dsil (ro r) (co f) := by
  pointwise [k0_pay9]
  simp only [pay5_at hh hg, pay6_at hh hg]
  rfl

include hu in
theorem pay10_at (r : Fin 1024) (f : Fin 768) : (k0_pay10 h g u : FVec Ideal S1024x768 .bf16) (ix2 r f) = A.sil (ro r) (co f) * A.b (ro r) (co f) := by
  pointwise [k0_pay10]
  simp only [pay4_at hh hu, pay6_at hh hg]
end Body

include H

/-- The normed rows that a row block's points work on. -/
theorem h_at (r d : Fin 1024) : (hAt m c t : FVec Ideal S1024x1024 .bf16) (ix2 r d) = A.h (rowN (t.val / 4) r) d := by
  have key := pay1_at (ro := rowN ((start t).val / 4)) (b0 m (start t) H) (b1 m (start t) H) r d
  have e : (start t).val / 4 = t.val / 4 := by simp only [start]; omega
  rw [e] at key
  exact key
omit H

/-- The point that works on row `r` and channel `f`. -/
abbrev ptOf (r : Fin 8192) (f : Fin 3072) : Fin cfg0.N := ⟨r.val / 1024 * 4 + f.val / 768, by rw [show cfg0.N = 32 from N_0]; omega⟩

theorem row_ptOf (r : Fin 8192) (f : Fin 3072) : rowN ((ptOf r f).val / 4) ⟨r.val % 1024, by omega⟩ = r := by
  apply Fin.ext; simp only [ptOf]; omega
theorem col_ptOf (r : Fin 8192) (f : Fin 3072) : colN (ptOf r f).val ⟨f.val % 768, by omega⟩ = f := by
  apply Fin.ext; simp only [ptOf]; omega

include H

/-- What the kernel leaves. -/
theorem out4 (r : Fin 8192) (d : Fin 1024) : ((dats m 0 c).arrAt 4 cfg0.N : FVec Ideal S8192x1024 .bf16) (ix2 r d) = A.h r d := by
  have h : (dats m 0 c).arrAt 4 cfg0.N = (fun i => A.h (i 0) (i 1) : FVec Ideal S8192x1024 .bf16) := by
    refine (dats m 0 c).arrAt_eq_of_covers 4 _ (by decide +kernel) fun t hf y => ?_
    have hi := (idx t).2.2.2.2.1
    have hl := lt32 t
    have key := h_at m t H
    have e8 : t.val / 4 % 8 = t.val / 4 := by omega
    idx_vars y
    rw [after0_4]
    refine (key _ _).trans ?_
    have e : ((View.whole main_v3_0).slice ((win0 4).rect t)).emb (ix2 y0 y1) = ix2 (rowN (t.val / 4) y0) y1 := by blk_ext [hi, e8]
    exact (congrArg (fun i : S8192x1024.Idx => A.h (i 0) (i 1)) e).symm
  rw [h]
  rfl
omit H

theorem idx_inj5 : ∀ t t' : Fin cfg0.N, win0_5.index t = win0_5.index t' → t = t' :=
  (by decide +kernel : ∀ t t' : Fin grid0.N, win0_5.index t = win0_5.index t' → t = t')

include H in
theorem out5 (r : Fin 8192) (f : Fin 3072) : ((dats m 0 c).arrAt 5 cfg0.N : FVec Ideal S8192x3072 .bf16) (ix2 r f) = A.b r f := by
  have h := congrFun ((dats m 0 c).read_blk_arrAt_eq_flushed 5 (fun t t' _ _ hne => (cfg0.win 5).disjoint_blk fun h => hne (idx_inj5 t t' h)) cfg0.N
    (ptOf r f) (ptOf r f).isLt (flush0_5 _)) (ix2 (⟨r.val % 1024, by omega⟩ : Fin 1024) (⟨f.val % 768, by omega⟩ : Fin 768))
  rw [show (dats m 0 c).flushed 5 (ptOf r f) = (cfg0.win 5).cut (grid0.coords (ptOf r f)) ((dats m 0 c).after 5 (ptOf r f)) from rfl, after0_5] at h
  have h2 := pay7_at (ro := rowN ((ptOf r f).val / 4)) (co := colN (ptOf r f).val) (h_at m (ptOf r f) H) (b3 m (ptOf r f) H) ⟨r.val % 1024, by omega⟩ ⟨f.val % 768, by omega⟩
  rw [row_ptOf r f, col_ptOf r f] at h2
  refine Eq.trans ?_ (h.trans h2)
  have hi := (idx (ptOf r f)).2.2.2.2.2.1
  simp only [] at hi
  generalize (dats m 0 c).arrAt 5 cfg0.N = X
  blk_ext [hi]

theorem idx_inj6 : ∀ t t' : Fin cfg0.N, win0_6.index t = win0_6.index t' → t = t' :=
  (by decide +kernel : ∀ t t' : Fin grid0.N, win0_6.index t = win0_6.index t' → t = t')

include H in
theorem out6 (r : Fin 8192) (f : Fin 3072) : ((dats m 0 c).arrAt 6 cfg0.N : FVec Ideal S8192x3072 .bf16) (ix2 r f) = A.sil r f := by
  have h := congrFun ((dats m 0 c).read_blk_arrAt_eq_flushed 6 (fun t t' _ _ hne => (cfg0.win 6).disjoint_blk fun h => hne (idx_inj6 t t' h)) cfg0.N
    (ptOf r f) (ptOf r f).isLt (flush0_6 _)) (ix2 (⟨r.val % 1024, by omega⟩ : Fin 1024) (⟨f.val % 768, by omega⟩ : Fin 768))
  rw [show (dats m 0 c).flushed 6 (ptOf r f) = (cfg0.win 6).cut (grid0.coords (ptOf r f)) ((dats m 0 c).after 6 (ptOf r f)) from rfl, after0_6] at h
  have h2 := pay8_at (ro := rowN ((ptOf r f).val / 4)) (co := colN (ptOf r f).val) (h_at m (ptOf r f) H) (b2 m (ptOf r f) H) ⟨r.val % 1024, by omega⟩ ⟨f.val % 768, by omega⟩
  rw [row_ptOf r f, col_ptOf r f] at h2
  refine Eq.trans ?_ (h.trans h2)
  have hi := (idx (ptOf r f)).2.2.2.2.2.2.1
  simp only [] at hi
  generalize (dats m 0 c).arrAt 6 cfg0.N = X
  blk_ext [hi]

theorem idx_inj7 : ∀ t t' : Fin cfg0.N, win0_7.index t = win0_7.index t' → t = t' :=
  (by decide +kernel : ∀ t t' : Fin grid0.N, win0_7.index t = win0_7.index t' → t = t')

include H in
theorem out7 (r : Fin 8192) (f : Fin 3072) : ((dats m 0 c).arrAt 7 cfg0.N : FVec Ideal S8192x3072 .bf16) (ix2 r f) = A.dsil r f := by
  have h := congrFun ((dats m 0 c).read_blk_arrAt_eq_flushed 7 (fun t t' _ _ hne => (cfg0.win 7).disjoint_blk fun h => hne (idx_inj7 t t' h)) cfg0.N
    (ptOf r f) (ptOf r f).isLt (flush0_7 _)) (ix2 (⟨r.val % 1024, by omega⟩ : Fin 1024) (⟨f.val % 768, by omega⟩ : Fin 768))
  rw [show (dats m 0 c).flushed 7 (ptOf r f) = (cfg0.win 7).cut (grid0.coords (ptOf r f)) ((dats m 0 c).after 7 (ptOf r f)) from rfl, after0_7] at h
  have h2 := pay9_at (ro := rowN ((ptOf r f).val / 4)) (co := colN (ptOf r f).val) (h_at m (ptOf r f) H) (b2 m (ptOf r f) H) ⟨r.val % 1024, by omega⟩ ⟨f.val % 768, by omega⟩
  rw [row_ptOf r f, col_ptOf r f] at h2
  refine Eq.trans ?_ (h.trans h2)
  have hi := (idx (ptOf r f)).2.2.2.2.2.2.2.1
  simp only [] at hi
  generalize (dats m 0 c).arrAt 7 cfg0.N = X
  blk_ext [hi]

theorem idx_inj8 : ∀ t t' : Fin cfg0.N, win0_8.index t = win0_8.index t' → t = t' :=
  (by decide +kernel : ∀ t t' : Fin grid0.N, win0_8.index t = win0_8.index t' → t = t')

include H in
theorem out8 (r : Fin 8192) (f : Fin 3072) : ((dats m 0 c).arrAt 8 cfg0.N : FVec Ideal S8192x3072 .bf16) (ix2 r f) = A.sil r f * A.b r f := by
  have h := congrFun ((dats m 0 c).read_blk_arrAt_eq_flushed 8 (fun t t' _ _ hne => (cfg0.win 8).disjoint_blk fun h => hne (idx_inj8 t t' h)) cfg0.N
    (ptOf r f) (ptOf r f).isLt (flush0_8 _)) (ix2 (⟨r.val % 1024, by omega⟩ : Fin 1024) (⟨f.val % 768, by omega⟩ : Fin 768))
  rw [show (dats m 0 c).flushed 8 (ptOf r f) = (cfg0.win 8).cut (grid0.coords (ptOf r f)) ((dats m 0 c).after 8 (ptOf r f)) from rfl, after0_8] at h
  have h2 := pay10_at (ro := rowN ((ptOf r f).val / 4)) (co := colN (ptOf r f).val) (h_at m (ptOf r f) H) (b2 m (ptOf r f) H) (b3 m (ptOf r f) H) ⟨r.val % 1024, by omega⟩ ⟨f.val % 768, by omega⟩
  rw [row_ptOf r f, col_ptOf r f] at h2
  refine Eq.trans ?_ (h.trans h2)
  have hi := (idx (ptOf r f)).2.2.2.2.2.2.2.2
  simp only [] at hi
  generalize (dats m 0 c).arrAt 8 cfg0.N = X
  blk_ext [hi]

/-- The run, its five arrays named. -/
theorem run_blocks (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_v3_4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6, (h c).1 7, (h c).1 8, ((h c).1 0).trans (((dats m 0 c).arrAt_in 0 rfl _).trans ((A_eq m c 0).trans (V_main_arg0 m c))),
      ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c)⟩) (run_main m ρ)

/-- The kernel and the reference leave the same arrays. -/
theorem value : Cert.algebraic_Kernel9Ideal_Reference9Ideal := by
  intro m g m' g' _ hagree
  have key : ∀ c, ∃ A, HoldsAt m c A := fun c => ⟨⟨fun r d => _, fun d => _, fun d f => _, fun d f => _⟩, fun _ _ => rfl, fun _ => rfl, fun _ _ => rfl, fun _ _ => rfl⟩
  choose A H using key
  have H' : ∀ c : Dev nD, Holds (m' ((c.tc : Thread Reference9Ideal.nD Reference9Ideal.τ).loc Reference9Ideal.main_arg0))
      (m' ((c.tc : Thread Reference9Ideal.nD Reference9Ideal.τ).loc Reference9Ideal.main_arg1))
      (m' ((c.tc : Thread Reference9Ideal.nD Reference9Ideal.τ).loc Reference9Ideal.main_arg2))
      (m' ((c.tc : Thread Reference9Ideal.nD Reference9Ideal.τ).loc Reference9Ideal.main_arg3)) (A c) := fun c => by
    rw [(hagree c).1, (hagree c).2.1, (hagree c).2.2.1, (hagree c).2.2.2]
    exact H c
  refine ⟨fun c => (dats m 0 c).arrAt 4 cfg0.N, fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.Reference9Ideal.defs _ _).mono (fun _ h c => ⟨funext fun i => ?_, funext fun i => ?_, funext fun i => ?_, funext fun i => ?_, funext fun i => ?_, (h c).2.2.2.2.2⟩)
    (Cert.Reference9Ideal.Value.run m' g')⟩
  · refine (congrFun (h c).1 i).trans ?_
    obtain ⟨r, d, rfl⟩ : ∃ r d, i = ix2 r d := ⟨i 0, i 1, eq_ix2 i⟩
    exact (Cert.Gate.hb_at (H' c) r d).trans (out4 m (H c) r d).symm
  · refine (congrFun (h c).2.1 i).trans ?_
    obtain ⟨r, d, rfl⟩ : ∃ r d, i = ix2 r d := ⟨i 0, i 1, eq_ix2 i⟩
    exact (Cert.Gate.bb_at (H' c) r d).trans (out5 m (H c) r d).symm
  · refine (congrFun (h c).2.2.1 i).trans ?_
    obtain ⟨r, d, rfl⟩ : ∃ r d, i = ix2 r d := ⟨i 0, i 1, eq_ix2 i⟩
    exact (Cert.Gate.silb_at (H' c) r d).trans (out6 m (H c) r d).symm
  · refine (congrFun (h c).2.2.2.1 i).trans ?_
    obtain ⟨r, d, rfl⟩ : ∃ r d, i = ix2 r d := ⟨i 0, i 1, eq_ix2 i⟩
    exact (Cert.Gate.dsil_at (H' c) r d).trans (out7 m (H c) r d).symm
  · refine (congrFun (h c).2.2.2.2.1 i).trans ?_
    obtain ⟨r, d, rfl⟩ : ∃ r d, i = ix2 r d := ⟨i 0, i 1, eq_ix2 i⟩
    exact (Cert.Gate.s_at (H' c) r d).trans (out8 m (H c) r d).symm

end Cert.GateA
-- ==== Proof.ActRun2.lean ====
/- The run of the gate's call, Kernel10Ideal: what each point leaves, the proof data, the body's obligation and the whole run. A row block's
   normed rows are computed at its first column block and read back at the other three. -/
module

public import proofs.«01_k».proof.Proof.Gen.Kernel10Ideal.Skeleton
public import proofs.«01_k».proof.Proof.Gen.Kernel10Ideal.Frame
public import Idealize.ShloMosaic.Lib.Pipeline.ValueKit
public import Idealize.ShloMosaic.Lib.Claim

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row block's first point. -/
abbrev cond0_0 (i : grid0.Coords) : Prop := k0_cond1 i = 1#1
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The normed rows are stored at a row block's first point only. -/
theorem idle4 : ∀ t : Fin cfg0.N, cfg0.idle 4 (grid0.coords t) = !decide (t.val % 4 = 0) := by decide +kernel

section Body
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x768 .bf16) (h4 : a4.IsWhole) (a5 : Memref sig .tc .vmem S1024x768 .bf16) (h5 : a5.IsWhole) (a6 : Memref sig .tc .vmem S1024x1024 .bf16) (h6 : a6.IsWhole) (a7 : Memref sig .tc .vmem S1024x768 .bf16) (h7 : a7.IsWhole) (a8 : Memref sig .tc .vmem S1024x768 .bf16) (h8 : a8.IsWhole) (a9 : Memref sig .tc .vmem S1024x768 .bf16) (h9 : a9.IsWhole) (a10 : Memref sig .tc .vmem S1024x768 .bf16) (h10 : a10.IsWhole)
    (x0 : Vec F S1024x1024 .f32) (x1 : Vec F S1x1024 .f32) (x2 : Vec F S1024x768 .bf16) (x3 : Vec F S1024x768 .bf16) (x4 : Vec F S1024x1024 .bf16)

set_option maxHeartbeats 1000000 in
/-- The pieces that the body stores at a row block's first point, found by running it. -/
noncomputable def runA (hc0 : cond0_0 i) :
    Σ' (L4 : List (View.Piece (Elt F) S1024x1024 .bf16)), Σ' (L5 : List (View.Piece (Elt F) S1024x768 .bf16)), Σ' (L6 : List (View.Piece (Elt F) S1024x768 .bf16)), Σ' (L7 : List (View.Piece (Elt F) S1024x768 .bf16)), { L8 : List (View.Piece (Elt F) S1024x768 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f L7) ∗ (∃ f, a10.view.loc (c : Thread nD τ) ↦[a10.view.set]{fullShare} a10.view.writes (Elt F) f L8)) -∗ K ⟨⟩))
          ⊢ wp frame (wpE (defs₀ (F := F)) Variants.none c none) E (cc0_ffn1_act i a2 h2 a3 h3 a4 h4 a5 h5 a6 h6 a7 h7 a8 h8 a9 h9 a10 h10) K } := by
  refine ⟨?_, ?_, ?_, ?_, ?_, fun E K => ?run⟩
  case run =>
    simp only [cc0_ffn1_act_eq_skeleton]; unfold cc0_ffn1_act_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [H7]; · iexists _; iexact H7
    iexists _; iexact H8

/-- The buffer of output 4 after it. -/
theorem readA4 (hc0 : cond0_0 i) (f) : a6.view.read (Elt F) (a6.view.writes (Elt F) f (runA c i a2 h2 a3 h3 a4 h4 a5 h5 a6 h6 a7 h7 a8 h8 a9 h9 a10 h10 x0 x1 x2 x3 hc0).1) = k0_pay1 x0 x1 := by
  refine (View.read_writes_of_cover _ _ (Memref.whole cc0_stg4_0 : Memref sig .tc .vmem S1024x1024 .bf16).view (Memref.whole cc0_stg4_0 : Memref sig .tc .vmem S1024x1024 .bf16).view.junk _ (View.cover_of_tiledL (runA c i a2 h2 a3 h3 a4 h4 a5 h5 a6 h6 a7 h7 a8 h8 a9 h9 a10 h10 x0 x1 x2 x3 hc0).1 S1024x1024.size (by sl_kernel_rfl))).trans ?_
  unfold runA
  frame_out
  try exact View.canon_cons_unit_lit' (S := S1024x1024) _ _ [] (by decide)

/-- The buffer of output 5 after it. -/
theorem readA5 (hc0 : cond0_0 i) (f) : a7.view.read (Elt F) (a7.view.writes (Elt F) f (runA c i a2 h2 a3 h3 a4 h4 a5 h5 a6 h6 a7 h7 a8 h8 a9 h9 a10 h10 x0 x1 x2 x3 hc0).2.1) = k0_pay7 (k0_pay1 x0 x1) x3 := by
  refine (View.read_writes_of_cover _ _ (Memref.whole cc0_stg5_0 : Memref sig .tc .vmem S1024x768 .bf16).view (Memref.whole cc0_stg5_0 : Memref sig .tc .vmem S1024x768 .bf16).view.junk _ (View.cover_of_tiledL (runA c i a2 h2 a3 h3 a4 h4 a5 h5 a6 h6 a7 h7 a8 h8 a9 h9 a10 h10 x0 x1 x2 x3 hc0).2.1 S1024x768.size (by sl_kernel_rfl))).trans ?_
  unfold runA
  frame_out
  try exact View.canon_cons_unit_lit' (S := S1024x768) _ _ [] (by decide)

/-- The buffer of output 6 after it. -/
theorem readA6 (hc0 : cond0_0 i) (f) : a8.view.read (Elt F) (a8.view.writes (Elt F) f (runA c i a2 h2 a3 h3 a4 h4 a5 h5 a6 h6 a7 h7 a8 h8 a9 h9 a10 h10 x0 x1 x2 x3 hc0).2.2.1) = k0_pay8 (k0_pay1 x0 x1) x2 := by
  refine (View.read_writes_of_cover _ _ (Memref.whole cc0_stg6_0 : Memref sig .tc .vmem S1024x768 .bf16).view (Memref.whole cc0_stg6_0 : Memref sig .tc .vmem S1024x768 .bf16).view.junk _ (View.cover_of_tiledL (runA c i a2 h2 a3 h3 a4 h4 a5 h5 a6 h6 a7 h7 a8 h8 a9 h9 a10 h10 x0 x1 x2 x3 hc0).2.2.1 S1024x768.size (by sl_kernel_rfl))).trans ?_
  unfold runA
  frame_out
  try exact View.canon_cons_unit_lit' (S := S1024x768) _ _ [] (by decide)

/-- The buffer of output 7 after it. -/
theorem readA7 (hc0 : cond0_0 i) (f) : a9.view.read (Elt F) (a9.view.writes (Elt F) f (runA c i a2 h2 a3 h3 a4 h4 a5 h5 a6 h6 a7 h7 a8 h8 a9 h9 a10 h10 x0 x1 x2 x3 hc0).2.2.2.1) = k0_pay9 (k0_pay1 x0 x1) x2 := by
  refine (View.read_writes_of_cover _ _ (Memref.whole cc0_stg7_0 : Memref sig .tc .vmem S1024x768 .bf16).view (Memref.whole cc0_stg7_0 : Memref sig .tc .vmem S1024x768 .bf16).view.junk _ (View.cover_of_tiledL (runA c i a2 h2 a3 h3 a4 h4 a5 h5 a6 h6 a7 h7 a8 h8 a9 h9 a10 h10 x0 x1 x2 x3 hc0).2.2.2.1 S1024x768.size (by sl_kernel_rfl))).trans ?_
  unfold runA
  frame_out
  try exact View.canon_cons_unit_lit' (S := S1024x768) _ _ [] (by decide)

/-- The buffer of output 8 after it. -/
theorem readA8 (hc0 : cond0_0 i) (f) : a10.view.read (Elt F) (a10.view.writes (Elt F) f (runA c i a2 h2 a3 h3 a4 h4 a5 h5 a6 h6 a7 h7 a8 h8 a9 h9 a10 h10 x0 x1 x2 x3 hc0).2.2.2.2.1) = k0_pay10 (k0_pay1 x0 x1) x2 x3 := by
  refine (View.read_writes_of_cover _ _ (Memref.whole cc0_stg8_0 : Memref sig .tc .vmem S1024x768 .bf16).view (Memref.whole cc0_stg8_0 : Memref sig .tc .vmem S1024x768 .bf16).view.junk _ (View.cover_of_tiledL (runA c i a2 h2 a3 h3 a4 h4 a5 h5 a6 h6 a7 h7 a8 h8 a9 h9 a10 h10 x0 x1 x2 x3 hc0).2.2.2.2.1 S1024x768.size (by sl_kernel_rfl))).trans ?_
  unfold runA
  frame_out
  try exact View.canon_cons_unit_lit' (S := S1024x768) _ _ [] (by decide)

set_option maxHeartbeats 1000000 in
/-- The pieces that the body stores at a row block's other points, found by running it. -/
noncomputable def runB (hc0 : ¬cond0_0 i) :
    Σ' (L5 : List (View.Piece (Elt F) S1024x768 .bf16)), Σ' (L6 : List (View.Piece (Elt F) S1024x768 .bf16)), Σ' (L7 : List (View.Piece (Elt F) S1024x768 .bf16)), { L8 : List (View.Piece (Elt F) S1024x768 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f L7) ∗ (∃ f, a10.view.loc (c : Thread nD τ) ↦[a10.view.set]{fullShare} a10.view.writes (Elt F) f L8)) -∗ K ⟨⟩))
          ⊢ wp frame (wpE (defs₀ (F := F)) Variants.none c none) E (cc0_ffn1_act i a2 h2 a3 h3 a4 h4 a5 h5 a6 h6 a7 h7 a8 h8 a9 h9 a10 h10) K } := by
  refine ⟨?_, ?_, ?_, ?_, fun E K => ?run⟩
  case run =>
    simp only [cc0_ffn1_act_eq_skeleton]; unfold cc0_ffn1_act_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3; obtain rfl := h6.eq_unread hf4
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexists _; iexact H6
    isplitl [H7]; · iexists _; iexact H7
    iexists _; iexact H8

/-- The buffer of output 5 after it. -/
theorem readB5 (hc0 : ¬cond0_0 i) (f) : a7.view.read (Elt F) (a7.view.writes (Elt F) f (runB c i a2 h2 a3 h3 a4 h4 a5 h5 a6 h6 a7 h7 a8 h8 a9 h9 a10 h10 x0 x1 x2 x3 x4 hc0).1) = k0_pay7 x4 x3 := by
  refine (View.read_writes_of_cover _ _ (Memref.whole cc0_stg5_0 : Memref sig .tc .vmem S1024x768 .bf16).view (Memref.whole cc0_stg5_0 : Memref sig .tc .vmem S1024x768 .bf16).view.junk _ (View.cover_of_tiledL (runB c i a2 h2 a3 h3 a4 h4 a5 h5 a6 h6 a7 h7 a8 h8 a9 h9 a10 h10 x0 x1 x2 x3 x4 hc0).1 S1024x768.size (by sl_kernel_rfl))).trans ?_
  unfold runB
  frame_out
  try exact View.canon_cons_unit_lit' (S := S1024x768) _ _ [] (by decide)

/-- The buffer of output 6 after it. -/
theorem readB6 (hc0 : ¬cond0_0 i) (f) : a8.view.read (Elt F) (a8.view.writes (Elt F) f (runB c i a2 h2 a3 h3 a4 h4 a5 h5 a6 h6 a7 h7 a8 h8 a9 h9 a10 h10 x0 x1 x2 x3 x4 hc0).2.1) = k0_pay8 x4 x2 := by
  refine (View.read_writes_of_cover _ _ (Memref.whole cc0_stg6_0 : Memref sig .tc .vmem S1024x768 .bf16).view (Memref.whole cc0_stg6_0 : Memref sig .tc .vmem S1024x768 .bf16).view.junk _ (View.cover_of_tiledL (runB c i a2 h2 a3 h3 a4 h4 a5 h5 a6 h6 a7 h7 a8 h8 a9 h9 a10 h10 x0 x1 x2 x3 x4 hc0).2.1 S1024x768.size (by sl_kernel_rfl))).trans ?_
  unfold runB
  frame_out
  try exact View.canon_cons_unit_lit' (S := S1024x768) _ _ [] (by decide)

/-- The buffer of output 7 after it. -/
theorem readB7 (hc0 : ¬cond0_0 i) (f) : a9.view.read (Elt F) (a9.view.writes (Elt F) f (runB c i a2 h2 a3 h3 a4 h4 a5 h5 a6 h6 a7 h7 a8 h8 a9 h9 a10 h10 x0 x1 x2 x3 x4 hc0).2.2.1) = k0_pay9 x4 x2 := by
  refine (View.read_writes_of_cover _ _ (Memref.whole cc0_stg7_0 : Memref sig .tc .vmem S1024x768 .bf16).view (Memref.whole cc0_stg7_0 : Memref sig .tc .vmem S1024x768 .bf16).view.junk _ (View.cover_of_tiledL (runB c i a2 h2 a3 h3 a4 h4 a5 h5 a6 h6 a7 h7 a8 h8 a9 h9 a10 h10 x0 x1 x2 x3 x4 hc0).2.2.1 S1024x768.size (by sl_kernel_rfl))).trans ?_
  unfold runB
  frame_out
  try exact View.canon_cons_unit_lit' (S := S1024x768) _ _ [] (by decide)

/-- The buffer of output 8 after it. -/
theorem readB8 (hc0 : ¬cond0_0 i) (f) : a10.view.read (Elt F) (a10.view.writes (Elt F) f (runB c i a2 h2 a3 h3 a4 h4 a5 h5 a6 h6 a7 h7 a8 h8 a9 h9 a10 h10 x0 x1 x2 x3 x4 hc0).2.2.2.1) = k0_pay10 x4 x2 x3 := by
  refine (View.read_writes_of_cover _ _ (Memref.whole cc0_stg8_0 : Memref sig .tc .vmem S1024x768 .bf16).view (Memref.whole cc0_stg8_0 : Memref sig .tc .vmem S1024x768 .bf16).view.junk _ (View.cover_of_tiledL (runB c i a2 h2 a3 h3 a4 h4 a5 h5 a6 h6 a7 h7 a8 h8 a9 h9 a10 h10 x0 x1 x2 x3 x4 hc0).2.2.2.1 S1024x768.size (by sl_kernel_rfl))).trans ?_
  unfold runB
  frame_out
  try exact View.canon_cons_unit_lit' (S := S1024x768) _ _ [] (by decide)

end Body

/-! ## What each point leaves -/

/-- The first point of `t`'s row block. -/
abbrev start (t : Fin cfg0.N) : Fin cfg0.N := ⟨t.val - t.val % 4, Nat.lt_of_le_of_lt (Nat.sub_le _ _) t.isLt⟩

/-- The normed rows of `t`'s row block. -/
def hAt (c : Dev nD) (t : Fin cfg0.N) : Vec F S1024x1024 .bf16 := k0_pay1 (iblk m c 0 (start t)) (iblk m c 1 (start t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hAt m c t
    | ⟨5, _⟩ => k0_pay7 (hAt m c t) (iblk m c 3 t)
    | ⟨6, _⟩ => k0_pay8 (hAt m c t) (iblk m c 2 t)
    | ⟨7, _⟩ => k0_pay9 (hAt m c t) (iblk m c 2 t)
    | ⟨8, _⟩ => k0_pay10 (hAt m c t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = hAt m c t := by dsimp only [dats]
theorem after0_5 (c : Dev nD) (t : Fin cfg0.N) : (dats m 0 c).after 5 t = k0_pay7 (hAt m c t) (iblk m c 3 t) := by dsimp only [dats]
theorem after0_6 (c : Dev nD) (t : Fin cfg0.N) : (dats m 0 c).after 6 t = k0_pay8 (hAt m c t) (iblk m c 2 t) := by dsimp only [dats]
theorem after0_7 (c : Dev nD) (t : Fin cfg0.N) : (dats m 0 c).after 7 t = k0_pay9 (hAt m c t) (iblk m c 2 t) := by dsimp only [dats]
theorem after0_8 (c : Dev nD) (t : Fin cfg0.N) : (dats m 0 c).after 8 t = k0_pay10 (hAt m c t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem hAt_start (c : Dev nD) (t : Fin cfg0.N) (h0 : t.val % 4 = 0) : hAt m c t = k0_pay1 (iblk m c 0 t) (iblk m c 1 t) := by
  unfold hAt; rw [show start t = t from Fin.ext (by show t.val - t.val % 4 = t.val; omega)]

/-- After a row block's first point the buffer of the normed rows holds them: a point that stores nothing there keeps them. -/
theorem before0_4 (c : Dev nD) : ∀ (n : ℕ) (hn : n < cfg0.N) (h0 : ¬n % 4 = 0) (d), (dats m 0 c).before 4 ⟨n, hn⟩ d = hAt m c ⟨n, hn⟩ := by
  intro n
  induction n with
  | zero => intro hn h0; exact absurd rfl h0
  | succ k ih =>
    intro hn h0 d
    have hk : k < cfg0.N := Nat.lt_of_succ_lt hn
    have hs : start ⟨k, hk⟩ = start ⟨k + 1, hn⟩ := Fin.ext (by show k - k % 4 = k + 1 - (k + 1) % 4; omega)
    have hh : hAt m c ⟨k, hk⟩ = hAt m c ⟨k + 1, hn⟩ := by unfold hAt; rw [hs]
    rw [(dats m 0 c).before_of_pos 4 ⟨k + 1, hn⟩ (Nat.succ_ne_zero k) ((cfg0.win 4).fetch_out rfl _) d]
    show (if (cfg0.win 4).flush ⟨k, hk⟩ then d else (dats m 0 c).left 4 ⟨k, hk⟩ d) = _
    have hfl : (cfg0.win 4).flush ⟨k, hk⟩ = false := Bool.eq_false_iff.mpr fun h => by have := (flush0_4 _).mp h; dsimp only at this; omega
    rw [hfl, if_neg Bool.false_ne_true, ← hh]
    unfold Dat.left
    by_cases hz : k % 4 = 0
    · rw [show cfg0.idle 4 (cfg0.grid.coords ⟨k, hk⟩) = false from (idle4 ⟨k, hk⟩).trans (by simp [hz])]
      show (dats m 0 c).kept 4 ⟨k, hk⟩ d = _
      unfold Dat.kept
      rw [Pipeline.fill_of_clip_none 4 _ (fun _ => rfl) d ((dats m 0 c).after 4 ⟨k, hk⟩), Window.fill_cut, after0_4]
    · rw [show cfg0.idle 4 (cfg0.grid.coords ⟨k, hk⟩) = true from (idle4 ⟨k, hk⟩).trans (by simp [hz])]
      exact ih hk hz d

/-! ## The body's obligation -/

/-- What the body leaves in the buffer of the normed rows. -/
def post4 (c : Dev nD) (t : Fin cfg0.N) : sProp 𝕄 :=
  match cfg0.idle 4 (cfg0.grid.coords t) with
  | true =>
    match (cfg0.win 4).flush t with
    | false => iprop(∃ d, owns (c : Thread nD τ) (win0_4.stage (cfg0.slots t 4)) fullShare ((dats m 0 c).before 4 t d))
    | true => owns (c : Thread nD τ) (win0_4.stage (cfg0.slots t 4)) fullShare ((dats m 0 c).after 4 t)
  | false => owns (c : Thread nD τ) (win0_4.stage (cfg0.slots t 4)) fullShare ((dats m 0 c).after 4 t)

theorem post4_A (c : Dev nD) (t : Fin cfg0.N) (h0 : t.val % 4 = 0) :
    owns (c : Thread nD τ) (win0_4.stage (cfg0.slots t 4)) fullShare ((dats m 0 c).after 4 t) ⊢ post4 m c t := by
  unfold post4
  rw [show cfg0.idle 4 (cfg0.grid.coords t) = false from (idle4 t).trans (by simp [h0])]

theorem post4_B (c : Dev nD) (t : Fin cfg0.N) (h0 : ¬t.val % 4 = 0) :
    owns (c : Thread nD τ) (win0_4.stage (cfg0.slots t 4)) fullShare (hAt m c t) ⊢ post4 m c t := by
  unfold post4
  rw [show cfg0.idle 4 (cfg0.grid.coords t) = true from (idle4 t).trans (by simp [h0])]
  cases (cfg0.win 4).flush t
  · dsimp only
    simp only [before0_4 m c t.val t.isLt h0]
    iintro H; iexists (hAt m c t); iexact H
  · dsimp only
    rw [after0_4]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ post4 m c t
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_5, after0_6, after0_7, after0_8]
  by_cases h0 : t.val % 4 = 0
  · rw [hAt_start m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ (iblk m c 0 t) (iblk m c 1 t) (iblk m c 2 t) (iblk m c 3 t) ((hcond0_0 t).mpr h0)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    iintro ⟨H0, H1, H2, H3, ⟨%e4, H4⟩, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (post4_A m c t h0)
      rw [after0_4, hAt_start m c t h0]
      unfold owns; iexists _; isplitr
      swap; · iexact H4
      ipureintro; exact readA4 c _ _ _ _ _ _ _ _ _ _ _ _ _ _ _ _ _ _ _ _ _ _ _ _ _
    isplitl [H5]
    · unfold owns; iexists _; isplitr
      swap; · iexact H5
      ipureintro; exact readA5 c _ _ _ _ _ _ _ _ _ _ _ _ _ _ _ _ _ _ _ _ _ _ _ _ _
    isplitl [H6]
    · unfold owns; iexists _; isplitr
      swap; · iexact H6
      ipureintro; exact readA6 c _ _ _ _ _ _ _ _ _ _ _ _ _ _ _ _ _ _ _ _ _ _ _ _ _
    isplitl [H7]
    · unfold owns; iexists _; isplitr
      swap; · iexact H7
      ipureintro; exact readA7 c _ _ _ _ _ _ _ _ _ _ _ _ _ _ _ _ _ _ _ _ _ _ _ _ _
    unfold owns; iexists _; isplitr
    swap; · iexact H8
    ipureintro; exact readA8 c _ _ _ _ _ _ _ _ _ _ _ _ _ _ _ _ _ _ _ _ _ _ _ _ _
  · simp only [before0_4 m c t.val t.isLt h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ (iblk m c 0 t) (iblk m c 1 t) (iblk m c 2 t) (iblk m c 3 t) (hAt m c t) (fun h => h0 ((hcond0_0 t).mp h))).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (post4_B m c t h0); iexact H4
    isplitl [H5]
    · unfold owns; iexists _; isplitr
      swap; · iexact H5
      ipureintro; exact readB5 c _ _ _ _ _ _ _ _ _ _ _ _ _ _ _ _ _ _ _ _ _ _ _ _ _ _
    isplitl [H6]
    · unfold owns; iexists _; isplitr
      swap; · iexact H6
      ipureintro; exact readB6 c _ _ _ _ _ _ _ _ _ _ _ _ _ _ _ _ _ _ _ _ _ _ _ _ _ _
    isplitl [H7]
    · unfold owns; iexists _; isplitr
      swap; · iexact H7
      ipureintro; exact readB7 c _ _ _ _ _ _ _ _ _ _ _ _ _ _ _ _ _ _ _ _ _ _ _ _ _ _
    unfold owns; iexists _; isplitr
    swap; · iexact H8
    ipureintro; exact readB8 c _ _ _ _ _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel10Ideal.Gen

end
-- ==== Proof.GateB.lean ====
/- The gate's forward call, its two projections stacked: what the points leave, the kernel's five results, and the comparison with the reference. -/
module

public import proofs.«01_k».proof.Proof.ActRun2
public import proofs.«01_k».proof.Proof.Gate
public import Idealize.ShloMosaic.Lib.Pipeline.Value
public import Idealize.ShloMosaic.Lib.Pipeline.ValueKit
public import Idealize.ShloMosaic.Lib.Pipeline.ReadBack
public import Idealize.ShloMosaic.Lib.Claim
public import proofs.«01_k».proof.Defs
public import Idealize.ShloMosaic.Lib.StableHlo.RunRead

@[expose] public section
set_option maxRecDepth 16384
noncomputable section
namespace Cert.GateB
open Idealize.ShloMosaic Idealize.ShloMosaic.TcCoe Idealize.SL.Sem Cert.Mix Cert.Gate
open Cert.Kernel10Ideal Cert.Kernel10Ideal.Gen

/-- The token that row `r` of the block `k % 8` is, and the hidden channel that column `f` of the block of point `n` is. -/
abbrev rowN (k : ℕ) (r : Fin 1024) : Fin 8192 := ⟨k % 8 * 1024 + r.val, by omega⟩
abbrev colN (n : ℕ) (f : Fin 768) : Fin 3072 := ⟨n % 4 * 768 + f.val, by omega⟩

variable (m : (ℓ : Loc nD τ sig) → Buf (Elt Ideal) ℓ) (c : Dev nD) (t : Fin cfg0.N)

theorem lt32 : t.val < 32 := lt_of_lt_of_eq t.isLt (show cfg0.N = 32 from N_0)

theorem idx : ∀ t : Fin cfg0.N, win0_0.index t = ![t.val / 4, 0] ∧ win0_1.index t = ![0, 0] ∧ win0_2.index t = ![0, t.val % 4]
    ∧ win0_3.index t = ![1, t.val % 4] ∧ win0_4.index t = ![t.val / 4, 0] ∧ win0_5.index t = ![t.val / 4, t.val % 4]
    ∧ win0_6.index t = ![t.val / 4, t.val % 4] ∧ win0_7.index t = ![t.val / 4, t.val % 4] ∧ win0_8.index t = ![t.val / 4, t.val % 4] :=
  (by decide +kernel : ∀ t : Fin grid0.N, _)

theorem at0 (r : Fin 1024) (d : Fin 1024) : iblk m c 0 t (ix2 r d) = V m c main_arg0 (ix2 (rowN (t.val / 4) r) d) := by
  have hi := (idx t).1
  have := lt32 t
  have e : t.val / 4 % 8 = t.val / 4 := by omega
  blk_simp [iblk]
  generalize V m c main_arg0 = X
  blk_ext [hi, e]

theorem at1 (z : Fin 1) (d : Fin 1024) : iblk m c 1 t (ix2 z d) = V m c main_v2 (ix2 z d) := by
  have hi := (idx t).2.1
  blk_simp [iblk]
  generalize V m c main_v2 = X
  blk_ext [hi]

theorem at2 (d : Fin 1024) (f : Fin 768) : iblk m c 2 t (ix2 d f) = V m c main_v1 (ix2 (⟨d.val, by omega⟩ : Fin 2048) (colN t.val f)) := by
  have hi := (idx t).2.2.1
  blk_simp [iblk]
  generalize V m c main_v1 = X
  blk_ext [hi]

theorem at3 (d : Fin 1024) (f : Fin 768) : iblk m c 3 t (ix2 d f) = V m c main_v1 (ix2 (⟨1024 + d.val, by omega⟩ : Fin 2048) (colN t.val f)) := by
  have hi := (idx t).2.2.2.1
  blk_simp [iblk]
  generalize V m c main_v1 = X
  blk_ext [hi]

/-- The kernel's arguments hold the arrays. -/
abbrev HoldsAt (A : Arr) : Prop := Holds (m ((c : Thread nD τ).loc main_arg0)) (m ((c : Thread nD τ).loc main_arg1))
  (m ((c : Thread nD τ).loc main_arg2)) (m ((c : Thread nD τ).loc main_arg3)) A

variable {A : Arr} {c} (H : HoldsAt m c A)
include H

theorem b0 (r : Fin 1024) (d : Fin 1024) : iblk m c 0 t (ix2 r d) = A.x (rowN (t.val / 4) r) d := by
  rw [at0, ← H.1]
  after_reads_simp

theorem b1 (z : Fin 1) (d : Fin 1024) : iblk m c 1 t (ix2 z d) = A.n d := by
  rw [at1, ← H.2.1]
  after_reads_simp
  pointwise

theorem b2 (d : Fin 1024) (f : Fin 768) : iblk m c 2 t (ix2 d f) = A.wg d (colN t.val f) := by
  rw [at2, ← H.2.2.1]
  after_reads_simp
  refine (concatenate_pair_apply_left (s₁ := S1024x3072) (s₂ := S1024x3072) (t := S2048x3072) 0 _ _ concatenates_S1024x3072_S1024x3072_S2048x3072_d0 _ rfl (ix2 d (colN t.val f)) (fun b => ?_)).trans ?_
  · match b with
    | 0 => rfl
    | 1 => rfl
  · after_reads_simp

theorem b3 (d : Fin 1024) (f : Fin 768) : iblk m c 3 t (ix2 d f) = A.wu d (colN t.val f) := by
  rw [at3, ← H.2.2.2]
  after_reads_simp
  refine (concatenate_pair_apply_right (s₁ := S1024x3072) (s₂ := S1024x3072) (t := S2048x3072) 0 _ _ concatenates_S1024x3072_S1024x3072_S2048x3072_d0 _ rfl rfl (ix2 d (colN t.val f)) (fun b hb => ?_) ?_).trans ?_
  · match b with
    | 0 => exact absurd rfl hb
    | 1 => rfl
  · exact Nat.add_comm _ _
  · after_reads_simp
omit H

section Body
variable {x : FVec Ideal S1024x1024 .f32} {n : FVec Ideal S1x1024 .f32} {h : FVec Ideal S1024x1024 .bf16} {g u : FVec Ideal S1024x768 .bf16} {ro : Fin 1024 → Fin 8192} {co : Fin 768 → Fin 3072}

/-- The body's formulas over blocks of real numbers. -/
theorem pay1_at (hx : ∀ r d, x (ix2 r d) = A.x (ro r) d) (hn : ∀ z d, n (ix2 z d) = A.n d) (r d : Fin 1024) :
    (k0_pay1 x n : FVec Ideal S1024x1024 .bf16) (ix2 r d) = A.h (ro r) d := by
  pointwise [k0_pay1]
  simp only [hx, hn]
  rfl

variable (hh : ∀ r d, h (ix2 r d) = A.h (ro r) d) (hg : ∀ d f, g (ix2 d f) = A.wg d (co f)) (hu : ∀ d f, u (ix2 d f) = A.wu d (co f))
include hh

include hg in
theorem pay3_at (r : Fin 1024) (f : Fin 768) : (k0_pay3 h g : FVec Ideal S1024x768 .f32) (ix2 r f) = A.a (ro r) (co f) := by
  pointwise [k0_pay3, k0_pay2]
  simp only [hh, hg]
  rfl

include hu in
theorem pay4_at (r : Fin 1024) (f : Fin 768) : (k0_pay4 h u : FVec Ideal S1024x768 .f32) (ix2 r f) = A.b (ro r) (co f) := by
  pointwise [k0_pay4, k0_pay2]
  simp only [hh, hu]
  rfl

include hu in
theorem pay7_at (r : Fin 1024) (f : Fin 768) : (k0_pay7 h u : FVec Ideal S1024x768 .bf16) (ix2 r f) = A.b (ro r) (co f) := by
  pointwise [k0_pay7]
  exact pay4_at hh hu r f

include hg

theorem pay5_at (r : Fin 1024) (f : Fin 768) : (k0_pay5 h g : FVec Ideal S1024x768 .f32) (ix2 r f) = (Ideal.logistic (A.a (ro r) (co f))) := by
  pointwise [k0_pay5]
  simp only [pay3_at hh hg, half_tanh]

theorem pay6_at (r : Fin 1024) (f : Fin 768) : (k0_pay6 h g : FVec Ideal S1024x768 .f32) (ix2 r f) = A.sil (ro r) (co f) := by
  pointwise [k0_pay6]
  simp only [pay3_at hh hg, pay5_at hh hg]
  rfl

theorem pay8_at (r : Fin 1024) (f : Fin 768) : (k0_pay8 h g : FVec Ideal S1024x768 .bf16) (ix2 r f) = A.sil (ro r) (co f) := by
  pointwise [k0_pay8]
  exact pay6_at hh hg r f

theorem pay9_at (r : Fin 1024) (f : Fin 768) : (k0_pay9 h g : FVec Ideal S1024x768 .bf16) (ix2 r f) = A.dsil (ro r) (co f) := by
  pointwise [k0_pay9]
  simp only [pay5_at hh hg, pay6_at hh hg]
  rfl

include hu in
theorem pay10_at (r : Fin 1024) (f : Fin 768) : (k0_pay10 h g u : FVec Ideal S1024x768 .bf16) (ix2 r f) = A.sil (ro r) (co f) * A.b (ro r) (co f) := by
  pointwise [k0_pay10]
  simp only [pay4_at hh hu, pay6_at hh hg]
end Body

include H

/-- The normed rows that a row block's points work on. -/
theorem h_at (r d : Fin 1024) : (hAt m c t : FVec Ideal S1024x1024 .bf16) (ix2 r d) = A.h (rowN (t.val / 4) r) d := by
  have key := pay1_at (ro := rowN ((start t).val / 4)) (b0 m (start t) H) (b1 m (start t) H) r d
  have e : (start t).val / 4 = t.val / 4 := by simp only [start]; omega
  rw [e] at key
  exact key
omit H

/-- The point that works on row `r` and channel `f`. -/
abbrev ptOf (r : Fin 8192) (f : Fin 3072) : Fin cfg0.N := ⟨r.val / 1024 * 4 + f.val / 768, by rw [show cfg0.N = 32 from N_0]; omega⟩

theorem row_ptOf (r : Fin 8192) (f : Fin 3072) : rowN ((ptOf r f).val / 4) ⟨r.val % 1024, by omega⟩ = r := by
  apply Fin.ext; simp only [ptOf]; omega
theorem col_ptOf (r : Fin 8192) (f : Fin 3072) : colN (ptOf r f).val ⟨f.val % 768, by omega⟩ = f := by
  apply Fin.ext; simp only [ptOf]; omega

include H

/-- What the kernel leaves. -/
theorem out4 (r : Fin 8192) (d : Fin 1024) : ((dats m 0 c).arrAt 4 cfg0.N : FVec Ideal S8192x1024 .bf16) (ix2 r d) = A.h r d := by
  have h : (dats m 0 c).arrAt 4 cfg0.N = (fun i => A.h (i 0) (i 1) : FVec Ideal S8192x1024 .bf16) := by
    refine (dats m 0 c).arrAt_eq_of_covers 4 _ (by decide +kernel) fun t hf y => ?_
    have hi := (idx t).2.2.2.2.1
    have hl := lt32 t
    have key := h_at m t H
    have e8 : t.val / 4 % 8 = t.val / 4 := by omega
    idx_vars y
    rw [after0_4]
    refine (key _ _).trans ?_
    have e : ((View.whole main_v3_0).slice ((win0 4).rect t)).emb (ix2 y0 y1) = ix2 (rowN (t.val / 4) y0) y1 := by blk_ext [hi, e8]
    exact (congrArg (fun i : S8192x1024.Idx => A.h (i 0) (i 1)) e).symm
  rw [h]
  rfl
omit H

theorem idx_inj5 : ∀ t t' : Fin cfg0.N, win0_5.index t = win0_5.index t' → t = t' :=
  (by decide +kernel : ∀ t t' : Fin grid0.N, win0_5.index t = win0_5.index t' → t = t')

include H in
theorem out5 (r : Fin 8192) (f : Fin 3072) : ((dats m 0 c).arrAt 5 cfg0.N : FVec Ideal S8192x3072 .bf16) (ix2 r f) = A.b r f := by
  have h := congrFun ((dats m 0 c).read_blk_arrAt_eq_flushed 5 (fun t t' _ _ hne => (cfg0.win 5).disjoint_blk fun h => hne (idx_inj5 t t' h)) cfg0.N
    (ptOf r f) (ptOf r f).isLt (flush0_5 _)) (ix2 (⟨r.val % 1024, by omega⟩ : Fin 1024) (⟨f.val % 768, by omega⟩ : Fin 768))
  rw [show (dats m 0 c).flushed 5 (ptOf r f) = (cfg0.win 5).cut (grid0.coords (ptOf r f)) ((dats m 0 c).after 5 (ptOf r f)) from rfl, after0_5] at h
  have h2 := pay7_at (ro := rowN ((ptOf r f).val / 4)) (co := colN (ptOf r f).val) (h_at m (ptOf r f) H) (b3 m (ptOf r f) H) ⟨r.val % 1024, by omega⟩ ⟨f.val % 768, by omega⟩
  rw [row_ptOf r f, col_ptOf r f] at h2
  refine Eq.trans ?_ (h.trans h2)
  have hi := (idx (ptOf r f)).2.2.2.2.2.1
  simp only [] at hi
  generalize (dats m 0 c).arrAt 5 cfg0.N = X
  blk_ext [hi]

theorem idx_inj6 : ∀ t t' : Fin cfg0.N, win0_6.index t = win0_6.index t' → t = t' :=
  (by decide +kernel : ∀ t t' : Fin grid0.N, win0_6.index t = win0_6.index t' → t = t')

include H in
theorem out6 (r : Fin 8192) (f : Fin 3072) : ((dats m 0 c).arrAt 6 cfg0.N : FVec Ideal S8192x3072 .bf16) (ix2 r f) = A.sil r f := by
  have h := congrFun ((dats m 0 c).read_blk_arrAt_eq_flushed 6 (fun t t' _ _ hne => (cfg0.win 6).disjoint_blk fun h => hne (idx_inj6 t t' h)) cfg0.N
    (ptOf r f) (ptOf r f).isLt (flush0_6 _)) (ix2 (⟨r.val % 1024, by omega⟩ : Fin 1024) (⟨f.val % 768, by omega⟩ : Fin 768))
  rw [show (dats m 0 c).flushed 6 (ptOf r f) = (cfg0.win 6).cut (grid0.coords (ptOf r f)) ((dats m 0 c).after 6 (ptOf r f)) from rfl, after0_6] at h
  have h2 := pay8_at (ro := rowN ((ptOf r f).val / 4)) (co := colN (ptOf r f).val) (h_at m (ptOf r f) H) (b2 m (ptOf r f) H) ⟨r.val % 1024, by omega⟩ ⟨f.val % 768, by omega⟩
  rw [row_ptOf r f, col_ptOf r f] at h2
  refine Eq.trans ?_ (h.trans h2)
  have hi := (idx (ptOf r f)).2.2.2.2.2.2.1
  simp only [] at hi
  generalize (dats m 0 c).arrAt 6 cfg0.N = X
  blk_ext [hi]

theorem idx_inj7 : ∀ t t' : Fin cfg0.N, win0_7.index t = win0_7.index t' → t = t' :=
  (by decide +kernel : ∀ t t' : Fin grid0.N, win0_7.index t = win0_7.index t' → t = t')

include H in
theorem out7 (r : Fin 8192) (f : Fin 3072) : ((dats m 0 c).arrAt 7 cfg0.N : FVec Ideal S8192x3072 .bf16) (ix2 r f) = A.dsil r f := by
  have h := congrFun ((dats m 0 c).read_blk_arrAt_eq_flushed 7 (fun t t' _ _ hne => (cfg0.win 7).disjoint_blk fun h => hne (idx_inj7 t t' h)) cfg0.N
    (ptOf r f) (ptOf r f).isLt (flush0_7 _)) (ix2 (⟨r.val % 1024, by omega⟩ : Fin 1024) (⟨f.val % 768, by omega⟩ : Fin 768))
  rw [show (dats m 0 c).flushed 7 (ptOf r f) = (cfg0.win 7).cut (grid0.coords (ptOf r f)) ((dats m 0 c).after 7 (ptOf r f)) from rfl, after0_7] at h
  have h2 := pay9_at (ro := rowN ((ptOf r f).val / 4)) (co := colN (ptOf r f).val) (h_at m (ptOf r f) H) (b2 m (ptOf r f) H) ⟨r.val % 1024, by omega⟩ ⟨f.val % 768, by omega⟩
  rw [row_ptOf r f, col_ptOf r f] at h2
  refine Eq.trans ?_ (h.trans h2)
  have hi := (idx (ptOf r f)).2.2.2.2.2.2.2.1
  simp only [] at hi
  generalize (dats m 0 c).arrAt 7 cfg0.N = X
  blk_ext [hi]

theorem idx_inj8 : ∀ t t' : Fin cfg0.N, win0_8.index t = win0_8.index t' → t = t' :=
  (by decide +kernel : ∀ t t' : Fin grid0.N, win0_8.index t = win0_8.index t' → t = t')

include H in
theorem out8 (r : Fin 8192) (f : Fin 3072) : ((dats m 0 c).arrAt 8 cfg0.N : FVec Ideal S8192x3072 .bf16) (ix2 r f) = A.sil r f * A.b r f := by
  have h := congrFun ((dats m 0 c).read_blk_arrAt_eq_flushed 8 (fun t t' _ _ hne => (cfg0.win 8).disjoint_blk fun h => hne (idx_inj8 t t' h)) cfg0.N
    (ptOf r f) (ptOf r f).isLt (flush0_8 _)) (ix2 (⟨r.val % 1024, by omega⟩ : Fin 1024) (⟨f.val % 768, by omega⟩ : Fin 768))
  rw [show (dats m 0 c).flushed 8 (ptOf r f) = (cfg0.win 8).cut (grid0.coords (ptOf r f)) ((dats m 0 c).after 8 (ptOf r f)) from rfl, after0_8] at h
  have h2 := pay10_at (ro := rowN ((ptOf r f).val / 4)) (co := colN (ptOf r f).val) (h_at m (ptOf r f) H) (b2 m (ptOf r f) H) (b3 m (ptOf r f) H) ⟨r.val % 1024, by omega⟩ ⟨f.val % 768, by omega⟩
  rw [row_ptOf r f, col_ptOf r f] at h2
  refine Eq.trans ?_ (h.trans h2)
  have hi := (idx (ptOf r f)).2.2.2.2.2.2.2.2
  simp only [] at hi
  generalize (dats m 0 c).arrAt 8 cfg0.N = X
  blk_ext [hi]

/-- The run, its five arrays named. -/
theorem run_blocks (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_v3_4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6, (h c).1 7, (h c).1 8, ((h c).1 0).trans (((dats m 0 c).arrAt_in 0 rfl _).trans ((A_eq m c 0).trans (V_main_arg0 m c))),
      ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c)⟩) (run_main m ρ)

/-- The kernel and the reference leave the same arrays. -/
theorem value : Cert.algebraic_Kernel10Ideal_Reference9Ideal := by
  intro m g m' g' _ hagree
  have key : ∀ c, ∃ A, HoldsAt m c A := fun c => ⟨⟨fun r d => _, fun d => _, fun d f => _, fun d f => _⟩, fun _ _ => rfl, fun _ => rfl, fun _ _ => rfl, fun _ _ => rfl⟩
  choose A H using key
  have H' : ∀ c : Dev nD, Holds (m' ((c.tc : Thread Reference9Ideal.nD Reference9Ideal.τ).loc Reference9Ideal.main_arg0))
      (m' ((c.tc : Thread Reference9Ideal.nD Reference9Ideal.τ).loc Reference9Ideal.main_arg1))
      (m' ((c.tc : Thread Reference9Ideal.nD Reference9Ideal.τ).loc Reference9Ideal.main_arg2))
      (m' ((c.tc : Thread Reference9Ideal.nD Reference9Ideal.τ).loc Reference9Ideal.main_arg3)) (A c) := fun c => by
    rw [(hagree c).1, (hagree c).2.1, (hagree c).2.2.1, (hagree c).2.2.2]
    exact H c
  refine ⟨fun c => (dats m 0 c).arrAt 4 cfg0.N, fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.Reference9Ideal.defs _ _).mono (fun _ h c => ⟨funext fun i => ?_, funext fun i => ?_, funext fun i => ?_, funext fun i => ?_, funext fun i => ?_, (h c).2.2.2.2.2⟩)
    (Cert.Reference9Ideal.Value.run m' g')⟩
  · refine (congrFun (h c).1 i).trans ?_
    obtain ⟨r, d, rfl⟩ : ∃ r d, i = ix2 r d := ⟨i 0, i 1, eq_ix2 i⟩
    exact (Cert.Gate.hb_at (H' c) r d).trans (out4 m (H c) r d).symm
  · refine (congrFun (h c).2.1 i).trans ?_
    obtain ⟨r, d, rfl⟩ : ∃ r d, i = ix2 r d := ⟨i 0, i 1, eq_ix2 i⟩
    exact (Cert.Gate.bb_at (H' c) r d).trans (out5 m (H c) r d).symm
  · refine (congrFun (h c).2.2.1 i).trans ?_
    obtain ⟨r, d, rfl⟩ : ∃ r d, i = ix2 r d := ⟨i 0, i 1, eq_ix2 i⟩
    exact (Cert.Gate.silb_at (H' c) r d).trans (out6 m (H c) r d).symm
  · refine (congrFun (h c).2.2.2.1 i).trans ?_
    obtain ⟨r, d, rfl⟩ : ∃ r d, i = ix2 r d := ⟨i 0, i 1, eq_ix2 i⟩
    exact (Cert.Gate.dsil_at (H' c) r d).trans (out7 m (H c) r d).symm
  · refine (congrFun (h c).2.2.2.2.1 i).trans ?_
    obtain ⟨r, d, rfl⟩ : ∃ r d, i = ix2 r d := ⟨i 0, i 1, eq_ix2 i⟩
    exact (Cert.Gate.s_at (H' c) r d).trans (out8 m (H c) r d).symm

end Cert.GateB
-- ==== Proof.FrameBits4.lean ====
/- The machine's kernels of the gate's two forward calls and their ideal readings have the same text: one run, over any floats, is the frame of both. -/
module
public import proofs.«01_k».proof.Defs
public import proofs.«01_k».proof.Proof.Gen.Kernel9
public import proofs.«01_k».proof.Proof.ActRun
public import proofs.«01_k».proof.Proof.Gen.Kernel10
public import proofs.«01_k».proof.Proof.ActRun2
public import proofs.«01_k».proof.Proof.Gen.Reference9Ideal.Run
@[expose] public section
set_option maxRecDepth 16384
set_option maxHeartbeats 4000000
noncomputable section
namespace Cert.Proof
open Idealize.ShloMosaic

/-- The two programs have the same text: their launch's body is the same program. -/
theorem body_eq9 : Cert.Kernel9.defs₀ (F := Bits) = Cert.Kernel9Ideal.defs₀ (F := Bits) := by
  unfold Cert.Kernel9.defs₀ Cert.Kernel9Ideal.defs₀
  refine congrArg (Defs.onTc (nD := Cert.Kernel9.nD) (τ := Cert.Kernel9.τ) (sig := Cert.Kernel9.sig) (Val := Elt Bits) (Λ := Cert.Kernel9.Λ₀)) ?_
  funext l a
  match l, a with
  | 0, (t, s) => rfl
  | ⟨_ + 1, h⟩, _ => exact absurd h (Nat.not_lt.2 (Nat.le_add_left _ _))

theorem defs_eq9 : Cert.Kernel9.defs (F := Bits) = Cert.Kernel9Ideal.defs (F := Bits) :=
  congrArg (Pipeline.defs (Cert.Kernel9Ideal.pcfgs (F := Bits))) body_eq9

/-- The kernel's run at the machine's floats, from the run over any floats. -/
theorem frame_kernel9 : Cert.quiescent_Kernel9 := fun m ρ _ => by
  rw [defs_eq9]
  exact Cert.Kernel9Ideal.Gen.frame (F := Bits) m ρ

/-- The two programs have the same text: their launch's body is the same program. -/
theorem body_eq10 : Cert.Kernel10.defs₀ (F := Bits) = Cert.Kernel10Ideal.defs₀ (F := Bits) := by
  unfold Cert.Kernel10.defs₀ Cert.Kernel10Ideal.defs₀
  refine congrArg (Defs.onTc (nD := Cert.Kernel10.nD) (τ := Cert.Kernel10.τ) (sig := Cert.Kernel10.sig) (Val := Elt Bits) (Λ := Cert.Kernel10.Λ₀)) ?_
  funext l a
  match l, a with
  | 0, (t, s) => rfl
  | ⟨_ + 1, h⟩, _ => exact absurd h (Nat.not_lt.2 (Nat.le_add_left _ _))

theorem defs_eq10 : Cert.Kernel10.defs (F := Bits) = Cert.Kernel10Ideal.defs (F := Bits) :=
  congrArg (Pipeline.defs (Cert.Kernel10Ideal.pcfgs (F := Bits))) body_eq10

/-- The kernel's run at the machine's floats, from the run over any floats. -/
theorem frame_kernel10 : Cert.quiescent_Kernel10 := fun m ρ _ => by
  rw [defs_eq10]
  exact Cert.Kernel10Ideal.Gen.frame (F := Bits) m ρ

theorem frame_ref9 : Cert.quiescent_Reference9Ideal := fun m ρ _ =>
  (θ_run Cert.Reference9Ideal.defs _ _).mono (fun r h => ⟨fun c => (h c).2.2.2.2.2, Idealize.ShloMosaic.sem_eq_zero_of_no_sems (by decide) r.2⟩)
    (Cert.Reference9Ideal.Value.run (F := Ideal) m ρ)

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Run.Value
public import proofs.«01_k».proof.Proof.KOut
public import proofs.«01_k».proof.Proof.RefA
public import proofs.«01_k».proof.Proof.RefB
public import proofs.«01_k».proof.Proof.KRet2
public import proofs.«01_k».proof.Proof.Finite
public import proofs.«01_k».proof.Proof.Cat
public import proofs.«01_k».proof.Proof.KDu
public import proofs.«01_k».proof.Proof.RefC
public import proofs.«01_k».proof.Proof.FrameBits
public import proofs.«01_k».proof.Proof.FrameBits2
public import proofs.«01_k».proof.Proof.Act
public import proofs.«01_k».proof.Proof.Wgrad
public import proofs.«01_k».proof.Proof.InGrad
public import proofs.«01_k».proof.Proof.MixIn
public import proofs.«01_k».proof.Proof.FfnDown
public import proofs.«01_k».proof.Proof.WgradIn
public import proofs.«01_k».proof.Proof.WgradOut
public import proofs.«01_k».proof.Proof.FrameBits3
public import proofs.«01_k».proof.Proof.GateA
public import proofs.«01_k».proof.Proof.GateB
public import proofs.«01_k».proof.Proof.FrameBits4
public import Idealize.ShloMosaic.Adequacy
public import Idealize.ShloMosaic.Init
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite2
public import proofs.«01_k».proof.Proof.Gen.Pre_finite4
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite5
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame

@[expose] public section

set_option maxRecDepth 16384

noncomputable section

namespace Cert.Proof

open Idealize.ShloMosaic Idealize.SL.Sem

/-- The reference's run leaves the arguments unchanged. -/
theorem frame_ref : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

/-- The kernel's five results are the reference's. -/
theorem value : Cert.algebraic_KernelIdeal_ReferenceIdeal_pre_finite := by
  intro m g m' g' hpre hagree
  have key : ∀ c, ∃ A, Cert.KMix.HoldsAt m c A ∧ Cert.RefMix.HoldsV (StableHlo.launchContents m' c) A := fun c => by
    have h := Cert.Mix.holds_of _ _ _ _ _ _ _ _ (hpre c)
    exact ⟨_, h, Cert.Mix.holds_congr h (hagree c).1 (hagree c).2.1 (hagree c).2.2.1 (hagree c).2.2.2.1 (hagree c).2.2.2.2.1
      (hagree c).2.2.2.2.2.1 (hagree c).2.2.2.2.2.2.1 (hagree c).2.2.2.2.2.2.2⟩
  choose A HK HR using key
  refine ⟨fun c => (Cert.KernelIdeal.Gen.dats m 0 c).arrAt 19 Cert.KernelIdeal.cfg0.N, fun c => (Cert.KernelIdeal.Gen.dats m 0 c).arrAt 20 Cert.KernelIdeal.cfg0.N,
    fun c => (Cert.KernelIdeal.Gen.dats m 0 c).arrAt 21 Cert.KernelIdeal.cfg0.N, fun c => (Cert.KernelIdeal.Gen.dats m 0 c).arrAt 22 Cert.KernelIdeal.cfg0.N,
    fun c => (Cert.KernelIdeal.Gen.dats m 0 c).arrAt 23 Cert.KernelIdeal.cfg0.N, ?_, ?_⟩
  · exact Cert.KernelIdeal.Value.run_blocks m g
  · refine (θ_run Cert.ReferenceIdeal.defs _ _).mono
      (fun _ h c => ⟨funext fun i => ?_, funext fun i => ?_, funext fun i => ?_, funext fun i => ?_, funext fun i => ?_, (h c).2.2.2.2.2⟩)
      (Cert.ReferenceIdeal.Value.run m' g')
    · refine (congrFun (h c).1 i).trans ?_
      have hc : (i 1 : ℕ) < 2048 := (i 1).isLt
      rcases lt_or_ge (i 1 : ℕ) 256 with h1 | h1
      · refine Cert.RefMix.cols 0 256 (by omega) (fun r y => ?_) i (Nat.zero_le _) h1
        refine (Cert.RefMix.cat_q _ _ _ _ _ r y).trans ?_
        exact (Cert.RefMix.dq_at (HR c) r y).trans (Cert.KMix.dq_out m (HK c) r y).symm
      rcases lt_or_ge (i 1 : ℕ) 512 with h2 | h2
      · refine Cert.RefMix.cols 256 256 (by omega) (fun r y => ?_) i h1 h2
        refine (Cert.RefMix.cat_k _ _ _ _ _ r y).trans ?_
        exact (Cert.RefMix.dk_at (HR c) r y).trans (Cert.KMix.dk_out m (HK c) r y).symm
      rcases lt_or_ge (i 1 : ℕ) 1024 with h3 | h3
      · refine Cert.RefMix.cols 512 512 (by omega) (fun r y => ?_) i h2 h3
        refine (Cert.RefMix.cat_v _ _ _ _ _ r y).trans ?_
        exact (Cert.RefMix.dv_at (HR c) r y).trans (Cert.KMix.dv_out m (HK c) r y).symm
      rcases lt_or_ge (i 1 : ℕ) 1536 with h4 | h4
      · refine Cert.RefMix.cols 1024 512 (by omega) (fun r y => ?_) i h3 h4
        refine (Cert.RefMix.cat_g _ _ _ _ _ r y).trans ?_
        exact (Cert.RefMix.dg_at (HR c) r y).trans (Cert.KMix.dg_out m (HK c) r y).symm
      refine Cert.RefMix.cols 1536 512 (by omega) (fun r y => ?_) i h4 hc
      refine (Cert.RefMix.cat_u _ _ _ _ _ r y).trans ?_
      exact (Cert.RefMix.du_at (HR c) r y).trans (Cert.KMix.du_out m (HK c) r y).symm
    · refine (congrFun (h c).2.1 i).trans ?_
      obtain ⟨r, x, rfl⟩ : ∃ r x, i = ix2 r x := ⟨i 0, i 1, eq_ix2 i⟩
      exact (Cert.RefMix.ct_at (HR c) r x).trans (Cert.KMix.ct_out m (HK c) r x).symm
    · refine (congrFun (h c).2.2.1 i).trans ?_
      obtain ⟨r, x, rfl⟩ : ∃ r x, i = ix2 r x := ⟨i 0, i 1, eq_ix2 i⟩
      exact (Cert.RefMix.dgain_at (HR c) r x).trans (Cert.KMix.gain_out m (HK c) r x).symm
    · refine (congrFun (h c).2.2.2.1 i).trans ?_
      obtain ⟨r, x, rfl⟩ : ∃ r x, i = ix2 r x := ⟨i 0, i 1, eq_ix2 i⟩
      exact (Cert.RefMix.dscale_at (HR c) r x).trans (Cert.KMix.scale_out m (HK c) r x).symm
    · refine (congrFun (h c).2.2.2.2.1 i).trans ?_
      obtain ⟨u, x, y, rfl⟩ : ∃ u x y, i = ix3 u x y := ⟨i 0, i 1, i 2, eq_ix3 i⟩
      exact (Cert.RefMix.dpw_at (HR c) u x y).trans (Cert.KMix.pw_out m (HK c) u x y).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts,
  Cert.Pre_finite.Gen.facts, Cert.Pre_finite2.Gen.facts, Cert.Pre_finite4.Gen.facts, Cert.Pre_finite5.Gen.facts,
  frame_kernel, fun m ρ _ => Cert.KernelIdeal.Gen.frame m ρ, fun m ρ _ => Cert.KernelIdeal.Gen.frame m ρ,
  frame_ref, fun m ρ _ => frame_ref m ρ trivial,
  frame_kernel2, fun m ρ _ => Cert.Kernel2Ideal.Gen.frame m ρ, fun m ρ _ => Cert.Kernel2Ideal.Gen.frame m ρ, frame_ref2, fun m ρ _ => frame_ref2 m ρ trivial,
  frame_kernel3, fun m ρ _ => Cert.Kernel3Ideal.Gen.frame m ρ, frame_ref3,
  frame_kernel4, fun m ρ _ => Cert.Kernel4Ideal.Gen.frame m ρ, fun m ρ _ => Cert.Kernel4Ideal.Gen.frame m ρ, frame_ref4, fun m ρ _ => frame_ref4 m ρ trivial,
  frame_kernel5, fun m ρ _ => Cert.Kernel5Ideal.Gen.frame m ρ, fun m ρ _ => Cert.Kernel5Ideal.Gen.frame m ρ, frame_ref5, fun m ρ _ => frame_ref5 m ρ trivial,
  frame_kernel6, fun m ρ _ => Cert.Kernel6Ideal.Gen.frame m ρ, frame_ref6,
  frame_kernel7, fun m ρ _ => Cert.Kernel7Ideal.Gen.frame m ρ, frame_ref7,
  frame_kernel8, fun m ρ _ => Cert.Kernel8Ideal.Gen.frame m ρ, frame_ref8,
  frame_kernel9, fun m ρ _ => Cert.Kernel9Ideal.Gen.frame m ρ, frame_ref9,
  frame_kernel10, fun m ρ _ => Cert.Kernel10Ideal.Gen.frame m ρ,
  trivial, value, trivial, Cert.Act.value, trivial, Cert.Wgrad.value, trivial, Cert.InGrad.value,
  trivial, Cert.MixIn.value, trivial, Cert.FfnDown.value, trivial, Cert.WgradIn.value, trivial, Cert.WgradOut.value,
  trivial, Cert.GateA.value, trivial, Cert.GateB.value⟩

end Cert.Proof

end
